-- ==== Defs.lean ====
def Pre_Kernel [hPre_slots_in_range : Cert.Pre_slots_in_range.Facts] (m : (ℓ : Loc Cert.Kernel.nD Cert.Kernel.τ Cert.Kernel.sig) → Buf (Elt Bits) ℓ) : Prop :=
  ∀ c : Dev Cert.Kernel.nD,
    (Cert.Pre_slots_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_slots_in_range : Cert.Pre_slots_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_slots_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_slots_in_range : Cert.Pre_slots_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_slots_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_WholeIdeal (m : (ℓ : Loc Cert.WholeIdeal.nD Cert.WholeIdeal.τ Cert.WholeIdeal.sig) → Buf (Elt Ideal) ℓ) : Prop :=
  True

def Pre_LayerIdeal (m : (ℓ : Loc Cert.LayerIdeal.nD Cert.LayerIdeal.τ Cert.LayerIdeal.sig) → Buf (Elt Ideal) ℓ) : Prop :=
  True

def quiescent_Kernel [hKernel : Cert.Kernel.Facts] [hPre_slots_in_range : Cert.Pre_slots_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_slots_in_range : Cert.Pre_slots_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] [hPre_slots_in_range : Cert.Pre_slots_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_WholeIdeal [hWholeIdeal : Cert.WholeIdeal.Facts] : Prop :=
  ∀ (m : (ℓ : Loc Cert.WholeIdeal.nD Cert.WholeIdeal.τ Cert.WholeIdeal.sig) → Buf (Elt Ideal) ℓ) (g : Dev Cert.WholeIdeal.nD → PrngReg), Pre_WholeIdeal m →
    θ_run (Cert.WholeIdeal.defs (F := Ideal)) (Cert.WholeIdeal.threads (F := Ideal)) ⟨m, fun _ => 0, g⟩ (fun r => (∀ c : Dev Cert.WholeIdeal.nD,
      r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
      ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
      ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2)
      ∧ r.2.mem ((c.tc : Thread Cert.WholeIdeal.nD Cert.WholeIdeal.τ).loc Cert.WholeIdeal.main_arg3) = m ((c.tc : Thread Cert.WholeIdeal.nD Cert.WholeIdeal.τ).loc Cert.WholeIdeal.main_arg3)
      ∧ r.2.mem ((c.tc : Thread Cert.WholeIdeal.nD Cert.WholeIdeal.τ).loc Cert.WholeIdeal.main_arg4) = m ((c.tc : Thread Cert.WholeIdeal.nD Cert.WholeIdeal.τ).loc Cert.WholeIdeal.main_arg4)
      ∧ r.2.mem ((c.tc : Thread Cert.WholeIdeal.nD Cert.WholeIdeal.τ).loc Cert.WholeIdeal.main_arg5) = m ((c.tc : Thread Cert.WholeIdeal.nD Cert.WholeIdeal.τ).loc Cert.WholeIdeal.main_arg5)
      ∧ r.2.mem ((c.tc : Thread Cert.WholeIdeal.nD Cert.WholeIdeal.τ).loc Cert.WholeIdeal.main_arg6) = m ((c.tc : Thread Cert.WholeIdeal.nD Cert.WholeIdeal.τ).loc Cert.WholeIdeal.main_arg6))
      ∧ r.2.sem = fun _ => 0)

def quiescent_LayerIdeal [hLayerIdeal : Cert.LayerIdeal.Facts] : Prop :=
  ∀ (m : (ℓ : Loc Cert.LayerIdeal.nD Cert.LayerIdeal.τ Cert.LayerIdeal.sig) → Buf (Elt Ideal) ℓ) (g : Dev Cert.LayerIdeal.nD → PrngReg), Pre_LayerIdeal m →
    θ_run (Cert.LayerIdeal.defs (F := Ideal)) (onTc (τ := Cert.LayerIdeal.τ) (Cert.LayerIdeal.main (F := Ideal))) ⟨m, fun _ => 0, g⟩ (fun r => (∀ c : Dev Cert.LayerIdeal.nD,
      r.2.mem ((c.tc : Thread Cert.LayerIdeal.nD Cert.LayerIdeal.τ).loc Cert.LayerIdeal.main_arg0) = m ((c.tc : Thread Cert.LayerIdeal.nD Cert.LayerIdeal.τ).loc Cert.LayerIdeal.main_arg0)
      ∧ r.2.mem ((c.tc : Thread Cert.LayerIdeal.nD Cert.LayerIdeal.τ).loc Cert.LayerIdeal.main_arg1) = m ((c.tc : Thread Cert.LayerIdeal.nD Cert.LayerIdeal.τ).loc Cert.LayerIdeal.main_arg1)
      ∧ r.2.mem ((c.tc : Thread Cert.LayerIdeal.nD Cert.LayerIdeal.τ).loc Cert.LayerIdeal.main_arg2) = m ((c.tc : Thread Cert.LayerIdeal.nD Cert.LayerIdeal.τ).loc Cert.LayerIdeal.main_arg2)
      ∧ r.2.mem ((c.tc : Thread Cert.LayerIdeal.nD Cert.LayerIdeal.τ).loc Cert.LayerIdeal.main_arg3) = m ((c.tc : Thread Cert.LayerIdeal.nD Cert.LayerIdeal.τ).loc Cert.LayerIdeal.main_arg3)
      ∧ r.2.mem ((c.tc : Thread Cert.LayerIdeal.nD Cert.LayerIdeal.τ).loc Cert.LayerIdeal.main_arg4) = m ((c.tc : Thread Cert.LayerIdeal.nD Cert.LayerIdeal.τ).loc Cert.LayerIdeal.main_arg4)
      ∧ r.2.mem ((c.tc : Thread Cert.LayerIdeal.nD Cert.LayerIdeal.τ).loc Cert.LayerIdeal.main_arg5) = m ((c.tc : Thread Cert.LayerIdeal.nD Cert.LayerIdeal.τ).loc Cert.LayerIdeal.main_arg5)
      ∧ r.2.mem ((c.tc : Thread Cert.LayerIdeal.nD Cert.LayerIdeal.τ).loc Cert.LayerIdeal.main_arg6) = m ((c.tc : Thread Cert.LayerIdeal.nD Cert.LayerIdeal.τ).loc Cert.LayerIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_slots_in_range : Cert.Pre_slots_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def algebraic_WholeIdeal_LayerIdeal [hWholeIdeal : Cert.WholeIdeal.Facts] [hLayerIdeal : Cert.LayerIdeal.Facts] : Prop :=
  ∀ (m : (ℓ : Loc Cert.WholeIdeal.nD Cert.WholeIdeal.τ Cert.WholeIdeal.sig) → Buf (Elt Ideal) ℓ) (g : Dev Cert.WholeIdeal.nD → PrngReg)
    (m' : (ℓ : Loc Cert.LayerIdeal.nD Cert.LayerIdeal.τ Cert.LayerIdeal.sig) → Buf (Elt Ideal) ℓ) (g' : Dev Cert.LayerIdeal.nD → PrngReg), Pre_WholeIdeal m →
    (∀ c : Dev Cert.WholeIdeal.nD,
      m' ((c.tc : Thread Cert.LayerIdeal.nD Cert.LayerIdeal.τ).loc Cert.LayerIdeal.main_arg0) = m ((c.tc : Thread Cert.WholeIdeal.nD Cert.WholeIdeal.τ).loc Cert.WholeIdeal.main_arg0)
      ∧ m' ((c.tc : Thread Cert.LayerIdeal.nD Cert.LayerIdeal.τ).loc Cert.LayerIdeal.main_arg1) = m ((c.tc : Thread Cert.WholeIdeal.nD Cert.WholeIdeal.τ).loc Cert.WholeIdeal.main_arg1)
      ∧ m' ((c.tc : Thread Cert.LayerIdeal.nD Cert.LayerIdeal.τ).loc Cert.LayerIdeal.main_arg2) = m ((c.tc : Thread Cert.WholeIdeal.nD Cert.WholeIdeal.τ).loc Cert.WholeIdeal.main_arg2)
      ∧ m' ((c.tc : Thread Cert.LayerIdeal.nD Cert.LayerIdeal.τ).loc Cert.LayerIdeal.main_arg3) = m ((c.tc : Thread Cert.WholeIdeal.nD Cert.WholeIdeal.τ).loc Cert.WholeIdeal.main_arg3)
      ∧ m' ((c.tc : Thread Cert.LayerIdeal.nD Cert.LayerIdeal.τ).loc Cert.LayerIdeal.main_arg4) = m ((c.tc : Thread Cert.WholeIdeal.nD Cert.WholeIdeal.τ).loc Cert.WholeIdeal.main_arg4)
      ∧ m' ((c.tc : Thread Cert.LayerIdeal.nD Cert.LayerIdeal.τ).loc Cert.LayerIdeal.main_arg5) = m ((c.tc : Thread Cert.WholeIdeal.nD Cert.WholeIdeal.τ).loc Cert.WholeIdeal.main_arg5)
      ∧ m' ((c.tc : Thread Cert.LayerIdeal.nD Cert.LayerIdeal.τ).loc Cert.LayerIdeal.main_arg6) = m ((c.tc : Thread Cert.WholeIdeal.nD Cert.WholeIdeal.τ).loc Cert.WholeIdeal.main_arg6)) →
    ∃ (v0 : (c : Dev Cert.WholeIdeal.nD) → Buf (Elt Ideal) ((c.tc : Thread Cert.WholeIdeal.nD Cert.WholeIdeal.τ).loc Cert.WholeIdeal.main_v6)) (v1 : (c : Dev Cert.WholeIdeal.nD) → Buf (Elt Ideal) ((c.tc : Thread Cert.WholeIdeal.nD Cert.WholeIdeal.τ).loc Cert.WholeIdeal.main_v7)),
      θ_run (Cert.WholeIdeal.defs (F := Ideal)) (Cert.WholeIdeal.threads (F := Ideal)) ⟨m, fun _ => 0, g⟩ (fun r => ∀ c : Dev Cert.WholeIdeal.nD,
          r.2.mem ((c.tc : Thread Cert.WholeIdeal.nD Cert.WholeIdeal.τ).loc Cert.WholeIdeal.main_v6) = v0 c
          ∧ r.2.mem ((c.tc : Thread Cert.WholeIdeal.nD Cert.WholeIdeal.τ).loc Cert.WholeIdeal.main_v7) = v1 c
          ∧ r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
          ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
          ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2)
          ∧ r.2.mem ((c.tc : Thread Cert.WholeIdeal.nD Cert.WholeIdeal.τ).loc Cert.WholeIdeal.main_arg3) = m ((c.tc : Thread Cert.WholeIdeal.nD Cert.WholeIdeal.τ).loc Cert.WholeIdeal.main_arg3)
          ∧ r.2.mem ((c.tc : Thread Cert.WholeIdeal.nD Cert.WholeIdeal.τ).loc Cert.WholeIdeal.main_arg4) = m ((c.tc : Thread Cert.WholeIdeal.nD Cert.WholeIdeal.τ).loc Cert.WholeIdeal.main_arg4)
          ∧ r.2.mem ((c.tc : Thread Cert.WholeIdeal.nD Cert.WholeIdeal.τ).loc Cert.WholeIdeal.main_arg5) = m ((c.tc : Thread Cert.WholeIdeal.nD Cert.WholeIdeal.τ).loc Cert.WholeIdeal.main_arg5)
          ∧ r.2.mem ((c.tc : Thread Cert.WholeIdeal.nD Cert.WholeIdeal.τ).loc Cert.WholeIdeal.main_arg6) = m ((c.tc : Thread Cert.WholeIdeal.nD Cert.WholeIdeal.τ).loc Cert.WholeIdeal.main_arg6))
      ∧ θ_run (Cert.LayerIdeal.defs (F := Ideal)) (onTc (τ := Cert.LayerIdeal.τ) (Cert.LayerIdeal.main (F := Ideal))) ⟨m', fun _ => 0, g'⟩ (fun r => ∀ c : Dev Cert.LayerIdeal.nD,
          r.2.mem ((c.tc : Thread Cert.LayerIdeal.nD Cert.LayerIdeal.τ).loc Cert.LayerIdeal.main_v43) = v0 c
          ∧ r.2.mem ((c.tc : Thread Cert.LayerIdeal.nD Cert.LayerIdeal.τ).loc Cert.LayerIdeal.main_v8) = v1 c
          ∧ r.2.mem ((c.tc : Thread Cert.LayerIdeal.nD Cert.LayerIdeal.τ).loc Cert.LayerIdeal.main_arg0) = m' ((c.tc : Thread Cert.LayerIdeal.nD Cert.LayerIdeal.τ).loc Cert.LayerIdeal.main_arg0)
          ∧ r.2.mem ((c.tc : Thread Cert.LayerIdeal.nD Cert.LayerIdeal.τ).loc Cert.LayerIdeal.main_arg1) = m' ((c.tc : Thread Cert.LayerIdeal.nD Cert.LayerIdeal.τ).loc Cert.LayerIdeal.main_arg1)
          ∧ r.2.mem ((c.tc : Thread Cert.LayerIdeal.nD Cert.LayerIdeal.τ).loc Cert.LayerIdeal.main_arg2) = m' ((c.tc : Thread Cert.LayerIdeal.nD Cert.LayerIdeal.τ).loc Cert.LayerIdeal.main_arg2)
          ∧ r.2.mem ((c.tc : Thread Cert.LayerIdeal.nD Cert.LayerIdeal.τ).loc Cert.LayerIdeal.main_arg3) = m' ((c.tc : Thread Cert.LayerIdeal.nD Cert.LayerIdeal.τ).loc Cert.LayerIdeal.main_arg3)
          ∧ r.2.mem ((c.tc : Thread Cert.LayerIdeal.nD Cert.LayerIdeal.τ).loc Cert.LayerIdeal.main_arg4) = m' ((c.tc : Thread Cert.LayerIdeal.nD Cert.LayerIdeal.τ).loc Cert.LayerIdeal.main_arg4)
          ∧ r.2.mem ((c.tc : Thread Cert.LayerIdeal.nD Cert.LayerIdeal.τ).loc Cert.LayerIdeal.main_arg5) = m' ((c.tc : Thread Cert.LayerIdeal.nD Cert.LayerIdeal.τ).loc Cert.LayerIdeal.main_arg5)
          ∧ r.2.mem ((c.tc : Thread Cert.LayerIdeal.nD Cert.LayerIdeal.τ).loc Cert.LayerIdeal.main_arg6) = m' ((c.tc : Thread Cert.LayerIdeal.nD Cert.LayerIdeal.τ).loc Cert.LayerIdeal.main_arg6))

def Claim : Prop :=
  ∃ (hKernel : Cert.Kernel.Facts) (hKernelIdeal : Cert.KernelIdeal.Facts) (hReferenceIdeal : Cert.ReferenceIdeal.Facts) (hWholeIdeal : Cert.WholeIdeal.Facts) (hLayerIdeal : Cert.LayerIdeal.Facts) (hPre_slots_in_range : Cert.Pre_slots_in_range.Facts),
    quiescent_Kernel (hKernel := hKernel) (hPre_slots_in_range := hPre_slots_in_range)
    ∧ quiescent_KernelIdeal (hKernelIdeal := hKernelIdeal) (hPre_slots_in_range := hPre_slots_in_range)
    ∧ quiescent_ReferenceIdeal (hReferenceIdeal := hReferenceIdeal) (hPre_slots_in_range := hPre_slots_in_range)
    ∧ quiescent_WholeIdeal (hWholeIdeal := hWholeIdeal)
    ∧ quiescent_LayerIdeal (hLayerIdeal := hLayerIdeal)
    ∧ preserves_Kernel_KernelIdeal
    ∧ algebraic_KernelIdeal_ReferenceIdeal (hKernelIdeal := hKernelIdeal) (hReferenceIdeal := hReferenceIdeal) (hPre_slots_in_range := hPre_slots_in_range)
    ∧ algebraic_WholeIdeal_LayerIdeal (hWholeIdeal := hWholeIdeal) (hLayerIdeal := hLayerIdeal)
-- ==== Pre_slots_in_range.lean ====
abbrev S5120x768 : Shape := ⟨2, ![5120, 768]⟩
abbrev S1024 : Shape := ⟨1, ![1024]⟩
abbrev S1024x768 : Shape := ⟨2, ![1024, 768]⟩
abbrev S1024x1 : Shape := ⟨2, ![1024, 1]⟩
abbrev S_ : Shape := ⟨0, ![]⟩

class Facts : Prop where
  bcast_S_S1024 : S_.BroadcastsInDim S1024 (![] : Fin 0 → Fin S1024.rank)

variable [Facts]

def fn {F : FTy → Type} [FloatOps F] (main_arg0 : FVec F S5120x768 .f32) (main_arg1 : IVec S1024 32) (main_arg2 : FVec F S1024x768 .f32) (main_arg3 : FVec F S1024x1 .f32) : IVec S1024 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 32 := constantI S_ 32 5120#32
  let main_v2 : IVec S1024 32 := broadcastInDim S1024 ![] bcast_S_S1024 main_c_0
  let main_v3 : IVec S1024 1 := cmpi .slt main_arg1 main_v2
  let main_v4 : IVec S1024 1 := andi main_v1 main_v3
  main_v4
-- ==== Kernel.lean ====
abbrev S5120x768 : Shape := ⟨2, ![5120, 768]⟩
abbrev S1024 : Shape := ⟨1, ![1024]⟩
abbrev S1024x768 : Shape := ⟨2, ![1024, 768]⟩
abbrev S1024x1 : Shape := ⟨2, ![1024, 1]⟩
abbrev S1024x128 : Shape := ⟨2, ![1024, 128]⟩
abbrev S32 : Shape := ⟨1, ![32]⟩
abbrev S32x768 : Shape := ⟨2, ![32, 768]⟩
abbrev S32x128 : Shape := ⟨2, ![32, 128]⟩
abbrev S_ : Shape := ⟨0, ![]⟩
abbrev S5120x128 : Shape := ⟨2, ![5120, 128]⟩
abbrev S1x16 : Shape := ⟨2, ![1, 16]⟩
abbrev S16 : Shape := ⟨1, ![16]⟩

abbrev nBuf : Table → Nat
  | .hbm => 6
  | .local .scVector .vmem => 4
  | _ => 0

abbrev bufTy : (tb : Table) → Fin (nBuf tb) → BufTy
  | .hbm, ⟨0, _⟩ => ⟨S5120x768, .f32⟩
  | .hbm, ⟨1, _⟩ => ⟨S1024, .i32⟩
  | .hbm, ⟨2, _⟩ => ⟨S1024x768, .f32⟩
  | .hbm, ⟨3, _⟩ => ⟨S1024x1, .f32⟩
  | .hbm, ⟨4, _⟩ => ⟨S1024x128, .f32⟩
  | .hbm, ⟨5, _⟩ => ⟨S1024x768, .f32⟩
  | .local .scVector .vmem, ⟨0, _⟩ => ⟨S32, .i32⟩
  | .local .scVector .vmem, ⟨1, _⟩ => ⟨S32x768, .f32⟩
  | .local .scVector .vmem, ⟨2, _⟩ => ⟨S32x768, .f32⟩
  | .local .scVector .vmem, ⟨3, _⟩ => ⟨S32x128, .f32⟩
  | _, _ => ⟨S5120x768, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_v0_scv : Ref sig .scVector := ⟨.hbm, 4, rfl⟩
abbrev main_v1_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_46_r1 : BitVec 32 := 0#32
  ![v2.toNat, 0]
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_46_r2 : BitVec 32 := 0#32
  ![v2.toNat, 0]
@[reducible] def k0_t1_loop : Scf.Loop 32 :=
  let c0_i32_43 : BitVec 32 := 0#32
  let c32_i32_44 : BitVec 32 := 32#32
  let v27 : BitVec 32 := Scalar.addi c0_i32_43 c32_i32_44
  let c1_i32 : BitVec 32 := 1#32
  ⟨c0_i32_43, v27, c1_i32⟩
def k0_off4 (k0_t1 : Fin k0_t1_loop.trips) : Fin 2 → Nat :=
  let c0_i32_43 : BitVec 32 := 0#32
  let c1_i32 : BitVec 32 := 1#32
  let arg12 : BitVec 32 := Scf.iv c0_i32_43 c1_i32 k0_t1
  let v28 : Index := Scalar.indexCast arg12
  let c0 : Index := 0#32
  ![v28.toNat, 0]
def k0_off5 (k0_t1 : Fin k0_t1_loop.trips) : Fin 2 → Nat :=
  let c0_i32_43 : BitVec 32 := 0#32
  let c1_i32 : BitVec 32 := 1#32
  let arg12 : BitVec 32 := Scf.iv c0_i32_43 c1_i32 k0_t1
  let v31 : Index := Scalar.indexCast arg12
  let c0_46 : Index := 0#32
  ![v31.toNat, 0]
def k0_off6 (k0_t1 : Fin k0_t1_loop.trips) : Fin 2 → Nat :=
  let c0_i32_43 : BitVec 32 := 0#32
  let c1_i32 : BitVec 32 := 1#32
  let arg12 : BitVec 32 := Scf.iv c0_i32_43 c1_i32 k0_t1
  let v43 : Index := Scalar.indexCast arg12
  let c16 : Index := 16#32
  ![v43.toNat, 16]
def k0_off7 (k0_t1 : Fin k0_t1_loop.trips) : Fin 2 → Nat :=
  let c0_i32_43 : BitVec 32 := 0#32
  let c1_i32 : BitVec 32 := 1#32
  let arg12 : BitVec 32 := Scf.iv c0_i32_43 c1_i32 k0_t1
  let v55 : Index := Scalar.indexCast arg12
  let c32 : Index := 32#32
  ![v55.toNat, 32]
def k0_off8 (k0_t1 : Fin k0_t1_loop.trips) : Fin 2 → Nat :=
  let c0_i32_43 : BitVec 32 := 0#32
  let c1_i32 : BitVec 32 := 1#32
  let arg12 : BitVec 32 := Scf.iv c0_i32_43 c1_i32 k0_t1
  let v67 : Index := Scalar.indexCast arg12
  let c48 : Index := 48#32
  ![v67.toNat, 48]
def k0_off9 (k0_t1 : Fin k0_t1_loop.trips) : Fin 2 → Nat :=
  let c0_i32_43 : BitVec 32 := 0#32
  let c1_i32 : BitVec 32 := 1#32
  let arg12 : BitVec 32 := Scf.iv c0_i32_43 c1_i32 k0_t1
  let v79 : Index := Scalar.indexCast arg12
  let c64 : Index := 64#32
  ![v79.toNat, 64]
def k0_off10 (k0_t1 : Fin k0_t1_loop.trips) : Fin 2 → Nat :=
  let c0_i32_43 : BitVec 32 := 0#32
  let c1_i32 : BitVec 32 := 1#32
  let arg12 : BitVec 32 := Scf.iv c0_i32_43 c1_i32 k0_t1
  let v91 : Index := Scalar.indexCast arg12
  let c80 : Index := 80#32
  ![v91.toNat, 80]
def k0_off11 (k0_t1 : Fin k0_t1_loop.trips) : Fin 2 → Nat :=
  let c0_i32_43 : BitVec 32 := 0#32
  let c1_i32 : BitVec 32 := 1#32
  let arg12 : BitVec 32 := Scf.iv c0_i32_43 c1_i32 k0_t1
  let v103 : Index := Scalar.indexCast arg12
  let c96 : Index := 96#32
  ![v103.toNat, 96]
def k0_off12 (k0_t1 : Fin k0_t1_loop.trips) : Fin 2 → Nat :=
  let c0_i32_43 : BitVec 32 := 0#32
  let c1_i32 : BitVec 32 := 1#32
  let arg12 : BitVec 32 := Scf.iv c0_i32_43 c1_i32 k0_t1
  let v115 : Index := Scalar.indexCast arg12
  let c112 : Index := 112#32
  ![v115.toNat, 112]
def k0_off13 (k0_t1 : Fin k0_t1_loop.trips) : Fin 2 → Nat :=
  let c0_i32_43 : BitVec 32 := 0#32
  let c1_i32 : BitVec 32 := 1#32
  let arg12 : BitVec 32 := Scf.iv c0_i32_43 c1_i32 k0_t1
  let v127 : Index := Scalar.indexCast arg12
  let c128 : Index := 128#32
  ![v127.toNat, 128]
def k0_off14 (k0_t1 : Fin k0_t1_loop.trips) : Fin 2 → Nat :=
  let c0_i32_43 : BitVec 32 := 0#32
  let c1_i32 : BitVec 32 := 1#32
  let arg12 : BitVec 32 := Scf.iv c0_i32_43 c1_i32 k0_t1
  let v139 : Index := Scalar.indexCast arg12
  let c144 : Index := 144#32
  ![v139.toNat, 144]
def k0_off15 (k0_t1 : Fin k0_t1_loop.trips) : Fin 2 → Nat :=
  let c0_i32_43 : BitVec 32 := 0#32
  let c1_i32 : BitVec 32 := 1#32
  let arg12 : BitVec 32 := Scf.iv c0_i32_43 c1_i32 k0_t1
  let v151 : Index := Scalar.indexCast arg12
  let c160 : Index := 160#32
  ![v151.toNat, 160]
def k0_off16 (k0_t1 : Fin k0_t1_loop.trips) : Fin 2 → Nat :=
  let c0_i32_43 : BitVec 32 := 0#32
  let c1_i32 : BitVec 32 := 1#32
  let arg12 : BitVec 32 := Scf.iv c0_i32_43 c1_i32 k0_t1
  let v163 : Index := Scalar.indexCast arg12
  let c176 : Index := 176#32
  ![v163.toNat, 176]
def k0_off17 (k0_t1 : Fin k0_t1_loop.trips) : Fin 2 → Nat :=
  let c0_i32_43 : BitVec 32 := 0#32
  let c1_i32 : BitVec 32 := 1#32
  let arg12 : BitVec 32 := Scf.iv c0_i32_43 c1_i32 k0_t1
  let v175 : Index := Scalar.indexCast arg12
  let c192 : Index := 192#32
  ![v175.toNat, 192]
def k0_off18 (k0_t1 : Fin k0_t1_loop.trips) : Fin 2 → Nat :=
  let c0_i32_43 : BitVec 32 := 0#32
  let c1_i32 : BitVec 32 := 1#32
  let arg12 : BitVec 32 := Scf.iv c0_i32_43 c1_i32 k0_t1
  let v187 : Index := Scalar.indexCast arg12
  let c208 : Index := 208#32
  ![v187.toNat, 208]
def k0_off19 (k0_t1 : Fin k0_t1_loop.trips) : Fin 2 → Nat :=
  let c0_i32_43 : BitVec 32 := 0#32
  let c1_i32 : BitVec 32 := 1#32
  let arg12 : BitVec 32 := Scf.iv c0_i32_43 c1_i32 k0_t1
  let v199 : Index := Scalar.indexCast arg12
  let c224 : Index := 224#32
  ![v199.toNat, 224]
def k0_off20 (k0_t1 : Fin k0_t1_loop.trips) : Fin 2 → Nat :=
  let c0_i32_43 : BitVec 32 := 0#32
  let c1_i32 : BitVec 32 := 1#32
  let arg12 : BitVec 32 := Scf.iv c0_i32_43 c1_i32 k0_t1
  let v211 : Index := Scalar.indexCast arg12
  let c240 : Index := 240#32
  ![v211.toNat, 240]
def k0_off21 (k0_t1 : Fin k0_t1_loop.trips) : Fin 2 → Nat :=
  let c0_i32_43 : BitVec 32 := 0#32
  let c1_i32 : BitVec 32 := 1#32
  let arg12 : BitVec 32 := Scf.iv c0_i32_43 c1_i32 k0_t1
  let v223 : Index := Scalar.indexCast arg12
  let c256 : Index := 256#32
  ![v223.toNat, 256]
def k0_off22 (k0_t1 : Fin k0_t1_loop.trips) : Fin 2 → Nat :=
  let c0_i32_43 : BitVec 32 := 0#32
  let c1_i32 : BitVec 32 := 1#32
  let arg12 : BitVec 32 := Scf.iv c0_i32_43 c1_i32 k0_t1
  let v235 : Index := Scalar.indexCast arg12
  let c272 : Index := 272#32
  ![v235.toNat, 272]
def k0_off23 (k0_t1 : Fin k0_t1_loop.trips) : Fin 2 → Nat :=
  let c0_i32_43 : BitVec 32 := 0#32
  let c1_i32 : BitVec 32 := 1#32
  let arg12 : BitVec 32 := Scf.iv c0_i32_43 c1_i32 k0_t1
  let v247 : Index := Scalar.indexCast arg12
  let c288 : Index := 288#32
  ![v247.toNat, 288]
def k0_off24 (k0_t1 : Fin k0_t1_loop.trips) : Fin 2 → Nat :=
  let c0_i32_43 : BitVec 32 := 0#32
  let c1_i32 : BitVec 32 := 1#32
  let arg12 : BitVec 32 := Scf.iv c0_i32_43 c1_i32 k0_t1
  let v259 : Index := Scalar.indexCast arg12
  let c304 : Index := 304#32
  ![v259.toNat, 304]
def k0_off25 (k0_t1 : Fin k0_t1_loop.trips) : Fin 2 → Nat :=
  let c0_i32_43 : BitVec 32 := 0#32
  let c1_i32 : BitVec 32 := 1#32
  let arg12 : BitVec 32 := Scf.iv c0_i32_43 c1_i32 k0_t1
  let v271 : Index := Scalar.indexCast arg12
  let c320 : Index := 320#32
  ![v271.toNat, 320]
def k0_off26 (k0_t1 : Fin k0_t1_loop.trips) : Fin 2 → Nat :=
  let c0_i32_43 : BitVec 32 := 0#32
  let c1_i32 : BitVec 32 := 1#32
  let arg12 : BitVec 32 := Scf.iv c0_i32_43 c1_i32 k0_t1
  let v283 : Index := Scalar.indexCast arg12
  let c336 : Index := 336#32
  ![v283.toNat, 336]
def k0_off27 (k0_t1 : Fin k0_t1_loop.trips) : Fin 2 → Nat :=
  let c0_i32_43 : BitVec 32 := 0#32
  let c1_i32 : BitVec 32 := 1#32
  let arg12 : BitVec 32 := Scf.iv c0_i32_43 c1_i32 k0_t1
  let v295 : Index := Scalar.indexCast arg12
  let c352 : Index := 352#32
  ![v295.toNat, 352]
def k0_off28 (k0_t1 : Fin k0_t1_loop.trips) : Fin 2 → Nat :=
  let c0_i32_43 : BitVec 32 := 0#32
  let c1_i32 : BitVec 32 := 1#32
  let arg12 : BitVec 32 := Scf.iv c0_i32_43 c1_i32 k0_t1
  let v307 : Index := Scalar.indexCast arg12
  let c368 : Index := 368#32
  ![v307.toNat, 368]
def k0_off29 (k0_t1 : Fin k0_t1_loop.trips) : Fin 2 → Nat :=
  let c0_i32_43 : BitVec 32 := 0#32
  let c1_i32 : BitVec 32 := 1#32
  let arg12 : BitVec 32 := Scf.iv c0_i32_43 c1_i32 k0_t1
  let v319 : Index := Scalar.indexCast arg12
  let c384 : Index := 384#32
  ![v319.toNat, 384]
def k0_off30 (k0_t1 : Fin k0_t1_loop.trips) : Fin 2 → Nat :=
  let c0_i32_43 : BitVec 32 := 0#32
  let c1_i32 : BitVec 32 := 1#32
  let arg12 : BitVec 32 := Scf.iv c0_i32_43 c1_i32 k0_t1
  let v331 : Index := Scalar.indexCast arg12
  let c400 : Index := 400#32
  ![v331.toNat, 400]
def k0_off31 (k0_t1 : Fin k0_t1_loop.trips) : Fin 2 → Nat :=
  let c0_i32_43 : BitVec 32 := 0#32
  let c1_i32 : BitVec 32 := 1#32
  let arg12 : BitVec 32 := Scf.iv c0_i32_43 c1_i32 k0_t1
  let v343 : Index := Scalar.indexCast arg12
  let c416 : Index := 416#32
  ![v343.toNat, 416]
def k0_off32 (k0_t1 : Fin k0_t1_loop.trips) : Fin 2 → Nat :=
  let c0_i32_43 : BitVec 32 := 0#32
  let c1_i32 : BitVec 32 := 1#32
  let arg12 : BitVec 32 := Scf.iv c0_i32_43 c1_i32 k0_t1
  let v355 : Index := Scalar.indexCast arg12
  let c432 : Index := 432#32
  ![v355.toNat, 432]
def k0_off33 (k0_t1 : Fin k0_t1_loop.trips) : Fin 2 → Nat :=
  let c0_i32_43 : BitVec 32 := 0#32
  let c1_i32 : BitVec 32 := 1#32
  let arg12 : BitVec 32 := Scf.iv c0_i32_43 c1_i32 k0_t1
  let v367 : Index := Scalar.indexCast arg12
  let c448 : Index := 448#32
  ![v367.toNat, 448]
def k0_off34 (k0_t1 : Fin k0_t1_loop.trips) : Fin 2 → Nat :=
  let c0_i32_43 : BitVec 32 := 0#32
  let c1_i32 : BitVec 32 := 1#32
  let arg12 : BitVec 32 := Scf.iv c0_i32_43 c1_i32 k0_t1
  let v379 : Index := Scalar.indexCast arg12
  let c464 : Index := 464#32
  ![v379.toNat, 464]
def k0_off35 (k0_t1 : Fin k0_t1_loop.trips) : Fin 2 → Nat :=
  let c0_i32_43 : BitVec 32 := 0#32
  let c1_i32 : BitVec 32 := 1#32
  let arg12 : BitVec 32 := Scf.iv c0_i32_43 c1_i32 k0_t1
  let v391 : Index := Scalar.indexCast arg12
  let c480 : Index := 480#32
  ![v391.toNat, 480]
def k0_off36 (k0_t1 : Fin k0_t1_loop.trips) : Fin 2 → Nat :=
  let c0_i32_43 : BitVec 32 := 0#32
  let c1_i32 : BitVec 32 := 1#32
  let arg12 : BitVec 32 := Scf.iv c0_i32_43 c1_i32 k0_t1
  let v403 : Index := Scalar.indexCast arg12
  let c496 : Index := 496#32
  ![v403.toNat, 496]
def k0_off37 (k0_t1 : Fin k0_t1_loop.trips) : Fin 2 → Nat :=
  let c0_i32_43 : BitVec 32 := 0#32
  let c1_i32 : BitVec 32 := 1#32
  let arg12 : BitVec 32 := Scf.iv c0_i32_43 c1_i32 k0_t1
  let v415 : Index := Scalar.indexCast arg12
  let c512 : Index := 512#32
  ![v415.toNat, 512]
def k0_off38 (k0_t1 : Fin k0_t1_loop.trips) : Fin 2 → Nat :=
  let c0_i32_43 : BitVec 32 := 0#32
  let c1_i32 : BitVec 32 := 1#32
  let arg12 : BitVec 32 := Scf.iv c0_i32_43 c1_i32 k0_t1
  let v427 : Index := Scalar.indexCast arg12
  let c528 : Index := 528#32
  ![v427.toNat, 528]
def k0_off39 (k0_t1 : Fin k0_t1_loop.trips) : Fin 2 → Nat :=
  let c0_i32_43 : BitVec 32 := 0#32
  let c1_i32 : BitVec 32 := 1#32
  let arg12 : BitVec 32 := Scf.iv c0_i32_43 c1_i32 k0_t1
  let v439 : Index := Scalar.indexCast arg12
  let c544 : Index := 544#32
  ![v439.toNat, 544]
def k0_off40 (k0_t1 : Fin k0_t1_loop.trips) : Fin 2 → Nat :=
  let c0_i32_43 : BitVec 32 := 0#32
  let c1_i32 : BitVec 32 := 1#32
  let arg12 : BitVec 32 := Scf.iv c0_i32_43 c1_i32 k0_t1
  let v451 : Index := Scalar.indexCast arg12
  let c560 : Index := 560#32
  ![v451.toNat, 560]
def k0_off41 (k0_t1 : Fin k0_t1_loop.trips) : Fin 2 → Nat :=
  let c0_i32_43 : BitVec 32 := 0#32
  let c1_i32 : BitVec 32 := 1#32
  let arg12 : BitVec 32 := Scf.iv c0_i32_43 c1_i32 k0_t1
  let v463 : Index := Scalar.indexCast arg12
  let c576 : Index := 576#32
  ![v463.toNat, 576]
def k0_off42 (k0_t1 : Fin k0_t1_loop.trips) : Fin 2 → Nat :=
  let c0_i32_43 : BitVec 32 := 0#32
  let c1_i32 : BitVec 32 := 1#32
  let arg12 : BitVec 32 := Scf.iv c0_i32_43 c1_i32 k0_t1
  let v475 : Index := Scalar.indexCast arg12
  let c592 : Index := 592#32
  ![v475.toNat, 592]
def k0_off43 (k0_t1 : Fin k0_t1_loop.trips) : Fin 2 → Nat :=
  let c0_i32_43 : BitVec 32 := 0#32
  let c1_i32 : BitVec 32 := 1#32
  let arg12 : BitVec 32 := Scf.iv c0_i32_43 c1_i32 k0_t1
  let v487 : Index := Scalar.indexCast arg12
  let c608 : Index := 608#32
  ![v487.toNat, 608]
def k0_off44 (k0_t1 : Fin k0_t1_loop.trips) : Fin 2 → Nat :=
  let c0_i32_43 : BitVec 32 := 0#32
  let c1_i32 : BitVec 32 := 1#32
  let arg12 : BitVec 32 := Scf.iv c0_i32_43 c1_i32 k0_t1
  let v499 : Index := Scalar.indexCast arg12
  let c624 : Index := 624#32
  ![v499.toNat, 624]
def k0_off45 (k0_t1 : Fin k0_t1_loop.trips) : Fin 2 → Nat :=
  let c0_i32_43 : BitVec 32 := 0#32
  let c1_i32 : BitVec 32 := 1#32
  let arg12 : BitVec 32 := Scf.iv c0_i32_43 c1_i32 k0_t1
  let v511 : Index := Scalar.indexCast arg12
  let c640 : Index := 640#32
  ![v511.toNat, 640]
def k0_off46 (k0_t1 : Fin k0_t1_loop.trips) : Fin 2 → Nat :=
  let c0_i32_43 : BitVec 32 := 0#32
  let c1_i32 : BitVec 32 := 1#32
  let arg12 : BitVec 32 := Scf.iv c0_i32_43 c1_i32 k0_t1
  let v523 : Index := Scalar.indexCast arg12
  let c656 : Index := 656#32
  ![v523.toNat, 656]
def k0_off47 (k0_t1 : Fin k0_t1_loop.trips) : Fin 2 → Nat :=
  let c0_i32_43 : BitVec 32 := 0#32
  let c1_i32 : BitVec 32 := 1#32
  let arg12 : BitVec 32 := Scf.iv c0_i32_43 c1_i32 k0_t1
  let v535 : Index := Scalar.indexCast arg12
  let c672 : Index := 672#32
  ![v535.toNat, 672]
def k0_off48 (k0_t1 : Fin k0_t1_loop.trips) : Fin 2 → Nat :=
  let c0_i32_43 : BitVec 32 := 0#32
  let c1_i32 : BitVec 32 := 1#32
  let arg12 : BitVec 32 := Scf.iv c0_i32_43 c1_i32 k0_t1
  let v547 : Index := Scalar.indexCast arg12
  let c688 : Index := 688#32
  ![v547.toNat, 688]
def k0_off49 (k0_t1 : Fin k0_t1_loop.trips) : Fin 2 → Nat :=
  let c0_i32_43 : BitVec 32 := 0#32
  let c1_i32 : BitVec 32 := 1#32
  let arg12 : BitVec 32 := Scf.iv c0_i32_43 c1_i32 k0_t1
  let v559 : Index := Scalar.indexCast arg12
  let c704 : Index := 704#32
  ![v559.toNat, 704]
def k0_off50 (k0_t1 : Fin k0_t1_loop.trips) : Fin 2 → Nat :=
  let c0_i32_43 : BitVec 32 := 0#32
  let c1_i32 : BitVec 32 := 1#32
  let arg12 : BitVec 32 := Scf.iv c0_i32_43 c1_i32 k0_t1
  let v571 : Index := Scalar.indexCast arg12
  let c720 : Index := 720#32
  ![v571.toNat, 720]
def k0_off51 (k0_t1 : Fin k0_t1_loop.trips) : Fin 2 → Nat :=
  let c0_i32_43 : BitVec 32 := 0#32
  let c1_i32 : BitVec 32 := 1#32
  let arg12 : BitVec 32 := Scf.iv c0_i32_43 c1_i32 k0_t1
  let v583 : Index := Scalar.indexCast arg12
  let c736 : Index := 736#32
  ![v583.toNat, 736]
def k0_off52 (k0_t1 : Fin k0_t1_loop.trips) : Fin 2 → Nat :=
  let c0_i32_43 : BitVec 32 := 0#32
  let c1_i32 : BitVec 32 := 1#32
  let arg12 : BitVec 32 := Scf.iv c0_i32_43 c1_i32 k0_t1
  let v595 : Index := Scalar.indexCast arg12
  let c752 : Index := 752#32
  ![v595.toNat, 752]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S5120x768 : Shape := ⟨2, ![5120, 768]⟩
abbrev S1024 : Shape := ⟨1, ![1024]⟩
abbrev S1024x768 : Shape := ⟨2, ![1024, 768]⟩
abbrev S1024x1 : Shape := ⟨2, ![1024, 1]⟩
abbrev S_ : Shape := ⟨0, ![]⟩
abbrev S1 : Shape := ⟨1, ![1]⟩
abbrev S1x1 : Shape := ⟨2, ![1, 1]⟩

abbrev nBuf : Space → Nat
  | .hbm => 30
  | .vmem => 0
  | .smem => 0
  | _ => 0

abbrev bufTy : (tb : Table) → Fin (tcTables nBuf tb) → BufTy
  | .hbm, ⟨0, _⟩ => ⟨S5120x768, .f32⟩
  | .hbm, ⟨1, _⟩ => ⟨S1024, .i32⟩
  | .hbm, ⟨2, _⟩ => ⟨S1024x768, .f32⟩
  | .hbm, ⟨3, _⟩ => ⟨S1024x1, .f32⟩
  | .hbm, ⟨4, _⟩ => ⟨S_, .i32⟩
  | .hbm, ⟨5, _⟩ => ⟨S1024, .i32⟩
  | .hbm, ⟨6, _⟩ => ⟨S1024, .i1⟩
  | .hbm, ⟨7, _⟩ => ⟨S_, .i32⟩
  | .hbm, ⟨8, _⟩ => ⟨S1024, .i32⟩
  | .hbm, ⟨9, _⟩ => ⟨S1024, .i32⟩
  | .hbm, ⟨10, _⟩ => ⟨S1024, .i32⟩
  | .hbm, ⟨11, _⟩ => ⟨S1024x1, .i32⟩
  | .hbm, ⟨12, _⟩ => ⟨S1, .i32⟩
  | .hbm, ⟨13, _⟩ => ⟨S_, .i32⟩
  | .hbm, ⟨14, _⟩ => ⟨S1024x1, .i32⟩
  | .hbm, ⟨15, _⟩ => ⟨S1024x1, .i1⟩
  | .hbm, ⟨16, _⟩ => ⟨S1x1, .i32⟩
  | .hbm, ⟨17, _⟩ => ⟨S1024x1, .i32⟩
  | .hbm, ⟨18, _⟩ => ⟨S1024x1, .i1⟩
  | .hbm, ⟨19, _⟩ => ⟨S1024x1, .i1⟩
  | .hbm, ⟨20, _⟩ => ⟨S_, .i1⟩
  | .hbm, ⟨21, _⟩ => ⟨S1024, .i1⟩
  | .hbm, ⟨22, _⟩ => ⟨S1024x768, .f32⟩
  | .hbm, ⟨23, _⟩ => ⟨S1024x768, .i1⟩
  | .hbm, ⟨24, _⟩ => ⟨S_, .f32⟩
  | .hbm, ⟨25, _⟩ => ⟨S1024x768, .f32⟩
  | .hbm, ⟨26, _⟩ => ⟨S1024x768, .f32⟩
  | .hbm, ⟨27, _⟩ => ⟨S1024x768, .f32⟩
  | .hbm, ⟨28, _⟩ => ⟨S1024x768, .f32⟩
  | .hbm, ⟨29, _⟩ => ⟨S1024x768, .f32⟩
  | _, _ => ⟨S5120x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩

abbrev nD : Nat := 1
abbrev τ : Topo := Topo.v7x

variable {F : FTy → Type} [FloatOps F]
-- ==== WholeIdeal.lean ====
abbrev S1024x768 : Shape := ⟨2, ![1024, 768]⟩
abbrev S64x768 : Shape := ⟨2, ![64, 768]⟩
abbrev S64 : Shape := ⟨1, ![64]⟩
abbrev S64x256x768 : Shape := ⟨3, ![64, 256, 768]⟩
abbrev S64x768x128 : Shape := ⟨3, ![64, 768, 128]⟩
abbrev S256x768 : Shape := ⟨2, ![256, 768]⟩
abbrev S768x128 : Shape := ⟨2, ![768, 128]⟩
abbrev S1x64 : Shape := ⟨2, ![1, 64]⟩
abbrev S1x1 : Shape := ⟨2, ![1, 1]⟩
abbrev S1024x128 : Shape := ⟨2, ![1024, 128]⟩
abbrev S1024x1 : Shape := ⟨2, ![1024, 1]⟩
abbrev S80x1 : Shape := ⟨2, ![80, 1]⟩
abbrev S1024x64 : Shape := ⟨2, ![1024, 64]⟩
abbrev S1024 : Shape := ⟨1, ![1024]⟩
abbrev S1x1024x1 : Shape := ⟨3, ![1, 1024, 1]⟩
abbrev S1 : Shape := ⟨1, ![1]⟩
abbrev S1x1x1 : Shape := ⟨3, ![1, 1, 1]⟩
abbrev S1024x1024 : Shape := ⟨2, ![1024, 1024]⟩
abbrev S64x64 : Shape := ⟨2, ![64, 64]⟩
abbrev S1x1x64 : Shape := ⟨3, ![1, 1, 64]⟩
abbrev S80x64 : Shape := ⟨2, ![80, 64]⟩
abbrev S80 : Shape := ⟨1, ![80]⟩
abbrev S1024x256 : Shape := ⟨2, ![1024, 256]⟩
abbrev S5120x768 : Shape := ⟨2, ![5120, 768]⟩
abbrev S32 : Shape := ⟨1, ![32]⟩
abbrev S32x768 : Shape := ⟨2, ![32, 768]⟩
abbrev S_ : Shape := ⟨0, ![]⟩
abbrev S32x128 : Shape := ⟨2, ![32, 128]⟩
abbrev S5120x128 : Shape := ⟨2, ![5120, 128]⟩
abbrev S512x768 : Shape := ⟨2, ![512, 768]⟩
abbrev S1x128x768 : Shape := ⟨3, ![1, 128, 768]⟩
abbrev S1x384x128 : Shape := ⟨3, ![1, 384, 128]⟩
abbrev S128x768 : Shape := ⟨2, ![128, 768]⟩
abbrev S64x128 : Shape := ⟨2, ![64, 128]⟩
abbrev S384x128 : Shape := ⟨2, ![384, 128]⟩
abbrev S64x384 : Shape := ⟨2, ![64, 384]⟩
abbrev S1x16 : Shape := ⟨2, ![1, 16]⟩
abbrev S16 : Shape := ⟨1, ![16]⟩

abbrev nBuf : Table → Nat
  | .hbm => 18
  | .local .tc .vmem => 78
  | .local .tc .smem => 1
  | .local .scVector .vmem => 6
  | _ => 0

abbrev bufTy : (tb : Table) → Fin (nBuf tb) → BufTy
  | .hbm, ⟨0, _⟩ => ⟨S1024x768, .f32⟩
  | .hbm, ⟨1, _⟩ => ⟨S64x768, .f32⟩
  | .hbm, ⟨2, _⟩ => ⟨S64, .f32⟩
  | .hbm, ⟨3, _⟩ => ⟨S64x256x768, .f32⟩
  | .hbm, ⟨4, _⟩ => ⟨S64x768x128, .f32⟩
  | .hbm, ⟨5, _⟩ => ⟨S256x768, .f32⟩
  | .hbm, ⟨6, _⟩ => ⟨S768x128, .f32⟩
  | .hbm, ⟨7, _⟩ => ⟨S1x64, .f32⟩
  | .hbm, ⟨8, _⟩ => ⟨S1x1, .f32⟩
  | .hbm, ⟨9, _⟩ => ⟨S1024x128, .f32⟩
  | .hbm, ⟨10, _⟩ => ⟨S1024x1, .i32⟩
  | .hbm, ⟨11, _⟩ => ⟨S80x1, .i32⟩
  | .hbm, ⟨12, _⟩ => ⟨S1024x768, .f32⟩
  | .hbm, ⟨13, _⟩ => ⟨S1024, .i32⟩
  | .hbm, ⟨14, _⟩ => ⟨S5120x768, .f32⟩
  | .hbm, ⟨15, _⟩ => ⟨S5120x768, .f32⟩
  | .hbm, ⟨16, _⟩ => ⟨S1024x768, .f32⟩
  | .hbm, ⟨17, _⟩ => ⟨S_, .f32⟩
  | .local .tc .vmem, ⟨0, _⟩ => ⟨S1024x768, .f32⟩
  | .local .tc .vmem, ⟨1, _⟩ => ⟨S64x768, .f32⟩
  | .local .tc .vmem, ⟨2, _⟩ => ⟨S1x64, .f32⟩
  | .local .tc .vmem, ⟨3, _⟩ => ⟨S256x768, .f32⟩
  | .local .tc .vmem, ⟨4, _⟩ => ⟨S768x128, .f32⟩
  | .local .tc .vmem, ⟨5, _⟩ => ⟨S1x1, .f32⟩
  | .local .tc .vmem, ⟨6, _⟩ => ⟨S1024x128, .f32⟩
  | .local .tc .vmem, ⟨7, _⟩ => ⟨S1024x1, .i32⟩
  | .local .tc .vmem, ⟨8, _⟩ => ⟨S80x1, .i32⟩
  | .local .tc .vmem, ⟨9, _⟩ => ⟨S1024x768, .f32⟩
  | .local .tc .vmem, ⟨10, _⟩ => ⟨S512x768, .f32⟩
  | .local .tc .vmem, ⟨11, _⟩ => ⟨S512x768, .f32⟩
  | .local .tc .vmem, ⟨12, _⟩ => ⟨S1x128x768, .f32⟩
  | .local .tc .vmem, ⟨13, _⟩ => ⟨S1x128x768, .f32⟩
  | .local .tc .vmem, ⟨14, _⟩ => ⟨S1x128x768, .f32⟩
  | .local .tc .vmem, ⟨15, _⟩ => ⟨S1x128x768, .f32⟩
  | .local .tc .vmem, ⟨16, _⟩ => ⟨S1x384x128, .f32⟩
  | .local .tc .vmem, ⟨17, _⟩ => ⟨S1x384x128, .f32⟩
  | .local .tc .vmem, ⟨18, _⟩ => ⟨S1x384x128, .f32⟩
  | .local .tc .vmem, ⟨19, _⟩ => ⟨S1x384x128, .f32⟩
  | .local .tc .vmem, ⟨20, _⟩ => ⟨S1x128x768, .f32⟩
  | .local .tc .vmem, ⟨21, _⟩ => ⟨S1x128x768, .f32⟩
  | .local .tc .vmem, ⟨22, _⟩ => ⟨S1x128x768, .f32⟩
  | .local .tc .vmem, ⟨23, _⟩ => ⟨S1x128x768, .f32⟩
  | .local .tc .vmem, ⟨24, _⟩ => ⟨S1x384x128, .f32⟩
  | .local .tc .vmem, ⟨25, _⟩ => ⟨S1x384x128, .f32⟩
  | .local .tc .vmem, ⟨26, _⟩ => ⟨S1x384x128, .f32⟩
  | .local .tc .vmem, ⟨27, _⟩ => ⟨S1x384x128, .f32⟩
  | .local .tc .vmem, ⟨28, _⟩ => ⟨S1x128x768, .f32⟩
  | .local .tc .vmem, ⟨29, _⟩ => ⟨S1x128x768, .f32⟩
  | .local .tc .vmem, ⟨30, _⟩ => ⟨S1x128x768, .f32⟩
  | .local .tc .vmem, ⟨31, _⟩ => ⟨S1x128x768, .f32⟩
  | .local .tc .vmem, ⟨32, _⟩ => ⟨S1x384x128, .f32⟩
  | .local .tc .vmem, ⟨33, _⟩ => ⟨S1x384x128, .f32⟩
  | .local .tc .vmem, ⟨34, _⟩ => ⟨S1x384x128, .f32⟩
  | .local .tc .vmem, ⟨35, _⟩ => ⟨S1x384x128, .f32⟩
  | .local .tc .vmem, ⟨36, _⟩ => ⟨S1x128x768, .f32⟩
  | .local .tc .vmem, ⟨37, _⟩ => ⟨S1x128x768, .f32⟩
  | .local .tc .vmem, ⟨38, _⟩ => ⟨S1x128x768, .f32⟩
  | .local .tc .vmem, ⟨39, _⟩ => ⟨S1x128x768, .f32⟩
  | .local .tc .vmem, ⟨40, _⟩ => ⟨S1x384x128, .f32⟩
  | .local .tc .vmem, ⟨41, _⟩ => ⟨S1x384x128, .f32⟩
  | .local .tc .vmem, ⟨42, _⟩ => ⟨S1x384x128, .f32⟩
  | .local .tc .vmem, ⟨43, _⟩ => ⟨S1x384x128, .f32⟩
  | .local .tc .vmem, ⟨44, _⟩ => ⟨S1x128x768, .f32⟩
  | .local .tc .vmem, ⟨45, _⟩ => ⟨S1x128x768, .f32⟩
  | .local .tc .vmem, ⟨46, _⟩ => ⟨S1x128x768, .f32⟩
  | .local .tc .vmem, ⟨47, _⟩ => ⟨S1x128x768, .f32⟩
  | .local .tc .vmem, ⟨48, _⟩ => ⟨S1x384x128, .f32⟩
  | .local .tc .vmem, ⟨49, _⟩ => ⟨S1x384x128, .f32⟩
  | .local .tc .vmem, ⟨50, _⟩ => ⟨S1x384x128, .f32⟩
  | .local .tc .vmem, ⟨51, _⟩ => ⟨S1x384x128, .f32⟩
  | .local .tc .vmem, ⟨52, _⟩ => ⟨S1x128x768, .f32⟩
  | .local .tc .vmem, ⟨53, _⟩ => ⟨S1x128x768, .f32⟩
  | .local .tc .vmem, ⟨54, _⟩ => ⟨S1x128x768, .f32⟩
  | .local .tc .vmem, ⟨55, _⟩ => ⟨S1x128x768, .f32⟩
  | .local .tc .vmem, ⟨56, _⟩ => ⟨S1x384x128, .f32⟩
  | .local .tc .vmem, ⟨57, _⟩ => ⟨S1x384x128, .f32⟩
  | .local .tc .vmem, ⟨58, _⟩ => ⟨S1x384x128, .f32⟩
  | .local .tc .vmem, ⟨59, _⟩ => ⟨S1x384x128, .f32⟩
  | .local .tc .vmem, ⟨60, _⟩ => ⟨S1x128x768, .f32⟩
  | .local .tc .vmem, ⟨61, _⟩ => ⟨S1x128x768, .f32⟩
  | .local .tc .vmem, ⟨62, _⟩ => ⟨S1x128x768, .f32⟩
  | .local .tc .vmem, ⟨63, _⟩ => ⟨S1x128x768, .f32⟩
  | .local .tc .vmem, ⟨64, _⟩ => ⟨S1x384x128, .f32⟩
  | .local .tc .vmem, ⟨65, _⟩ => ⟨S1x384x128, .f32⟩
  | .local .tc .vmem, ⟨66, _⟩ => ⟨S1x384x128, .f32⟩
  | .local .tc .vmem, ⟨67, _⟩ => ⟨S1x384x128, .f32⟩
  | .local .tc .vmem, ⟨68, _⟩ => ⟨S1x128x768, .f32⟩
  | .local .tc .vmem, ⟨69, _⟩ => ⟨S1x128x768, .f32⟩
  | .local .tc .vmem, ⟨70, _⟩ => ⟨S1x128x768, .f32⟩
  | .local .tc .vmem, ⟨71, _⟩ => ⟨S1x128x768, .f32⟩
  | .local .tc .vmem, ⟨72, _⟩ => ⟨S1x384x128, .f32⟩
  | .local .tc .vmem, ⟨73, _⟩ => ⟨S1x384x128, .f32⟩
  | .local .tc .vmem, ⟨74, _⟩ => ⟨S1x384x128, .f32⟩
  | .local .tc .vmem, ⟨75, _⟩ => ⟨S1x384x128, .f32⟩
  | .local .tc .vmem, ⟨76, _⟩ => ⟨S512x768, .f32⟩
  | .local .tc .vmem, ⟨77, _⟩ => ⟨S512x768, .f32⟩
  | .local .tc .smem, ⟨0, _⟩ => ⟨S80, .i32⟩
  | .local .scVector .vmem, ⟨0, _⟩ => ⟨S32, .i32⟩
  | .local .scVector .vmem, ⟨1, _⟩ => ⟨S32x768, .f32⟩
  | .local .scVector .vmem, ⟨2, _⟩ => ⟨S32, .i32⟩
  | .local .scVector .vmem, ⟨3, _⟩ => ⟨S32x768, .f32⟩
  | .local .scVector .vmem, ⟨4, _⟩ => ⟨S32x768, .f32⟩
  | .local .scVector .vmem, ⟨5, _⟩ => ⟨S32x128, .f32⟩
  | _, _ => ⟨S1024x768, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 86 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => false
  | ⟨11, _⟩ => false
  | ⟨12, _⟩ => false
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => false
  | ⟨82, _⟩ => false
  | ⟨83, _⟩ => false
  | ⟨84, _⟩ => false
  | ⟨85, _⟩ => false
  | _ => false

abbrev sig : RefSig :=
  ofTables nBuf rfl bufTy 4 86 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_v2 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v3 : Ref sig .tc := ⟨.smem, 0, rfl⟩
abbrev main_arg0_scv : Ref sig .scVector := ⟨.hbm, 0, rfl⟩
abbrev main_v2_scv : Ref sig .scVector := ⟨.hbm, 13, rfl⟩
abbrev main_v4_scv : Ref sig .scVector := ⟨.hbm, 14, rfl⟩
abbrev main_v5_scv : Ref sig .scVector := ⟨.hbm, 15, rfl⟩
abbrev main_v1_4_scv : Ref sig .scVector := ⟨.hbm, 12, rfl⟩
abbrev main_v1_1_scv : Ref sig .scVector := ⟨.hbm, 9, rfl⟩
abbrev main_v6_scv : Ref sig .scVector := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg4_1 : Ref sig .tc := ⟨.vmem, 19, rfl⟩
abbrev cc2_stg5_0 : Ref sig .tc := ⟨.vmem, 20, rfl⟩
abbrev cc2_stg5_1 : Ref sig .tc := ⟨.vmem, 21, rfl⟩
abbrev cc2_stg6_0 : Ref sig .tc := ⟨.vmem, 22, rfl⟩
abbrev cc2_stg6_1 : Ref sig .tc := ⟨.vmem, 23, rfl⟩
abbrev cc2_stg7_0 : Ref sig .tc := ⟨.vmem, 24, rfl⟩
abbrev cc2_stg7_1 : Ref sig .tc := ⟨.vmem, 25, rfl⟩
abbrev cc2_stg8_0 : Ref sig .tc := ⟨.vmem, 26, rfl⟩
abbrev cc2_stg8_1 : Ref sig .tc := ⟨.vmem, 27, rfl⟩
abbrev cc2_stg9_0 : Ref sig .tc := ⟨.vmem, 28, rfl⟩
abbrev cc2_stg9_1 : Ref sig .tc := ⟨.vmem, 29, rfl⟩
abbrev cc2_stg10_0 : Ref sig .tc := ⟨.vmem, 30, rfl⟩
abbrev cc2_stg10_1 : Ref sig .tc := ⟨.vmem, 31, rfl⟩
abbrev cc2_stg11_0 : Ref sig .tc := ⟨.vmem, 32, rfl⟩
abbrev cc2_stg11_1 : Ref sig .tc := ⟨.vmem, 33, rfl⟩
abbrev cc2_stg12_0 : Ref sig .tc := ⟨.vmem, 34, rfl⟩
abbrev cc2_stg12_1 : Ref sig .tc := ⟨.vmem, 35, rfl⟩
abbrev cc2_stg13_0 : Ref sig .tc := ⟨.vmem, 36, rfl⟩
abbrev cc2_stg13_1 : Ref sig .tc := ⟨.vmem, 37, rfl⟩
abbrev cc2_stg14_0 : Ref sig .tc := ⟨.vmem, 38, rfl⟩
abbrev cc2_stg14_1 : Ref sig .tc := ⟨.vmem, 39, rfl⟩
abbrev cc2_stg15_0 : Ref sig .tc := ⟨.vmem, 40, rfl⟩
abbrev cc2_stg15_1 : Ref sig .tc := ⟨.vmem, 41, rfl⟩
abbrev cc2_stg16_0 : Ref sig .tc := ⟨.vmem, 42, rfl⟩
abbrev cc2_stg16_1 : Ref sig .tc := ⟨.vmem, 43, rfl⟩
abbrev cc2_stg17_0 : Ref sig .tc := ⟨.vmem, 44, rfl⟩
abbrev cc2_stg17_1 : Ref sig .tc := ⟨.vmem, 45, rfl⟩
abbrev cc2_stg18_0 : Ref sig .tc := ⟨.vmem, 46, rfl⟩
abbrev cc2_stg18_1 : Ref sig .tc := ⟨.vmem, 47, rfl⟩
abbrev cc2_stg19_0 : Ref sig .tc := ⟨.vmem, 48, rfl⟩
abbrev cc2_stg19_1 : Ref sig .tc := ⟨.vmem, 49, rfl⟩
abbrev cc2_stg20_0 : Ref sig .tc := ⟨.vmem, 50, rfl⟩
abbrev cc2_stg20_1 : Ref sig .tc := ⟨.vmem, 51, rfl⟩
abbrev cc2_stg21_0 : Ref sig .tc := ⟨.vmem, 52, rfl⟩
abbrev cc2_stg21_1 : Ref sig .tc := ⟨.vmem, 53, rfl⟩
abbrev cc2_stg22_0 : Ref sig .tc := ⟨.vmem, 54, rfl⟩
abbrev cc2_stg22_1 : Ref sig .tc := ⟨.vmem, 55, rfl⟩
abbrev cc2_stg23_0 : Ref sig .tc := ⟨.vmem, 56, rfl⟩
abbrev cc2_stg23_1 : Ref sig .tc := ⟨.vmem, 57, rfl⟩
abbrev cc2_stg24_0 : Ref sig .tc := ⟨.vmem, 58, rfl⟩
abbrev cc2_stg24_1 : Ref sig .tc := ⟨.vmem, 59, rfl⟩
abbrev cc2_stg25_0 : Ref sig .tc := ⟨.vmem, 60, rfl⟩
abbrev cc2_stg25_1 : Ref sig .tc := ⟨.vmem, 61, rfl⟩
abbrev cc2_stg26_0 : Ref sig .tc := ⟨.vmem, 62, rfl⟩
abbrev cc2_stg26_1 : Ref sig .tc := ⟨.vmem, 63, rfl⟩
abbrev cc2_stg27_0 : Ref sig .tc := ⟨.vmem, 64, rfl⟩
abbrev cc2_stg27_1 : Ref sig .tc := ⟨.vmem, 65, rfl⟩
abbrev cc2_stg28_0 : Ref sig .tc := ⟨.vmem, 66, rfl⟩
abbrev cc2_stg28_1 : Ref sig .tc := ⟨.vmem, 67, rfl⟩
abbrev cc2_stg29_0 : Ref sig .tc := ⟨.vmem, 68, rfl⟩
abbrev cc2_stg29_1 : Ref sig .tc := ⟨.vmem, 69, rfl⟩
abbrev cc2_stg30_0 : Ref sig .tc := ⟨.vmem, 70, rfl⟩
abbrev cc2_stg30_1 : Ref sig .tc := ⟨.vmem, 71, rfl⟩
abbrev cc2_stg31_0 : Ref sig .tc := ⟨.vmem, 72, rfl⟩
abbrev cc2_stg31_1 : Ref sig .tc := ⟨.vmem, 73, rfl⟩
abbrev cc2_stg32_0 : Ref sig .tc := ⟨.vmem, 74, rfl⟩
abbrev cc2_stg32_1 : Ref sig .tc := ⟨.vmem, 75, rfl⟩
abbrev cc2_stg33_0 : Ref sig .tc := ⟨.vmem, 76, rfl⟩
abbrev cc2_stg33_1 : Ref sig .tc := ⟨.vmem, 77, rfl⟩
abbrev cc1_scratch0 : Ref sig .scVector := ⟨.vmem, 0, rfl⟩
abbrev cc1_scratch1 : Ref sig .scVector := ⟨.vmem, 1, rfl⟩
abbrev cc3_scratch0 : Ref sig .scVector := ⟨.vmem, 2, rfl⟩
abbrev cc3_scratch1 : Ref sig .scVector := ⟨.vmem, 3, rfl⟩
abbrev cc3_scratch2 : Ref sig .scVector := ⟨.vmem, 4, rfl⟩
abbrev cc3_scratch3 : Ref sig .scVector := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20
abbrev cc2_sem4_0 : DmaSem sig := 21
abbrev cc2_sem4_1 : DmaSem sig := 22
abbrev cc2_sem5_0 : DmaSem sig := 23
abbrev cc2_sem5_1 : DmaSem sig := 24
abbrev cc2_sem6_0 : DmaSem sig := 25
abbrev cc2_sem6_1 : DmaSem sig := 26
abbrev cc2_sem7_0 : DmaSem sig := 27
abbrev cc2_sem7_1 : DmaSem sig := 28
abbrev cc2_sem8_0 : DmaSem sig := 29
abbrev cc2_sem8_1 : DmaSem sig := 30
abbrev cc2_sem9_0 : DmaSem sig := 31
abbrev cc2_sem9_1 : DmaSem sig := 32
abbrev cc2_sem10_0 : DmaSem sig := 33
abbrev cc2_sem10_1 : DmaSem sig := 34
abbrev cc2_sem11_0 : DmaSem sig := 35
abbrev cc2_sem11_1 : DmaSem sig := 36
abbrev cc2_sem12_0 : DmaSem sig := 37
abbrev cc2_sem12_1 : DmaSem sig := 38
abbrev cc2_sem13_0 : DmaSem sig := 39
abbrev cc2_sem13_1 : DmaSem sig := 40
abbrev cc2_sem14_0 : DmaSem sig := 41
abbrev cc2_sem14_1 : DmaSem sig := 42
abbrev cc2_sem15_0 : DmaSem sig := 43
abbrev cc2_sem15_1 : DmaSem sig := 44
abbrev cc2_sem16_0 : DmaSem sig := 45
abbrev cc2_sem16_1 : DmaSem sig := 46
abbrev cc2_sem17_0 : DmaSem sig := 47
abbrev cc2_sem17_1 : DmaSem sig := 48
abbrev cc2_sem18_0 : DmaSem sig := 49
abbrev cc2_sem18_1 : DmaSem sig := 50
abbrev cc2_sem19_0 : DmaSem sig := 51
abbrev cc2_sem19_1 : DmaSem sig := 52
abbrev cc2_sem20_0 : DmaSem sig := 53
abbrev cc2_sem20_1 : DmaSem sig := 54
abbrev cc2_sem21_0 : DmaSem sig := 55
abbrev cc2_sem21_1 : DmaSem sig := 56
abbrev cc2_sem22_0 : DmaSem sig := 57
abbrev cc2_sem22_1 : DmaSem sig := 58
abbrev cc2_sem23_0 : DmaSem sig := 59
abbrev cc2_sem23_1 : DmaSem sig := 60
abbrev cc2_sem24_0 : DmaSem sig := 61
abbrev cc2_sem24_1 : DmaSem sig := 62
abbrev cc2_sem25_0 : DmaSem sig := 63
abbrev cc2_sem25_1 : DmaSem sig := 64
abbrev cc2_sem26_0 : DmaSem sig := 65
abbrev cc2_sem26_1 : DmaSem sig := 66
abbrev cc2_sem27_0 : DmaSem sig := 67
abbrev cc2_sem27_1 : DmaSem sig := 68
abbrev cc2_sem28_0 : DmaSem sig := 69
abbrev cc2_sem28_1 : DmaSem sig := 70
abbrev cc2_sem29_0 : DmaSem sig := 71
abbrev cc2_sem29_1 : DmaSem sig := 72
abbrev cc2_sem30_0 : DmaSem sig := 73
abbrev cc2_sem30_1 : DmaSem sig := 74
abbrev cc2_sem31_0 : DmaSem sig := 75
abbrev cc2_sem31_1 : DmaSem sig := 76
abbrev cc2_sem32_0 : DmaSem sig := 77
abbrev cc2_sem32_1 : DmaSem sig := 78
abbrev cc2_sem33_0 : DmaSem sig := 79
abbrev cc2_sem33_1 : DmaSem sig := 80
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S1024x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S768x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x1 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S80x1 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32 : BitVec 32 := 0#32
  ![v2.toNat, 0]
abbrev grid2 : Pipeline.Grid := ⟨1, ![10], ![false]⟩

abbrev pre2 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def k2_off1 (i : grid2.Coords) (c0_i32 : BitVec 32) : Fin 1 → Nat :=
  let c8_i32 : BitVec 32 := 8#32
  let arg0 : BitVec 32 := BitVec.ofNat 32 (i 0).val
  let v0 : BitVec 32 := Scalar.muli c8_i32 arg0
  let v1 : BitVec 32 := Scalar.addi v0 c0_i32
  let v2 : Index := Scalar.indexCast v1
  ![v2.toNat]
def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (k2_off1_inb : ∀ i : grid2.Coords, ∀ (r : Fin 8), ∀ a, (k2_off1 i (BitVec.ofNat 32 r.val)) a + S1.size a ≤ S80.size a) (numel1_S1 : S1.numel = 1) (pf : pre2.Contents (Elt F)) (i : grid2.Coords) : Fin 3 → Nat :=
  let arg0 : BitVec 32 := BitVec.ofNat 32 (i 0).val
  let c8_i32 : BitVec 32 := 8#32
  let v0 : BitVec 32 := Scalar.muli c8_i32 arg0
  let c0_i32 : BitVec 32 := 0#32
  let v1 : BitVec 32 := Scalar.addi v0 c0_i32
  let v2 : Index := Scalar.indexCast v1
  let v3 : BitVec 32 := pf.at 0 (Rect.unit (s := S80) ![v2.toNat] S1.size (k2_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc2_transform_2 (k2_off1_inb : ∀ i : grid2.Coords, ∀ (r : Fin 8), ∀ a, (k2_off1 i (BitVec.ofNat 32 r.val)) a + S1.size a ≤ S80.size a) (numel1_S1 : S1.numel = 1) (pf : pre2.Contents (Elt F)) (i : grid2.Coords) : Fin 3 → Nat :=
  let arg0 : BitVec 32 := BitVec.ofNat 32 (i 0).val
  let c8_i32 : BitVec 32 := 8#32
  let v0 : BitVec 32 := Scalar.muli c8_i32 arg0
  let c0_i32 : BitVec 32 := 0#32
  let v1 : BitVec 32 := Scalar.addi v0 c0_i32
  let v2 : Index := Scalar.indexCast v1
  let v3 : BitVec 32 := pf.at 0 (Rect.unit (s := S80) ![v2.toNat] S1.size (k2_off1_inb i 0)) numel1_S1
  let c1_i32 : BitVec 32 := 1#32
  let c0_i32_0 : BitVec 32 := 0#32
  let c0_i32_1 : BitVec 32 := 0#32
  ![v3.toNat, c1_i32.toNat, c0_i32_0.toNat]

def cc2_transform_3 (k2_off1_inb : ∀ i : grid2.Coords, ∀ (r : Fin 8), ∀ a, (k2_off1 i (BitVec.ofNat 32 r.val)) a + S1.size a ≤ S80.size a) (numel1_S1 : S1.numel = 1) (pf : pre2.Contents (Elt F)) (i : grid2.Coords) : Fin 3 → Nat :=
  let arg0 : BitVec 32 := BitVec.ofNat 32 (i 0).val
  let c8_i32 : BitVec 32 := 8#32
  let v0 : BitVec 32 := Scalar.muli c8_i32 arg0
  let c0_i32 : BitVec 32 := 0#32
  let v1 : BitVec 32 := Scalar.addi v0 c0_i32
  let v2 : Index := Scalar.indexCast v1
  let v3 : BitVec 32 := pf.at 0 (Rect.unit (s := S80) ![v2.toNat] S1.size (k2_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc2_transform_4 (k2_off1_inb : ∀ i : grid2.Coords, ∀ (r : Fin 8), ∀ a, (k2_off1 i (BitVec.ofNat 32 r.val)) a + S1.size a ≤ S80.size a) (numel1_S1 : S1.numel = 1) (pf : pre2.Contents (Elt F)) (i : grid2.Coords) : Fin 3 → Nat :=
  let arg0 : BitVec 32 := BitVec.ofNat 32 (i 0).val
  let c8_i32 : BitVec 32 := 8#32
  let v0 : BitVec 32 := Scalar.muli c8_i32 arg0
  let c0_i32 : BitVec 32 := 0#32
  let v1 : BitVec 32 := Scalar.addi v0 c0_i32
  let v2 : Index := Scalar.indexCast v1
  let v3 : BitVec 32 := pf.at 0 (Rect.unit (s := S80) ![v2.toNat] S1.size (k2_off1_inb i 0)) numel1_S1
  let c1_i32 : BitVec 32 := 1#32
  let c0_i32_0 : BitVec 32 := 0#32
  let c0_i32_1 : BitVec 32 := 0#32
  ![v3.toNat, c1_i32.toNat, c0_i32_0.toNat]

def cc2_transform_5 (k2_off1_inb : ∀ i : grid2.Coords, ∀ (r : Fin 8), ∀ a, (k2_off1 i (BitVec.ofNat 32 r.val)) a + S1.size a ≤ S80.size a) (numel1_S1 : S1.numel = 1) (pf : pre2.Contents (Elt F)) (i : grid2.Coords) : Fin 3 → Nat :=
  let arg0 : BitVec 32 := BitVec.ofNat 32 (i 0).val
  let c8_i32 : BitVec 32 := 8#32
  let v0 : BitVec 32 := Scalar.muli c8_i32 arg0
  let c1_i32 : BitVec 32 := 1#32
  let v1 : BitVec 32 := Scalar.addi v0 c1_i32
  let v2 : Index := Scalar.indexCast v1
  let v3 : BitVec 32 := pf.at 0 (Rect.unit (s := S80) ![v2.toNat] S1.size (k2_off1_inb i 1)) numel1_S1
  let c0_i32 : BitVec 32 := 0#32
  let c0_i32_0 : BitVec 32 := 0#32
  let c0_i32_1 : BitVec 32 := 0#32
  ![v3.toNat, c0_i32.toNat, c0_i32_0.toNat]

def cc2_transform_6 (k2_off1_inb : ∀ i : grid2.Coords, ∀ (r : Fin 8), ∀ a, (k2_off1 i (BitVec.ofNat 32 r.val)) a + S1.size a ≤ S80.size a) (numel1_S1 : S1.numel = 1) (pf : pre2.Contents (Elt F)) (i : grid2.Coords) : Fin 3 → Nat :=
  let arg0 : BitVec 32 := BitVec.ofNat 32 (i 0).val
  let c8_i32 : BitVec 32 := 8#32
  let v0 : BitVec 32 := Scalar.muli c8_i32 arg0
  let c1_i32 : BitVec 32 := 1#32
  let v1 : BitVec 32 := Scalar.addi v0 c1_i32
  let v2 : Index := Scalar.indexCast v1
  let v3 : BitVec 32 := pf.at 0 (Rect.unit (s := S80) ![v2.toNat] S1.size (k2_off1_inb i 1)) numel1_S1
  let c1_i32_0 : BitVec 32 := 1#32
  let c0_i32 : BitVec 32 := 0#32
  let c0_i32_1 : BitVec 32 := 0#32
  ![v3.toNat, c1_i32_0.toNat, c0_i32.toNat]

def cc2_transform_7 (k2_off1_inb : ∀ i : grid2.Coords, ∀ (r : Fin 8), ∀ a, (k2_off1 i (BitVec.ofNat 32 r.val)) a + S1.size a ≤ S80.size a) (numel1_S1 : S1.numel = 1) (pf : pre2.Contents (Elt F)) (i : grid2.Coords) : Fin 3 → Nat :=
  let arg0 : BitVec 32 := BitVec.ofNat 32 (i 0).val
  let c8_i32 : BitVec 32 := 8#32
  let v0 : BitVec 32 := Scalar.muli c8_i32 arg0
  let c1_i32 : BitVec 32 := 1#32
  let v1 : BitVec 32 := Scalar.addi v0 c1_i32
  let v2 : Index := Scalar.indexCast v1
  let v3 : BitVec 32 := pf.at 0 (Rect.unit (s := S80) ![v2.toNat] S1.size (k2_off1_inb i 1)) numel1_S1
  let c0_i32 : BitVec 32 := 0#32
  let c0_i32_0 : BitVec 32 := 0#32
  let c0_i32_1 : BitVec 32 := 0#32
  ![v3.toNat, c0_i32.toNat, c0_i32_0.toNat]

def cc2_transform_8 (k2_off1_inb : ∀ i : grid2.Coords, ∀ (r : Fin 8), ∀ a, (k2_off1 i (BitVec.ofNat 32 r.val)) a + S1.size a ≤ S80.size a) (numel1_S1 : S1.numel = 1) (pf : pre2.Contents (Elt F)) (i : grid2.Coords) : Fin 3 → Nat :=
  let arg0 : BitVec 32 := BitVec.ofNat 32 (i 0).val
  let c8_i32 : BitVec 32 := 8#32
  let v0 : BitVec 32 := Scalar.muli c8_i32 arg0
  let c1_i32 : BitVec 32 := 1#32
  let v1 : BitVec 32 := Scalar.addi v0 c1_i32
  let v2 : Index := Scalar.indexCast v1
  let v3 : BitVec 32 := pf.at 0 (Rect.unit (s := S80) ![v2.toNat] S1.size (k2_off1_inb i 1)) numel1_S1
  let c1_i32_0 : BitVec 32 := 1#32
  let c0_i32 : BitVec 32 := 0#32
  let c0_i32_1 : BitVec 32 := 0#32
  ![v3.toNat, c1_i32_0.toNat, c0_i32.toNat]

def cc2_transform_9 (k2_off1_inb : ∀ i : grid2.Coords, ∀ (r : Fin 8), ∀ a, (k2_off1 i (BitVec.ofNat 32 r.val)) a + S1.size a ≤ S80.size a) (numel1_S1 : S1.numel = 1) (pf : pre2.Contents (Elt F)) (i : grid2.Coords) : Fin 3 → Nat :=
  let arg0 : BitVec 32 := BitVec.ofNat 32 (i 0).val
  let c8_i32 : BitVec 32 := 8#32
  let v0 : BitVec 32 := Scalar.muli c8_i32 arg0
  let c2_i32 : BitVec 32 := 2#32
  let v1 : BitVec 32 := Scalar.addi v0 c2_i32
  let v2 : Index := Scalar.indexCast v1
  let v3 : BitVec 32 := pf.at 0 (Rect.unit (s := S80) ![v2.toNat] S1.size (k2_off1_inb i 2)) numel1_S1
  let c0_i32 : BitVec 32 := 0#32
  let c0_i32_0 : BitVec 32 := 0#32
  let c0_i32_1 : BitVec 32 := 0#32
  ![v3.toNat, c0_i32.toNat, c0_i32_0.toNat]

def cc2_transform_10 (k2_off1_inb : ∀ i : grid2.Coords, ∀ (r : Fin 8), ∀ a, (k2_off1 i (BitVec.ofNat 32 r.val)) a + S1.size a ≤ S80.size a) (numel1_S1 : S1.numel = 1) (pf : pre2.Contents (Elt F)) (i : grid2.Coords) : Fin 3 → Nat :=
  let arg0 : BitVec 32 := BitVec.ofNat 32 (i 0).val
  let c8_i32 : BitVec 32 := 8#32
  let v0 : BitVec 32 := Scalar.muli c8_i32 arg0
  let c2_i32 : BitVec 32 := 2#32
  let v1 : BitVec 32 := Scalar.addi v0 c2_i32
  let v2 : Index := Scalar.indexCast v1
  let v3 : BitVec 32 := pf.at 0 (Rect.unit (s := S80) ![v2.toNat] S1.size (k2_off1_inb i 2)) numel1_S1
  let c1_i32 : BitVec 32 := 1#32
  let c0_i32 : BitVec 32 := 0#32
  let c0_i32_0 : BitVec 32 := 0#32
  ![v3.toNat, c1_i32.toNat, c0_i32.toNat]

def cc2_transform_11 (k2_off1_inb : ∀ i : grid2.Coords, ∀ (r : Fin 8), ∀ a, (k2_off1 i (BitVec.ofNat 32 r.val)) a + S1.size a ≤ S80.size a) (numel1_S1 : S1.numel = 1) (pf : pre2.Contents (Elt F)) (i : grid2.Coords) : Fin 3 → Nat :=
  let arg0 : BitVec 32 := BitVec.ofNat 32 (i 0).val
  let c8_i32 : BitVec 32 := 8#32
  let v0 : BitVec 32 := Scalar.muli c8_i32 arg0
  let c2_i32 : BitVec 32 := 2#32
  let v1 : BitVec 32 := Scalar.addi v0 c2_i32
  let v2 : Index := Scalar.indexCast v1
  let v3 : BitVec 32 := pf.at 0 (Rect.unit (s := S80) ![v2.toNat] S1.size (k2_off1_inb i 2)) numel1_S1
  let c0_i32 : BitVec 32 := 0#32
  let c0_i32_0 : BitVec 32 := 0#32
  let c0_i32_1 : BitVec 32 := 0#32
  ![v3.toNat, c0_i32.toNat, c0_i32_0.toNat]

def cc2_transform_12 (k2_off1_inb : ∀ i : grid2.Coords, ∀ (r : Fin 8), ∀ a, (k2_off1 i (BitVec.ofNat 32 r.val)) a + S1.size a ≤ S80.size a) (numel1_S1 : S1.numel = 1) (pf : pre2.Contents (Elt F)) (i : grid2.Coords) : Fin 3 → Nat :=
  let arg0 : BitVec 32 := BitVec.ofNat 32 (i 0).val
  let c8_i32 : BitVec 32 := 8#32
  let v0 : BitVec 32 := Scalar.muli c8_i32 arg0
  let c2_i32 : BitVec 32 := 2#32
  let v1 : BitVec 32 := Scalar.addi v0 c2_i32
  let v2 : Index := Scalar.indexCast v1
  let v3 : BitVec 32 := pf.at 0 (Rect.unit (s := S80) ![v2.toNat] S1.size (k2_off1_inb i 2)) numel1_S1
  let c1_i32 : BitVec 32 := 1#32
  let c0_i32 : BitVec 32 := 0#32
  let c0_i32_0 : BitVec 32 := 0#32
  ![v3.toNat, c1_i32.toNat, c0_i32.toNat]

def cc2_transform_13 (k2_off1_inb : ∀ i : grid2.Coords, ∀ (r : Fin 8), ∀ a, (k2_off1 i (BitVec.ofNat 32 r.val)) a + S1.size a ≤ S80.size a) (numel1_S1 : S1.numel = 1) (pf : pre2.Contents (Elt F)) (i : grid2.Coords) : Fin 3 → Nat :=
  let arg0 : BitVec 32 := BitVec.ofNat 32 (i 0).val
  let c8_i32 : BitVec 32 := 8#32
  let v0 : BitVec 32 := Scalar.muli c8_i32 arg0
  let c3_i32 : BitVec 32 := 3#32
  let v1 : BitVec 32 := Scalar.addi v0 c3_i32
  let v2 : Index := Scalar.indexCast v1
  let v3 : BitVec 32 := pf.at 0 (Rect.unit (s := S80) ![v2.toNat] S1.size (k2_off1_inb i 3)) numel1_S1
  let c0_i32 : BitVec 32 := 0#32
  let c0_i32_0 : BitVec 32 := 0#32
  let c0_i32_1 : BitVec 32 := 0#32
  ![v3.toNat, c0_i32.toNat, c0_i32_0.toNat]

def cc2_transform_14 (k2_off1_inb : ∀ i : grid2.Coords, ∀ (r : Fin 8), ∀ a, (k2_off1 i (BitVec.ofNat 32 r.val)) a + S1.size a ≤ S80.size a) (numel1_S1 : S1.numel = 1) (pf : pre2.Contents (Elt F)) (i : grid2.Coords) : Fin 3 → Nat :=
  let arg0 : BitVec 32 := BitVec.ofNat 32 (i 0).val
  let c8_i32 : BitVec 32 := 8#32
  let v0 : BitVec 32 := Scalar.muli c8_i32 arg0
  let c3_i32 : BitVec 32 := 3#32
  let v1 : BitVec 32 := Scalar.addi v0 c3_i32
  let v2 : Index := Scalar.indexCast v1
  let v3 : BitVec 32 := pf.at 0 (Rect.unit (s := S80) ![v2.toNat] S1.size (k2_off1_inb i 3)) numel1_S1
  let c1_i32 : BitVec 32 := 1#32
  let c0_i32 : BitVec 32 := 0#32
  let c0_i32_0 : BitVec 32 := 0#32
  ![v3.toNat, c1_i32.toNat, c0_i32.toNat]

def cc2_transform_15 (k2_off1_inb : ∀ i : grid2.Coords, ∀ (r : Fin 8), ∀ a, (k2_off1 i (BitVec.ofNat 32 r.val)) a + S1.size a ≤ S80.size a) (numel1_S1 : S1.numel = 1) (pf : pre2.Contents (Elt F)) (i : grid2.Coords) : Fin 3 → Nat :=
  let arg0 : BitVec 32 := BitVec.ofNat 32 (i 0).val
  let c8_i32 : BitVec 32 := 8#32
  let v0 : BitVec 32 := Scalar.muli c8_i32 arg0
  let c3_i32 : BitVec 32 := 3#32
  let v1 : BitVec 32 := Scalar.addi v0 c3_i32
  let v2 : Index := Scalar.indexCast v1
  let v3 : BitVec 32 := pf.at 0 (Rect.unit (s := S80) ![v2.toNat] S1.size (k2_off1_inb i 3)) numel1_S1
  let c0_i32 : BitVec 32 := 0#32
  let c0_i32_0 : BitVec 32 := 0#32
  let c0_i32_1 : BitVec 32 := 0#32
  ![v3.toNat, c0_i32.toNat, c0_i32_0.toNat]

def cc2_transform_16 (k2_off1_inb : ∀ i : grid2.Coords, ∀ (r : Fin 8), ∀ a, (k2_off1 i (BitVec.ofNat 32 r.val)) a + S1.size a ≤ S80.size a) (numel1_S1 : S1.numel = 1) (pf : pre2.Contents (Elt F)) (i : grid2.Coords) : Fin 3 → Nat :=
  let arg0 : BitVec 32 := BitVec.ofNat 32 (i 0).val
  let c8_i32 : BitVec 32 := 8#32
  let v0 : BitVec 32 := Scalar.muli c8_i32 arg0
  let c3_i32 : BitVec 32 := 3#32
  let v1 : BitVec 32 := Scalar.addi v0 c3_i32
  let v2 : Index := Scalar.indexCast v1
  let v3 : BitVec 32 := pf.at 0 (Rect.unit (s := S80) ![v2.toNat] S1.size (k2_off1_inb i 3)) numel1_S1
  let c1_i32 : BitVec 32 := 1#32
  let c0_i32 : BitVec 32 := 0#32
  let c0_i32_0 : BitVec 32 := 0#32
  ![v3.toNat, c1_i32.toNat, c0_i32.toNat]

def cc2_transform_17 (k2_off1_inb : ∀ i : grid2.Coords, ∀ (r : Fin 8), ∀ a, (k2_off1 i (BitVec.ofNat 32 r.val)) a + S1.size a ≤ S80.size a) (numel1_S1 : S1.numel = 1) (pf : pre2.Contents (Elt F)) (i : grid2.Coords) : Fin 3 → Nat :=
  let arg0 : BitVec 32 := BitVec.ofNat 32 (i 0).val
  let c8_i32 : BitVec 32 := 8#32
  let v0 : BitVec 32 := Scalar.muli c8_i32 arg0
  let c4_i32 : BitVec 32 := 4#32
  let v1 : BitVec 32 := Scalar.addi v0 c4_i32
  let v2 : Index := Scalar.indexCast v1
  let v3 : BitVec 32 := pf.at 0 (Rect.unit (s := S80) ![v2.toNat] S1.size (k2_off1_inb i 4)) numel1_S1
  let c0_i32 : BitVec 32 := 0#32
  let c0_i32_0 : BitVec 32 := 0#32
  let c0_i32_1 : BitVec 32 := 0#32
  ![v3.toNat, c0_i32.toNat, c0_i32_0.toNat]

def cc2_transform_18 (k2_off1_inb : ∀ i : grid2.Coords, ∀ (r : Fin 8), ∀ a, (k2_off1 i (BitVec.ofNat 32 r.val)) a + S1.size a ≤ S80.size a) (numel1_S1 : S1.numel = 1) (pf : pre2.Contents (Elt F)) (i : grid2.Coords) : Fin 3 → Nat :=
  let arg0 : BitVec 32 := BitVec.ofNat 32 (i 0).val
  let c8_i32 : BitVec 32 := 8#32
  let v0 : BitVec 32 := Scalar.muli c8_i32 arg0
  let c4_i32 : BitVec 32 := 4#32
  let v1 : BitVec 32 := Scalar.addi v0 c4_i32
  let v2 : Index := Scalar.indexCast v1
  let v3 : BitVec 32 := pf.at 0 (Rect.unit (s := S80) ![v2.toNat] S1.size (k2_off1_inb i 4)) numel1_S1
  let c1_i32 : BitVec 32 := 1#32
  let c0_i32 : BitVec 32 := 0#32
  let c0_i32_0 : BitVec 32 := 0#32
  ![v3.toNat, c1_i32.toNat, c0_i32.toNat]

def cc2_transform_19 (k2_off1_inb : ∀ i : grid2.Coords, ∀ (r : Fin 8), ∀ a, (k2_off1 i (BitVec.ofNat 32 r.val)) a + S1.size a ≤ S80.size a) (numel1_S1 : S1.numel = 1) (pf : pre2.Contents (Elt F)) (i : grid2.Coords) : Fin 3 → Nat :=
  let arg0 : BitVec 32 := BitVec.ofNat 32 (i 0).val
  let c8_i32 : BitVec 32 := 8#32
  let v0 : BitVec 32 := Scalar.muli c8_i32 arg0
  let c4_i32 : BitVec 32 := 4#32
  let v1 : BitVec 32 := Scalar.addi v0 c4_i32
  let v2 : Index := Scalar.indexCast v1
  let v3 : BitVec 32 := pf.at 0 (Rect.unit (s := S80) ![v2.toNat] S1.size (k2_off1_inb i 4)) numel1_S1
  let c0_i32 : BitVec 32 := 0#32
  let c0_i32_0 : BitVec 32 := 0#32
  let c0_i32_1 : BitVec 32 := 0#32
  ![v3.toNat, c0_i32.toNat, c0_i32_0.toNat]

def cc2_transform_20 (k2_off1_inb : ∀ i : grid2.Coords, ∀ (r : Fin 8), ∀ a, (k2_off1 i (BitVec.ofNat 32 r.val)) a + S1.size a ≤ S80.size a) (numel1_S1 : S1.numel = 1) (pf : pre2.Contents (Elt F)) (i : grid2.Coords) : Fin 3 → Nat :=
  let arg0 : BitVec 32 := BitVec.ofNat 32 (i 0).val
  let c8_i32 : BitVec 32 := 8#32
  let v0 : BitVec 32 := Scalar.muli c8_i32 arg0
  let c4_i32 : BitVec 32 := 4#32
  let v1 : BitVec 32 := Scalar.addi v0 c4_i32
  let v2 : Index := Scalar.indexCast v1
  let v3 : BitVec 32 := pf.at 0 (Rect.unit (s := S80) ![v2.toNat] S1.size (k2_off1_inb i 4)) numel1_S1
  let c1_i32 : BitVec 32 := 1#32
  let c0_i32 : BitVec 32 := 0#32
  let c0_i32_0 : BitVec 32 := 0#32
  ![v3.toNat, c1_i32.toNat, c0_i32.toNat]

def cc2_transform_21 (k2_off1_inb : ∀ i : grid2.Coords, ∀ (r : Fin 8), ∀ a, (k2_off1 i (BitVec.ofNat 32 r.val)) a + S1.size a ≤ S80.size a) (numel1_S1 : S1.numel = 1) (pf : pre2.Contents (Elt F)) (i : grid2.Coords) : Fin 3 → Nat :=
  let arg0 : BitVec 32 := BitVec.ofNat 32 (i 0).val
  let c8_i32 : BitVec 32 := 8#32
  let v0 : BitVec 32 := Scalar.muli c8_i32 arg0
  let c5_i32 : BitVec 32 := 5#32
  let v1 : BitVec 32 := Scalar.addi v0 c5_i32
  let v2 : Index := Scalar.indexCast v1
  let v3 : BitVec 32 := pf.at 0 (Rect.unit (s := S80) ![v2.toNat] S1.size (k2_off1_inb i 5)) numel1_S1
  let c0_i32 : BitVec 32 := 0#32
  let c0_i32_0 : BitVec 32 := 0#32
  let c0_i32_1 : BitVec 32 := 0#32
  ![v3.toNat, c0_i32.toNat, c0_i32_0.toNat]

def cc2_transform_22 (k2_off1_inb : ∀ i : grid2.Coords, ∀ (r : Fin 8), ∀ a, (k2_off1 i (BitVec.ofNat 32 r.val)) a + S1.size a ≤ S80.size a) (numel1_S1 : S1.numel = 1) (pf : pre2.Contents (Elt F)) (i : grid2.Coords) : Fin 3 → Nat :=
  let arg0 : BitVec 32 := BitVec.ofNat 32 (i 0).val
  let c8_i32 : BitVec 32 := 8#32
  let v0 : BitVec 32 := Scalar.muli c8_i32 arg0
  let c5_i32 : BitVec 32 := 5#32
  let v1 : BitVec 32 := Scalar.addi v0 c5_i32
  let v2 : Index := Scalar.indexCast v1
  let v3 : BitVec 32 := pf.at 0 (Rect.unit (s := S80) ![v2.toNat] S1.size (k2_off1_inb i 5)) numel1_S1
  let c1_i32 : BitVec 32 := 1#32
  let c0_i32 : BitVec 32 := 0#32
  let c0_i32_0 : BitVec 32 := 0#32
  ![v3.toNat, c1_i32.toNat, c0_i32.toNat]

def cc2_transform_23 (k2_off1_inb : ∀ i : grid2.Coords, ∀ (r : Fin 8), ∀ a, (k2_off1 i (BitVec.ofNat 32 r.val)) a + S1.size a ≤ S80.size a) (numel1_S1 : S1.numel = 1) (pf : pre2.Contents (Elt F)) (i : grid2.Coords) : Fin 3 → Nat :=
  let arg0 : BitVec 32 := BitVec.ofNat 32 (i 0).val
  let c8_i32 : BitVec 32 := 8#32
  let v0 : BitVec 32 := Scalar.muli c8_i32 arg0
  let c5_i32 : BitVec 32 := 5#32
  let v1 : BitVec 32 := Scalar.addi v0 c5_i32
  let v2 : Index := Scalar.indexCast v1
  let v3 : BitVec 32 := pf.at 0 (Rect.unit (s := S80) ![v2.toNat] S1.size (k2_off1_inb i 5)) numel1_S1
  let c0_i32 : BitVec 32 := 0#32
  let c0_i32_0 : BitVec 32 := 0#32
  let c0_i32_1 : BitVec 32 := 0#32
  ![v3.toNat, c0_i32.toNat, c0_i32_0.toNat]

def cc2_transform_24 (k2_off1_inb : ∀ i : grid2.Coords, ∀ (r : Fin 8), ∀ a, (k2_off1 i (BitVec.ofNat 32 r.val)) a + S1.size a ≤ S80.size a) (numel1_S1 : S1.numel = 1) (pf : pre2.Contents (Elt F)) (i : grid2.Coords) : Fin 3 → Nat :=
  let arg0 : BitVec 32 := BitVec.ofNat 32 (i 0).val
  let c8_i32 : BitVec 32 := 8#32
  let v0 : BitVec 32 := Scalar.muli c8_i32 arg0
  let c5_i32 : BitVec 32 := 5#32
  let v1 : BitVec 32 := Scalar.addi v0 c5_i32
  let v2 : Index := Scalar.indexCast v1
  let v3 : BitVec 32 := pf.at 0 (Rect.unit (s := S80) ![v2.toNat] S1.size (k2_off1_inb i 5)) numel1_S1
  let c1_i32 : BitVec 32 := 1#32
  let c0_i32 : BitVec 32 := 0#32
  let c0_i32_0 : BitVec 32 := 0#32
  ![v3.toNat, c1_i32.toNat, c0_i32.toNat]

def cc2_transform_25 (k2_off1_inb : ∀ i : grid2.Coords, ∀ (r : Fin 8), ∀ a, (k2_off1 i (BitVec.ofNat 32 r.val)) a + S1.size a ≤ S80.size a) (numel1_S1 : S1.numel = 1) (pf : pre2.Contents (Elt F)) (i : grid2.Coords) : Fin 3 → Nat :=
  let arg0 : BitVec 32 := BitVec.ofNat 32 (i 0).val
  let c8_i32 : BitVec 32 := 8#32
  let v0 : BitVec 32 := Scalar.muli c8_i32 arg0
  let c6_i32 : BitVec 32 := 6#32
  let v1 : BitVec 32 := Scalar.addi v0 c6_i32
  let v2 : Index := Scalar.indexCast v1
  let v3 : BitVec 32 := pf.at 0 (Rect.unit (s := S80) ![v2.toNat] S1.size (k2_off1_inb i 6)) numel1_S1
  let c0_i32 : BitVec 32 := 0#32
  let c0_i32_0 : BitVec 32 := 0#32
  let c0_i32_1 : BitVec 32 := 0#32
  ![v3.toNat, c0_i32.toNat, c0_i32_0.toNat]

def cc2_transform_26 (k2_off1_inb : ∀ i : grid2.Coords, ∀ (r : Fin 8), ∀ a, (k2_off1 i (BitVec.ofNat 32 r.val)) a + S1.size a ≤ S80.size a) (numel1_S1 : S1.numel = 1) (pf : pre2.Contents (Elt F)) (i : grid2.Coords) : Fin 3 → Nat :=
  let arg0 : BitVec 32 := BitVec.ofNat 32 (i 0).val
  let c8_i32 : BitVec 32 := 8#32
  let v0 : BitVec 32 := Scalar.muli c8_i32 arg0
  let c6_i32 : BitVec 32 := 6#32
  let v1 : BitVec 32 := Scalar.addi v0 c6_i32
  let v2 : Index := Scalar.indexCast v1
  let v3 : BitVec 32 := pf.at 0 (Rect.unit (s := S80) ![v2.toNat] S1.size (k2_off1_inb i 6)) numel1_S1
  let c1_i32 : BitVec 32 := 1#32
  let c0_i32 : BitVec 32 := 0#32
  let c0_i32_0 : BitVec 32 := 0#32
  ![v3.toNat, c1_i32.toNat, c0_i32.toNat]

def cc2_transform_27 (k2_off1_inb : ∀ i : grid2.Coords, ∀ (r : Fin 8), ∀ a, (k2_off1 i (BitVec.ofNat 32 r.val)) a + S1.size a ≤ S80.size a) (numel1_S1 : S1.numel = 1) (pf : pre2.Contents (Elt F)) (i : grid2.Coords) : Fin 3 → Nat :=
  let arg0 : BitVec 32 := BitVec.ofNat 32 (i 0).val
  let c8_i32 : BitVec 32 := 8#32
  let v0 : BitVec 32 := Scalar.muli c8_i32 arg0
  let c6_i32 : BitVec 32 := 6#32
  let v1 : BitVec 32 := Scalar.addi v0 c6_i32
  let v2 : Index := Scalar.indexCast v1
  let v3 : BitVec 32 := pf.at 0 (Rect.unit (s := S80) ![v2.toNat] S1.size (k2_off1_inb i 6)) numel1_S1
  let c0_i32 : BitVec 32 := 0#32
  let c0_i32_0 : BitVec 32 := 0#32
  let c0_i32_1 : BitVec 32 := 0#32
  ![v3.toNat, c0_i32.toNat, c0_i32_0.toNat]

def cc2_transform_28 (k2_off1_inb : ∀ i : grid2.Coords, ∀ (r : Fin 8), ∀ a, (k2_off1 i (BitVec.ofNat 32 r.val)) a + S1.size a ≤ S80.size a) (numel1_S1 : S1.numel = 1) (pf : pre2.Contents (Elt F)) (i : grid2.Coords) : Fin 3 → Nat :=
  let arg0 : BitVec 32 := BitVec.ofNat 32 (i 0).val
  let c8_i32 : BitVec 32 := 8#32
  let v0 : BitVec 32 := Scalar.muli c8_i32 arg0
  let c6_i32 : BitVec 32 := 6#32
  let v1 : BitVec 32 := Scalar.addi v0 c6_i32
  let v2 : Index := Scalar.indexCast v1
  let v3 : BitVec 32 := pf.at 0 (Rect.unit (s := S80) ![v2.toNat] S1.size (k2_off1_inb i 6)) numel1_S1
  let c1_i32 : BitVec 32 := 1#32
  let c0_i32 : BitVec 32 := 0#32
  let c0_i32_0 : BitVec 32 := 0#32
  ![v3.toNat, c1_i32.toNat, c0_i32.toNat]

def cc2_transform_29 (k2_off1_inb : ∀ i : grid2.Coords, ∀ (r : Fin 8), ∀ a, (k2_off1 i (BitVec.ofNat 32 r.val)) a + S1.size a ≤ S80.size a) (numel1_S1 : S1.numel = 1) (pf : pre2.Contents (Elt F)) (i : grid2.Coords) : Fin 3 → Nat :=
  let arg0 : BitVec 32 := BitVec.ofNat 32 (i 0).val
  let c8_i32 : BitVec 32 := 8#32
  let v0 : BitVec 32 := Scalar.muli c8_i32 arg0
  let c7_i32 : BitVec 32 := 7#32
  let v1 : BitVec 32 := Scalar.addi v0 c7_i32
  let v2 : Index := Scalar.indexCast v1
  let v3 : BitVec 32 := pf.at 0 (Rect.unit (s := S80) ![v2.toNat] S1.size (k2_off1_inb i 7)) numel1_S1
  let c0_i32 : BitVec 32 := 0#32
  let c0_i32_0 : BitVec 32 := 0#32
  let c0_i32_1 : BitVec 32 := 0#32
  ![v3.toNat, c0_i32.toNat, c0_i32_0.toNat]

def cc2_transform_30 (k2_off1_inb : ∀ i : grid2.Coords, ∀ (r : Fin 8), ∀ a, (k2_off1 i (BitVec.ofNat 32 r.val)) a + S1.size a ≤ S80.size a) (numel1_S1 : S1.numel = 1) (pf : pre2.Contents (Elt F)) (i : grid2.Coords) : Fin 3 → Nat :=
  let arg0 : BitVec 32 := BitVec.ofNat 32 (i 0).val
  let c8_i32 : BitVec 32 := 8#32
  let v0 : BitVec 32 := Scalar.muli c8_i32 arg0
  let c7_i32 : BitVec 32 := 7#32
  let v1 : BitVec 32 := Scalar.addi v0 c7_i32
  let v2 : Index := Scalar.indexCast v1
  let v3 : BitVec 32 := pf.at 0 (Rect.unit (s := S80) ![v2.toNat] S1.size (k2_off1_inb i 7)) numel1_S1
  let c1_i32 : BitVec 32 := 1#32
  let c0_i32 : BitVec 32 := 0#32
  let c0_i32_0 : BitVec 32 := 0#32
  ![v3.toNat, c1_i32.toNat, c0_i32.toNat]

def cc2_transform_31 (k2_off1_inb : ∀ i : grid2.Coords, ∀ (r : Fin 8), ∀ a, (k2_off1 i (BitVec.ofNat 32 r.val)) a + S1.size a ≤ S80.size a) (numel1_S1 : S1.numel = 1) (pf : pre2.Contents (Elt F)) (i : grid2.Coords) : Fin 3 → Nat :=
  let arg0 : BitVec 32 := BitVec.ofNat 32 (i 0).val
  let c8_i32 : BitVec 32 := 8#32
  let v0 : BitVec 32 := Scalar.muli c8_i32 arg0
  let c7_i32 : BitVec 32 := 7#32
  let v1 : BitVec 32 := Scalar.addi v0 c7_i32
  let v2 : Index := Scalar.indexCast v1
  let v3 : BitVec 32 := pf.at 0 (Rect.unit (s := S80) ![v2.toNat] S1.size (k2_off1_inb i 7)) numel1_S1
  let c0_i32 : BitVec 32 := 0#32
  let c0_i32_0 : BitVec 32 := 0#32
  let c0_i32_1 : BitVec 32 := 0#32
  ![v3.toNat, c0_i32.toNat, c0_i32_0.toNat]

def cc2_transform_32 (k2_off1_inb : ∀ i : grid2.Coords, ∀ (r : Fin 8), ∀ a, (k2_off1 i (BitVec.ofNat 32 r.val)) a + S1.size a ≤ S80.size a) (numel1_S1 : S1.numel = 1) (pf : pre2.Contents (Elt F)) (i : grid2.Coords) : Fin 3 → Nat :=
  let arg0 : BitVec 32 := BitVec.ofNat 32 (i 0).val
  let c8_i32 : BitVec 32 := 8#32
  let v0 : BitVec 32 := Scalar.muli c8_i32 arg0
  let c7_i32 : BitVec 32 := 7#32
  let v1 : BitVec 32 := Scalar.addi v0 c7_i32
  let v2 : Index := Scalar.indexCast v1
  let v3 : BitVec 32 := pf.at 0 (Rect.unit (s := S80) ![v2.toNat] S1.size (k2_off1_inb i 7)) numel1_S1
  let c1_i32 : BitVec 32 := 1#32
  let c0_i32 : BitVec 32 := 0#32
  let c0_i32_0 : BitVec 32 := 0#32
  ![v3.toNat, c1_i32.toNat, c0_i32.toNat]

def cc2_transform_33 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x128x768 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x128x768 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x384x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x384x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x128x768 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x128x768 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x384x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1x384x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S1x128x768 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S1x128x768 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev stage2_11 : Fin 2 → Memref sig .tc .vmem S1x384x128 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev stage2_12 : Fin 2 → Memref sig .tc .vmem S1x384x128 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

abbrev stage2_13 : Fin 2 → Memref sig .tc .vmem S1x128x768 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

abbrev stage2_14 : Fin 2 → Memref sig .tc .vmem S1x128x768 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true]

abbrev stage2_15 : Fin 2 → Memref sig .tc .vmem S1x384x128 .f32 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true]

abbrev stage2_16 : Fin 2 → Memref sig .tc .vmem S1x384x128 .f32 := fun | 0 => Memref.whole cc2_stg16_0 | 1 => Memref.whole cc2_stg16_1 | ⟨_ + 2, h⟩ => absurd h (Nat.not_lt.2 (Nat.le_add_left _ _))
abbrev sem2_16 : Fin 2 → DmaSem sig := fun | 0 => cc2_sem16_0 | 1 => cc2_sem16_1 | ⟨_ + 2, h⟩ => absurd h (Nat.not_lt.2 (Nat.le_add_left _ _))
abbrev reads2_16 : Fin grid2.rank → Bool := ![true]

abbrev stage2_17 : Fin 2 → Memref sig .tc .vmem S1x128x768 .f32 := fun | 0 => Memref.whole cc2_stg17_0 | 1 => Memref.whole cc2_stg17_1 | ⟨_ + 2, h⟩ => absurd h (Nat.not_lt.2 (Nat.le_add_left _ _))
abbrev sem2_17 : Fin 2 → DmaSem sig := fun | 0 => cc2_sem17_0 | 1 => cc2_sem17_1 | ⟨_ + 2, h⟩ => absurd h (Nat.not_lt.2 (Nat.le_add_left _ _))
abbrev reads2_17 : Fin grid2.rank → Bool := ![true]

abbrev stage2_18 : Fin 2 → Memref sig .tc .vmem S1x128x768 .f32 := fun | 0 => Memref.whole cc2_stg18_0 | 1 => Memref.whole cc2_stg18_1 | ⟨_ + 2, h⟩ => absurd h (Nat.not_lt.2 (Nat.le_add_left _ _))
abbrev sem2_18 : Fin 2 → DmaSem sig := fun | 0 => cc2_sem18_0 | 1 => cc2_sem18_1 | ⟨_ + 2, h⟩ => absurd h (Nat.not_lt.2 (Nat.le_add_left _ _))
abbrev reads2_18 : Fin grid2.rank → Bool := ![true]

abbrev stage2_19 : Fin 2 → Memref sig .tc .vmem S1x384x128 .f32 := fun | 0 => Memref.whole cc2_stg19_0 | 1 => Memref.whole cc2_stg19_1 | ⟨_ + 2, h⟩ => absurd h (Nat.not_lt.2 (Nat.le_add_left _ _))
abbrev sem2_19 : Fin 2 → DmaSem sig := fun | 0 => cc2_sem19_0 | 1 => cc2_sem19_1 | ⟨_ + 2, h⟩ => absurd h (Nat.not_lt.2 (Nat.le_add_left _ _))
abbrev reads2_19 : Fin grid2.rank → Bool := ![true]

abbrev stage2_20 : Fin 2 → Memref sig .tc .vmem S1x384x128 .f32 := fun | 0 => Memref.whole cc2_stg20_0 | 1 => Memref.whole cc2_stg20_1 | ⟨_ + 2, h⟩ => absurd h (Nat.not_lt.2 (Nat.le_add_left _ _))
abbrev sem2_20 : Fin 2 → DmaSem sig := fun | 0 => cc2_sem20_0 | 1 => cc2_sem20_1 | ⟨_ + 2, h⟩ => absurd h (Nat.not_lt.2 (Nat.le_add_left _ _))
abbrev reads2_20 : Fin grid2.rank → Bool := ![true]

abbrev stage2_21 : Fin 2 → Memref sig .tc .vmem S1x128x768 .f32 := fun | 0 => Memref.whole cc2_stg21_0 | 1 => Memref.whole cc2_stg21_1 | ⟨_ + 2, h⟩ => absurd h (Nat.not_lt.2 (Nat.le_add_left _ _))
abbrev sem2_21 : Fin 2 → DmaSem sig := fun | 0 => cc2_sem21_0 | 1 => cc2_sem21_1 | ⟨_ + 2, h⟩ => absurd h (Nat.not_lt.2 (Nat.le_add_left _ _))
abbrev reads2_21 : Fin grid2.rank → Bool := ![true]

abbrev stage2_22 : Fin 2 → Memref sig .tc .vmem S1x128x768 .f32 := fun | 0 => Memref.whole cc2_stg22_0 | 1 => Memref.whole cc2_stg22_1 | ⟨_ + 2, h⟩ => absurd h (Nat.not_lt.2 (Nat.le_add_left _ _))
abbrev sem2_22 : Fin 2 → DmaSem sig := fun | 0 => cc2_sem22_0 | 1 => cc2_sem22_1 | ⟨_ + 2, h⟩ => absurd h (Nat.not_lt.2 (Nat.le_add_left _ _))
abbrev reads2_22 : Fin grid2.rank → Bool := ![true]

abbrev stage2_23 : Fin 2 → Memref sig .tc .vmem S1x384x128 .f32 := fun | 0 => Memref.whole cc2_stg23_0 | 1 => Memref.whole cc2_stg23_1 | ⟨_ + 2, h⟩ => absurd h (Nat.not_lt.2 (Nat.le_add_left _ _))
abbrev sem2_23 : Fin 2 → DmaSem sig := fun | 0 => cc2_sem23_0 | 1 => cc2_sem23_1 | ⟨_ + 2, h⟩ => absurd h (Nat.not_lt.2 (Nat.le_add_left _ _))
abbrev reads2_23 : Fin grid2.rank → Bool := ![true]

abbrev stage2_24 : Fin 2 → Memref sig .tc .vmem S1x384x128 .f32 := fun | 0 => Memref.whole cc2_stg24_0 | 1 => Memref.whole cc2_stg24_1 | ⟨_ + 2, h⟩ => absurd h (Nat.not_lt.2 (Nat.le_add_left _ _))
abbrev sem2_24 : Fin 2 → DmaSem sig := fun | 0 => cc2_sem24_0 | 1 => cc2_sem24_1 | ⟨_ + 2, h⟩ => absurd h (Nat.not_lt.2 (Nat.le_add_left _ _))
abbrev reads2_24 : Fin grid2.rank → Bool := ![true]

abbrev stage2_25 : Fin 2 → Memref sig .tc .vmem S1x128x768 .f32 := fun | 0 => Memref.whole cc2_stg25_0 | 1 => Memref.whole cc2_stg25_1 | ⟨_ + 2, h⟩ => absurd h (Nat.not_lt.2 (Nat.le_add_left _ _))
abbrev sem2_25 : Fin 2 → DmaSem sig := fun | 0 => cc2_sem25_0 | 1 => cc2_sem25_1 | ⟨_ + 2, h⟩ => absurd h (Nat.not_lt.2 (Nat.le_add_left _ _))
abbrev reads2_25 : Fin grid2.rank → Bool := ![true]

abbrev stage2_26 : Fin 2 → Memref sig .tc .vmem S1x128x768 .f32 := fun | 0 => Memref.whole cc2_stg26_0 | 1 => Memref.whole cc2_stg26_1 | ⟨_ + 2, h⟩ => absurd h (Nat.not_lt.2 (Nat.le_add_left _ _))
abbrev sem2_26 : Fin 2 → DmaSem sig := fun | 0 => cc2_sem26_0 | 1 => cc2_sem26_1 | ⟨_ + 2, h⟩ => absurd h (Nat.not_lt.2 (Nat.le_add_left _ _))
abbrev reads2_26 : Fin grid2.rank → Bool := ![true]

abbrev stage2_27 : Fin 2 → Memref sig .tc .vmem S1x384x128 .f32 := fun | 0 => Memref.whole cc2_stg27_0 | 1 => Memref.whole cc2_stg27_1 | ⟨_ + 2, h⟩ => absurd h (Nat.not_lt.2 (Nat.le_add_left _ _))
abbrev sem2_27 : Fin 2 → DmaSem sig := fun | 0 => cc2_sem27_0 | 1 => cc2_sem27_1 | ⟨_ + 2, h⟩ => absurd h (Nat.not_lt.2 (Nat.le_add_left _ _))
abbrev reads2_27 : Fin grid2.rank → Bool := ![true]

abbrev stage2_28 : Fin 2 → Memref sig .tc .vmem S1x384x128 .f32 := fun | 0 => Memref.whole cc2_stg28_0 | 1 => Memref.whole cc2_stg28_1 | ⟨_ + 2, h⟩ => absurd h (Nat.not_lt.2 (Nat.le_add_left _ _))
abbrev sem2_28 : Fin 2 → DmaSem sig := fun | 0 => cc2_sem28_0 | 1 => cc2_sem28_1 | ⟨_ + 2, h⟩ => absurd h (Nat.not_lt.2 (Nat.le_add_left _ _))
abbrev reads2_28 : Fin grid2.rank → Bool := ![true]

abbrev stage2_29 : Fin 2 → Memref sig .tc .vmem S1x128x768 .f32 := fun | 0 => Memref.whole cc2_stg29_0 | 1 => Memref.whole cc2_stg29_1 | ⟨_ + 2, h⟩ => absurd h (Nat.not_lt.2 (Nat.le_add_left _ _))
abbrev sem2_29 : Fin 2 → DmaSem sig := fun | 0 => cc2_sem29_0 | 1 => cc2_sem29_1 | ⟨_ + 2, h⟩ => absurd h (Nat.not_lt.2 (Nat.le_add_left _ _))
abbrev reads2_29 : Fin grid2.rank → Bool := ![true]

abbrev stage2_30 : Fin 2 → Memref sig .tc .vmem S1x128x768 .f32 := fun | 0 => Memref.whole cc2_stg30_0 | 1 => Memref.whole cc2_stg30_1 | ⟨_ + 2, h⟩ => absurd h (Nat.not_lt.2 (Nat.le_add_left _ _))
abbrev sem2_30 : Fin 2 → DmaSem sig := fun | 0 => cc2_sem30_0 | 1 => cc2_sem30_1 | ⟨_ + 2, h⟩ => absurd h (Nat.not_lt.2 (Nat.le_add_left _ _))
abbrev reads2_30 : Fin grid2.rank → Bool := ![true]

abbrev stage2_31 : Fin 2 → Memref sig .tc .vmem S1x384x128 .f32 := fun | 0 => Memref.whole cc2_stg31_0 | 1 => Memref.whole cc2_stg31_1 | ⟨_ + 2, h⟩ => absurd h (Nat.not_lt.2 (Nat.le_add_left _ _))
abbrev sem2_31 : Fin 2 → DmaSem sig := fun | 0 => cc2_sem31_0 | 1 => cc2_sem31_1 | ⟨_ + 2, h⟩ => absurd h (Nat.not_lt.2 (Nat.le_add_left _ _))
abbrev reads2_31 : Fin grid2.rank → Bool := ![true]

abbrev stage2_32 : Fin 2 → Memref sig .tc .vmem S1x384x128 .f32 := fun | 0 => Memref.whole cc2_stg32_0 | 1 => Memref.whole cc2_stg32_1 | ⟨_ + 2, h⟩ => absurd h (Nat.not_lt.2 (Nat.le_add_left _ _))
abbrev sem2_32 : Fin 2 → DmaSem sig := fun | 0 => cc2_sem32_0 | 1 => cc2_sem32_1 | ⟨_ + 2, h⟩ => absurd h (Nat.not_lt.2 (Nat.le_add_left _ _))
abbrev reads2_32 : Fin grid2.rank → Bool := ![true]

abbrev stage2_33 : Fin 2 → Memref sig .tc .vmem S512x768 .f32 := fun | 0 => Memref.whole cc2_stg33_0 | 1 => Memref.whole cc2_stg33_1 | ⟨_ + 2, h⟩ => absurd h (Nat.not_lt.2 (Nat.le_add_left _ _))
abbrev sem2_33 : Fin 2 → DmaSem sig := fun | 0 => cc2_sem33_0 | 1 => cc2_sem33_1 | ⟨_ + 2, h⟩ => absurd h (Nat.not_lt.2 (Nat.le_add_left _ _))
abbrev reads2_33 : Fin grid2.rank → Bool := ![true]

abbrev grid3 : Pipeline.Grid := ⟨2, ![2, 16], ![false, false]⟩

def k3_off1 (i : grid3.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
def k3_off2 (i : grid3.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_46_r1 : BitVec 32 := 0#32
  ![v2.toNat, 0]
def k3_off3 (i : grid3.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_46_r2 : BitVec 32 := 0#32
  ![v2.toNat, 0]
@[reducible] def k3_t1_loop : Scf.Loop 32 :=
  let c0_i32_43 : BitVec 32 := 0#32
  let c32_i32_44 : BitVec 32 := 32#32
  let v27 : BitVec 32 := Scalar.addi c0_i32_43 c32_i32_44
  let c1_i32 : BitVec 32 := 1#32
  ⟨c0_i32_43, v27, c1_i32⟩
def k3_off4 (k3_t1 : Fin k3_t1_loop.trips) : Fin 2 → Nat :=
  let c0_i32_43 : BitVec 32 := 0#32
  let c1_i32 : BitVec 32 := 1#32
  let arg12 : BitVec 32 := Scf.iv c0_i32_43 c1_i32 k3_t1
  let v28 : Index := Scalar.indexCast arg12
  let c0 : Index := 0#32
  ![v28.toNat, 0]
def k3_off5 (k3_t1 : Fin k3_t1_loop.trips) : Fin 2 → Nat :=
  let c0_i32_43 : BitVec 32 := 0#32
  let c1_i32 : BitVec 32 := 1#32
  let arg12 : BitVec 32 := Scf.iv c0_i32_43 c1_i32 k3_t1
  let v31 : Index := Scalar.indexCast arg12
  let c0_46 : Index := 0#32
  ![v31.toNat, 0]
def k3_off6 (k3_t1 : Fin k3_t1_loop.trips) : Fin 2 → Nat :=
  let c0_i32_43 : BitVec 32 := 0#32
  let c1_i32 : BitVec 32 := 1#32
  let arg12 : BitVec 32 := Scf.iv c0_i32_43 c1_i32 k3_t1
  let v43 : Index := Scalar.indexCast arg12
  let c16 : Index := 16#32
  ![v43.toNat, 16]
def k3_off7 (k3_t1 : Fin k3_t1_loop.trips) : Fin 2 → Nat :=
  let c0_i32_43 : BitVec 32 := 0#32
  let c1_i32 : BitVec 32 := 1#32
  let arg12 : BitVec 32 := Scf.iv c0_i32_43 c1_i32 k3_t1
  let v55 : Index := Scalar.indexCast arg12
  let c32 : Index := 32#32
  ![v55.toNat, 32]
def k3_off8 (k3_t1 : Fin k3_t1_loop.trips) : Fin 2 → Nat :=
  let c0_i32_43 : BitVec 32 := 0#32
  let c1_i32 : BitVec 32 := 1#32
  let arg12 : BitVec 32 := Scf.iv c0_i32_43 c1_i32 k3_t1
  let v67 : Index := Scalar.indexCast arg12
  let c48 : Index := 48#32
  ![v67.toNat, 48]
def k3_off9 (k3_t1 : Fin k3_t1_loop.trips) : Fin 2 → Nat :=
  let c0_i32_43 : BitVec 32 := 0#32
  let c1_i32 : BitVec 32 := 1#32
  let arg12 : BitVec 32 := Scf.iv c0_i32_43 c1_i32 k3_t1
  let v79 : Index := Scalar.indexCast arg12
  let c64 : Index := 64#32
  ![v79.toNat, 64]
def k3_off10 (k3_t1 : Fin k3_t1_loop.trips) : Fin 2 → Nat :=
  let c0_i32_43 : BitVec 32 := 0#32
  let c1_i32 : BitVec 32 := 1#32
  let arg12 : BitVec 32 := Scf.iv c0_i32_43 c1_i32 k3_t1
  let v91 : Index := Scalar.indexCast arg12
  let c80 : Index := 80#32
  ![v91.toNat, 80]
def k3_off11 (k3_t1 : Fin k3_t1_loop.trips) : Fin 2 → Nat :=
  let c0_i32_43 : BitVec 32 := 0#32
  let c1_i32 : BitVec 32 := 1#32
  let arg12 : BitVec 32 := Scf.iv c0_i32_43 c1_i32 k3_t1
  let v103 : Index := Scalar.indexCast arg12
  let c96 : Index := 96#32
  ![v103.toNat, 96]
def k3_off12 (k3_t1 : Fin k3_t1_loop.trips) : Fin 2 → Nat :=
  let c0_i32_43 : BitVec 32 := 0#32
  let c1_i32 : BitVec 32 := 1#32
  let arg12 : BitVec 32 := Scf.iv c0_i32_43 c1_i32 k3_t1
  let v115 : Index := Scalar.indexCast arg12
  let c112 : Index := 112#32
  ![v115.toNat, 112]
def k3_off13 (k3_t1 : Fin k3_t1_loop.trips) : Fin 2 → Nat :=
  let c0_i32_43 : BitVec 32 := 0#32
  let c1_i32 : BitVec 32 := 1#32
  let arg12 : BitVec 32 := Scf.iv c0_i32_43 c1_i32 k3_t1
  let v127 : Index := Scalar.indexCast arg12
  let c128 : Index := 128#32
  ![v127.toNat, 128]
def k3_off14 (k3_t1 : Fin k3_t1_loop.trips) : Fin 2 → Nat :=
  let c0_i32_43 : BitVec 32 := 0#32
  let c1_i32 : BitVec 32 := 1#32
  let arg12 : BitVec 32 := Scf.iv c0_i32_43 c1_i32 k3_t1
  let v139 : Index := Scalar.indexCast arg12
  let c144 : Index := 144#32
  ![v139.toNat, 144]
def k3_off15 (k3_t1 : Fin k3_t1_loop.trips) : Fin 2 → Nat :=
  let c0_i32_43 : BitVec 32 := 0#32
  let c1_i32 : BitVec 32 := 1#32
  let arg12 : BitVec 32 := Scf.iv c0_i32_43 c1_i32 k3_t1
  let v151 : Index := Scalar.indexCast arg12
  let c160 : Index := 160#32
  ![v151.toNat, 160]
def k3_off16 (k3_t1 : Fin k3_t1_loop.trips) : Fin 2 → Nat :=
  let c0_i32_43 : BitVec 32 := 0#32
  let c1_i32 : BitVec 32 := 1#32
  let arg12 : BitVec 32 := Scf.iv c0_i32_43 c1_i32 k3_t1
  let v163 : Index := Scalar.indexCast arg12
  let c176 : Index := 176#32
  ![v163.toNat, 176]
def k3_off17 (k3_t1 : Fin k3_t1_loop.trips) : Fin 2 → Nat :=
  let c0_i32_43 : BitVec 32 := 0#32
  let c1_i32 : BitVec 32 := 1#32
  let arg12 : BitVec 32 := Scf.iv c0_i32_43 c1_i32 k3_t1
  let v175 : Index := Scalar.indexCast arg12
  let c192 : Index := 192#32
  ![v175.toNat, 192]
def k3_off18 (k3_t1 : Fin k3_t1_loop.trips) : Fin 2 → Nat :=
  let c0_i32_43 : BitVec 32 := 0#32
  let c1_i32 : BitVec 32 := 1#32
  let arg12 : BitVec 32 := Scf.iv c0_i32_43 c1_i32 k3_t1
  let v187 : Index := Scalar.indexCast arg12
  let c208 : Index := 208#32
  ![v187.toNat, 208]
def k3_off19 (k3_t1 : Fin k3_t1_loop.trips) : Fin 2 → Nat :=
  let c0_i32_43 : BitVec 32 := 0#32
  let c1_i32 : BitVec 32 := 1#32
  let arg12 : BitVec 32 := Scf.iv c0_i32_43 c1_i32 k3_t1
  let v199 : Index := Scalar.indexCast arg12
  let c224 : Index := 224#32
  ![v199.toNat, 224]
def k3_off20 (k3_t1 : Fin k3_t1_loop.trips) : Fin 2 → Nat :=
  let c0_i32_43 : BitVec 32 := 0#32
  let c1_i32 : BitVec 32 := 1#32
  let arg12 : BitVec 32 := Scf.iv c0_i32_43 c1_i32 k3_t1
  let v211 : Index := Scalar.indexCast arg12
  let c240 : Index := 240#32
  ![v211.toNat, 240]
def k3_off21 (k3_t1 : Fin k3_t1_loop.trips) : Fin 2 → Nat :=
  let c0_i32_43 : BitVec 32 := 0#32
  let c1_i32 : BitVec 32 := 1#32
  let arg12 : BitVec 32 := Scf.iv c0_i32_43 c1_i32 k3_t1
  let v223 : Index := Scalar.indexCast arg12
  let c256 : Index := 256#32
  ![v223.toNat, 256]
def k3_off22 (k3_t1 : Fin k3_t1_loop.trips) : Fin 2 → Nat :=
  let c0_i32_43 : BitVec 32 := 0#32
  let c1_i32 : BitVec 32 := 1#32
  let arg12 : BitVec 32 := Scf.iv c0_i32_43 c1_i32 k3_t1
  let v235 : Index := Scalar.indexCast arg12
  let c272 : Index := 272#32
  ![v235.toNat, 272]
def k3_off23 (k3_t1 : Fin k3_t1_loop.trips) : Fin 2 → Nat :=
  let c0_i32_43 : BitVec 32 := 0#32
  let c1_i32 : BitVec 32 := 1#32
  let arg12 : BitVec 32 := Scf.iv c0_i32_43 c1_i32 k3_t1
  let v247 : Index := Scalar.indexCast arg12
  let c288 : Index := 288#32
  ![v247.toNat, 288]
def k3_off24 (k3_t1 : Fin k3_t1_loop.trips) : Fin 2 → Nat :=
  let c0_i32_43 : BitVec 32 := 0#32
  let c1_i32 : BitVec 32 := 1#32
  let arg12 : BitVec 32 := Scf.iv c0_i32_43 c1_i32 k3_t1
  let v259 : Index := Scalar.indexCast arg12
  let c304 : Index := 304#32
  ![v259.toNat, 304]
def k3_off25 (k3_t1 : Fin k3_t1_loop.trips) : Fin 2 → Nat :=
  let c0_i32_43 : BitVec 32 := 0#32
  let c1_i32 : BitVec 32 := 1#32
  let arg12 : BitVec 32 := Scf.iv c0_i32_43 c1_i32 k3_t1
  let v271 : Index := Scalar.indexCast arg12
  let c320 : Index := 320#32
  ![v271.toNat, 320]
def k3_off26 (k3_t1 : Fin k3_t1_loop.trips) : Fin 2 → Nat :=
  let c0_i32_43 : BitVec 32 := 0#32
  let c1_i32 : BitVec 32 := 1#32
  let arg12 : BitVec 32 := Scf.iv c0_i32_43 c1_i32 k3_t1
  let v283 : Index := Scalar.indexCast arg12
  let c336 : Index := 336#32
  ![v283.toNat, 336]
def k3_off27 (k3_t1 : Fin k3_t1_loop.trips) : Fin 2 → Nat :=
  let c0_i32_43 : BitVec 32 := 0#32
  let c1_i32 : BitVec 32 := 1#32
  let arg12 : BitVec 32 := Scf.iv c0_i32_43 c1_i32 k3_t1
  let v295 : Index := Scalar.indexCast arg12
  let c352 : Index := 352#32
  ![v295.toNat, 352]
def k3_off28 (k3_t1 : Fin k3_t1_loop.trips) : Fin 2 → Nat :=
  let c0_i32_43 : BitVec 32 := 0#32
  let c1_i32 : BitVec 32 := 1#32
  let arg12 : BitVec 32 := Scf.iv c0_i32_43 c1_i32 k3_t1
  let v307 : Index := Scalar.indexCast arg12
  let c368 : Index := 368#32
  ![v307.toNat, 368]
def k3_off29 (k3_t1 : Fin k3_t1_loop.trips) : Fin 2 → Nat :=
  let c0_i32_43 : BitVec 32 := 0#32
  let c1_i32 : BitVec 32 := 1#32
  let arg12 : BitVec 32 := Scf.iv c0_i32_43 c1_i32 k3_t1
  let v319 : Index := Scalar.indexCast arg12
  let c384 : Index := 384#32
  ![v319.toNat, 384]
def k3_off30 (k3_t1 : Fin k3_t1_loop.trips) : Fin 2 → Nat :=
  let c0_i32_43 : BitVec 32 := 0#32
  let c1_i32 : BitVec 32 := 1#32
  let arg12 : BitVec 32 := Scf.iv c0_i32_43 c1_i32 k3_t1
  let v331 : Index := Scalar.indexCast arg12
  let c400 : Index := 400#32
  ![v331.toNat, 400]
def k3_off31 (k3_t1 : Fin k3_t1_loop.trips) : Fin 2 → Nat :=
  let c0_i32_43 : BitVec 32 := 0#32
  let c1_i32 : BitVec 32 := 1#32
  let arg12 : BitVec 32 := Scf.iv c0_i32_43 c1_i32 k3_t1
  let v343 : Index := Scalar.indexCast arg12
  let c416 : Index := 416#32
  ![v343.toNat, 416]
def k3_off32 (k3_t1 : Fin k3_t1_loop.trips) : Fin 2 → Nat :=
  let c0_i32_43 : BitVec 32 := 0#32
  let c1_i32 : BitVec 32 := 1#32
  let arg12 : BitVec 32 := Scf.iv c0_i32_43 c1_i32 k3_t1
  let v355 : Index := Scalar.indexCast arg12
  let c432 : Index := 432#32
  ![v355.toNat, 432]
def k3_off33 (k3_t1 : Fin k3_t1_loop.trips) : Fin 2 → Nat :=
  let c0_i32_43 : BitVec 32 := 0#32
  let c1_i32 : BitVec 32 := 1#32
  let arg12 : BitVec 32 := Scf.iv c0_i32_43 c1_i32 k3_t1
  let v367 : Index := Scalar.indexCast arg12
  let c448 : Index := 448#32
  ![v367.toNat, 448]
def k3_off34 (k3_t1 : Fin k3_t1_loop.trips) : Fin 2 → Nat :=
  let c0_i32_43 : BitVec 32 := 0#32
  let c1_i32 : BitVec 32 := 1#32
  let arg12 : BitVec 32 := Scf.iv c0_i32_43 c1_i32 k3_t1
  let v379 : Index := Scalar.indexCast arg12
  let c464 : Index := 464#32
  ![v379.toNat, 464]
def k3_off35 (k3_t1 : Fin k3_t1_loop.trips) : Fin 2 → Nat :=
  let c0_i32_43 : BitVec 32 := 0#32
  let c1_i32 : BitVec 32 := 1#32
  let arg12 : BitVec 32 := Scf.iv c0_i32_43 c1_i32 k3_t1
  let v391 : Index := Scalar.indexCast arg12
  let c480 : Index := 480#32
  ![v391.toNat, 480]
def k3_off36 (k3_t1 : Fin k3_t1_loop.trips) : Fin 2 → Nat :=
  let c0_i32_43 : BitVec 32 := 0#32
  let c1_i32 : BitVec 32 := 1#32
  let arg12 : BitVec 32 := Scf.iv c0_i32_43 c1_i32 k3_t1
  let v403 : Index := Scalar.indexCast arg12
  let c496 : Index := 496#32
  ![v403.toNat, 496]
def k3_off37 (k3_t1 : Fin k3_t1_loop.trips) : Fin 2 → Nat :=
  let c0_i32_43 : BitVec 32 := 0#32
  let c1_i32 : BitVec 32 := 1#32
  let arg12 : BitVec 32 := Scf.iv c0_i32_43 c1_i32 k3_t1
  let v415 : Index := Scalar.indexCast arg12
  let c512 : Index := 512#32
  ![v415.toNat, 512]
def k3_off38 (k3_t1 : Fin k3_t1_loop.trips) : Fin 2 → Nat :=
  let c0_i32_43 : BitVec 32 := 0#32
  let c1_i32 : BitVec 32 := 1#32
  let arg12 : BitVec 32 := Scf.iv c0_i32_43 c1_i32 k3_t1
  let v427 : Index := Scalar.indexCast arg12
  let c528 : Index := 528#32
  ![v427.toNat, 528]
def k3_off39 (k3_t1 : Fin k3_t1_loop.trips) : Fin 2 → Nat :=
  let c0_i32_43 : BitVec 32 := 0#32
  let c1_i32 : BitVec 32 := 1#32
  let arg12 : BitVec 32 := Scf.iv c0_i32_43 c1_i32 k3_t1
  let v439 : Index := Scalar.indexCast arg12
  let c544 : Index := 544#32
  ![v439.toNat, 544]
def k3_off40 (k3_t1 : Fin k3_t1_loop.trips) : Fin 2 → Nat :=
  let c0_i32_43 : BitVec 32 := 0#32
  let c1_i32 : BitVec 32 := 1#32
  let arg12 : BitVec 32 := Scf.iv c0_i32_43 c1_i32 k3_t1
  let v451 : Index := Scalar.indexCast arg12
  let c560 : Index := 560#32
  ![v451.toNat, 560]
def k3_off41 (k3_t1 : Fin k3_t1_loop.trips) : Fin 2 → Nat :=
  let c0_i32_43 : BitVec 32 := 0#32
  let c1_i32 : BitVec 32 := 1#32
  let arg12 : BitVec 32 := Scf.iv c0_i32_43 c1_i32 k3_t1
  let v463 : Index := Scalar.indexCast arg12
  let c576 : Index := 576#32
  ![v463.toNat, 576]
def k3_off42 (k3_t1 : Fin k3_t1_loop.trips) : Fin 2 → Nat :=
  let c0_i32_43 : BitVec 32 := 0#32
  let c1_i32 : BitVec 32 := 1#32
  let arg12 : BitVec 32 := Scf.iv c0_i32_43 c1_i32 k3_t1
  let v475 : Index := Scalar.indexCast arg12
  let c592 : Index := 592#32
  ![v475.toNat, 592]
def k3_off43 (k3_t1 : Fin k3_t1_loop.trips) : Fin 2 → Nat :=
  let c0_i32_43 : BitVec 32 := 0#32
  let c1_i32 : BitVec 32 := 1#32
  let arg12 : BitVec 32 := Scf.iv c0_i32_43 c1_i32 k3_t1
  let v487 : Index := Scalar.indexCast arg12
  let c608 : Index := 608#32
  ![v487.toNat, 608]
def k3_off44 (k3_t1 : Fin k3_t1_loop.trips) : Fin 2 → Nat :=
  let c0_i32_43 : BitVec 32 := 0#32
  let c1_i32 : BitVec 32 := 1#32
  let arg12 : BitVec 32 := Scf.iv c0_i32_43 c1_i32 k3_t1
  let v499 : Index := Scalar.indexCast arg12
  let c624 : Index := 624#32
  ![v499.toNat, 624]
def k3_off45 (k3_t1 : Fin k3_t1_loop.trips) : Fin 2 → Nat :=
  let c0_i32_43 : BitVec 32 := 0#32
  let c1_i32 : BitVec 32 := 1#32
  let arg12 : BitVec 32 := Scf.iv c0_i32_43 c1_i32 k3_t1
  let v511 : Index := Scalar.indexCast arg12
  let c640 : Index := 640#32
  ![v511.toNat, 640]
def k3_off46 (k3_t1 : Fin k3_t1_loop.trips) : Fin 2 → Nat :=
  let c0_i32_43 : BitVec 32 := 0#32
  let c1_i32 : BitVec 32 := 1#32
  let arg12 : BitVec 32 := Scf.iv c0_i32_43 c1_i32 k3_t1
  let v523 : Index := Scalar.indexCast arg12
  let c656 : Index := 656#32
  ![v523.toNat, 656]
def k3_off47 (k3_t1 : Fin k3_t1_loop.trips) : Fin 2 → Nat :=
  let c0_i32_43 : BitVec 32 := 0#32
  let c1_i32 : BitVec 32 := 1#32
  let arg12 : BitVec 32 := Scf.iv c0_i32_43 c1_i32 k3_t1
  let v535 : Index := Scalar.indexCast arg12
  let c672 : Index := 672#32
  ![v535.toNat, 672]
def k3_off48 (k3_t1 : Fin k3_t1_loop.trips) : Fin 2 → Nat :=
  let c0_i32_43 : BitVec 32 := 0#32
  let c1_i32 : BitVec 32 := 1#32
  let arg12 : BitVec 32 := Scf.iv c0_i32_43 c1_i32 k3_t1
  let v547 : Index := Scalar.indexCast arg12
  let c688 : Index := 688#32
  ![v547.toNat, 688]
def k3_off49 (k3_t1 : Fin k3_t1_loop.trips) : Fin 2 → Nat :=
  let c0_i32_43 : BitVec 32 := 0#32
  let c1_i32 : BitVec 32 := 1#32
  let arg12 : BitVec 32 := Scf.iv c0_i32_43 c1_i32 k3_t1
  let v559 : Index := Scalar.indexCast arg12
  let c704 : Index := 704#32
  ![v559.toNat, 704]
def k3_off50 (k3_t1 : Fin k3_t1_loop.trips) : Fin 2 → Nat :=
  let c0_i32_43 : BitVec 32 := 0#32
  let c1_i32 : BitVec 32 := 1#32
  let arg12 : BitVec 32 := Scf.iv c0_i32_43 c1_i32 k3_t1
  let v571 : Index := Scalar.indexCast arg12
  let c720 : Index := 720#32
  ![v571.toNat, 720]
def k3_off51 (k3_t1 : Fin k3_t1_loop.trips) : Fin 2 → Nat :=
  let c0_i32_43 : BitVec 32 := 0#32
  let c1_i32 : BitVec 32 := 1#32
  let arg12 : BitVec 32 := Scf.iv c0_i32_43 c1_i32 k3_t1
  let v583 : Index := Scalar.indexCast arg12
  let c736 : Index := 736#32
  ![v583.toNat, 736]
def k3_off52 (k3_t1 : Fin k3_t1_loop.trips) : Fin 2 → Nat :=
  let c0_i32_43 : BitVec 32 := 0#32
  let c1_i32 : BitVec 32 := 1#32
  let arg12 : BitVec 32 := Scf.iv c0_i32_43 c1_i32 k3_t1
  let v595 : Index := Scalar.indexCast arg12
  let c752 : Index := 752#32
  ![v595.toNat, 752]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== LayerIdeal.lean ====
abbrev S1024x768 : Shape := ⟨2, ![1024, 768]⟩
abbrev S64x768 : Shape := ⟨2, ![64, 768]⟩
abbrev S64 : Shape := ⟨1, ![64]⟩
abbrev S64x256x768 : Shape := ⟨3, ![64, 256, 768]⟩
abbrev S64x768x128 : Shape := ⟨3, ![64, 768, 128]⟩
abbrev S256x768 : Shape := ⟨2, ![256, 768]⟩
abbrev S768x128 : Shape := ⟨2, ![768, 128]⟩
abbrev S768x64 : Shape := ⟨2, ![768, 64]⟩
abbrev S1024x64 : Shape := ⟨2, ![1024, 64]⟩
abbrev S_ : Shape := ⟨0, ![]⟩
abbrev S1024 : Shape := ⟨1, ![1024]⟩
abbrev S1x64 : Shape := ⟨2, ![1, 64]⟩
abbrev S1024x1 : Shape := ⟨2, ![1024, 1]⟩
abbrev S1024x1x1 : Shape := ⟨3, ![1024, 1, 1]⟩
abbrev S1 : Shape := ⟨1, ![1]⟩
abbrev S1x1x1 : Shape := ⟨3, ![1, 1, 1]⟩
abbrev S1x1 : Shape := ⟨2, ![1, 1]⟩
abbrev S1024x256x768 : Shape := ⟨3, ![1024, 256, 768]⟩
abbrev S1024x768x128 : Shape := ⟨3, ![1024, 768, 128]⟩
abbrev S1024x256 : Shape := ⟨2, ![1024, 256]⟩
abbrev S1024x128 : Shape := ⟨2, ![1024, 128]⟩
abbrev S768x256 : Shape := ⟨2, ![768, 256]⟩
abbrev S128x768 : Shape := ⟨2, ![128, 768]⟩

abbrev nBuf : Space → Nat
  | .hbm => 142
  | .vmem => 0
  | .smem => 0
  | _ => 0

abbrev hbmTy0_0 (i : Nat) : BufTy := match i % 128 with
  | 0 => ⟨S1024x768, .f32⟩
  | 1 => ⟨S64x768, .f32⟩
  | 2 => ⟨S64, .f32⟩
  | 3 => ⟨S64x256x768, .f32⟩
  | 4 => ⟨S64x768x128, .f32⟩
  | 5 => ⟨S256x768, .f32⟩
  | 6 => ⟨S768x128, .f32⟩
  | 7 => ⟨S768x64, .f32⟩
  | 8 => ⟨S1024x64, .f32⟩
  | 9 => ⟨S1024x64, .f32⟩
  | 10 => ⟨S_, .f32⟩
  | 11 => ⟨S1024, .f32⟩
  | 12 => ⟨S1024, .f32⟩
  | 13 => ⟨S1024, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S1024x64, .f32⟩
  | 21 => ⟨S1024x64, .f32⟩
  | 22 => ⟨S_, .f32⟩
  | 23 => ⟨S1024x64, .f32⟩
  | 24 => ⟨S1024x64, .f32⟩
  | 25 => ⟨S_, .f32⟩
  | 26 => ⟨S1024x64, .f32⟩
  | 27 => ⟨S1024x64, .f32⟩
  | 28 => ⟨S1x64, .f32⟩
  | 29 => ⟨S1024x64, .f32⟩
  | 30 => ⟨S1024x64, .f32⟩
  | 31 => ⟨S1024x1, .f32⟩
  | 32 => ⟨S1024x1, .i32⟩
  | 33 => ⟨S_, .i32⟩
  | 34 => ⟨S1024x1, .i32⟩
  | 35 => ⟨S1024x1, .i1⟩
  | 36 => ⟨S_, .i32⟩
  | 37 => ⟨S1024x1, .i32⟩
  | 38 => ⟨S1024x1, .i32⟩
  | 39 => ⟨S1024x1, .i32⟩
  | 40 => ⟨S1024x1x1, .i32⟩
  | 41 => ⟨S1, .i32⟩
  | 42 => ⟨S_, .i32⟩
  | 43 => ⟨S1024x1x1, .i32⟩
  | 44 => ⟨S1024x1x1, .i1⟩
  | 45 => ⟨S1x1x1, .i32⟩
  | 46 => ⟨S1024x1x1, .i32⟩
  | 47 => ⟨S1024x1x1, .i1⟩
  | 48 => ⟨S1024x1x1, .i1⟩
  | 49 => ⟨S_, .i1⟩
  | 50 => ⟨S1024x1, .i1⟩
  | 51 => ⟨S1024x1, .f32⟩
  | 52 => ⟨S_, .f32⟩
  | 53 => ⟨S1024x1, .f32⟩
  | 54 => ⟨S1024x1, .f32⟩
  | 55 => ⟨S_, .f32⟩
  | 56 => ⟨S1024, .f32⟩
  | 57 => ⟨S1024x1, .f32⟩
  | 58 => ⟨S_, .f32⟩
  | 59 => ⟨S1024x1, .f32⟩
  | 60 => ⟨S1024x1, .f32⟩
  | 61 => ⟨S1024x1, .f32⟩
  | 62 => ⟨S1024, .i32⟩
  | 63 => ⟨S_, .i32⟩
  | 64 => ⟨S1024, .i32⟩
  | 65 => ⟨S1024, .i1⟩
  | 66 => ⟨S_, .i32⟩
  | 67 => ⟨S1024, .i32⟩
  | 68 => ⟨S1024, .i32⟩
  | 69 => ⟨S1024, .i32⟩
  | 70 => ⟨S1024x1, .i32⟩
  | 71 => ⟨S1, .i32⟩
  | 72 => ⟨S_, .i32⟩
  | 73 => ⟨S1024x1, .i32⟩
  | 74 => ⟨S1024x1, .i1⟩
  | 75 => ⟨S1x1, .i32⟩
  | 76 => ⟨S1024x1, .i32⟩
  | 77 => ⟨S1024x1, .i1⟩
  | 78 => ⟨S1024x1, .i1⟩
  | 79 => ⟨S_, .i1⟩
  | 80 => ⟨S1024, .i1⟩
  | 81 => ⟨S1024x256x768, .f32⟩
  | 82 => ⟨S1024x256x768, .i1⟩
  | 83 => ⟨S_, .f32⟩
  | 84 => ⟨S1024x256x768, .f32⟩
  | 85 => ⟨S1024x256x768, .f32⟩
  | 86 => ⟨S_, .i32⟩
  | 87 => ⟨S1024, .i32⟩
  | 88 => ⟨S1024, .i1⟩
  | 89 => ⟨S_, .i32⟩
  | 90 => ⟨S1024, .i32⟩
  | 91 => ⟨S1024, .i32⟩
  | 92 => ⟨S1024, .i32⟩
  | 93 => ⟨S1024x1, .i32⟩
  | 94 => ⟨S1, .i32⟩
  | 95 => ⟨S_, .i32⟩
  | 96 => ⟨S1024x1, .i32⟩
  | 97 => ⟨S1024x1, .i1⟩
  | 98 => ⟨S1x1, .i32⟩
  | 99 => ⟨S1024x1, .i32⟩
  | 100 => ⟨S1024x1, .i1⟩
  | 101 => ⟨S1024x1, .i1⟩
  | 102 => ⟨S_, .i1⟩
  | 103 => ⟨S1024, .i1⟩
  | 104 => ⟨S1024x768x128, .f32⟩
  | 105 => ⟨S1024x768x128, .i1⟩
  | 106 => ⟨S_, .f32⟩
  | 107 => ⟨S1024x768x128, .f32⟩
  | 108 => ⟨S1024x768x128, .f32⟩
  | 109 => ⟨S1024x256, .f32⟩
  | 110 => ⟨S1024x128, .f32⟩
  | 111 => ⟨S1024x128, .f32⟩
  | 112 => ⟨S1024x128, .f32⟩
  | 113 => ⟨S1024x128, .f32⟩
  | 114 => ⟨S_, .f32⟩
  | 115 => ⟨S1024x128, .f32⟩
  | 116 => ⟨S1024x128, .f32⟩
  | 117 => ⟨S_, .f32⟩
  | 118 => ⟨S1024x128, .f32⟩
  | 119 => ⟨S1024x128, .f32⟩
  | 120 => ⟨S1024x128, .f32⟩
  | 121 => ⟨S1024x128, .f32⟩
  | 122 => ⟨S1024x768, .f32⟩
  | 123 => ⟨S1024x768, .f32⟩
  | 124 => ⟨S1024x768, .f32⟩
  | 125 => ⟨S768x256, .f32⟩
  | 126 => ⟨S1024x256, .f32⟩
  | 127 => ⟨S1024x128, .f32⟩
  | _ => ⟨S1024x768, .f32⟩

abbrev hbmTy0_1 (i : Nat) : BufTy := match i % 128 with
  | 0 => ⟨S1024x128, .f32⟩
  | 1 => ⟨S1024x128, .f32⟩
  | 2 => ⟨S1024x128, .f32⟩
  | 3 => ⟨S_, .f32⟩
  | 4 => ⟨S1024x128, .f32⟩
  | 5 => ⟨S1024x128, .f32⟩
  | 6 => ⟨S_, .f32⟩
  | 7 => ⟨S1024x128, .f32⟩
  | 8 => ⟨S1024x128, .f32⟩
  | 9 => ⟨S1024x128, .f32⟩
  | 10 => ⟨S1024x128, .f32⟩
  | 11 => ⟨S128x768, .f32⟩
  | 12 => ⟨S1024x768, .f32⟩
  | 13 => ⟨S1024x768, .f32⟩
  | _ => ⟨S1024x768, .f32⟩

abbrev hbmTy (i : Nat) : BufTy := match i / 128 with
  | 0 => hbmTy0_0 i
  | 1 => hbmTy0_1 i
  | _ => ⟨S1024x768, .f32⟩

abbrev bufTy : (tb : Table) → Fin (tcTables nBuf tb) → BufTy
  | .hbm, ⟨i, _⟩ => hbmTy i
  | _, _ => ⟨S1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_cst_4 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_values : Ref sig .tc := ⟨.hbm, 31, rfl⟩
abbrev main_indices : Ref sig .tc := ⟨.hbm, 32, rfl⟩
abbrev main_call0_c : Ref sig .tc := ⟨.hbm, 33, rfl⟩
abbrev main_call0_v0 : Ref sig .tc := ⟨.hbm, 34, rfl⟩
abbrev main_call0_v1 : Ref sig .tc := ⟨.hbm, 35, rfl⟩
abbrev main_call0_c_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_c_1 : Ref sig .tc := ⟨.hbm, 41, rfl⟩
abbrev main_call0_c_2 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_c_3 : Ref sig .tc := ⟨.hbm, 49, rfl⟩
abbrev main_call0_v12 : Ref sig .tc := ⟨.hbm, 50, rfl⟩
abbrev main_call0_v13 : Ref sig .tc := ⟨.hbm, 51, rfl⟩
abbrev main_call0_cst : Ref sig .tc := ⟨.hbm, 52, rfl⟩
abbrev main_call0_v14 : Ref sig .tc := ⟨.hbm, 53, rfl⟩
abbrev main_v18 : Ref sig .tc := ⟨.hbm, 54, rfl⟩
abbrev main_cst_5 : Ref sig .tc := ⟨.hbm, 55, rfl⟩
abbrev main_v19 : Ref sig .tc := ⟨.hbm, 56, rfl⟩
abbrev main_v20 : Ref sig .tc := ⟨.hbm, 57, rfl⟩
abbrev main_cst_6 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_call1_c : Ref sig .tc := ⟨.hbm, 63, rfl⟩
abbrev main_call1_v0 : Ref sig .tc := ⟨.hbm, 64, rfl⟩
abbrev main_call1_v1 : Ref sig .tc := ⟨.hbm, 65, rfl⟩
abbrev main_call1_c_0 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_c_1 : Ref sig .tc := ⟨.hbm, 71, rfl⟩
abbrev main_call1_c_2 : Ref sig .tc := ⟨.hbm, 72, rfl⟩
abbrev main_call1_v6 : Ref sig .tc := ⟨.hbm, 73, rfl⟩
abbrev main_call1_v7 : Ref sig .tc := ⟨.hbm, 74, rfl⟩
abbrev main_call1_v8 : Ref sig .tc := ⟨.hbm, 75, rfl⟩
abbrev main_call1_v9 : Ref sig .tc := ⟨.hbm, 76, rfl⟩
abbrev main_call1_v10 : Ref sig .tc := ⟨.hbm, 77, rfl⟩
abbrev main_call1_v11 : Ref sig .tc := ⟨.hbm, 78, rfl⟩
abbrev main_call1_c_3 : Ref sig .tc := ⟨.hbm, 79, rfl⟩
abbrev main_call1_v12 : Ref sig .tc := ⟨.hbm, 80, rfl⟩
abbrev main_call1_v13 : Ref sig .tc := ⟨.hbm, 81, rfl⟩
abbrev main_call1_v14 : Ref sig .tc := ⟨.hbm, 82, rfl⟩
abbrev main_call1_cst : Ref sig .tc := ⟨.hbm, 83, rfl⟩
abbrev main_call1_v15 : Ref sig .tc := ⟨.hbm, 84, rfl⟩
abbrev main_v25 : Ref sig .tc := ⟨.hbm, 85, rfl⟩
abbrev main_call2_c : Ref sig .tc := ⟨.hbm, 86, rfl⟩
abbrev main_call2_v0 : Ref sig .tc := ⟨.hbm, 87, rfl⟩
abbrev main_call2_v1 : Ref sig .tc := ⟨.hbm, 88, rfl⟩
abbrev main_call2_c_0 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_call2_v5 : Ref sig .tc := ⟨.hbm, 93, rfl⟩
abbrev main_call2_c_1 : Ref sig .tc := ⟨.hbm, 94, rfl⟩
abbrev main_call2_c_2 : Ref sig .tc := ⟨.hbm, 95, rfl⟩
abbrev main_call2_v6 : Ref sig .tc := ⟨.hbm, 96, rfl⟩
abbrev main_call2_v7 : Ref sig .tc := ⟨.hbm, 97, rfl⟩
abbrev main_call2_v8 : Ref sig .tc := ⟨.hbm, 98, rfl⟩
abbrev main_call2_v9 : Ref sig .tc := ⟨.hbm, 99, rfl⟩
abbrev main_call2_v10 : Ref sig .tc := ⟨.hbm, 100, rfl⟩
abbrev main_call2_v11 : Ref sig .tc := ⟨.hbm, 101, rfl⟩
abbrev main_call2_c_3 : Ref sig .tc := ⟨.hbm, 102, rfl⟩
abbrev main_call2_v12 : Ref sig .tc := ⟨.hbm, 103, rfl⟩
abbrev main_call2_v13 : Ref sig .tc := ⟨.hbm, 104, rfl⟩
abbrev main_call2_v14 : Ref sig .tc := ⟨.hbm, 105, rfl⟩
abbrev main_call2_cst : Ref sig .tc := ⟨.hbm, 106, rfl⟩
abbrev main_call2_v15 : Ref sig .tc := ⟨.hbm, 107, rfl⟩
abbrev main_v26 : Ref sig .tc := ⟨.hbm, 108, rfl⟩
abbrev main_v27 : Ref sig .tc := ⟨.hbm, 109, rfl⟩
abbrev main_v28 : Ref sig .tc := ⟨.hbm, 110, rfl⟩
abbrev main_v29 : Ref sig .tc := ⟨.hbm, 111, rfl⟩
abbrev main_call3_v0 : Ref sig .tc := ⟨.hbm, 112, rfl⟩
abbrev main_call3_v1 : Ref sig .tc := ⟨.hbm, 113, rfl⟩
abbrev main_call3_cst : Ref sig .tc := ⟨.hbm, 114, rfl⟩
abbrev main_call3_v2 : Ref sig .tc := ⟨.hbm, 115, rfl⟩
abbrev main_call3_v3 : Ref sig .tc := ⟨.hbm, 116, rfl⟩
abbrev main_call3_cst_0 : Ref sig .tc := ⟨.hbm, 117, rfl⟩
abbrev main_call3_v4 : Ref sig .tc := ⟨.hbm, 118, rfl⟩
abbrev main_call3_v5 : Ref sig .tc := ⟨.hbm, 119, rfl⟩
abbrev main_v30 : Ref sig .tc := ⟨.hbm, 120, rfl⟩
abbrev main_v31 : Ref sig .tc := ⟨.hbm, 121, rfl⟩
abbrev main_v32 : Ref sig .tc := ⟨.hbm, 122, rfl⟩
abbrev main_v33 : Ref sig .tc := ⟨.hbm, 123, rfl⟩
abbrev main_v34 : Ref sig .tc := ⟨.hbm, 124, rfl⟩
abbrev main_v35 : Ref sig .tc := ⟨.hbm, 125, rfl⟩
abbrev main_v36 : Ref sig .tc := ⟨.hbm, 126, rfl⟩
abbrev main_v37 : Ref sig .tc := ⟨.hbm, 127, rfl⟩
abbrev main_v38 : Ref sig .tc := ⟨.hbm, 128, rfl⟩
abbrev main_call4_v0 : Ref sig .tc := ⟨.hbm, 129, rfl⟩
abbrev main_call4_v1 : Ref sig .tc := ⟨.hbm, 130, rfl⟩
abbrev main_call4_cst : Ref sig .tc := ⟨.hbm, 131, rfl⟩
abbrev main_call4_v2 : Ref sig .tc := ⟨.hbm, 132, rfl⟩
abbrev main_call4_v3 : Ref sig .tc := ⟨.hbm, 133, rfl⟩
abbrev main_call4_cst_0 : Ref sig .tc := ⟨.hbm, 134, rfl⟩
abbrev main_call4_v4 : Ref sig .tc := ⟨.hbm, 135, rfl⟩
abbrev main_call4_v5 : Ref sig .tc := ⟨.hbm, 136, rfl⟩
abbrev main_v39 : Ref sig .tc := ⟨.hbm, 137, rfl⟩
abbrev main_v40 : Ref sig .tc := ⟨.hbm, 138, rfl⟩
abbrev main_v41 : Ref sig .tc := ⟨.hbm, 139, rfl⟩
abbrev main_v42 : Ref sig .tc := ⟨.hbm, 140, rfl⟩
abbrev main_v43 : Ref sig .tc := ⟨.hbm, 141, rfl⟩

abbrev nD : Nat := 1
abbrev τ : Topo := Topo.v7x

variable {F : FTy → Type} [FloatOps F]
-- ==== Proof.Setup.lean ====
/-
  The combine call as the SparseCore launch theorem sees it: the call's configuration, the resource algebra of the
  launch (the handshakes' rounds and the transfers' counters), and short names for the call's arrays and for a
  subcore's scratch buffers.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Combine

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI Idealize.SL.Sem
open Idealize.ShloMosaic.Rounds

variable {F : FTy → Type} [FloatOps F]

/-! ## The program -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UU : Type := UH × Counters

abbrev MM (F : FTy → Type) : Type := MT nD τ sig (HIx 1) (Elt F) ℕ UU ℕ

abbrev EH : Emb UH (MT nD τ sig (HIx 1) (Elt F) ℕ UU ℕ) := embL

/-! ## The arrays: the experts' rows, the slots, the shared expert's rows, the gating weights spread over lanes, the result -/

abbrev aLoc (d : Dev nD) : Loc nD τ sig := (SparseCore.T d).loc main_arg0
abbrev sLoc (d : Dev nD) : Loc nD τ sig := (SparseCore.T d).loc main_arg1
abbrev hLoc (d : Dev nD) : Loc nD τ sig := (SparseCore.T d).loc main_arg2
abbrev wLoc (d : Dev nD) : Loc nD τ sig := (SparseCore.T d).loc main_arg3
abbrev gLoc (d : Dev nD) : Loc nD τ sig := (SparseCore.T d).loc main_v0
abbrev oLoc (d : Dev nD) : Loc nD τ sig := (SparseCore.T d).loc main_v1

/-- The SparseCore and the subcore at grid coordinates `L`, and the thread there. -/
abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

end Cert.Proof.Combine

end
-- ==== Proof.Trip.lean ====
/-
  One trip of the combine call's loop: row `k` of the gathered rows is scaled by the row's gating weights, lane by lane,
  and added to the shared expert's row; every other row is untouched.
-/
module

public import proofs.«01_k».proof.Proof.Setup
public import Idealize.ShloMosaic.Lib.Writes
public import Idealize.ShloMosaic.Lib.ValueLayout

@[expose] public section

set_option maxRecDepth 16384

noncomputable section

namespace Cert.Proof.Combine

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "aM" => (Memref.whole Cert.KernelIdeal.main_arg0_scv : Memref Cert.KernelIdeal.sig Kind.scVector Space.hbm Cert.KernelIdeal.S5120x768 EltTy.f32)
local notation "sM" => (Memref.whole Cert.KernelIdeal.main_arg1_scv : Memref Cert.KernelIdeal.sig Kind.scVector Space.hbm Cert.KernelIdeal.S1024 EltTy.i32)
local notation "hM" => (Memref.whole Cert.KernelIdeal.main_arg2_scv : Memref Cert.KernelIdeal.sig Kind.scVector Space.hbm Cert.KernelIdeal.S1024x768 EltTy.f32)
local notation "gM" => (Memref.whole Cert.KernelIdeal.main_v0_scv : Memref Cert.KernelIdeal.sig Kind.scVector Space.hbm Cert.KernelIdeal.S1024x128 EltTy.f32)
local notation "oM" => (Memref.whole Cert.KernelIdeal.main_v1_scv : Memref Cert.KernelIdeal.sig Kind.scVector Space.hbm Cert.KernelIdeal.S1024x768 EltTy.f32)
-- a subcore's scratch: its slots, its gathered rows, the shared expert's rows, the gating rows
local notation "svM" => (Memref.whole Cert.KernelIdeal.cc0_scratch0 : Memref Cert.KernelIdeal.sig Kind.scVector Space.vmem Cert.KernelIdeal.S32 EltTy.i32)
local notation "rvM" => (Memref.whole Cert.KernelIdeal.cc0_scratch1 : Memref Cert.KernelIdeal.sig Kind.scVector Space.vmem Cert.KernelIdeal.S32x768 EltTy.f32)
local notation "hvM" => (Memref.whole Cert.KernelIdeal.cc0_scratch2 : Memref Cert.KernelIdeal.sig Kind.scVector Space.vmem Cert.KernelIdeal.S32x768 EltTy.f32)
local notation "gvM" => (Memref.whole Cert.KernelIdeal.cc0_scratch3 : Memref Cert.KernelIdeal.sig Kind.scVector Space.vmem Cert.KernelIdeal.S32x128 EltTy.f32)

abbrev bodyAt (L : grid0.Coords) : Fin k0_t1_loop.trips → Unit → Prog (TpuEff nD τ sig (Elt F) Λ₀ (.scVector (cV L) (jV L))) Unit :=
  k0_t1_body L aM (Memref.isWhole_whole _) sM (Memref.isWhole_whole _) hM (Memref.isWhole_whole _) gM (Memref.isWhole_whole _)
    oM (Memref.isWhole_whole _) svM (Memref.isWhole_whole _) rvM (Memref.isWhole_whole _) hvM (Memref.isWhole_whole _)
    gvM (Memref.isWhole_whole _) cc0_scratch4 cc0_scoped0 cc0_scoped1 cc0_scoped2 cc0_scoped3 0#32

def trip_run (d : Dev nD) (L : grid0.Coords) (k : Fin k0_t1_loop.trips) (h : Buf (Elt F) ((hvM).view.loc (VT d L)))
    (g : Buf (Elt F) ((gvM).view.loc (VT d L))) (r : Buf (Elt F) ((rvM).view.loc (VT d L))) :
    { L' : Buf (Elt F) ((rvM).view.loc (VT d L)) // ∀ Q : Unit → sProp 𝕄,
      iprop(((rvM).view.loc (VT d L) ↦{fullShare} r) ∗ ((hvM).view.loc (VT d L) ↦{fullShare} h) ∗ ((gvM).view.loc (VT d L) ↦{fullShare} g)
        ∗ ((((rvM).view.loc (VT d L) ↦{fullShare} L') ∗ ((hvM).view.loc (VT d L) ↦{fullShare} h) ∗ ((gvM).view.loc (VT d L) ↦{fullShare} g)) -∗ Q ()))
      ⊢ wp frame (wpE (defs₀ (F := F)) 𝒱₀ (VT d L) none) Set.univ (bodyAt L k ()) Q } := by
  refine ⟨?_, fun Q => ?run⟩
  case run =>
    unfold bodyAt k0_t1_body
    rw [k0_part13_eq_skeleton]; unfold k0_part13_skel
    rw [k0_part1_eq_skeleton]; unfold k0_part1_skel
    rw [k0_part2_eq_skeleton]; unfold k0_part2_skel
    rw [k0_part3_eq_skeleton]; unfold k0_part3_skel
    rw [k0_part4_eq_skeleton]; unfold k0_part4_skel
    rw [k0_part5_eq_skeleton]; unfold k0_part5_skel
    rw [k0_part6_eq_skeleton]; unfold k0_part6_skel
    rw [k0_part7_eq_skeleton]; unfold k0_part7_skel
    rw [k0_part8_eq_skeleton]; unfold k0_part8_skel
    rw [k0_part9_eq_skeleton]; unfold k0_part9_skel
    rw [k0_part10_eq_skeleton]; unfold k0_part10_skel
    rw [k0_part11_eq_skeleton]; unfold k0_part11_skel
    rw [k0_part12_eq_skeleton]; unfold k0_part12_skel
    iintro ⟨Hr, Hh, Hg, HQ⟩
    sl_exec
    sl_step
    iapply HQ
    isplitl [Hr]; · iexact Hr
    isplitl [Hh] <;> iassumption

/-! ## What a trip leaves -/

/-- An index of a rank-two shape is its two coordinates. -/
theorem ix2_coords {a b : ℕ} (x : (⟨2, ![a, b]⟩ : Shape).Idx) : ValueIdx.ix2 (x 0) (x 1) = x := by
  funext u
  match u with
  | 0 => rfl
  | 1 => rfl

/-- Lane `n` (below sixteen) of row `j` of the gating rows. -/
def laneOf (j : Fin 32) (n : ℕ) : S32x128.Idx := ValueIdx.ix2 j ⟨n % 16, by omega⟩

/-- Row `k` scaled by its gating lanes and added to the shared row; the other rows as they were. -/
def rowDone (k : ℕ) (g : S32x128.Idx → Elt F .f32) (h r : S32x768.Idx → Elt F .f32) : S32x768.Idx → Elt F .f32 := fun y =>
  if (y 0).val = k then FloatOps.addf (φ := .f32) (FloatOps.mulf (φ := .f32) (r y) (g (laneOf (y 0) (y 1).val))) (h y) else r y

/-- A store's payload over the three loads before it. -/
abbrev scaled (a g h : FVec F S1x16 .f32) : FVec F S1x16 .f32 :=
  shapeCast S1x16 (addf (mulf (shapeCast S16 a shapeCasts_S1x16_S16) (shapeCast S16 g shapeCasts_S1x16_S16)) (shapeCast S16 h shapeCasts_S1x16_S16)) shapeCasts_S16_S1x16

theorem scaled_lane (a g h : FVec F S1x16 .f32) (i : Fin 16) :
    scaled a g h (ValueIdx.ix2 (0 : Fin 1) i) = FloatOps.addf (φ := .f32) (FloatOps.mulf (φ := .f32) (a (ValueIdx.ix2 (0 : Fin 1) i))
      (g (ValueIdx.ix2 (0 : Fin 1) i))) (h (ValueIdx.ix2 (0 : Fin 1) i)) :=
  (ValueIdx.shapeCast_a_1a_apply (a := 16) _ _ 0 i).trans
    (congrArg₂ (FloatOps.addf (φ := .f32)) (congrArg₂ (FloatOps.mulf (φ := .f32)) (ValueIdx.shapeCast_1a_a_apply (a := 16) a _ i)
      (ValueIdx.shapeCast_1a_a_apply (a := 16) g _ i)) (ValueIdx.shapeCast_1a_a_apply (a := 16) h _ i))

theorem scaled_apply (a g h : FVec F S1x16 .f32) (x : S1x16.Idx) :
    scaled a g h x = FloatOps.addf (φ := .f32) (FloatOps.mulf (φ := .f32) (a x) (g x)) (h x) := by
  have hx : ValueIdx.ix2 (0 : Fin 1) (x 1) = x := by
    rw [show (0 : Fin 1) = x 0 from (Subsingleton.elim _ _)]; exact ix2_coords x
  rw [← hx]
  exact scaled_lane a g h (x 1)

/-- Sixteen lanes from `off` on are the columns `off 1 ≤ · < off 1 + 16` of row `off 0`. -/
theorem mem_lanes {off : Fin 2 → ℕ} {inb} (y : S32x768.Idx) :
    y ∈ (Rect.unit (s := S32x768) off S1x16.size inb).set ↔ (off 0 ≤ (y 0).val ∧ (y 0).val < off 0 + 1) ∧ (off 1 ≤ (y 1).val ∧ (y 1).val < off 1 + 16) := by
  rw [Rect.mem_set_unit]
  exact Fin.forall_fin_two

theorem not_mem_lanes {off : Fin 2 → ℕ} {inb} {k n : ℕ} (y : S32x768.Idx) (hoff : off = ![k, n]) (hy : (y 0).val ≠ k) :
    y ∉ (Rect.unit (s := S32x768) off S1x16.size inb).set := by
  subst hoff
  rw [mem_lanes]
  rintro ⟨⟨h0, h1⟩, -⟩
  change k ≤ (y 0).val at h0
  change (y 0).val < k + 1 at h1
  omega

theorem mem_lanes_of {off : Fin 2 → ℕ} {inb} {k c : ℕ} (y : S32x768.Idx) (hoff : off = ![k, 16 * c]) (hy : (y 0).val = k) (hc : (y 1).val / 16 = c) :
    y ∈ (Rect.unit (s := S32x768) off S1x16.size inb).set := by
  subst hoff
  rw [mem_lanes]
  refine ⟨⟨?_, ?_⟩, ?_, ?_⟩
  · change k ≤ (y 0).val; omega
  · change (y 0).val < k + 1; omega
  · change 16 * c ≤ (y 1).val; omega
  · change (y 1).val < 16 * c + 16; omega

/-- The payload stored at the lanes `off = (k, 16 c)` is the row's new value there. -/
theorem piece_ok (k c : ℕ) (hk : k < 32) (off off4 : Fin 2 → ℕ) (inb inb4) (hoff : off = ![k, 16 * c]) (hoff4 : off4 = ![k, 0])
    (g : S32x128.Idx → Elt F .f32) (h r : S32x768.Idx → Elt F .f32) (x : S1x16.Idx) :
    scaled ((rvM).view.readAt (Elt F) (Rect.unit (s := S32x768) off S1x16.size inb).toLoadRect r)
        ((gvM).view.readAt (Elt F) (Rect.unit (s := S32x128) off4 S1x16.size inb4).toLoadRect g)
        ((hvM).view.readAt (Elt F) (Rect.unit (s := S32x768) off S1x16.size inb).toLoadRect h) x
      = rowDone k g h r ((Rect.unit (s := S32x768) off S1x16.size inb).emb x) := by
  subst hoff; subst hoff4
  have h0 : (x 0).val = 0 := by have := (x 0).isLt; change _ < 1 at this; omega
  have h1 : (x 1).val < 16 := (x 1).isLt
  have e0 : (((Rect.unit (s := S32x768) ![k, 16 * c] S1x16.size inb).emb x) 0).val = k := by
    rw [Rect.emb_apply]; simp [h0]
  have e1 : (((Rect.unit (s := S32x768) ![k, 16 * c] S1x16.size inb).emb x) 1).val = 16 * c + (x 1).val := by
    rw [Rect.emb_apply]; simp
  rw [scaled_apply]
  unfold rowDone
  rw [if_pos e0]
  congr 2
  show g ((Rect.unit (s := S32x128) ![k, 0] S1x16.size inb4).emb x) = g _
  congr 1
  funext u
  apply Fin.ext
  match u with
  | 0 =>
    show ((Rect.unit (s := S32x128) ![k, 0] S1x16.size inb4).emb x 0).val = (((Rect.unit (s := S32x768) ![k, 16 * c] S1x16.size inb).emb x) 0).val
    rw [e0, Rect.emb_apply]; simp [h0]
  | 1 =>
    show ((Rect.unit (s := S32x128) ![k, 0] S1x16.size inb4).emb x 1).val = (((Rect.unit (s := S32x768) ![k, 16 * c] S1x16.size inb).emb x) 1).val % 16
    rw [e1, Rect.emb_apply]; simp; omega

theorem trips_eq : k0_t1_loop.trips = 32 := by decide +kernel

/-- Stores whose payloads are the row's new values and whose lanes are exactly the row leave `rowDone`. -/
theorem writes_rowDone (k : ℕ) (g : S32x128.Idx → Elt F .f32) (h r : S32x768.Idx → Elt F .f32) (Ls : List (View.Piece (Elt F) S32x768 .f32))
    (hG : ∀ p ∈ Ls, ∀ x : p.1.shape.Idx, p.2 x = rowDone k g h r (p.1.emb x))
    (hin : ∀ y : S32x768.Idx, (y 0).val = k → ¬ ∀ p ∈ Ls, y ∉ p.1.set) (hout : ∀ y : S32x768.Idx, (y 0).val ≠ k → ∀ p ∈ Ls, y ∉ p.1.set) :
    (View.whole cc0_scratch1).writes (Elt F) r Ls = rowDone k g h r := by
  rw [← View.read_whole cc0_scratch1 ((View.whole cc0_scratch1).writes (Elt F) r Ls)]
  funext y
  by_cases hy : (y 0).val = k
  · refine View.read_writes_apply_of_pieces (View.whole cc0_scratch1) r (rowDone k g h r) Ls hG y ?_
    by_contra hn
    push Not at hn
    exact hin y hy hn
  · refine (View.read_writes_apply_of_forall_not_mem (View.whole cc0_scratch1) r y Ls (hout y hy)).trans ?_
    unfold rowDone
    rw [if_neg hy]
    rfl

set_option maxHeartbeats 4000000 in
set_option pp.maxSteps 150 in
theorem trip_val (d : Dev nD) (L : grid0.Coords) (k : Fin k0_t1_loop.trips) (h r : S32x768.Idx → Elt F .f32) (g : S32x128.Idx → Elt F .f32) :
    (trip_run d L k h g r).1 = rowDone k.val g h r := by
  have hk : k.val < 32 := lt_of_lt_of_eq k.isLt trips_eq
  unfold trip_run
  dsimp only
  refine writes_rowDone k.val g h r _ ?_ ?_ ?_
  · refine List.forall_mem_cons.2 ⟨piece_ok k.val 47 hk (k0_off52 k) (k0_off4 k) _ _ (k0_off52_eq k) (k0_off4_eq k) g h r, ?_⟩
    refine List.forall_mem_cons.2 ⟨piece_ok k.val 46 hk (k0_off51 k) (k0_off4 k) _ _ (k0_off51_eq k) (k0_off4_eq k) g h r, ?_⟩
    refine List.forall_mem_cons.2 ⟨piece_ok k.val 45 hk (k0_off50 k) (k0_off4 k) _ _ (k0_off50_eq k) (k0_off4_eq k) g h r, ?_⟩
    refine List.forall_mem_cons.2 ⟨piece_ok k.val 44 hk (k0_off49 k) (k0_off4 k) _ _ (k0_off49_eq k) (k0_off4_eq k) g h r, ?_⟩
    refine List.forall_mem_cons.2 ⟨piece_ok k.val 43 hk (k0_off48 k) (k0_off4 k) _ _ (k0_off48_eq k) (k0_off4_eq k) g h r, ?_⟩
    refine List.forall_mem_cons.2 ⟨piece_ok k.val 42 hk (k0_off47 k) (k0_off4 k) _ _ (k0_off47_eq k) (k0_off4_eq k) g h r, ?_⟩
    refine List.forall_mem_cons.2 ⟨piece_ok k.val 41 hk (k0_off46 k) (k0_off4 k) _ _ (k0_off46_eq k) (k0_off4_eq k) g h r, ?_⟩
    refine List.forall_mem_cons.2 ⟨piece_ok k.val 40 hk (k0_off45 k) (k0_off4 k) _ _ (k0_off45_eq k) (k0_off4_eq k) g h r, ?_⟩
    refine List.forall_mem_cons.2 ⟨piece_ok k.val 39 hk (k0_off44 k) (k0_off4 k) _ _ (k0_off44_eq k) (k0_off4_eq k) g h r, ?_⟩
    refine List.forall_mem_cons.2 ⟨piece_ok k.val 38 hk (k0_off43 k) (k0_off4 k) _ _ (k0_off43_eq k) (k0_off4_eq k) g h r, ?_⟩
    refine List.forall_mem_cons.2 ⟨piece_ok k.val 37 hk (k0_off42 k) (k0_off4 k) _ _ (k0_off42_eq k) (k0_off4_eq k) g h r, ?_⟩
    refine List.forall_mem_cons.2 ⟨piece_ok k.val 36 hk (k0_off41 k) (k0_off4 k) _ _ (k0_off41_eq k) (k0_off4_eq k) g h r, ?_⟩
    refine List.forall_mem_cons.2 ⟨piece_ok k.val 35 hk (k0_off40 k) (k0_off4 k) _ _ (k0_off40_eq k) (k0_off4_eq k) g h r, ?_⟩
    refine List.forall_mem_cons.2 ⟨piece_ok k.val 34 hk (k0_off39 k) (k0_off4 k) _ _ (k0_off39_eq k) (k0_off4_eq k) g h r, ?_⟩
    refine List.forall_mem_cons.2 ⟨piece_ok k.val 33 hk (k0_off38 k) (k0_off4 k) _ _ (k0_off38_eq k) (k0_off4_eq k) g h r, ?_⟩
    refine List.forall_mem_cons.2 ⟨piece_ok k.val 32 hk (k0_off37 k) (k0_off4 k) _ _ (k0_off37_eq k) (k0_off4_eq k) g h r, ?_⟩
    refine List.forall_mem_cons.2 ⟨piece_ok k.val 31 hk (k0_off36 k) (k0_off4 k) _ _ (k0_off36_eq k) (k0_off4_eq k) g h r, ?_⟩
    refine List.forall_mem_cons.2 ⟨piece_ok k.val 30 hk (k0_off35 k) (k0_off4 k) _ _ (k0_off35_eq k) (k0_off4_eq k) g h r, ?_⟩
    refine List.forall_mem_cons.2 ⟨piece_ok k.val 29 hk (k0_off34 k) (k0_off4 k) _ _ (k0_off34_eq k) (k0_off4_eq k) g h r, ?_⟩
    refine List.forall_mem_cons.2 ⟨piece_ok k.val 28 hk (k0_off33 k) (k0_off4 k) _ _ (k0_off33_eq k) (k0_off4_eq k) g h r, ?_⟩
    refine List.forall_mem_cons.2 ⟨piece_ok k.val 27 hk (k0_off32 k) (k0_off4 k) _ _ (k0_off32_eq k) (k0_off4_eq k) g h r, ?_⟩
    refine List.forall_mem_cons.2 ⟨piece_ok k.val 26 hk (k0_off31 k) (k0_off4 k) _ _ (k0_off31_eq k) (k0_off4_eq k) g h r, ?_⟩
    refine List.forall_mem_cons.2 ⟨piece_ok k.val 25 hk (k0_off30 k) (k0_off4 k) _ _ (k0_off30_eq k) (k0_off4_eq k) g h r, ?_⟩
    refine List.forall_mem_cons.2 ⟨piece_ok k.val 24 hk (k0_off29 k) (k0_off4 k) _ _ (k0_off29_eq k) (k0_off4_eq k) g h r, ?_⟩
    refine List.forall_mem_cons.2 ⟨piece_ok k.val 23 hk (k0_off28 k) (k0_off4 k) _ _ (k0_off28_eq k) (k0_off4_eq k) g h r, ?_⟩
    refine List.forall_mem_cons.2 ⟨piece_ok k.val 22 hk (k0_off27 k) (k0_off4 k) _ _ (k0_off27_eq k) (k0_off4_eq k) g h r, ?_⟩
    refine List.forall_mem_cons.2 ⟨piece_ok k.val 21 hk (k0_off26 k) (k0_off4 k) _ _ (k0_off26_eq k) (k0_off4_eq k) g h r, ?_⟩
    refine List.forall_mem_cons.2 ⟨piece_ok k.val 20 hk (k0_off25 k) (k0_off4 k) _ _ (k0_off25_eq k) (k0_off4_eq k) g h r, ?_⟩
    refine List.forall_mem_cons.2 ⟨piece_ok k.val 19 hk (k0_off24 k) (k0_off4 k) _ _ (k0_off24_eq k) (k0_off4_eq k) g h r, ?_⟩
    refine List.forall_mem_cons.2 ⟨piece_ok k.val 18 hk (k0_off23 k) (k0_off4 k) _ _ (k0_off23_eq k) (k0_off4_eq k) g h r, ?_⟩
    refine List.forall_mem_cons.2 ⟨piece_ok k.val 17 hk (k0_off22 k) (k0_off4 k) _ _ (k0_off22_eq k) (k0_off4_eq k) g h r, ?_⟩
    refine List.forall_mem_cons.2 ⟨piece_ok k.val 16 hk (k0_off21 k) (k0_off4 k) _ _ (k0_off21_eq k) (k0_off4_eq k) g h r, ?_⟩
    refine List.forall_mem_cons.2 ⟨piece_ok k.val 15 hk (k0_off20 k) (k0_off4 k) _ _ (k0_off20_eq k) (k0_off4_eq k) g h r, ?_⟩
    refine List.forall_mem_cons.2 ⟨piece_ok k.val 14 hk (k0_off19 k) (k0_off4 k) _ _ (k0_off19_eq k) (k0_off4_eq k) g h r, ?_⟩
    refine List.forall_mem_cons.2 ⟨piece_ok k.val 13 hk (k0_off18 k) (k0_off4 k) _ _ (k0_off18_eq k) (k0_off4_eq k) g h r, ?_⟩
    refine List.forall_mem_cons.2 ⟨piece_ok k.val 12 hk (k0_off17 k) (k0_off4 k) _ _ (k0_off17_eq k) (k0_off4_eq k) g h r, ?_⟩
    refine List.forall_mem_cons.2 ⟨piece_ok k.val 11 hk (k0_off16 k) (k0_off4 k) _ _ (k0_off16_eq k) (k0_off4_eq k) g h r, ?_⟩
    refine List.forall_mem_cons.2 ⟨piece_ok k.val 10 hk (k0_off15 k) (k0_off4 k) _ _ (k0_off15_eq k) (k0_off4_eq k) g h r, ?_⟩
    refine List.forall_mem_cons.2 ⟨piece_ok k.val 9 hk (k0_off14 k) (k0_off4 k) _ _ (k0_off14_eq k) (k0_off4_eq k) g h r, ?_⟩
    refine List.forall_mem_cons.2 ⟨piece_ok k.val 8 hk (k0_off13 k) (k0_off4 k) _ _ (k0_off13_eq k) (k0_off4_eq k) g h r, ?_⟩
    refine List.forall_mem_cons.2 ⟨piece_ok k.val 7 hk (k0_off12 k) (k0_off4 k) _ _ (k0_off12_eq k) (k0_off4_eq k) g h r, ?_⟩
    refine List.forall_mem_cons.2 ⟨piece_ok k.val 6 hk (k0_off11 k) (k0_off4 k) _ _ (k0_off11_eq k) (k0_off4_eq k) g h r, ?_⟩
    refine List.forall_mem_cons.2 ⟨piece_ok k.val 5 hk (k0_off10 k) (k0_off4 k) _ _ (k0_off10_eq k) (k0_off4_eq k) g h r, ?_⟩
    refine List.forall_mem_cons.2 ⟨piece_ok k.val 4 hk (k0_off9 k) (k0_off4 k) _ _ (k0_off9_eq k) (k0_off4_eq k) g h r, ?_⟩
    refine List.forall_mem_cons.2 ⟨piece_ok k.val 3 hk (k0_off8 k) (k0_off4 k) _ _ (k0_off8_eq k) (k0_off4_eq k) g h r, ?_⟩
    refine List.forall_mem_cons.2 ⟨piece_ok k.val 2 hk (k0_off7 k) (k0_off4 k) _ _ (k0_off7_eq k) (k0_off4_eq k) g h r, ?_⟩
    refine List.forall_mem_cons.2 ⟨piece_ok k.val 1 hk (k0_off6 k) (k0_off4 k) _ _ (k0_off6_eq k) (k0_off4_eq k) g h r, ?_⟩
    refine List.forall_mem_cons.2 ⟨piece_ok k.val 0 hk (k0_off5 k) (k0_off4 k) _ _ (k0_off5_eq k) (k0_off4_eq k) g h r, ?_⟩
    exact fun _ hp => absurd hp List.not_mem_nil
  · intro y hy hn
    simp only [List.forall_mem_cons] at hn
    obtain ⟨h52, h51, h50, h49, h48, h47, h46, h45, h44, h43, h42, h41, h40, h39, h38, h37, h36, h35, h34, h33, h32, h31, h30, h29, h28, h27, h26, h25, h24, h23, h22, h21, h20, h19, h18, h17, h16, h15, h14, h13, h12, h11, h10, h9, h8, h7, h6, h5, -⟩ := hn
    have h1 : (y 1).val < 768 := (y 1).isLt
    obtain ⟨q, hq⟩ : ∃ q, q = (y 1).val / 16 := ⟨_, rfl⟩
    have hq' : q < 48 := by omega
    interval_cases q
    · exact h5 (mem_lanes_of y (k0_off5_eq k) hy (c := 0) hq.symm)
    · exact h6 (mem_lanes_of y (k0_off6_eq k) hy (c := 1) hq.symm)
    · exact h7 (mem_lanes_of y (k0_off7_eq k) hy (c := 2) hq.symm)
    · exact h8 (mem_lanes_of y (k0_off8_eq k) hy (c := 3) hq.symm)
    · exact h9 (mem_lanes_of y (k0_off9_eq k) hy (c := 4) hq.symm)
    · exact h10 (mem_lanes_of y (k0_off10_eq k) hy (c := 5) hq.symm)
    · exact h11 (mem_lanes_of y (k0_off11_eq k) hy (c := 6) hq.symm)
    · exact h12 (mem_lanes_of y (k0_off12_eq k) hy (c := 7) hq.symm)
    · exact h13 (mem_lanes_of y (k0_off13_eq k) hy (c := 8) hq.symm)
    · exact h14 (mem_lanes_of y (k0_off14_eq k) hy (c := 9) hq.symm)
    · exact h15 (mem_lanes_of y (k0_off15_eq k) hy (c := 10) hq.symm)
    · exact h16 (mem_lanes_of y (k0_off16_eq k) hy (c := 11) hq.symm)
    · exact h17 (mem_lanes_of y (k0_off17_eq k) hy (c := 12) hq.symm)
    · exact h18 (mem_lanes_of y (k0_off18_eq k) hy (c := 13) hq.symm)
    · exact h19 (mem_lanes_of y (k0_off19_eq k) hy (c := 14) hq.symm)
    · exact h20 (mem_lanes_of y (k0_off20_eq k) hy (c := 15) hq.symm)
    · exact h21 (mem_lanes_of y (k0_off21_eq k) hy (c := 16) hq.symm)
    · exact h22 (mem_lanes_of y (k0_off22_eq k) hy (c := 17) hq.symm)
    · exact h23 (mem_lanes_of y (k0_off23_eq k) hy (c := 18) hq.symm)
    · exact h24 (mem_lanes_of y (k0_off24_eq k) hy (c := 19) hq.symm)
    · exact h25 (mem_lanes_of y (k0_off25_eq k) hy (c := 20) hq.symm)
    · exact h26 (mem_lanes_of y (k0_off26_eq k) hy (c := 21) hq.symm)
    · exact h27 (mem_lanes_of y (k0_off27_eq k) hy (c := 22) hq.symm)
    · exact h28 (mem_lanes_of y (k0_off28_eq k) hy (c := 23) hq.symm)
    · exact h29 (mem_lanes_of y (k0_off29_eq k) hy (c := 24) hq.symm)
    · exact h30 (mem_lanes_of y (k0_off30_eq k) hy (c := 25) hq.symm)
    · exact h31 (mem_lanes_of y (k0_off31_eq k) hy (c := 26) hq.symm)
    · exact h32 (mem_lanes_of y (k0_off32_eq k) hy (c := 27) hq.symm)
    · exact h33 (mem_lanes_of y (k0_off33_eq k) hy (c := 28) hq.symm)
    · exact h34 (mem_lanes_of y (k0_off34_eq k) hy (c := 29) hq.symm)
    · exact h35 (mem_lanes_of y (k0_off35_eq k) hy (c := 30) hq.symm)
    · exact h36 (mem_lanes_of y (k0_off36_eq k) hy (c := 31) hq.symm)
    · exact h37 (mem_lanes_of y (k0_off37_eq k) hy (c := 32) hq.symm)
    · exact h38 (mem_lanes_of y (k0_off38_eq k) hy (c := 33) hq.symm)
    · exact h39 (mem_lanes_of y (k0_off39_eq k) hy (c := 34) hq.symm)
    · exact h40 (mem_lanes_of y (k0_off40_eq k) hy (c := 35) hq.symm)
    · exact h41 (mem_lanes_of y (k0_off41_eq k) hy (c := 36) hq.symm)
    · exact h42 (mem_lanes_of y (k0_off42_eq k) hy (c := 37) hq.symm)
    · exact h43 (mem_lanes_of y (k0_off43_eq k) hy (c := 38) hq.symm)
    · exact h44 (mem_lanes_of y (k0_off44_eq k) hy (c := 39) hq.symm)
    · exact h45 (mem_lanes_of y (k0_off45_eq k) hy (c := 40) hq.symm)
    · exact h46 (mem_lanes_of y (k0_off46_eq k) hy (c := 41) hq.symm)
    · exact h47 (mem_lanes_of y (k0_off47_eq k) hy (c := 42) hq.symm)
    · exact h48 (mem_lanes_of y (k0_off48_eq k) hy (c := 43) hq.symm)
    · exact h49 (mem_lanes_of y (k0_off49_eq k) hy (c := 44) hq.symm)
    · exact h50 (mem_lanes_of y (k0_off50_eq k) hy (c := 45) hq.symm)
    · exact h51 (mem_lanes_of y (k0_off51_eq k) hy (c := 46) hq.symm)
    · exact h52 (mem_lanes_of y (k0_off52_eq k) hy (c := 47) hq.symm)
  · intro y hy
    refine List.forall_mem_cons.2 ⟨not_mem_lanes (inb := k0_off52_inb k) y (k0_off52_eq k) hy, ?_⟩
    refine List.forall_mem_cons.2 ⟨not_mem_lanes (inb := k0_off51_inb k) y (k0_off51_eq k) hy, ?_⟩
    refine List.forall_mem_cons.2 ⟨not_mem_lanes (inb := k0_off50_inb k) y (k0_off50_eq k) hy, ?_⟩
    refine List.forall_mem_cons.2 ⟨not_mem_lanes (inb := k0_off49_inb k) y (k0_off49_eq k) hy, ?_⟩
    refine List.forall_mem_cons.2 ⟨not_mem_lanes (inb := k0_off48_inb k) y (k0_off48_eq k) hy, ?_⟩
    refine List.forall_mem_cons.2 ⟨not_mem_lanes (inb := k0_off47_inb k) y (k0_off47_eq k) hy, ?_⟩
    refine List.forall_mem_cons.2 ⟨not_mem_lanes (inb := k0_off46_inb k) y (k0_off46_eq k) hy, ?_⟩
    refine List.forall_mem_cons.2 ⟨not_mem_lanes (inb := k0_off45_inb k) y (k0_off45_eq k) hy, ?_⟩
    refine List.forall_mem_cons.2 ⟨not_mem_lanes (inb := k0_off44_inb k) y (k0_off44_eq k) hy, ?_⟩
    refine List.forall_mem_cons.2 ⟨not_mem_lanes (inb := k0_off43_inb k) y (k0_off43_eq k) hy, ?_⟩
    refine List.forall_mem_cons.2 ⟨not_mem_lanes (inb := k0_off42_inb k) y (k0_off42_eq k) hy, ?_⟩
    refine List.forall_mem_cons.2 ⟨not_mem_lanes (inb := k0_off41_inb k) y (k0_off41_eq k) hy, ?_⟩
    refine List.forall_mem_cons.2 ⟨not_mem_lanes (inb := k0_off40_inb k) y (k0_off40_eq k) hy, ?_⟩
    refine List.forall_mem_cons.2 ⟨not_mem_lanes (inb := k0_off39_inb k) y (k0_off39_eq k) hy, ?_⟩
    refine List.forall_mem_cons.2 ⟨not_mem_lanes (inb := k0_off38_inb k) y (k0_off38_eq k) hy, ?_⟩
    refine List.forall_mem_cons.2 ⟨not_mem_lanes (inb := k0_off37_inb k) y (k0_off37_eq k) hy, ?_⟩
    refine List.forall_mem_cons.2 ⟨not_mem_lanes (inb := k0_off36_inb k) y (k0_off36_eq k) hy, ?_⟩
    refine List.forall_mem_cons.2 ⟨not_mem_lanes (inb := k0_off35_inb k) y (k0_off35_eq k) hy, ?_⟩
    refine List.forall_mem_cons.2 ⟨not_mem_lanes (inb := k0_off34_inb k) y (k0_off34_eq k) hy, ?_⟩
    refine List.forall_mem_cons.2 ⟨not_mem_lanes (inb := k0_off33_inb k) y (k0_off33_eq k) hy, ?_⟩
    refine List.forall_mem_cons.2 ⟨not_mem_lanes (inb := k0_off32_inb k) y (k0_off32_eq k) hy, ?_⟩
    refine List.forall_mem_cons.2 ⟨not_mem_lanes (inb := k0_off31_inb k) y (k0_off31_eq k) hy, ?_⟩
    refine List.forall_mem_cons.2 ⟨not_mem_lanes (inb := k0_off30_inb k) y (k0_off30_eq k) hy, ?_⟩
    refine List.forall_mem_cons.2 ⟨not_mem_lanes (inb := k0_off29_inb k) y (k0_off29_eq k) hy, ?_⟩
    refine List.forall_mem_cons.2 ⟨not_mem_lanes (inb := k0_off28_inb k) y (k0_off28_eq k) hy, ?_⟩
    refine List.forall_mem_cons.2 ⟨not_mem_lanes (inb := k0_off27_inb k) y (k0_off27_eq k) hy, ?_⟩
    refine List.forall_mem_cons.2 ⟨not_mem_lanes (inb := k0_off26_inb k) y (k0_off26_eq k) hy, ?_⟩
    refine List.forall_mem_cons.2 ⟨not_mem_lanes (inb := k0_off25_inb k) y (k0_off25_eq k) hy, ?_⟩
    refine List.forall_mem_cons.2 ⟨not_mem_lanes (inb := k0_off24_inb k) y (k0_off24_eq k) hy, ?_⟩
    refine List.forall_mem_cons.2 ⟨not_mem_lanes (inb := k0_off23_inb k) y (k0_off23_eq k) hy, ?_⟩
    refine List.forall_mem_cons.2 ⟨not_mem_lanes (inb := k0_off22_inb k) y (k0_off22_eq k) hy, ?_⟩
    refine List.forall_mem_cons.2 ⟨not_mem_lanes (inb := k0_off21_inb k) y (k0_off21_eq k) hy, ?_⟩
    refine List.forall_mem_cons.2 ⟨not_mem_lanes (inb := k0_off20_inb k) y (k0_off20_eq k) hy, ?_⟩
    refine List.forall_mem_cons.2 ⟨not_mem_lanes (inb := k0_off19_inb k) y (k0_off19_eq k) hy, ?_⟩
    refine List.forall_mem_cons.2 ⟨not_mem_lanes (inb := k0_off18_inb k) y (k0_off18_eq k) hy, ?_⟩
    refine List.forall_mem_cons.2 ⟨not_mem_lanes (inb := k0_off17_inb k) y (k0_off17_eq k) hy, ?_⟩
    refine List.forall_mem_cons.2 ⟨not_mem_lanes (inb := k0_off16_inb k) y (k0_off16_eq k) hy, ?_⟩
    refine List.forall_mem_cons.2 ⟨not_mem_lanes (inb := k0_off15_inb k) y (k0_off15_eq k) hy, ?_⟩
    refine List.forall_mem_cons.2 ⟨not_mem_lanes (inb := k0_off14_inb k) y (k0_off14_eq k) hy, ?_⟩
    refine List.forall_mem_cons.2 ⟨not_mem_lanes (inb := k0_off13_inb k) y (k0_off13_eq k) hy, ?_⟩
    refine List.forall_mem_cons.2 ⟨not_mem_lanes (inb := k0_off12_inb k) y (k0_off12_eq k) hy, ?_⟩
    refine List.forall_mem_cons.2 ⟨not_mem_lanes (inb := k0_off11_inb k) y (k0_off11_eq k) hy, ?_⟩
    refine List.forall_mem_cons.2 ⟨not_mem_lanes (inb := k0_off10_inb k) y (k0_off10_eq k) hy, ?_⟩
    refine List.forall_mem_cons.2 ⟨not_mem_lanes (inb := k0_off9_inb k) y (k0_off9_eq k) hy, ?_⟩
    refine List.forall_mem_cons.2 ⟨not_mem_lanes (inb := k0_off8_inb k) y (k0_off8_eq k) hy, ?_⟩
    refine List.forall_mem_cons.2 ⟨not_mem_lanes (inb := k0_off7_inb k) y (k0_off7_eq k) hy, ?_⟩
    refine List.forall_mem_cons.2 ⟨not_mem_lanes (inb := k0_off6_inb k) y (k0_off6_eq k) hy, ?_⟩
    refine List.forall_mem_cons.2 ⟨not_mem_lanes (inb := k0_off5_inb k) y (k0_off5_eq k) hy, ?_⟩
    exact fun _ hp => absurd hp List.not_mem_nil

end Cert.Proof.Combine

end
-- ==== Proof.Tile.lean ====
/-
  The combine call's task on one vector subcore: it fetches its 32 slots, the shared expert's 32 rows and the 32 gating
  rows, gathers the 32 experts' rows the slots name (six column slabs), combines them in the loop, and copies its 32
  rows of the result out.
-/
module

public import proofs.«01_k».proof.Proof.Trip

@[expose] public section

set_option maxRecDepth 16384

noncomputable section

namespace Cert.Proof.Combine

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "aM" => (Memref.whole Cert.KernelIdeal.main_arg0_scv : Memref Cert.KernelIdeal.sig Kind.scVector Space.hbm Cert.KernelIdeal.S5120x768 EltTy.f32)
local notation "sM" => (Memref.whole Cert.KernelIdeal.main_arg1_scv : Memref Cert.KernelIdeal.sig Kind.scVector Space.hbm Cert.KernelIdeal.S1024 EltTy.i32)
local notation "hM" => (Memref.whole Cert.KernelIdeal.main_arg2_scv : Memref Cert.KernelIdeal.sig Kind.scVector Space.hbm Cert.KernelIdeal.S1024x768 EltTy.f32)
local notation "gM" => (Memref.whole Cert.KernelIdeal.main_v0_scv : Memref Cert.KernelIdeal.sig Kind.scVector Space.hbm Cert.KernelIdeal.S1024x128 EltTy.f32)
local notation "oM" => (Memref.whole Cert.KernelIdeal.main_v1_scv : Memref Cert.KernelIdeal.sig Kind.scVector Space.hbm Cert.KernelIdeal.S1024x768 EltTy.f32)
-- a subcore's scratch: its slots, its gathered rows, the shared expert's rows, the gating rows
local notation "svM" => (Memref.whole Cert.KernelIdeal.cc0_scratch0 : Memref Cert.KernelIdeal.sig Kind.scVector Space.vmem Cert.KernelIdeal.S32 EltTy.i32)
local notation "rvM" => (Memref.whole Cert.KernelIdeal.cc0_scratch1 : Memref Cert.KernelIdeal.sig Kind.scVector Space.vmem Cert.KernelIdeal.S32x768 EltTy.f32)
local notation "hvM" => (Memref.whole Cert.KernelIdeal.cc0_scratch2 : Memref Cert.KernelIdeal.sig Kind.scVector Space.vmem Cert.KernelIdeal.S32x768 EltTy.f32)
local notation "gvM" => (Memref.whole Cert.KernelIdeal.cc0_scratch3 : Memref Cert.KernelIdeal.sig Kind.scVector Space.vmem Cert.KernelIdeal.S32x128 EltTy.f32)

/-! ## The task -/

section Tile

variable (d : Dev nD) (L : grid0.Coords)

/-- The task's windows of the slots, of the shared expert's rows, of the gating rows and of the result. -/
abbrev sWin : Memref sig .scVector .hbm S32 .i32 := (sM).slice (Rect.unit (s := S1024) (k0_off1 L) S32.size (k0_off1_inb L)) (fun _ => rfl)
abbrev hWin : Memref sig .scVector .hbm S32x768 .f32 := (hM).slice (Rect.unit (s := S1024x768) (k0_off2 L) S32x768.size (k0_off2_inb L)) (fun _ => rfl)
abbrev gWin : Memref sig .scVector .hbm S32x128 .f32 := (gM).slice (Rect.unit (s := S1024x128) (k0_off3 L) S32x128.size (k0_off3_inb L)) (fun _ => rfl)
abbrev oWin : Memref sig .scVector .hbm S32x768 .f32 := (oM).slice (Rect.unit (s := S1024x768) (k0_off2 L) S32x768.size (k0_off2_inb L)) (fun _ => rfl)

/-- The slots fetched are words of the slot array: in range when all of those are. -/
theorem slots_lt (fs : Buf (Elt F) ((sM).view.loc (VT d L))) (hs : ∀ j : S1024.Idx, (fs j).toNat < 5120)
    (f0 : Buf (Elt F) ((svM).view.loc (VT d L))) (pay : S32.Idx → Elt F .i32) (hpay : pay = (sWin L).view.read (Elt F) fs) :
    ∀ x, ((svM).view.read (Elt F) (View.write (Elt F) (svM).view f0 pay Finset.univ) x).toNat < S5120x128.size gathers_S5120x128_S32x128.axis := by
  subst hpay; intro x
  rw [View.write_whole_univ]
  simp only [Memref.view_whole, View.read_whole]
  rw [show ∀ j, (sWin L).view.read (Elt F) fs j = fs ((sWin L).view.emb j) from fun j => (View.read_apply _ _).trans (cast_eq _ _)]
  exact hs _

/-- The token whose row is the task's row `j`. -/
def tok (L : grid0.Coords) (j : Fin 32) : Fin 1024 :=
  ⟨64 * (L 1).val + 32 * (L 0).val + j.val, by
    have h0 : (L 0).val < 2 := (L 0).isLt
    have h1 : (L 1).val < 16 := (L 1).isLt
    omega⟩

/-- The slot of a token, as a row of the experts' rows (a slot out of range wraps; none is). -/
def slotOf (fs : S1024.Idx → Elt F .i32) (t : Fin 1024) : Fin 5120 := ⟨(fs (ValueIdx.ix1 t)).toNat % 5120, Nat.mod_lt _ (by decide)⟩

theorem slotOf_val (fs : S1024.Idx → Elt F .i32) (hs : ∀ j : S1024.Idx, (fs j).toNat < 5120) (t : Fin 1024) :
    (slotOf fs t).val = (fs (ValueIdx.ix1 t)).toNat := Nat.mod_eq_of_lt (hs _)

/-- The task's gathered rows: row `j` is the experts' row at the slot of the task's token `j`. -/
def gathered (L : grid0.Coords) (fa : S5120x768.Idx → Elt F .f32) (fs : S1024.Idx → Elt F .i32) : S32x768.Idx → Elt F .f32 := fun y =>
  fa (ValueIdx.ix2 (slotOf fs (tok L (y 0))) (y 1))

theorem sWin_emb (j : S32.Idx) : (sWin L).view.emb j = ValueIdx.ix1 (tok L (j 0)) := by
  funext u
  match u with
  | 0 =>
    apply Fin.ext
    show ((Rect.unit (s := S1024) (k0_off1 L) S32.size (k0_off1_inb L)).emb j 0).val = _
    rw [Rect.emb_apply]
    show k0_off1 L 0 + 1 * (j 0).val = 64 * (L 1).val + 32 * (L 0).val + (j 0).val
    rw [k0_off1_eq]
    show 64 * (L 1).val + 32 * (L 0).val + 1 * (j 0).val = _
    omega

/-- One slab of the gather: columns `n` to `n + 127` of the gathered rows. -/
theorem gather_piece (fa : S5120x768.Idx → Elt F .f32) (fs : Buf (Elt F) ((sM).view.loc (VT d L))) (hs : ∀ j : S1024.Idx, (fs j).toNat < 5120)
    (f0 : Buf (Elt F) ((svM).view.loc (VT d L))) (pay : S32.Idx → Elt F .i32) (hpay : pay = (sWin L).view.read (Elt F) fs)
    (n : ℕ) (inb) (inb') (st) (hnum) (hin) (x : S32x128.Idx) :
    SparseCore.gatherPayload gathers_S5120x128_S32x128
        (View.read (Elt F) ((aM).slice (Rect.unit (s := S5120x768) ![0, n] S5120x128.size inb) st).view fa)
        (SparseCore.rows (z := S5120x128.size gathers_S5120x128_S32x128.axis)
          ((svM).view.read (Elt F) (View.write (Elt F) (svM).view f0 pay Finset.univ)) hnum hin) x
      = gathered L fa fs ((Rect.unit (s := S32x768) ![0, n] S32x128.size inb').emb x) := by
  subst hpay
  unfold SparseCore.gatherPayload
  refine ((View.read_apply _ _).trans (cast_eq _ _)).trans ?_
  unfold gathered
  congr 1
  funext u
  match u with
  | 0 =>
    apply Fin.ext
    show ((Rect.unit (s := S5120x768) ![0, n] S5120x128.size inb).emb (gathers_S5120x128_S32x128.idx _ x) 0).val = (slotOf fs _).val
    rw [Rect.emb_apply]
    show 0 + 1 * (gathers_S5120x128_S32x128.idx _ x gathers_S5120x128_S32x128.axis).val = _
    rw [Shape.Gathers.idx_axis]
    rw [Nat.zero_add, Nat.one_mul, slotOf_val fs hs]
    unfold SparseCore.rows
    show ((View.read (Elt F) (svM).view (View.write (Elt F) (svM).view f0 _ Finset.univ) _) : BitVec 32).toNat = _
    rw [View.write_whole_univ]
    simp only [Memref.view_whole, View.read_whole]
    rw [show ∀ j, (sWin L).view.read (Elt F) fs j = fs ((sWin L).view.emb j) from fun j => (View.read_apply _ _).trans (cast_eq _ _), sWin_emb]
    congr 4
    apply Fin.ext
    rw [← Shape.rowMajor_val_one (d := ![32])]
    show (S32.rowMajor (S32.rowMajor.symm _)).val = _
    rw [Equiv.apply_symm_apply]
    show (x 0).val = ((Rect.unit (s := S32x768) ![0, n] S32x128.size inb').emb x 0).val
    rw [Rect.emb_apply]
    show (x 0).val = 0 + 1 * (x 0).val
    omega
  | 1 => rfl

theorem mem_slab {n : ℕ} {inb} (y : S32x768.Idx) (h : (y 1).val / 128 * 128 = n) :
    y ∈ (Rect.unit (s := S32x768) ![0, n] S32x128.size inb).set := by
  rw [Rect.mem_set_unit]
  intro a
  match a with
  | 0 => exact ⟨Nat.zero_le _, by have := (y 0).isLt; show (y 0).val < 0 + 32; change (y 0).val < 32 at this; omega⟩
  | 1 => exact ⟨by show n ≤ (y 1).val; omega, by show (y 1).val < n + 128; omega⟩

/-- Stores of slabs that together cover the buffer leave the gathered rows. -/
theorem slabs_gathered (fa : S5120x768.Idx → Elt F .f32) (fs : S1024.Idx → Elt F .i32) (Ls : List (View.Piece (Elt F) S32x768 .f32))
    (hG : ∀ p ∈ Ls, ∀ x : p.1.shape.Idx, p.2 x = gathered L fa fs (p.1.emb x)) (hcov : ∀ y : S32x768.Idx, ¬ ∀ p ∈ Ls, y ∉ p.1.set) :
    (View.whole cc0_scratch1).writes (Elt F) (View.whole cc0_scratch1).junk Ls = gathered L fa fs := by
  rw [← View.read_whole cc0_scratch1 ((View.whole cc0_scratch1).writes (Elt F) _ Ls)]
  funext y
  refine View.read_writes_apply_of_pieces (View.whole cc0_scratch1) _ (gathered L fa fs) Ls hG y ?_
  by_contra hn
  push Not at hn
  exact hcov y hn

/-- The rows after the loop's first `k` trips. -/
def doneTo (k : ℕ) (g : S32x128.Idx → Elt F .f32) (h r : S32x768.Idx → Elt F .f32) : S32x768.Idx → Elt F .f32 := fun y =>
  if (y 0).val < k then FloatOps.addf (φ := .f32) (FloatOps.mulf (φ := .f32) (r y) (g (laneOf (y 0) (y 1).val))) (h y) else r y

theorem doneTo_zero (g : S32x128.Idx → Elt F .f32) (h r : S32x768.Idx → Elt F .f32) : doneTo 0 g h r = r := by
  funext y
  unfold doneTo
  rw [if_neg (Nat.not_lt_zero _)]

theorem doneTo_succ (k : ℕ) (g : S32x128.Idx → Elt F .f32) (h r : S32x768.Idx → Elt F .f32) :
    rowDone k g h (doneTo k g h r) = doneTo (k + 1) g h r := by
  funext y
  unfold rowDone doneTo
  by_cases h1 : (y 0).val = k
  · rw [if_pos h1, if_neg (by omega), if_pos (by omega)]
  · rw [if_neg h1]
    by_cases h2 : (y 0).val < k
    · rw [if_pos h2, if_pos (by omega)]
    · rw [if_neg h2, if_neg (by omega)]

/-- The loop's invariant: the rows after `k` trips, the shared rows and the gating rows. -/
def inv (g : S32x128.Idx → Elt F .f32) (h r : S32x768.Idx → Elt F .f32) (k : ℕ) (_ : PUnit) : sProp 𝕄 :=
  iprop(((rvM).view.loc (VT d L) ↦{fullShare} doneTo k g h r) ∗ ((hvM).view.loc (VT d L) ↦{fullShare} h) ∗ ((gvM).view.loc (VT d L) ↦{fullShare} g))

/-- The whole result: each token's experts' row, scaled by its gating lanes, added to the shared expert's row. -/
def combined (fa : S5120x768.Idx → Elt F .f32) (fs : S1024.Idx → Elt F .i32) (fh : S1024x768.Idx → Elt F .f32) (fg : S1024x128.Idx → Elt F .f32) :
    S1024x768.Idx → Elt F .f32 := fun y =>
  FloatOps.addf (φ := .f32) (FloatOps.mulf (φ := .f32) (fa (ValueIdx.ix2 (slotOf fs (y 0)) (y 1))) (fg (ValueIdx.ix2 (y 0) ⟨(y 1).val % 16, by omega⟩))) (fh y)

theorem oWin_emb (x : S32x768.Idx) : (oWin L).view.emb x = ValueIdx.ix2 (tok L (x 0)) (x 1) := by
  funext u
  match u with
  | 0 =>
    apply Fin.ext
    show ((Rect.unit (s := S1024x768) (k0_off2 L) S32x768.size (k0_off2_inb L)).emb x 0).val = 64 * (L 1).val + 32 * (L 0).val + (x 0).val
    rw [Rect.emb_apply]
    show k0_off2 L 0 + 1 * (x 0).val = _
    rw [k0_off2_eq]
    show 64 * (L 1).val + 32 * (L 0).val + 1 * (x 0).val = _
    omega
  | 1 =>
    apply Fin.ext
    show ((Rect.unit (s := S1024x768) (k0_off2 L) S32x768.size (k0_off2_inb L)).emb x 1).val = (x 1).val
    rw [Rect.emb_apply]
    show k0_off2 L 1 + 1 * (x 1).val = _
    rw [k0_off2_eq]
    show 0 + 1 * (x 1).val = _
    omega

theorem gWin_emb (x : S32x128.Idx) : (gWin L).view.emb x = ValueIdx.ix2 (tok L (x 0)) (x 1) := by
  funext u
  match u with
  | 0 =>
    apply Fin.ext
    show ((Rect.unit (s := S1024x128) (k0_off3 L) S32x128.size (k0_off3_inb L)).emb x 0).val = 64 * (L 1).val + 32 * (L 0).val + (x 0).val
    rw [Rect.emb_apply]
    show k0_off3 L 0 + 1 * (x 0).val = _
    rw [k0_off3_eq]
    show 64 * (L 1).val + 32 * (L 0).val + 1 * (x 0).val = _
    omega
  | 1 =>
    apply Fin.ext
    show ((Rect.unit (s := S1024x128) (k0_off3 L) S32x128.size (k0_off3_inb L)).emb x 1).val = (x 1).val
    rw [Rect.emb_apply]
    show k0_off3 L 1 + 1 * (x 1).val = _
    rw [k0_off3_eq]
    show 0 + 1 * (x 1).val = _
    omega

/-- The task's rows after the loop are its rows of the whole result. -/
theorem doneTo_combined (fa : S5120x768.Idx → Elt F .f32) (fs : S1024.Idx → Elt F .i32) (fh : S1024x768.Idx → Elt F .f32) (fg : S1024x128.Idx → Elt F .f32)
    (pg : S32x128.Idx → Elt F .f32) (hg : pg = (gWin L).view.read (Elt F) fg) (ph : S32x768.Idx → Elt F .f32) (hh : ph = (hWin L).view.read (Elt F) fh)
    (n : ℕ) (hn : n = 32) (x : S32x768.Idx) :
    doneTo n pg ph (gathered L fa fs) x = combined fa fs fh fg ((oWin L).view.emb x) := by
  subst hg; subst hh; subst hn
  have hx : (x 0).val < 32 := (x 0).isLt
  unfold doneTo gathered combined
  rw [if_pos hx, oWin_emb]
  congr 1
  · congr 1
    refine ((View.read_apply _ _).trans (cast_eq _ _)).trans ?_
    rw [gWin_emb]
    rfl
  · refine ((View.read_apply _ _).trans (cast_eq _ _)).trans ?_
    exact congrArg fh (oWin_emb L x)

/-- The result's window written whole with those rows holds the whole result's rows there. -/
theorem oWin_result (fo : Buf (Elt F) ((oM).view.loc (VT d L))) (G : S1024x768.Idx → Elt F .f32) (pay : S32x768.Idx → Elt F .f32)
    (hpay : ∀ x, pay x = G ((oWin L).view.emb x)) :
    ((oWin L).view.loc (VT d L) ↦[(oWin L).view.set]{fullShare} ((oWin L).view.writes (Elt F) fo [⟨Rect.whole S32x768, pay⟩]) : sProp 𝕄)
      = (oWin L).view.loc (VT d L) ↦[(oWin L).view.set]{fullShare} G := by
  refine pointsTo_congr fun i hi => ?_
  obtain ⟨x, -, rfl⟩ := Finset.mem_map.mp hi
  rw [← hpay x]
  refine Eq.trans ?_ (congrFun (View.read_writes_whole (oWin L).view fo pay) x)
  exact ((View.read_apply _ _).trans (cast_eq _ _)).symm

end Tile

end Cert.Proof.Combine

end
-- ==== Proof.TileRun.lean ====
/-
  The combine call's task on one vector subcore: it fetches its 32 slots, the shared expert's 32 rows and the 32 gating
  rows, gathers the 32 experts' rows the slots name (six column slabs), combines them in the loop, and copies its 32
  rows of the result out.
-/
module

public import proofs.«01_k».proof.Proof.Tile

@[expose] public section

set_option maxRecDepth 16384

noncomputable section

namespace Cert.Proof.Combine

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "aM" => (Memref.whole Cert.KernelIdeal.main_arg0_scv : Memref Cert.KernelIdeal.sig Kind.scVector Space.hbm Cert.KernelIdeal.S5120x768 EltTy.f32)
local notation "sM" => (Memref.whole Cert.KernelIdeal.main_arg1_scv : Memref Cert.KernelIdeal.sig Kind.scVector Space.hbm Cert.KernelIdeal.S1024 EltTy.i32)
local notation "hM" => (Memref.whole Cert.KernelIdeal.main_arg2_scv : Memref Cert.KernelIdeal.sig Kind.scVector Space.hbm Cert.KernelIdeal.S1024x768 EltTy.f32)
local notation "gM" => (Memref.whole Cert.KernelIdeal.main_v0_scv : Memref Cert.KernelIdeal.sig Kind.scVector Space.hbm Cert.KernelIdeal.S1024x128 EltTy.f32)
local notation "oM" => (Memref.whole Cert.KernelIdeal.main_v1_scv : Memref Cert.KernelIdeal.sig Kind.scVector Space.hbm Cert.KernelIdeal.S1024x768 EltTy.f32)
-- a subcore's scratch: its slots, its gathered rows, the shared expert's rows, the gating rows
local notation "svM" => (Memref.whole Cert.KernelIdeal.cc0_scratch0 : Memref Cert.KernelIdeal.sig Kind.scVector Space.vmem Cert.KernelIdeal.S32 EltTy.i32)
local notation "rvM" => (Memref.whole Cert.KernelIdeal.cc0_scratch1 : Memref Cert.KernelIdeal.sig Kind.scVector Space.vmem Cert.KernelIdeal.S32x768 EltTy.f32)
local notation "hvM" => (Memref.whole Cert.KernelIdeal.cc0_scratch2 : Memref Cert.KernelIdeal.sig Kind.scVector Space.vmem Cert.KernelIdeal.S32x768 EltTy.f32)
local notation "gvM" => (Memref.whole Cert.KernelIdeal.cc0_scratch3 : Memref Cert.KernelIdeal.sig Kind.scVector Space.vmem Cert.KernelIdeal.S32x128 EltTy.f32)

/-! ## The task -/

section Tile

variable (d : Dev nD) (L : grid0.Coords)

set_option maxHeartbeats 4000000 in
set_option pp.maxSteps 300 in
theorem tile_run (fa : Buf (Elt F) ((aM).view.loc (VT d L))) (fs : Buf (Elt F) ((sM).view.loc (VT d L)))
    (fh : Buf (Elt F) ((hM).view.loc (VT d L))) (fg : Buf (Elt F) ((gM).view.loc (VT d L))) (fo : Buf (Elt F) ((oM).view.loc (VT d L)))
    (q : PosShare TreeShare) (hs : ∀ j : S1024.Idx, (fs j).toNat < 5120)
    (s0 : Buf (Elt F) ((svM).view.loc (VT d L))) (r0 : Buf (Elt F) ((rvM).view.loc (VT d L)))
    (h0 : Buf (Elt F) ((hvM).view.loc (VT d L))) (g0 : Buf (Elt F) ((gvM).view.loc (VT d L)))
    (O : CellTallies nD τ sig (HIx 1)) (W : Waits sig (HIx 1)) :
    (iprop(Transfers.MayWaits (VT d L) (default : HIx 1) O
        ∗ ((aM).view.loc (VT d L) ↦{q} fa) ∗ ((sM).view.loc (VT d L) ↦{q} fs) ∗ ((hM).view.loc (VT d L) ↦{q} fh) ∗ ((gM).view.loc (VT d L) ↦{q} fg)
        ∗ ((oWin L).view.loc (VT d L) ↦[(oWin L).view.set]{fullShare} fo)
        ∗ ((svM).view.loc (VT d L) ↦{fullShare} s0) ∗ ((rvM).view.loc (VT d L) ↦{fullShare} r0)
        ∗ ((hvM).view.loc (VT d L) ↦{fullShare} h0) ∗ ((gvM).view.loc (VT d L) ↦{fullShare} g0)
        ∗ semVal (VT d L, SemLoc.dma cc0_scratch4.sem) 0 ∗ semVal (VT d L, SemLoc.dma cc0_scoped0.sem) 0 ∗ semVal (VT d L, SemLoc.dma cc0_scoped1.sem) 0
        ∗ semVal (VT d L, SemLoc.dma cc0_scoped2.sem) 0 ∗ semVal (VT d L, SemLoc.dma cc0_scoped3.sem) 0
        ∗ owes (VT d L) O W) : sProp 𝕄)
      ⊢ wp frame (wpE (defs₀ (F := F)) 𝒱₀ (VT d L) none) Set.univ
          (cc0__combine_call L aM (Memref.isWhole_whole _) sM (Memref.isWhole_whole _) hM (Memref.isWhole_whole _) gM (Memref.isWhole_whole _)
            oM (Memref.isWhole_whole _) svM (Memref.isWhole_whole _) rvM (Memref.isWhole_whole _) hvM (Memref.isWhole_whole _)
            gvM (Memref.isWhole_whole _) cc0_scratch4 cc0_scoped0 cc0_scoped1 cc0_scoped2 cc0_scoped3)
          fun _ => iprop(((aM).view.loc (VT d L) ↦{q} fa) ∗ ((sM).view.loc (VT d L) ↦{q} fs) ∗ ((hM).view.loc (VT d L) ↦{q} fh) ∗ ((gM).view.loc (VT d L) ↦{q} fg)
            ∗ ((oWin L).view.loc (VT d L) ↦[(oWin L).view.set]{fullShare} combined fa fs fh fg)
            ∗ (∃ f, (svM).view.loc (VT d L) ↦{fullShare} f) ∗ (∃ f, (rvM).view.loc (VT d L) ↦{fullShare} f)
            ∗ (∃ f, (hvM).view.loc (VT d L) ↦{fullShare} f) ∗ (∃ f, (gvM).view.loc (VT d L) ↦{fullShare} f)
            ∗ semVal (VT d L, SemLoc.dma cc0_scratch4.sem) 0 ∗ semVal (VT d L, SemLoc.dma cc0_scoped0.sem) 0 ∗ semVal (VT d L, SemLoc.dma cc0_scoped1.sem) 0
            ∗ semVal (VT d L, SemLoc.dma cc0_scoped2.sem) 0 ∗ semVal (VT d L, SemLoc.dma cc0_scoped3.sem) 0
            ∗ ∃ W', ⌜∀ p ∈ W', p ∈ W ∨ p.2 = none⌝ ∗ owes (VT d L) O W') := by
  rw [cc0__combine_call_eq_skeleton]; unfold cc0__combine_call_skel
  rw [k0_part14_eq_skeleton]; unfold k0_part14_skel
  rw [k0_part15_eq_skeleton]; unfold k0_part15_skel
  iintro ⟨#Hmw, Ha, Hs, Hh, Hg, Ho, Hsv, Hrv, Hhv, Hgv, HcG, Hc0, Hc1, Hc2, Hc3, HO⟩
  sl_exec
  have hin := fun f0 => slots_lt d L fs hs f0 (tile_run.sl.dma0 d L fs) rfl
  sl_exec
  have hp0 : ∀ x, tile_run.sl.gather0 d L fa fs s0 hin x = gathered L fa fs ((Rect.unit (s := S32x768) ![0, 0] S32x128.size inb_S32x768_S32x128_0_0).emb x) := by
    intro x
    have e := gather_piece d L fa fs hs s0 (tile_run.sl.dma0 d L fs) rfl 0 inb_S5120x768_S5120x128_0_0 inb_S32x768_S32x128_0_0 (fun _ => rfl) rfl (fun y => hin s0 y) x
    exact e
  have hp1 : ∀ x, tile_run.sl.gather1 d L fa fs s0 hin x = gathered L fa fs ((Rect.unit (s := S32x768) ![0, 128] S32x128.size inb_S32x768_S32x128_0_128).emb x) := by
    intro x
    have e := gather_piece d L fa fs hs s0 (tile_run.sl.dma0 d L fs) rfl 128 inb_S5120x768_S5120x128_0_128 inb_S32x768_S32x128_0_128 (fun _ => rfl) rfl (fun y => hin s0 y) x
    exact e
  have hp2 : ∀ x, tile_run.sl.gather2 d L fa fs s0 hin x = gathered L fa fs ((Rect.unit (s := S32x768) ![0, 256] S32x128.size inb_S32x768_S32x128_0_256).emb x) := by
    intro x
    have e := gather_piece d L fa fs hs s0 (tile_run.sl.dma0 d L fs) rfl 256 inb_S5120x768_S5120x128_0_256 inb_S32x768_S32x128_0_256 (fun _ => rfl) rfl (fun y => hin s0 y) x
    exact e
  have hp3 : ∀ x, tile_run.sl.gather3 d L fa fs s0 hin x = gathered L fa fs ((Rect.unit (s := S32x768) ![0, 384] S32x128.size inb_S32x768_S32x128_0_384).emb x) := by
    intro x
    have e := gather_piece d L fa fs hs s0 (tile_run.sl.dma0 d L fs) rfl 384 inb_S5120x768_S5120x128_0_384 inb_S32x768_S32x128_0_384 (fun _ => rfl) rfl (fun y => hin s0 y) x
    exact e
  have hp4 : ∀ x, tile_run.sl.gather4 d L fa fs s0 hin x = gathered L fa fs ((Rect.unit (s := S32x768) ![0, 512] S32x128.size inb_S32x768_S32x128_0_512).emb x) := by
    intro x
    have e := gather_piece d L fa fs hs s0 (tile_run.sl.dma0 d L fs) rfl 512 inb_S5120x768_S5120x128_0_512 inb_S32x768_S32x128_0_512 (fun _ => rfl) rfl (fun y => hin s0 y) x
    exact e
  have hp5 : ∀ x, tile_run.sl.gather5 d L fa fs s0 hin x = gathered L fa fs ((Rect.unit (s := S32x768) ![0, 640] S32x128.size inb_S32x768_S32x128_0_640).emb x) := by
    intro x
    have e := gather_piece d L fa fs hs s0 (tile_run.sl.dma0 d L fs) rfl 640 inb_S5120x768_S5120x128_0_640 inb_S32x768_S32x128_0_640 (fun _ => rfl) rfl (fun y => hin s0 y) x
    exact e
  have hrows : (Memref.whole cc0_scratch1).view.writes (Elt F) (Memref.whole cc0_scratch1).view.junk
      [⟨Rect.unit ![0, 640] S32x128.size inb_S32x768_S32x128_0_640, tile_run.sl.gather5 d L fa fs s0 hin⟩,
        ⟨Rect.unit ![0, 512] S32x128.size inb_S32x768_S32x128_0_512, tile_run.sl.gather4 d L fa fs s0 hin⟩,
        ⟨Rect.unit ![0, 384] S32x128.size inb_S32x768_S32x128_0_384, tile_run.sl.gather3 d L fa fs s0 hin⟩,
        ⟨Rect.unit ![0, 256] S32x128.size inb_S32x768_S32x128_0_256, tile_run.sl.gather2 d L fa fs s0 hin⟩,
        ⟨Rect.unit ![0, 128] S32x128.size inb_S32x768_S32x128_0_128, tile_run.sl.gather1 d L fa fs s0 hin⟩,
        ⟨Rect.unit ![0, 0] S32x128.size inb_S32x768_S32x128_0_0, tile_run.sl.gather0 d L fa fs s0 hin⟩] = gathered L fa fs := by
    refine slabs_gathered L fa fs _ ?_ ?_
    · refine List.forall_mem_cons.2 ⟨hp5, ?_⟩
      refine List.forall_mem_cons.2 ⟨hp4, ?_⟩
      refine List.forall_mem_cons.2 ⟨hp3, ?_⟩
      refine List.forall_mem_cons.2 ⟨hp2, ?_⟩
      refine List.forall_mem_cons.2 ⟨hp1, ?_⟩
      refine List.forall_mem_cons.2 ⟨hp0, ?_⟩
      exact fun _ hp => absurd hp List.not_mem_nil
    · intro y hn
      simp only [List.forall_mem_cons] at hn
      obtain ⟨h5, h4, h3, h2, h1, h0, -⟩ := hn
      have hy : (y 1).val < 768 := (y 1).isLt
      obtain ⟨q, hq⟩ : ∃ q, q = (y 1).val / 128 := ⟨_, rfl⟩
      have hq' : q < 6 := by omega
      interval_cases q
      · exact h0 (mem_slab y (by omega))
      · exact h1 (mem_slab y (by omega))
      · exact h2 (mem_slab y (by omega))
      · exact h3 (mem_slab y (by omega))
      · exact h4 (mem_slab y (by omega))
      · exact h5 (mem_slab y (by omega))
  rw [hrows, View.write_whole_univ, View.write_whole_univ]
  sl_for (inv d L (tile_run.sl.dma0_2 d L fg) (tile_run.sl.dma0_1 d L fh) (gathered L fa fs)) $$ [Hrv Hhv Hgv]
  case region =>
    intro k _
    unfold inv
    iintro ⟨Hr, Hh, Hg⟩
    iapply ((trip_run d L k (tile_run.sl.dma0_1 d L fh) (tile_run.sl.dma0_2 d L fg) (doneTo k.val (tile_run.sl.dma0_2 d L fg) (tile_run.sl.dma0_1 d L fh) (gathered L fa fs))).2 _) $$ [Hr Hh Hg]
    isplitl [Hr]; · iexact Hr
    isplitl [Hh]; · iexact Hh
    isplitl [Hg]; · iexact Hg
    rw [trip_val, doneTo_succ]
    iintro H
    iexact H
  · unfold inv
    rw [doneTo_zero]
    isplitl [Hrv]; · iexact Hrv
    isplitl [Hhv]; · iexact Hhv
    iexact Hgv
  iintro %_ HI
  unfold inv
  icases HI with ⟨Hrv, Hhv, Hgv⟩
  sl_exec
  sl_step
  ihave Ho' := (Entails.of_eq (oWin_result d L fo (combined fa fs fh fg) (tile_run.sl.dma0_3 d L fa fs fh fg)
    (doneTo_combined L fa fs fh fg (tile_run.sl.dma0_2 d L fg) rfl (tile_run.sl.dma0_1 d L fh) rfl _ trips_eq))) $$ Ho
  isplitl [Ha]; · iexact Ha
  isplitl [Hs]; · iexact Hs
  isplitl [Hh]; · iexact Hh
  isplitl [Hg]; · iexact Hg
  isplitl [Ho']; · iexact Ho'
  isplitl [Hsv]; · iexists _; iexact Hsv
  isplitl [Hrv]; · iexists _; iexact Hrv
  isplitl [Hhv]; · iexists _; iexact Hhv
  isplitl [Hgv]; · iexists _; iexact Hgv
  isplitl [HcG]; · iexact HcG
  isplitl [Hc0]; · iexact Hc0
  isplitl [Hc1]; · iexact Hc1
  isplitl [Hc2]; · iexact Hc2
  isplitl [Hc3]; · iexact Hc3
  iexists _; isplitr
  swap; · iexact HO
  ipureintro; intro p hp
  repeat' (rcases Finset.mem_insert.mp hp with hp | hp; · exact .inr (hp ▸ rfl))
  exact .inl hp

end Tile

end Cert.Proof.Combine

end
-- ==== Proof.Launch.lean ====
/-
  The combine call as the launch runs it: what each SparseCore and each subcore is handed and brings back, the task's
  theorem put in the launch theorem's form, `@main` around it, and the run of the whole program with its result.
-/
module

public import proofs.«01_k».proof.Proof.TileRun
public import Idealize.ShloMosaic.Lib.ShareLeaves

@[expose] public section

set_option maxRecDepth 16384

noncomputable section

namespace Cert.Proof.Combine

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "aM" => (Memref.whole Cert.KernelIdeal.main_arg0_scv : Memref Cert.KernelIdeal.sig Kind.scVector Space.hbm Cert.KernelIdeal.S5120x768 EltTy.f32)
local notation "sM" => (Memref.whole Cert.KernelIdeal.main_arg1_scv : Memref Cert.KernelIdeal.sig Kind.scVector Space.hbm Cert.KernelIdeal.S1024 EltTy.i32)
local notation "hM" => (Memref.whole Cert.KernelIdeal.main_arg2_scv : Memref Cert.KernelIdeal.sig Kind.scVector Space.hbm Cert.KernelIdeal.S1024x768 EltTy.f32)
local notation "gM" => (Memref.whole Cert.KernelIdeal.main_v0_scv : Memref Cert.KernelIdeal.sig Kind.scVector Space.hbm Cert.KernelIdeal.S1024x128 EltTy.f32)
local notation "oM" => (Memref.whole Cert.KernelIdeal.main_v1_scv : Memref Cert.KernelIdeal.sig Kind.scVector Space.hbm Cert.KernelIdeal.S1024x768 EltTy.f32)
-- a subcore's scratch: its slots, its gathered rows, the shared expert's rows, the gating rows
local notation "svM" => (Memref.whole Cert.KernelIdeal.cc0_scratch0 : Memref Cert.KernelIdeal.sig Kind.scVector Space.vmem Cert.KernelIdeal.S32 EltTy.i32)
local notation "rvM" => (Memref.whole Cert.KernelIdeal.cc0_scratch1 : Memref Cert.KernelIdeal.sig Kind.scVector Space.vmem Cert.KernelIdeal.S32x768 EltTy.f32)
local notation "hvM" => (Memref.whole Cert.KernelIdeal.cc0_scratch2 : Memref Cert.KernelIdeal.sig Kind.scVector Space.vmem Cert.KernelIdeal.S32x768 EltTy.f32)
local notation "gvM" => (Memref.whole Cert.KernelIdeal.cc0_scratch3 : Memref Cert.KernelIdeal.sig Kind.scVector Space.vmem Cert.KernelIdeal.S32x128 EltTy.f32)

open Idealize.ShloMosaic.ShareLeaves
open Idealize.ShloMosaic.StableHlo (held wp_hlo_within)

/-! ## What the call hands out -/

variable (m : (ℓ : Loc nD τ sig) → Buf (Elt F) ℓ) (ρ : Dev nD → PrngReg)

/-- The gating weights spread over 128 lanes: what `@main` computes before the call. -/
def spread (d : Dev nD) : S1024x128.Idx → Elt F .f32 :=
  broadcastInDim S1024x128 ![0, 1] bcast_S1024x1_S1024x128_0_1 (m (wLoc d) : S1024x1.Idx → Elt F .f32)

/-- The result the call computes. -/
def resultOf (d : Dev nD) : S1024x768.Idx → Elt F .f32 := combined (m (aLoc d)) (m (sLoc d)) (m (hLoc d)) (spread m d)

/-- A SparseCore's share of each operand, and a subcore's. -/
abbrev qc (c : Fin 2) : PosShare TreeShare := leaf 1 fullShare c
abbrev qt (c : Fin 2) (i : Fin 16) : PosShare TreeShare := leaf 4 (qc c) i

/-- The rows of the result a subcore writes, and a SparseCore's subcores together: blocks of 32 rows, alternating between the SparseCores. -/
def tileSet (c : Fin 2) (i : Fin 16) : Finset S1024x768.Idx := Finset.univ.filter fun y => (y 0).val / 32 = 2 * i.val + c.val
def coreSet (c : Fin 2) : Finset S1024x768.Idx := Finset.univ.filter fun y => (y 0).val / 32 % 2 = c.val

/-- The operands at a share. -/
abbrev inPts (d : Dev nD) (q : PosShare TreeShare) : sProp 𝕄 :=
  iprop((aLoc d ↦{q} m (aLoc d)) ∗ (sLoc d ↦{q} m (sLoc d)) ∗ (hLoc d ↦{q} m (hLoc d)) ∗ gLoc d ↦{q} (spread m d : Buf (Elt F) (gLoc d)))
abbrev oTile (d : Dev nD) (c : Fin 2) (i : Fin 16) (f : Buf (Elt F) (oLoc d)) : sProp 𝕄 := oLoc d ↦[tileSet c i]{fullShare} f
abbrev oCore (d : Dev nD) (c : Fin 2) (f : Buf (Elt F) (oLoc d)) : sProp 𝕄 := oLoc d ↦[coreSet c]{fullShare} f

abbrev cc (c : Fin ((K (F := F)).nCore 0)) : Fin 2 := Fin.cast nCore_zero c
abbrev ii (i : Fin ((K (F := F)).nSub 0)) : Fin 16 := Fin.cast nSub_zero i

/-- Each SparseCore is handed half of every operand and its rows of the result, each subcore its sixteenth and its rows;
    they bring them back, the rows holding the result. -/
def P : (K (F := F)).Pay (nD := nD) (Val := Elt F) (Name := ℕ) (U := UU) where
  st := fun q d c => match q with | 0 => iprop(inPts m d (qc (cc c)) ∗ oCore d (cc c) (m (oLoc d)))
  dn := fun q d c => match q with | 0 => iprop(inPts m d (qc (cc c)) ∗ oCore d (cc c) (resultOf m d))
  go := fun q d c i => match q with | 0 => iprop(inPts m d (qt (cc c) (ii i)) ∗ oTile d (cc c) (ii i) (m (oLoc d)))
  td := fun q d c i => match q with | 0 => iprop(inPts m d (qt (cc c) (ii i)) ∗ oTile d (cc c) (ii i) (resultOf m d))
  x := fun _ _ => iprop(emp)

instance P_storable : (P (F := F) m).IsStorable where
  st q d c := match q with
    | 0 => (inferInstance : BI.Storable (upEmb : UEmb _ 𝕄) iprop(inPts m d (qc (cc c)) ∗ oCore d (cc c) (m (oLoc d))))
  dn q d c := match q with
    | 0 => (inferInstance : BI.Storable (upEmb : UEmb _ 𝕄) iprop(inPts m d (qc (cc c)) ∗ oCore d (cc c) (resultOf m d)))
  go q d c i := match q with
    | 0 => (inferInstance : BI.Storable (upEmb : UEmb _ 𝕄) iprop(inPts m d (qt (cc c) (ii i)) ∗ oTile d (cc c) (ii i) (m (oLoc d))))
  td q d c i := match q with
    | 0 => (inferInstance : BI.Storable (upEmb : UEmb _ 𝕄) iprop(inPts m d (qt (cc c) (ii i)) ∗ oTile d (cc c) (ii i) (resultOf m d)))

/-- What the proof asks of the launch memory: every slot is a row of the experts' rows. -/
def PreOK : Prop := ∀ (d : Dev nD) (j : S1024.Idx), (m (sLoc d) j).toNat < 5120

/-! ## The rows split and join, and the operands' shares -/

theorem core_eq (c : Fin 2) : (Finset.univ : Finset (Fin 16)).biUnion (tileSet c) = coreSet c := by
  ext y
  simp only [Finset.mem_biUnion, Finset.mem_univ, true_and, tileSet, coreSet, Finset.mem_filter]
  have hy : (y 0).val < 1024 := (y 0).isLt
  have hc := c.isLt
  constructor
  · rintro ⟨i, hi⟩; omega
  · intro h
    exact ⟨⟨(y 0).val / 64, by omega⟩, by show (y 0).val / 32 = 2 * ((y 0).val / 64) + c.val; omega⟩

theorem tiles_disjoint (c : Fin 2) : ∀ i ∈ (Finset.univ : Finset (Fin 16)), ∀ j ∈ (Finset.univ : Finset (Fin 16)), i ≠ j → Disjoint (tileSet c i) (tileSet c j) := by
  intro i _ j _ h
  refine Finset.disjoint_left.mpr fun y hi hj => h (Fin.ext ?_)
  simp only [tileSet, Finset.mem_filter, Finset.mem_univ, true_and] at hi hj
  omega

theorem cores_eq : (Finset.univ : Finset (Fin 2)).biUnion coreSet = Finset.univ := by
  ext y
  simp only [Finset.mem_biUnion, Finset.mem_univ, true_and, coreSet, Finset.mem_filter, iff_true]
  exact ⟨⟨(y 0).val / 32 % 2, Nat.mod_lt _ (by decide)⟩, rfl⟩

theorem cores_disjoint : ∀ i ∈ (Finset.univ : Finset (Fin 2)), ∀ j ∈ (Finset.univ : Finset (Fin 2)), i ≠ j → Disjoint (coreSet i) (coreSet j) := by
  intro i _ j _ h
  refine Finset.disjoint_left.mpr fun y hi hj => h (Fin.ext ?_)
  simp only [coreSet, Finset.mem_filter, Finset.mem_univ, true_and] at hi hj
  omega

theorem oCore_tiles (d : Dev nD) (c : Fin 2) (f : Buf (Elt F) (oLoc d)) :
    (oCore d c f : sProp 𝕄) = bigSep Finset.univ fun i : Fin 16 => oTile d c i f := by
  unfold oCore
  rw [← core_eq]
  exact pointsTo_biUnion Finset.univ (ℓ := oLoc d) (tileSet c) (tiles_disjoint c)

theorem oAll_cores (d : Dev nD) (f : Buf (Elt F) (oLoc d)) :
    (oLoc d ↦{fullShare} f : sProp 𝕄) = bigSep Finset.univ fun c : Fin 2 => oCore d c f := by
  refine Eq.trans ?_ (pointsTo_biUnion Finset.univ (ℓ := oLoc d) coreSet cores_disjoint)
  rw [cores_eq]

theorem inPts_leaves (d : Dev nD) (n : ℕ) (q : PosShare TreeShare) :
    (inPts m d q : sProp 𝕄) = bigSep Finset.univ fun i : Fin (2 ^ n) => inPts m d (leaf n q i) := by
  unfold inPts
  rw [bigSep_sep', bigSep_sep', bigSep_sep', ← pointsTo_leaves, ← pointsTo_leaves, ← pointsTo_leaves, ← pointsTo_leaves]

theorem core_tasks (d : Dev nD) (c : Fin 2) (f : Buf (Elt F) (oLoc d)) :
    (iprop(inPts m d (qc c) ∗ oCore d c f) : sProp 𝕄) = bigSep Finset.univ fun i : Fin 16 => iprop(inPts m d (qt c i) ∗ oTile d c i f) := by
  rw [bigSep_sep', ← oCore_tiles]
  exact congrArg (fun X : sProp 𝕄 => iprop(X ∗ oCore d c f)) (inPts_leaves m d 4 (qc c))

theorem all_cores (d : Dev nD) (f : Buf (Elt F) (oLoc d)) :
    (iprop(inPts m d fullShare ∗ oLoc d ↦{fullShare} f) : sProp 𝕄) = bigSep Finset.univ fun c : Fin 2 => iprop(inPts m d (qc c) ∗ oCore d c f) := by
  rw [bigSep_sep', ← oAll_cores]
  exact congrArg (fun X : sProp 𝕄 => iprop(X ∗ oLoc d ↦{fullShare} f)) (inPts_leaves m d 1 fullShare)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show iprop(inPts m d (qc (cc c)) ∗ oCore d (cc c) (m (oLoc d))) ⊢ |={Set.univ}=> iprop(
      (bigSep Finset.univ fun i : Fin ((K (F := F)).nSub 0) => iprop(inPts m d (qt (cc c) (Fin.cast nSub_zero i)) ∗ oTile d (cc c) (Fin.cast nSub_zero i) (m (oLoc d))))
      ∗ ((bigSep Finset.univ fun i : Fin ((K (F := F)).nSub 0) => iprop(inPts m d (qt (cc c) (Fin.cast nSub_zero i)) ∗ oTile d (cc c) (Fin.cast nSub_zero i) (resultOf m d)))
          -∗ iprop(inPts m d (qc (cc c)) ∗ oCore d (cc c) (resultOf m d))))
  rw [bigSep_tasks (F := F) (fun i => iprop(inPts m d (qt (cc c) i) ∗ oTile d (cc c) i (m (oLoc d)))),
    bigSep_tasks (F := F) (fun i => iprop(inPts m d (qt (cc c) i) ∗ oTile d (cc c) i (resultOf m d))), ← core_tasks, ← core_tasks]
  iintro H; imodintro
  isplitl [H]; · iexact H
  iintro H; iexact H

/-! ## The task as the launch theorem asks for it -/

section Obl

variable (d : Dev nD) (L : grid0.Coords)

abbrev cell (s : DmaSem sig) : GSem nD τ sig := (VT d L, .dma s)

theorem ownSems0_V :
    (ownSems0 (VT d L) : sProp 𝕄)
      = iprop(semVal (cell d L cc0_scratch4.sem) 0 ∗ semVal (cell d L cc0_scoped0.sem) 0 ∗ semVal (cell d L cc0_scoped1.sem) 0
          ∗ semVal (cell d L cc0_scoped2.sem) 0 ∗ semVal (cell d L cc0_scoped3.sem) 0
          ∗ bigSep ((((((ownCells (VT d L)).erase (cell d L cc0_scratch4.sem)).erase (cell d L cc0_scoped0.sem)).erase (cell d L cc0_scoped1.sem)).erase
              (cell d L cc0_scoped2.sem)).erase (cell d L cc0_scoped3.sem)) fun g => semVal g 0) := by
  have hmem : ∀ s : DmaSem sig, (SemLoc.dma s : SemLoc sig).isScoped .scVector = true → cell d L s ∈ ownCells (VT d L) := fun s h => mem_ownCells.mpr ⟨rfl, h⟩
  have hne : ∀ s t : DmaSem sig, s ≠ t → cell d L s ≠ cell d L t := fun s t h e => h (by injection e with _ e; injection e)
  unfold SparseCore.Cfg.ownSems0
  rw [SparseCore.bigSep_erase' (hmem cc0_scratch4.sem (by decide)),
    SparseCore.bigSep_erase' (Finset.mem_erase.mpr ⟨hne _ _ (by decide), hmem cc0_scoped0.sem (by decide)⟩),
    SparseCore.bigSep_erase' (Finset.mem_erase.mpr ⟨hne _ _ (by decide), Finset.mem_erase.mpr ⟨hne _ _ (by decide), hmem cc0_scoped1.sem (by decide)⟩⟩),
    SparseCore.bigSep_erase' (Finset.mem_erase.mpr ⟨hne _ _ (by decide), Finset.mem_erase.mpr ⟨hne _ _ (by decide), Finset.mem_erase.mpr ⟨hne _ _ (by decide),
      hmem cc0_scoped2.sem (by decide)⟩⟩⟩),
    SparseCore.bigSep_erase' (Finset.mem_erase.mpr ⟨hne _ _ (by decide), Finset.mem_erase.mpr ⟨hne _ _ (by decide), Finset.mem_erase.mpr ⟨hne _ _ (by decide),
      Finset.mem_erase.mpr ⟨hne _ _ (by decide), hmem cc0_scoped3.sem (by decide)⟩⟩⟩⟩)]

abbrev bref (b : Ref sig .scVector) : DevRef τ sig := (Proc.scVector (cV L) (jV L)).devRef b

theorem ownBufs_V :
    (ownBufs (VT d L) : sProp 𝕄)
      = iprop((∃ f, (VT d L).loc cc0_scratch0 ↦{fullShare} f) ∗ (∃ f, (VT d L).loc cc0_scratch1 ↦{fullShare} f)
          ∗ (∃ f, (VT d L).loc cc0_scratch2 ↦{fullShare} f) ∗ (∃ f, (VT d L).loc cc0_scratch3 ↦{fullShare} f)
          ∗ bigSep (((((ownRefs (τ := τ) (.scVector (cV L) (jV L))).erase (bref L cc0_scratch0)).erase (bref L cc0_scratch1)).erase (bref L cc0_scratch2)).erase
              (bref L cc0_scratch3)) fun b => iprop(∃ f, ((d, b) : Loc nD τ sig) ↦{fullShare} f)) := by
  have hne : ∀ b c : Ref sig .scVector, b ≠ c → bref L b ≠ bref L c := fun b c h e => h (Proc.devRef_injective _ e)
  unfold SparseCore.Cfg.ownBufs
  refine (SparseCore.bigSep_erase' (SparseCore.Cfg.mem_ownRefs_of_owner (p := Proc.scVector (cV L) (jV L)) (b := bref L cc0_scratch0) rfl)).trans ?_
  rw [SparseCore.bigSep_erase' (Finset.mem_erase.mpr ⟨hne _ _ (by decide), SparseCore.Cfg.mem_ownRefs_of_owner (p := Proc.scVector (cV L) (jV L)) (b := bref L cc0_scratch1) rfl⟩),
    SparseCore.bigSep_erase' (Finset.mem_erase.mpr ⟨hne _ _ (by decide), Finset.mem_erase.mpr ⟨hne _ _ (by decide),
      SparseCore.Cfg.mem_ownRefs_of_owner (p := Proc.scVector (cV L) (jV L)) (b := bref L cc0_scratch2) rfl⟩⟩),
    SparseCore.bigSep_erase' (Finset.mem_erase.mpr ⟨hne _ _ (by decide), Finset.mem_erase.mpr ⟨hne _ _ (by decide), Finset.mem_erase.mpr ⟨hne _ _ (by decide),
      SparseCore.Cfg.mem_ownRefs_of_owner (p := Proc.scVector (cV L) (jV L)) (b := bref L cc0_scratch3) rfl⟩⟩⟩)]

theorem set_oWin : (oWin L).view.set = tileSet (L 0) (L 1) := by
  ext y
  show y ∈ ((View.whole (main_v1_scv : Ref sig .scVector)).slice (Rect.unit (s := S1024x768) (k0_off2 L) S32x768.size (k0_off2_inb L))).set ↔ _
  rw [View.set_slice]
  refine Iff.trans (Iff.of_eq (congrArg (y ∈ ·) Finset.map_refl)) ?_
  rw [Rect.mem_set_unit]
  refine Iff.trans ?_ (Finset.mem_filter (p := fun y : S1024x768.Idx => (y 0).val / 32 = 2 * (L 1).val + (L 0).val)).symm
  have h1 : (y 1).val < 768 := (y 1).isLt
  have e0 : k0_off2 L 0 = 64 * (L 1).val + 32 * (L 0).val := by rw [k0_off2_eq]; rfl
  have e1 : k0_off2 L 1 = 0 := by rw [k0_off2_eq]; rfl
  have hc : (L 0).val < 2 := (L 0).isLt
  constructor
  · intro h
    have h0 := h 0
    rw [e0] at h0
    have h01 : (y 0).val < 64 * (L 1).val + 32 * (L 0).val + 32 := h0.2
    refine ⟨Finset.mem_univ _, ?_⟩
    have := h0.1
    omega
  · rintro ⟨-, h⟩ a
    match a with
    | 0 =>
      show k0_off2 L 0 ≤ (y 0).val ∧ (y 0).val < k0_off2 L 0 + 32
      rw [e0]; omega
    | 1 =>
      show k0_off2 L 1 ≤ (y 1).val ∧ (y 1).val < k0_off2 L 1 + 768
      rw [e1]; omega

theorem pts_oWin (f : Buf (Elt F) (oLoc d)) :
    ((oWin L).view.loc (VT d L) ↦[(oWin L).view.set]{fullShare} f : sProp 𝕄) = oTile d (L 0) (L 1) f := by
  rw [set_oWin]

/-- The task from what the launch deals it to what it brings back. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ (inPts m d (qt (L 0) (L 1)) ∗ oTile d (L 0) (L 1) (m (oLoc d)))
        ∗ scopedBufs (VT d L) ∗ scopedSems0 (VT d L) ∗ owes (VT d L) O W)
      ⊢ wp frame (wpE (defs₀ (F := F)) 𝒱₀ (VT d L) none) Set.univ
          (cc0__combine_call L aM (Memref.isWhole_whole _) sM (Memref.isWhole_whole _) hM (Memref.isWhole_whole _) gM (Memref.isWhole_whole _)
            oM (Memref.isWhole_whole _) svM (Memref.isWhole_whole _) rvM (Memref.isWhole_whole _) hvM (Memref.isWhole_whole _)
            gvM (Memref.isWhole_whole _) cc0_scratch4 cc0_scoped0 cc0_scoped1 cc0_scoped2 cc0_scoped3)
          fun _ => iprop((inPts m d (qt (L 0) (L 1)) ∗ oTile d (L 0) (L 1) (resultOf m d))
            ∗ scopedBufs (VT d L) ∗ scopedSems0 (VT d L)
            ∗ ∃ W', ⌜∀ p ∈ W', p ∈ W ∨ p.2 = none⌝ ∗ owes (VT d L) O W') := by
  rw [(K (F := F)).scopedBufs_V hF d (cV L) (jV L), SparseCore.Cfg.scopedSems0_V (Val := Elt F) d (cV L) (jV L), ownSems0_V, ownBufs_V]
  iintro ⟨#Hlv, -, ⟨⟨Ha, Hs, Hh, Hg⟩, Ho⟩, ⟨⟨%s0, Hsv⟩, ⟨%r0, Hrv⟩, ⟨%h0, Hhv⟩, ⟨%g0, Hgv⟩, Hbufs⟩, ⟨HcG, Hc0, Hc1, Hc2, Hc3, Hsems⟩, HO⟩
  ihave Hmw := (show levAts (K (F := F)).L (K (F := F)).lev ⊢ Transfers.MayWaits (VT d L) (default : HIx 1) O from
    (K (F := F)).mayWaits_none (thr := VT d L) hO) $$ Hlv
  ihave Ho' := (Entails.of_eq (pts_oWin (F := F) d L _).symm) $$ Ho
  iapply (wp_wand_r Idealize.ShloMosaic.frame (wpE (defs₀ (F := F)) 𝒱₀ (VT d L) none) Set.univ)
  isplitl [Hmw Ha Hs Hh Hg Ho' Hsv Hrv Hhv Hgv HcG Hc0 Hc1 Hc2 Hc3 HO]
  · iapply (tile_run d L (m (aLoc d)) (m (sLoc d)) (m (hLoc d)) (spread m d) (m (oLoc d)) (qt (L 0) (L 1)) (hpre d) s0 r0 h0 g0 O W)
    isplitl [Hmw]; · iexact Hmw
    isplitl [Ha]; · iexact Ha
    isplitl [Hs]; · iexact Hs
    isplitl [Hh]; · iexact Hh
    isplitl [Hg]; · iexact Hg
    isplitl [Ho']; · iexact Ho'
    isplitl [Hsv]; · iexact Hsv
    isplitl [Hrv]; · iexact Hrv
    isplitl [Hhv]; · iexact Hhv
    isplitl [Hgv]; · iexact Hgv
    isplitl [HcG]; · iexact HcG
    isplitl [Hc0]; · iexact Hc0
    isplitl [Hc1]; · iexact Hc1
    isplitl [Hc2]; · iexact Hc2
    isplitl [Hc3]; · iexact Hc3
    iexact HO
  iintro %_ ⟨Ha, Hs, Hh, Hg, Ho, Hsv, Hrv, Hhv, Hgv, HcG, Hc0, Hc1, Hc2, Hc3, HW⟩
  isplitl [Ha Hs Hh Hg Ho]
  · isplitl [Ha Hs Hh Hg]
    · isplitl [Ha]; · iexact Ha
      isplitl [Hs]; · iexact Hs
      isplitl [Hh]; · iexact Hh
      iexact Hg
    iapply (Entails.of_eq (pts_oWin (F := F) d L _)); iexact Ho
  isplitl [Hsv Hrv Hhv Hgv Hbufs]
  · isplitl [Hsv]; · iexact Hsv
    isplitl [Hrv]; · iexact Hrv
    isplitl [Hhv]; · iexact Hhv
    isplitl [Hgv]; · iexact Hgv
    iexact Hbufs
  isplitl [HcG Hc0 Hc1 Hc2 Hc3 Hsems]
  · isplitl [HcG]; · iexact HcG
    isplitl [Hc0]; · iexact Hc0
    isplitl [Hc1]; · iexact Hc1
    isplitl [Hc2]; · iexact Hc2
    isplitl [Hc3]; · iexact Hc3
    iexact Hsems
  iexact HW

end Obl

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__combine_call (coordsV c s)
          aM (Memref.isWhole_whole _) sM (Memref.isWhole_whole _) hM (Memref.isWhole_whole _) gM (Memref.isWhole_whole _)
            oM (Memref.isWhole_whole _) svM (Memref.isWhole_whole _) rvM (Memref.isWhole_whole _) hvM (Memref.isWhole_whole _)
            gvM (Memref.isWhole_whole _) cc0_scratch4 cc0_scoped0 cc0_scoped1 cc0_scoped2 cc0_scoped3) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

/-! ## The launch's ghost state -/

theorem no_res {I : Type} (s : Finset I) : (bigSep s fun _ => iprop(emp)) = (iprop(emp) : sProp 𝕄) := bigSep_emp_const s

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [no_res]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), no_res]
  iempintro

/-! ## `@main` -/

theorem unscopedBufs_eq (d : Dev nD) (W : (b : Ref sig .tc) → Buf (Elt F) ((d.tc : Thread nD τ).loc b)) :
    (unscopedBufs d W : sProp 𝕄) = iprop((aLoc d ↦{fullShare} W main_arg0) ∗ (sLoc d ↦{fullShare} W main_arg1) ∗ (hLoc d ↦{fullShare} W main_arg2)
      ∗ (wLoc d ↦{fullShare} W main_arg3) ∗ (gLoc d ↦{fullShare} W main_v0) ∗ oLoc d ↦{fullShare} W main_v1) := by
  unfold unscopedBufs
  rw [show (Finset.univ.filter fun b : Ref sig .tc => ¬ b.isScoped) = {main_arg0, main_arg1, main_arg2, main_arg3, main_v0, main_v1} by decide,
    SparseCore.bigSep_insert' (by decide), SparseCore.bigSep_insert' (by decide), SparseCore.bigSep_insert' (by decide),
    SparseCore.bigSep_insert' (by decide), SparseCore.bigSep_insert' (by decide), bigSep_singleton]

abbrev w' : DevRef τ sig := Proc.devRef .tc (main_arg3 : Ref sig .tc)
abbrev g' : DevRef τ sig := Proc.devRef .tc (main_v0 : Ref sig .tc)
abbrev opSpread : HloOp τ sig (Elt F) :=
  StableHlo.unary main_arg3 main_v0 (broadcastInDim S1024x128 ![0, 1] bcast_S1024x1_S1024x128_0_1 : (⟨S1024x1, .f32⟩ : BufTy).Contents (Elt F) → (⟨S1024x128, .f32⟩ : BufTy).Contents (Elt F))
abbrev S2 : Finset (DevRef τ sig) := {w', g'}
def V0 (d : Dev nD) : Valuation τ sig (Elt F) := fun b => m (d, b)

theorem held_S2 (d : Dev nD) (W : Valuation τ sig (Elt F)) :
    (held (T d) S2 W : sProp 𝕄) = iprop((wLoc d ↦{fullShare} W w') ∗ gLoc d ↦{fullShare} W g') := by
  unfold held S2
  rw [SparseCore.bigSep_insert' (by decide), bigSep_singleton]

theorem held_after (d : Dev nD) :
    (held (T d) S2 ((opSpread (F := F)).result (V0 m d)) : sProp 𝕄) = iprop((wLoc d ↦{fullShare} m (wLoc d)) ∗ gLoc d ↦{fullShare} (spread m d : Buf (Elt F) (gLoc d))) := by
  rw [held_S2, (opSpread (F := F)).result_of_not_mem (V0 m d) (b := w') (show w' ∉ ({g'} : Finset (DevRef τ sig)) by decide)]
  rw [show (opSpread (F := F)).result (V0 m d) g' = (spread m d : Buf (Elt F) (gLoc d)) from StableHlo.unary_result main_arg3 main_v0 _ _ _ (V0 m d)]
  rfl

theorem st0_eq (d : Dev nD) : (bigSep Finset.univ fun c : Fin ((K (F := F)).nCore 0) => (P m).st 0 d c) = iprop(inPts m d fullShare ∗ oLoc d ↦{fullShare} m (oLoc d)) := by
  rw [all_cores]
  exact bigSep_cores (F := F) fun c => iprop(inPts m d (qc c) ∗ oCore d c (m (oLoc d)))
theorem dn0_eq (d : Dev nD) : (bigSep Finset.univ fun c : Fin ((K (F := F)).nCore 0) => (P m).dn 0 d c) = iprop(inPts m d fullShare ∗ oLoc d ↦{fullShare} (resultOf m d : Buf (Elt F) (oLoc d))) := by
  rw [all_cores]
  exact bigSep_cores (F := F) fun c => iprop(inPts m d (qc c) ∗ oCore d c (resultOf m d))

theorem hSpread : (opSpread (F := F)).bufs ⊆ S2 := show ({w', g'} : Finset (DevRef τ sig)) ⊆ S2 by decide

/-- What `@main` leaves: the arguments as they were and the result. -/
abbrev FIN (d : Dev nD) : sProp 𝕄 :=
  iprop((aLoc d ↦{fullShare} m (aLoc d)) ∗ (sLoc d ↦{fullShare} m (sLoc d)) ∗ (hLoc d ↦{fullShare} m (hLoc d)) ∗ (wLoc d ↦{fullShare} m (wLoc d))
    ∗ oLoc d ↦{fullShare} (resultOf m d : Buf (Elt F) (oLoc d)))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha, Hs, Hh, Hw, Hg, Ho⟩, Hts, -⟩, -⟩
  iapply (wp_hlo_within 𝒱 (SparseCore.T d) none Set.univ (op := opSpread) (S := S2) hSpread (V := V0 m d)) $$ [Hb Hw Hg]
  · isplitl [Hb]; · iexact Hb
    rw [held_S2]
    isplitl [Hw]; · iexact Hw
    iexact Hg
  iintro ⟨Hb, Hheld⟩
  ihave Hwg := (Entails.of_eq (held_after (F := F) m d)) $$ Hheld
  icases Hwg with ⟨Hw, Hg⟩
  rw [wp_ret]; imodintro
  iapply ((K (F := F)).wp_run (D (F := F)) 𝒱 (EH := EH) (P := P m) κ d 0) $$ [Hst Ha Hs Hh Hg Ho Hb Hts Hw]
  isplitr; · iexact Hctx
  isplitl [Hst]; · iexact Hst
  isplitl [Ha Hs Hh Hg Ho]
  · rw [st0_eq]
    isplitl [Ha Hs Hh Hg]
    · isplitl [Ha]; · iexact Ha
      isplitl [Hs]; · iexact Hs
      isplitl [Hh]; · iexact Hh
      iexact Hg
    iexact Ho
  iintro ⟨Hst, Hdn⟩
  ihave Hdn' := (Entails.of_eq (dn0_eq m d)) $$ Hdn
  icases Hdn' with ⟨⟨Ha, Hs, Hh, -⟩, Ho⟩
  imodintro
  isplitl [Hst]; · iexact Hst
  isplitr [Hb Hts]
  · isplitl [Ha]; · iexact Ha
    isplitl [Hs]; · iexact Hs
    isplitl [Hh]; · iexact Hh
    isplitl [Hw]; · iexact Hw
    iexact Ho
  isplitl [Hb] <;> iassumption

/-! ## The run -/

def fq (d : Dev nD) (s' : Phys nD τ sig (Elt F)) : Prop :=
  s'.mem.mem (aLoc d) = m (aLoc d) ∧ s'.mem.mem (sLoc d) = m (sLoc d) ∧ s'.mem.mem (hLoc d) = m (hLoc d) ∧ s'.mem.mem (wLoc d) = m (wLoc d)
    ∧ s'.mem.mem (oLoc d) = (resultOf m d : Buf (Elt F) (oLoc d))

theorem agree (s' : Phys nD τ sig (Elt F)) (ℓ : Loc nD τ sig) (f : Buf (Elt F) ℓ) :
    iprop(SI s' ∗ ℓ ↦{fullShare} f) ⊢ (iprop(⌜s'.mem.mem ℓ = f⌝ ∗ SI s') : sProp 𝕄) := by
  iintro ⟨HSI, H⟩
  ihave H := (persistent_entails_right (SI_pointsTo_agree (st := s') (ℓ := ℓ) (I := Finset.univ) (q := fullShare) (f := f))) $$ [HSI H]
  · isplitl [HSI] <;> iassumption
  icases H with ⟨%h1, HSI, -⟩
  isplitr [HSI]
  · ipureintro; exact funext fun i => h1 i (Finset.mem_univ i)
  iexact HSI

theorem hfin (d : Dev nD) (s' : Phys nD τ sig (Elt F)) : iprop(FIN m d ∗ SI s') ⊢ (⌜fq m d s'⌝ : sProp 𝕄) := by
  iintro ⟨⟨Ha, Hs, Hh, Hw, Ho⟩, HSI⟩
  ihave H := (agree s' _ _) $$ [HSI Ha]
  · isplitl [HSI]; · iexact HSI
    iexact Ha
  icases H with ⟨%h1, HSI⟩
  ihave H := (agree s' _ _) $$ [HSI Hs]
  · isplitl [HSI]; · iexact HSI
    iexact Hs
  icases H with ⟨%h2, HSI⟩
  ihave H := (agree s' _ _) $$ [HSI Hh]
  · isplitl [HSI]; · iexact HSI
    iexact Hh
  icases H with ⟨%h3, HSI⟩
  ihave H := (agree s' _ _) $$ [HSI Hw]
  · isplitl [HSI]; · iexact HSI
    iexact Hw
  icases H with ⟨%h4, HSI⟩
  ihave H := (agree s' _ _) $$ [HSI Ho]
  · isplitl [HSI]; · iexact HSI
    iexact Ho
  icases H with ⟨%h5, -⟩
  ipureintro
  exact ⟨h1, h2, h3, h4, h5⟩

def QC : PUnit × MemSt nD τ sig (Elt F) → Prop := fun r =>
  (∀ c : Dev nD, r.2.mem (aLoc c) = m (aLoc c) ∧ r.2.mem (sLoc c) = m (sLoc c) ∧ r.2.mem (hLoc c) = m (hLoc c) ∧ r.2.mem (wLoc c) = m (wLoc c)
    ∧ r.2.mem (oLoc c) = (resultOf m c : Buf (Elt F) (oLoc c))) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Combine

end
-- ==== Proof.Reference.lean ====
/-
  The reference's text at an index: under the range of the slots jnp's `take` reads the row the slot names, and the
  reference's result is the combined result of Tile.lean. With the launch's run and the reference's run, the claims.
-/
module

public import proofs.«01_k».proof.Proof.Launch
public import proofs.«01_k».proof.Defs
public import proofs.«01_k».proof.Proof.Gen.ReferenceIdeal
public import proofs.«01_k».proof.Proof.Gen.ReferenceIdeal.Run
public import proofs.«01_k».proof.Proof.Gen.Pre_slots_in_range
public import proofs.«01_k».proof.Proof.Gen.Kernel
public import Idealize.ShloMosaic.Lib.Routing.Ops
public import Idealize.ShloMosaic.Lib.ReduceAll
public import Idealize.ShloMosaic.Lib.WordCmp

@[expose] public section

noncomputable section

namespace Cert.Proof.Reference

open Cert.ReferenceIdeal Cert.ReferenceIdeal.Gen
open Idealize.ShloMosaic Idealize.ShloMosaic.ValueIdx

variable {F : FTy → Type} [FloatOps F]

/-- A word below 5120 read as a signed word is at least 0 and at most 5119. -/
theorem word_range (v : BitVec 32) (h : v.toNat < 5120) :
    IntOp.cmpi .slt v 0#32 = 0#1 ∧ IntOp.cmpi .sge v 0#32 = 1#1 ∧ IntOp.cmpi .sle v 5119#32 = 1#1 := by
  have hz : v.toInt = (v.toNat : Int) := by rw [BitVec.toInt_eq_toNat_cond, if_pos (by omega)]
  have e0 : (0#32).toInt = 0 := by decide
  have e1 : (5119#32).toInt = 5119 := by decide
  refine ⟨?_, ?_, ?_⟩ <;>
    simp only [IntOp.cmpi, BitVec.sle_eq_decide, BitVec.slt_eq_decide, hz, e0, e1] <;>
    (first
      | (rw [decide_eq_true (by omega)]; rfl)
      | (rw [decide_eq_false (by omega)]; rfl))

/-- The row numbers jnp's `take` reads at: the slots, those below zero counted from the end. -/
abbrev rowNos (s : S1024.Idx → Elt F .i32) : S1024.Idx → Elt F .i32 :=
  select (cmpi .slt s (broadcastInDim S1024 ![] bcast_S_S1024 (constantI S_ 32 0#32))) (addi s (broadcastInDim S1024 ![] bcast_S_S1024 (constantI S_ 32 5120#32))) s

theorem rowNos_eq (s : S1024.Idx → Elt F .i32) (hs : ∀ j, (s j : BitVec 32).toNat < 5120) : rowNos (F := F) s = s := by
  funext j
  show (if IntOp.cmpi .slt (s j : BitVec 32) 0#32 = 1#1 then _ else s j) = s j
  rw [(word_range _ (hs j)).1, if_neg (by decide)]

abbrev col (s : S1024.Idx → Elt F .i32) : S1024x1.Idx → Elt F .i32 := broadcastInDim S1024x1 ![0] bcast_S1024_S1024x1_0 s

theorem col_apply (s : S1024.Idx → Elt F .i32) (y : S1024x1.Idx) : col (F := F) s y = s (ix1 (y 0)) := by
  refine broadcastInDim_apply _ _ s y _ fun a => ?_
  match a with
  | ⟨0, _⟩ => exact (if_neg (show ¬ (1024 = 1) by decide)).symm

/-- The test that every row number is a row of the operand. -/
abbrev inRange (s : S1024.Idx → Elt F .i32) : S1024.Idx → BitVec 1 :=
  Host.reduce IntOp.andi (andi (cmpi .sge (col (F := F) s) (broadcastInDim S1024x1 ![] bcast_S_S1024x1 (constantI S_ 32 0#32)))
    (cmpi .sle (col (F := F) s) (broadcastInDim S1024x1 ![0, 1] bcast_S1x1_S1024x1_0_1 (broadcastInDim S1x1 ![1] bcast_S1_S1x1_1 (constantI S1 32 5119#32)))))
    (constantI S_ 1 1#1) reducesTo_S1024x1_S1024_d1 h_S_

theorem inRange_one (s : S1024.Idx → Elt F .i32) (hs : ∀ j, (s j : BitVec 32).toNat < 5120) (j : S1024.Idx) : inRange (F := F) s j = 1#1 := by
  refine Host.reduce_andi_one _ _ _ _ j rfl fun y => ?_
  have h := word_range _ (hs (ix1 (y 0)))
  show IntOp.andi (IntOp.cmpi .sge (col (F := F) s y) 0#32) (IntOp.cmpi .sle (col (F := F) s y) 5119#32) = 1#1
  rw [col_apply, h.2.1, h.2.2]
  decide

abbrev taken (a : S5120x768.Idx → Elt F .f32) (s : S1024.Idx → Elt F .i32) : S1024x768.Idx → Elt F .f32 :=
  select (broadcastInDim S1024x768 ![0] bcast_S1024_S1024x768_0 (inRange (F := F) (rowNos (F := F) s)))
    (Host.gather gather_S5120x768_S1024x1_S1024x768_1_0_n_n_0_1_1768 a (col (F := F) (rowNos (F := F) s)))
    (broadcastInDim S1024x768 ![] bcast_S_S1024x768 (constant S_ .f32 0x7FC00000#32))

/-- Under the range, `take` reads the row the slot names. -/
theorem taken_apply (a : S5120x768.Idx → Elt F .f32) (s : S1024.Idx → Elt F .i32) (hs : ∀ j, (s j : BitVec 32).toNat < 5120) (t : Fin 1024) (y : Fin 768) :
    taken a s (ix2 t y) = a (ix2 (⟨(s (ix1 t) : BitVec 32).toNat, hs _⟩ : Fin 5120) y) := by
  unfold taken
  rw [rowNos_eq s hs]
  show (if broadcastInDim S1024x768 ![0] bcast_S1024_S1024x768_0 (inRange (F := F) s) (ix2 t y) = 1#1 then
    Host.gather gather_S5120x768_S1024x1_S1024x768_1_0_n_n_0_1_1768 a (col (F := F) s) (ix2 t y) else _) = _
  rw [if_pos (show broadcastInDim S1024x768 ![0] bcast_S1024_S1024x768_0 (inRange (F := F) s) (ix2 t y) = 1#1 from inRange_one s hs _)]
  refine Routing.gather_row gather_S5120x768_S1024x1_S1024x768_1_0_n_n_0_1_1768 rfl rfl rfl rfl rfl a (col (F := F) s) t y
    ⟨(s (ix1 t) : BitVec 32).toNat, hs _⟩ ?_ (by decide)
  rw [col_apply]
  exact (BitVec.ofNat_toNat 32 (s (ix1 t))).symm.trans (by rfl)

/-- The reference's result is the combined result. -/
theorem value_eq (a : S5120x768.Idx → Elt F .f32) (s : S1024.Idx → Elt F .i32) (h : S1024x768.Idx → Elt F .f32) (w : S1024x1.Idx → Elt F .f32)
    (hs : ∀ j, (s j : BitVec 32).toNat < 5120) :
    addf (mulf (taken a s) (broadcastInDim S1024x768 ![0, 1] bcast_S1024x1_S1024x768_0_1 w)) h
      = Combine.combined a s h (broadcastInDim Cert.KernelIdeal.S1024x128 ![0, 1] Cert.KernelIdeal.Facts₀.bcast_S1024x1_S1024x128_0_1 w) := by
  funext y
  have e1 : taken a s y = a (ix2 (Combine.slotOf s (y 0)) (y 1)) := by
    refine Eq.trans (congrArg (taken a s) (eq_ix2 y)) ((taken_apply a s hs (y 0) (y 1)).trans ?_)
    refine congrArg (fun r => a (ix2 r (y 1))) (Fin.ext ?_)
    exact (Nat.mod_eq_of_lt (hs _)).symm
  have e2 : broadcastInDim S1024x768 ![0, 1] bcast_S1024x1_S1024x768_0_1 w y
      = broadcastInDim Cert.KernelIdeal.S1024x128 ![0, 1] Cert.KernelIdeal.Facts₀.bcast_S1024x1_S1024x128_0_1 w
          (ix2 (y 0) ⟨(y 1).val % 16, by omega⟩) := by
    rw [broadcastInDim_apply _ bcast_S1024x1_S1024x768_0_1 w y (ix2 (y 0) (0 : Fin 1)) (by
        intro q; match q with
        | ⟨0, _⟩ => exact (if_neg (show ¬ (1024 = 1) by decide)).symm
        | ⟨1, _⟩ => exact (if_pos rfl).symm),
      broadcastInDim_apply _ Cert.KernelIdeal.Facts₀.bcast_S1024x1_S1024x128_0_1 w _ (ix2 (y 0) (0 : Fin 1)) (by
        intro q; match q with
        | ⟨0, _⟩ => exact (if_neg (show ¬ (1024 = 1) by decide)).symm
        | ⟨1, _⟩ => exact (if_pos rfl).symm)]
  show FloatOps.addf (φ := .f32) (FloatOps.mulf (φ := .f32) (taken a s y) (broadcastInDim S1024x768 ![0, 1] bcast_S1024x1_S1024x768_0_1 w y)) (h y) = _
  rw [e1, e2]
  rfl

/-! ## The range, read from the printed predicate -/

theorem range_of_pre (a : FVec F Cert.Pre_slots_in_range.S5120x768 .f32) (s : IVec Cert.Pre_slots_in_range.S1024 32) (h : FVec F Cert.Pre_slots_in_range.S1024x768 .f32)
    (w : FVec F Cert.Pre_slots_in_range.S1024x1 .f32) (e : Cert.Pre_slots_in_range.fn (F := F) a s h w = fun _ => 1#1) (j : Cert.Pre_slots_in_range.S1024.Idx) :
    (s j).toNat < 5120 := by
  have both (p q : Bool) : IntOp.andi (BitVec.ofBool p) (BitVec.ofBool q) = BitVec.ofBool (p && q) := by cases p <;> cases q <;> rfl
  have isOne (p : Bool) : (BitVec.ofBool p = 1#1) ↔ p = true := by cases p <;> decide
  have e := congrFun e j
  simp only [Cert.Pre_slots_in_range.fn, andi, cmpi, broadcastInDim, constantI, IntOp.cmpi, both, isOne, Bool.and_eq_true, BitVec.sle_eq_decide,
    BitVec.slt_eq_decide, decide_eq_true_eq, BitVec.toInt_eq_toNat_cond, BitVec.toNat_ofNat, Nat.reducePow, Nat.reduceMod] at e
  omega

end Cert.Proof.Reference

end
-- ==== Proof.W.Base.lean ====
/- The whole kernel: its launch data, its arrays and its ghost state. -/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Pipeline.RegionsLoop
public import Idealize.ShloMosaic.Lib.Pipeline.RegionArraysT
public import Idealize.ShloMosaic.Lib.Tactic
public import proofs.«01_k».proof.Proof.Gen.WholeIdeal
public import proofs.«01_k».proof.Proof.Gen.WholeIdeal.Skeleton
public import proofs.«01_k».proof.Proof.Gen.WholeIdeal.Launch
public import proofs.«01_k».proof.Proof.Gen.WholeIdeal.Points

@[expose] public section

noncomputable section

namespace Cert.Proof.Whole

open Cert.WholeIdeal Cert.WholeIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat PLaunchFacts₀ BodyObligationLoose pin arrRef scopedRest unscopedRest prefHeld RegionSeg)

variable {F : FTy → Type} [FloatOps F]

/-! ## The program -/

abbrev ΛP : Labels := Pipeline.Sig Λ₀ (Fin 2) fun p => (pcfgs (F := F) p).Adm
abbrev K : SparseCore.Cfg τ sig (ΛP (F := F)) 2 := sc (F := F)
theorem nSub_0 : (K (F := F)).nSub 0 = 16 := rfl
theorem nCore_0 : (K (F := F)).nCore 0 = 2 := rfl
theorem nSub_1 : (K (F := F)).nSub 1 = 16 := rfl
theorem nCore_1 : (K (F := F)).nCore 1 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the launch handshakes' rounds, the staging cells' rounds, the transfers' counters -/

abbrev UH : Type := URounds (GSem nD τ sig) ℕ
abbrev UP : Type := URounds (GSem nD τ sig) Unit
abbrev UU : Type := (UH × UP) × Counters

abbrev MM (F : FTy → Type) : Type := MT nD τ sig (HIx 2) (Elt F) ℕ UU ℕ

abbrev EHP : Emb (UH × UP) (MT nD τ sig (HIx 2) (Elt F) ℕ UU ℕ) := embL
abbrev EH : Emb UH (MT nD τ sig (HIx 2) (Elt F) ℕ UU ℕ) := (Emb.inl : Emb UH (UH × UP)).trans embL
abbrev EP : Emb UP (MT nD τ sig (HIx 2) (Elt F) ℕ UU ℕ) := (Emb.inr : Emb UP (UH × UP)).trans embL

theorem ownHP_split (a : UH) (b : UP) : (BI.own ((EHP (F := F)) (a, b)) : sProp (MM F)) ⊢ iprop(BI.own (EH (F := F) a) ∗ BI.own (EP (F := F) b)) :=
  BI.own_op_elim ((EHP (F := F)).op_of_mem (Prod.mk_mem_op (URA.mem_op_one a) (URA.mem_one_op b)))

/-! ## The arrays -/

abbrev loc (d : Dev nD) (b : Ref sig .tc) : Loc nD τ sig := (SparseCore.T d).loc b
/-- The contents of the TensorCore's arrays, array by array. -/
abbrev Arrs (F : FTy → Type) (c : Dev nD) : Type := (b : Ref sig .tc) → Buf (Elt F) ((c.tc : Thread nD τ).loc b)

/-! ## A TensorCore call between the SparseCore calls -/

local notation "𝕄" => MT nD τ sig (HIx 2) (Elt F) ℕ UU ℕ

/-- What the core may have waited on so far, by level. -/
def recB (b : ℕ) (c : Dev nD) : Set (SemLoc sig × HIx 2) := {q | (K (F := F)).lev (T c, q.1) q.2 ≤ b}

/-- What the core owes while the calls from `n` on are still to come, its waits so far below level `b`. -/
def owesB (n b : ℕ) (c : Dev nD) : sProp 𝕄 := iprop(∃ W, ⌜(K (F := F)).WBelow (T c) W b⌝ ∗ owes (T c) ((K (F := F)).Otc c n) W)

section Seg

variable (a : (p : Fin 2) → (pcfgs (F := F) p).Adm)
variable (dats : (p : Fin 2) → (c : Dev nD) → Dat τ (Elt F) (HIx 2) ℕ UU ℕ (pin (pcfgs (F := F)) a p) c)
variable {p : Fin 2} (n b : ℕ) (Vi Vo : (c : Dev nD) → Arrs F c) (R : Dev nD → sProp (MM F))

/-- A TensorCore call as a region between two states of the arrays: `Vi` before it, `Vo` after it. -/
def segB (kit : PLaunchFacts₀ (nD := nD) (τ := τ) (pcfgs (F := F)) p)
    (hbody : ∀ c, BodyObligationLoose (dats p c) (defs₀ (F := F)) 𝒱₀ (none : HIx 2) Set.univ)
    (howed : ∀ c t, (dats p c).owed t = (K (F := F)).Otc c n) (hrec : ∀ c t, (dats p c).recorded t = recB (F := F) b c)
    (hO : ∀ (c : Dev nD) (g : GSem nD τ sig), (K (F := F)).Otc (N := 2) c n g none = 0)
    (hpre : ∀ c, (unscopedBufs c (Vi c) : sProp 𝕄) ⊢ iprop((dats p c).arrays ((dats p c).arrAt · 0) ∗ prefHeld (pcfgs (F := F) p).pre c (fun _ => fullShare) (a p).1 ∗ R c))
    (hpost : ∀ c, iprop((dats p c).arrays ((dats p c).arrAt · (pin (pcfgs (F := F)) a p).N) ∗ prefHeld (pcfgs (F := F) p).pre c (fun _ => fullShare) (a p).1 ∗ R c) ⊢ (unscopedBufs c (Vo c) : sProp 𝕄))
    (hin : ∀ c, iprop(prefHeld (pcfgs (F := F) p).pre c (fun _ => fullShare) (a p).1 ∗ scopedRest (pin (pcfgs (F := F)) a p).spec c) ⊢ (dats p c).Φ 0)
    (hout : ∀ c, (dats p c).Φ (Fin.last (pin (pcfgs (F := F)) a p).N) ⊢ iprop(prefHeld (pcfgs (F := F) p).pre c (fun _ => fullShare) (a p).1 ∗ scopedRest (pin (pcfgs (F := F)) a p).spec c)) :
    RegionSeg (pcfgs (F := F)) a dats (none : HIx 2) (defs₀ (F := F)) 𝒱₀ (K (F := F)).L (K (F := F)).lev p where
  win := kit.win
  block_pos := kit.block_pos
  stage_whole := kit.stage_whole
  K := PEmpty
  osem k := k.elim
  ho := Pipeline.OwnSemFacts.none _
  hbody := hbody
  hwaits c := Pipeline.cellsWaits_intro (pin (pcfgs (F := F)) a) dats (none : HIx 2) p c fun w s t => by
    rw [howed c t]; exact (K (F := F)).mayWait_none (thr := T c) _ (hO c)
  pre c := iprop(unscopedBufs c (Vi c) ∗ owesB n b c)
  post c := iprop(unscopedBufs c (Vo c) ∗ owesB n b c)
  X _ := iprop(emp)
  Y c := prefHeld (pcfgs (F := F) p).pre c (fun _ => fullShare) (a p).1
  Z := R
  hentry c := by
    rw [Pipeline.ownSems0_none]
    iintro ⟨⟨Hu, HO⟩, -, -⟩
    ihave H := (hpre c) $$ Hu
    icases H with ⟨Ha, Hpf, HR⟩
    imodintro
    isplitl [Ha]; · iexact Ha
    isplitl [Hpf]; · iexact Hpf
    isplitl [HO]
    · unfold Dat.owesAt Pipeline.owesWithin Dat.bound owesB
      rw [howed c 0, hrec c]
      icases HO with ⟨%W, %hW, HO⟩; iexists W; isplitr; · ipureintro; exact fun q hq => Or.inl (hW q hq)
      iexact HO
    isplitr; · iempintro
    iexact HR
  hin c := (show _ ⊢ iprop(prefHeld (pcfgs (F := F) p).pre c (fun _ => fullShare) (a p).1 ∗ scopedRest (pin (pcfgs (F := F)) a p).spec c) from by
    iintro ⟨-, Hpf, Hr⟩
    isplitl [Hpf]; · iexact Hpf
    iexact Hr).trans (hin c)
  hout c := (hout c).trans (by
    rw [Pipeline.ownSems0_none]
    iintro ⟨Hpf, Hr⟩
    isplitl [Hpf]; · iexact Hpf
    isplitr; · iempintro
    iexact Hr)
  hexit c := by
    iintro ⟨Ha, HO, Hpf, HR⟩
    imodintro
    isplitl [Ha Hpf HR]
    · iapply (hpost c)
      isplitl [Ha]; · iexact Ha
      isplitl [Hpf]; · iexact Hpf
      iexact HR
    unfold Dat.owesAt Pipeline.owesWithin Dat.bound owesB
    rw [howed c (Fin.last _), hrec c]
    icases HO with ⟨%W, %hW, HO⟩; iexists W
    isplitr
    · ipureintro
      intro q hq
      rcases hW hq with h | ⟨w, s, h⟩
      · exact h
      · rw [h]; exact Nat.zero_le _
    iexact HO

end Seg

end Cert.Proof.Whole

end
-- ==== Proof.W.PlanRegion.lean ====
/-
  The planning call as a region of the whole kernel: what its body writes, block by block, at any contents of the
  arrays when the call starts.
-/
module

public import proofs.«01_k».proof.Proof.W.Base
public import Idealize.ShloMosaic.Lib.Pipeline.FrameBody

@[expose] public section

set_option maxRecDepth 16384

noncomputable section

namespace Cert.Proof.Whole.Plan

open Cert.WholeIdeal Cert.WholeIdeal.Gen Cert.Proof.Whole
open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf scopedRest)

variable {F : FTy → Type} [FloatOps F]

local notation "𝕄" => MT nD τ sig (HIx 2) (Elt F) ℕ UU ℕ

variable (V : (c : Dev nD) → Arrs F c) (n b : ℕ)

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) (HIx 2) ℕ UU ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) (HIx 2) ℕ UU ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) (HIx 2) ℕ UU ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) (HIx 2) ℕ UU ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) (HIx 2) ℕ UU ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

abbrev r0_0 : Rect S1024x768 := Rect.unit (s := S1024x768) ![0, 0] S1024x768.size inb_S1024x768_S1024x768_0_0
abbrev r0_1 : Rect S64x768 := Rect.unit (s := S64x768) ![0, 0] S64x768.size inb_S64x768_S64x768_0_0
abbrev r0_2 : Rect S1x1 := Rect.unit (s := S1x1) ![0, 0] S1x1.size inb_S1x1_S1x1_0_0
abbrev r0_3 : Rect S1x64 := Rect.unit (s := S1x64) ![0, 0] S1x64.size inb_S1x64_S1x64_0_0
abbrev r0_4 : Rect S1024x128 := Rect.unit (s := S1024x128) ![0, 0] S1024x128.size inb_S1024x128_S1024x128_0_0
abbrev r0_5 : Rect S1024x1 := Rect.unit (s := S1024x1) ![0, 0] S1024x1.size inb_S1024x1_S1024x1_0_0
abbrev r0_6 : Rect S80x1 := Rect.unit (s := S80x1) ![0, 0] S80x1.size inb_S80x1_S80x1_0_0
abbrev r0_7 : Rect S256x768 := Rect.unit (s := S256x768) ![0, 0] S256x768.size inb_S256x768_S256x768_0_0
abbrev r0_8 : Rect S768x128 := Rect.unit (s := S768x128) ![0, 0] S768x128.size inb_S768x128_S768x128_0_0

def k0_pay13 (x0 : Vec F S1024x768 .f32) (x1 : Vec F S64x768 .f32) (x2 : Vec F S1x64 .f32) (x3 : Vec F S256x768 .f32) (x4 : Vec F S768x128 .f32) : FVec F S1024x64 .f32 :=
  k0_pay5 (View.ld x0 r0_0) (View.ld x1 r0_1) (View.ld x2 r0_3)

def out0_5 (x0 : Vec F S1024x768 .f32) (x1 : Vec F S64x768 .f32) (x2 : Vec F S1x64 .f32) (x3 : Vec F S256x768 .f32) (x4 : Vec F S768x128 .f32) : Vec F S1x1 .f32 :=
  View.canon [⟨r0_2, k0_pay2 (View.ld x0 r0_0) (View.ld x1 r0_1)⟩]

theorem cover0_5 (p0 : Vec F S1x1 .f32) (y : S1x1.Idx) :
    ∃ pc ∈ ([⟨r0_2, p0⟩] : List (View.Piece (Elt F) S1x1 .f32)), y ∈ pc.1.set :=
  View.cover_of_tiled [⟨r0_2, p0⟩] S1x1.size (by rfl) y

def out0_6 (x0 : Vec F S1024x768 .f32) (x1 : Vec F S64x768 .f32) (x2 : Vec F S1x64 .f32) (x3 : Vec F S256x768 .f32) (x4 : Vec F S768x128 .f32) : Vec F S1024x128 .f32 :=
  View.canon [⟨r0_4, k0_pay7 (k0_pay6 (View.ld x0 r0_0) (View.ld x1 r0_1) (View.ld x2 r0_3))⟩]

theorem cover0_6 (p0 : Vec F S1024x128 .f32) (y : S1024x128.Idx) :
    ∃ pc ∈ ([⟨r0_4, p0⟩] : List (View.Piece (Elt F) S1024x128 .f32)), y ∈ pc.1.set :=
  View.cover_of_tiled [⟨r0_4, p0⟩] S1024x128.size (by rfl) y

def out0_7 (x0 : Vec F S1024x768 .f32) (x1 : Vec F S64x768 .f32) (x2 : Vec F S1x64 .f32) (x3 : Vec F S256x768 .f32) (x4 : Vec F S768x128 .f32) : Vec F S1024x1 .i32 :=
  View.canon [⟨r0_5, k0_pay10 (k0_pay4 (View.ld x0 r0_0) (View.ld x1 r0_1) (View.ld x2 r0_3)) (k0_pay13 x0 x1 x2 x3 x4)⟩]

theorem cover0_7 (p0 : Vec F S1024x1 .i32) (y : S1024x1.Idx) :
    ∃ pc ∈ ([⟨r0_5, p0⟩] : List (View.Piece (Elt F) S1024x1 .i32)), y ∈ pc.1.set :=
  View.cover_of_tiled [⟨r0_5, p0⟩] S1024x1.size (by rfl) y

def out0_8 (x0 : Vec F S1024x768 .f32) (x1 : Vec F S64x768 .f32) (x2 : Vec F S1x64 .f32) (x3 : Vec F S256x768 .f32) (x4 : Vec F S768x128 .f32) : Vec F S80x1 .i32 :=
  View.canon [⟨r0_6, k0_pay11 (k0_pay8 (k0_pay13 x0 x1 x2 x3 x4)) (k0_pay9 (k0_pay13 x0 x1 x2 x3 x4))⟩]

theorem cover0_8 (p0 : Vec F S80x1 .i32) (y : S80x1.Idx) :
    ∃ pc ∈ ([⟨r0_6, p0⟩] : List (View.Piece (Elt F) S80x1 .i32)), y ∈ pc.1.set :=
  View.cover_of_tiled [⟨r0_6, p0⟩] S80x1.size (by rfl) y

def out0_9 (x0 : Vec F S1024x768 .f32) (x1 : Vec F S64x768 .f32) (x2 : Vec F S1x64 .f32) (x3 : Vec F S256x768 .f32) (x4 : Vec F S768x128 .f32) : Vec F S1024x768 .f32 :=
  View.canon [⟨r0_0, k0_pay12 (View.ld x0 r0_0) (View.ld x3 r0_7) (View.ld x4 r0_8)⟩]

theorem cover0_9 (p0 : Vec F S1024x768 .f32) (y : S1024x768.Idx) :
    ∃ pc ∈ ([⟨r0_0, p0⟩] : List (View.Piece (Elt F) S1024x768 .f32)), y ∈ pc.1.set :=
  View.cover_of_tiled [⟨r0_0, p0⟩] S1024x768.size (by rfl) y

set_option maxHeartbeats 1000000 in
theorem sound_kernel (c : Dev nD) (E : Set ℕ) (arg0 : Memref sig .tc .vmem S1024x768 .f32) (harg0 : arg0.IsWhole) (arg1 : Memref sig .tc .vmem S64x768 .f32) (harg1 : arg1.IsWhole) (arg2 : Memref sig .tc .vmem S1x64 .f32) (harg2 : arg2.IsWhole) (arg3 : Memref sig .tc .vmem S256x768 .f32) (harg3 : arg3.IsWhole) (arg4 : Memref sig .tc .vmem S768x128 .f32) (harg4 : arg4.IsWhole) (arg5 : Memref sig .tc .vmem S1x1 .f32) (harg5 : arg5.IsWhole) (arg6 : Memref sig .tc .vmem S1024x128 .f32) (harg6 : arg6.IsWhole) (arg7 : Memref sig .tc .vmem S1024x1 .i32) (harg7 : arg7.IsWhole) (arg8 : Memref sig .tc .vmem S80x1 .i32) (harg8 : arg8.IsWhole) (arg9 : Memref sig .tc .vmem S1024x768 .f32) (harg9 : arg9.IsWhole)
    (x0 : Vec F S1024x768 .f32) (x1 : Vec F S64x768 .f32) (x2 : Vec F S1x64 .f32) (x3 : Vec F S256x768 .f32) (x4 : Vec F S768x128 .f32) (Q : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out0_5 x0 x1 x2 x3 x4) ∗ owns (c : Thread nD τ) arg6 fullShare (out0_6 x0 x1 x2 x3 x4) ∗ owns (c : Thread nD τ) arg7 fullShare (out0_7 x0 x1 x2 x3 x4) ∗ owns (c : Thread nD τ) arg8 fullShare (out0_8 x0 x1 x2 x3 x4) ∗ owns (c : Thread nD τ) arg9 fullShare (out0_9 x0 x1 x2 x3 x4)) -∗ Q ⟨⟩))
      ⊢ wp frame (wpE (defs₀ (F := F)) Variants.none c none) E (cc0__plan_body arg0 harg0 arg1 harg1 arg2 harg2 arg3 harg3 arg4 harg4 arg5 harg5 arg6 harg6 arg7 harg7 arg8 harg8 arg9 harg9) Q := by
  simp only [cc0__plan_body_eq_skeleton]; unfold cc0__plan_body_skel
  simp only [k0_part3_eq_skeleton, k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover0_5 _)).trans ?_
    rfl
  isplitl [H6]
  · iexists _; isplitr
    swap; · iexact H6
    ipureintro
    refine (View.read_writes_eq_canon _ _ _ (cover0_6 _)).trans ?_
    rfl
  isplitl [H7]
  · iexists _; isplitr
    swap; · iexact H7
    ipureintro
    refine (View.read_writes_eq_canon _ _ _ (cover0_7 _)).trans ?_
    rfl
  isplitl [H8]
  · iexists _; isplitr
    swap; · iexact H8
    ipureintro
    refine (View.read_writes_eq_canon _ _ _ (cover0_8 _)).trans ?_
    rfl
  iexists _; isplitr
  swap; · iexact H9
  ipureintro
  refine (View.read_writes_eq_canon _ _ _ (cover0_9 _)).trans ?_
  rfl

def planDat (c : Dev nD) : Dat τ (Elt F) (HIx 2) ℕ UU ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out0_5 (iblk V c 0 t) (iblk V c 1 t) (iblk V c 2 t) (iblk V c 3 t) (iblk V c 4 t)
    | ⟨6, _⟩ => out0_6 (iblk V c 0 t) (iblk V c 1 t) (iblk V c 2 t) (iblk V c 3 t) (iblk V c 4 t)
    | ⟨7, _⟩ => out0_7 (iblk V c 0 t) (iblk V c 1 t) (iblk V c 2 t) (iblk V c 3 t) (iblk V c 4 t)
    | ⟨8, _⟩ => out0_8 (iblk V c 0 t) (iblk V c 1 t) (iblk V c 2 t) (iblk V c 3 t) (iblk V c 4 t)
    | ⟨9, _⟩ => out0_9 (iblk V c 0 t) (iblk V c 1 t) (iblk V c 2 t) (iblk V c 3 t) (iblk V c 4 t)
  Φ _ := scopedRest spec0 c
  q _ := fullShare
  owed _ := (K (F := F)).Otc c n
  recorded _ := recB (F := F) b c

theorem A_eq (c : Dev nD) (w : Fin cfg0.W) : (planDat V n b c).A w = V c (Pipeline.arrRef spec0 w) := by
  dsimp only [planDat]

theorem after0_0 (c : Dev nD) (t : Fin cfg0.N) : (planDat V n b c).after 0 t = iblk V c 0 t := by dsimp only [planDat]
theorem after0_1 (c : Dev nD) (t : Fin cfg0.N) : (planDat V n b c).after 1 t = iblk V c 1 t := by dsimp only [planDat]
theorem after0_2 (c : Dev nD) (t : Fin cfg0.N) : (planDat V n b c).after 2 t = iblk V c 2 t := by dsimp only [planDat]
theorem after0_3 (c : Dev nD) (t : Fin cfg0.N) : (planDat V n b c).after 3 t = iblk V c 3 t := by dsimp only [planDat]
theorem after0_4 (c : Dev nD) (t : Fin cfg0.N) : (planDat V n b c).after 4 t = iblk V c 4 t := by dsimp only [planDat]
theorem after0_5 (c : Dev nD) (t : Fin cfg0.N) : (planDat V n b c).after 5 t = out0_5 (iblk V c 0 t) (iblk V c 1 t) (iblk V c 2 t) (iblk V c 3 t) (iblk V c 4 t) := by dsimp only [planDat]
theorem after0_6 (c : Dev nD) (t : Fin cfg0.N) : (planDat V n b c).after 6 t = out0_6 (iblk V c 0 t) (iblk V c 1 t) (iblk V c 2 t) (iblk V c 3 t) (iblk V c 4 t) := by dsimp only [planDat]
theorem after0_7 (c : Dev nD) (t : Fin cfg0.N) : (planDat V n b c).after 7 t = out0_7 (iblk V c 0 t) (iblk V c 1 t) (iblk V c 2 t) (iblk V c 3 t) (iblk V c 4 t) := by dsimp only [planDat]
theorem after0_8 (c : Dev nD) (t : Fin cfg0.N) : (planDat V n b c).after 8 t = out0_8 (iblk V c 0 t) (iblk V c 1 t) (iblk V c 2 t) (iblk V c 3 t) (iblk V c 4 t) := by dsimp only [planDat]
theorem after0_9 (c : Dev nD) (t : Fin cfg0.N) : (planDat V n b c).after 9 t = out0_9 (iblk V c 0 t) (iblk V c 1 t) (iblk V c 2 t) (iblk V c 3 t) (iblk V c 4 t) := by dsimp only [planDat]

theorem before0_0 (c : Dev nD) (t : Fin cfg0.N) (d) : (planDat V n b c).before 0 t d = iblk V c 0 t :=
  before0_0_of V (planDat V n b c) (A_eq V n b c 0) (after0_0 V n b c) t d
theorem before0_1 (c : Dev nD) (t : Fin cfg0.N) (d) : (planDat V n b c).before 1 t d = iblk V c 1 t :=
  before0_1_of V (planDat V n b c) (A_eq V n b c 1) (after0_1 V n b c) t d
theorem before0_2 (c : Dev nD) (t : Fin cfg0.N) (d) : (planDat V n b c).before 2 t d = iblk V c 2 t :=
  before0_2_of V (planDat V n b c) (A_eq V n b c 2) (after0_2 V n b c) t d
theorem before0_3 (c : Dev nD) (t : Fin cfg0.N) (d) : (planDat V n b c).before 3 t d = iblk V c 3 t :=
  before0_3_of V (planDat V n b c) (A_eq V n b c 3) (after0_3 V n b c) t d
theorem before0_4 (c : Dev nD) (t : Fin cfg0.N) (d) : (planDat V n b c).before 4 t d = iblk V c 4 t :=
  before0_4_of V (planDat V n b c) (A_eq V n b c 4) (after0_4 V n b c) t d

def bodyPre (c : Dev nD) (t : Fin cfg0.N) : sProp 𝕄 :=
  iprop((planDat V n b c).Φ t.castSucc ∗ (planDat V n b c).owesAt (none : HIx 2) t.castSucc
    ∗ (∃ d, owns (c : Thread nD τ) (st0_0 t) fullShare ((planDat V n b c).before 0 t d))
    ∗ (∃ d, owns (c : Thread nD τ) (st0_1 t) fullShare ((planDat V n b c).before 1 t d))
    ∗ (∃ d, owns (c : Thread nD τ) (st0_2 t) fullShare ((planDat V n b c).before 2 t d))
    ∗ (∃ d, owns (c : Thread nD τ) (st0_3 t) fullShare ((planDat V n b c).before 3 t d))
    ∗ (∃ d, owns (c : Thread nD τ) (st0_4 t) fullShare ((planDat V n b c).before 4 t d))
    ∗ (∃ d, owns (c : Thread nD τ) (st0_5 t) fullShare ((planDat V n b c).before 5 t d))
    ∗ (∃ d, owns (c : Thread nD τ) (st0_6 t) fullShare ((planDat V n b c).before 6 t d))
    ∗ (∃ d, owns (c : Thread nD τ) (st0_7 t) fullShare ((planDat V n b c).before 7 t d))
    ∗ (∃ d, owns (c : Thread nD τ) (st0_8 t) fullShare ((planDat V n b c).before 8 t d))
    ∗ (∃ d, owns (c : Thread nD τ) (st0_9 t) fullShare ((planDat V n b c).before 9 t d)))

def bodyPost (c : Dev nD) (t : Fin cfg0.N) : sProp 𝕄 :=
  iprop((planDat V n b c).Φ t.succ ∗ (planDat V n b c).owesAt (none : HIx 2) t.succ
    ∗ owns (c : Thread nD τ) (st0_0 t) fullShare ((planDat V n b c).after 0 t)
    ∗ owns (c : Thread nD τ) (st0_1 t) fullShare ((planDat V n b c).after 1 t)
    ∗ owns (c : Thread nD τ) (st0_2 t) fullShare ((planDat V n b c).after 2 t)
    ∗ owns (c : Thread nD τ) (st0_3 t) fullShare ((planDat V n b c).after 3 t)
    ∗ owns (c : Thread nD τ) (st0_4 t) fullShare ((planDat V n b c).after 4 t)
    ∗ owns (c : Thread nD τ) (st0_5 t) fullShare ((planDat V n b c).after 5 t)
    ∗ owns (c : Thread nD τ) (st0_6 t) fullShare ((planDat V n b c).after 6 t)
    ∗ owns (c : Thread nD τ) (st0_7 t) fullShare ((planDat V n b c).after 7 t)
    ∗ owns (c : Thread nD τ) (st0_8 t) fullShare ((planDat V n b c).after 8 t)
    ∗ owns (c : Thread nD τ) (st0_9 t) fullShare ((planDat V n b c).after 9 t))

theorem sound_body (c : Dev nD) (t : Fin cfg0.N) :
    bodyPre V n b c t ⊢ wp frame (wpE (defs₀ (F := F)) Variants.none c none) Set.univ (bodyAt0 t) (fun _ => bodyPost V n b c t) := by
  unfold bodyPre bodyPost bodyAt0
  simp only [before0_0, before0_1, before0_2, before0_3, before0_4]
  rw [show (planDat V n b c).Φ t.succ = (planDat V n b c).Φ t.castSucc from rfl,
    show (planDat V n b c).owesAt (none : HIx 2) t.succ = (planDat V n b c).owesAt (none : HIx 2) t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) :
    defs₀ (F := F) .tc cfg0.body (cfg0.bodyArgs t (cfg0.slots t)) = bodyAt0 t := by
  rfl

theorem body_obligation (c : Dev nD) : BodyObligation (planDat V n b c) (defs₀ (F := F)) Variants.none (none : HIx 2) Set.univ := fun t => by
  rw [bigSep_W0, bigSep_W0, defs₀_row]
  exact triple_restated (sound_body V n b c t) rfl .rfl fun _ => .rfl

end Cert.Proof.Whole.Plan

end
-- ==== Proof.W.FfnBlocks.lean ====
/-
  The experts' call as a region of the whole kernel: its table, its windows' blocks and its staging buffers.
-/
module

public import proofs.«01_k».proof.Proof.W.Base
public import Idealize.ShloMosaic.Lib.Pipeline.FrameBody
public import Idealize.ShloMosaic.Lib.Ring

@[expose] public section

set_option maxRecDepth 16384

noncomputable section

namespace Cert.Proof.Whole.Ffn

open Cert.WholeIdeal Cert.WholeIdeal.Gen Cert.Proof.Whole
open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf scopedRest)

variable {F : FTy → Type} [FloatOps F]

local notation "𝕄" => MT nD τ sig (HIx 2) (Elt F) ℕ UU ℕ

variable (V : (c : Dev nD) → Arrs F c) (n b : ℕ) (tb : pre2.Contents (Elt F))

abbrev Ok : Prop := ok2 (F := F) (tb)
abbrev adm (hO : Ok tb) : (pcfg2 (F := F)).Adm := ⟨tb, hO⟩
abbrev cfgM (hO : Ok tb) : Pipeline.Cfg sig Λ₀ := cfg2 (adm tb hO)

abbrev tbM2_0 : Memref sig .tc .smem S80 .i32 := Memref.whole main_v3
abbrev htbM2_0 : tbM2_0.IsWhole := Memref.isWhole_whole _

abbrev TbBuf2 (c : Dev nD) {S : Shape} {e : EltTy} (M : Memref sig .tc .smem S e) : Type := Buf (Elt F) (M.view.loc (c : Thread nD τ))
abbrev tbPt2 (c : Dev nD) {S : Shape} {e : EltTy} (M : Memref sig .tc .smem S e) (f : TbBuf2 (F := F) c M) : sProp 𝕄 :=
  M.view.loc (c : Thread nD τ) ↦{fullShare} f

/-- The experts' table as the region hands it to the body. -/
abbrev PhiT (c : Dev nD) : sProp 𝕄 := Pipeline.prefHeld pre2 c (fun _ => fullShare) tb

theorem PhiT2_eq (c : Dev nD) : (PhiT tb c : sProp 𝕄) = iprop(tbPt2 c tbM2_0 (tb 0)) := by
  unfold PhiT Pipeline.prefHeld
  rw [show (Finset.univ : Finset (Fin 1)) = {(0 : Fin 1)} from by decide, bigSep_singleton]
  rfl

def iblk (hO : Ok tb) (c : Dev nD) (w : Fin (cfgM tb hO).W) (t : Fin (cfgM tb hO).N) : (((cfgM tb hO).win w).xblock ((cfgM tb hO).grid.coords t)).Idx → Elt F ((cfgM tb hO).win w).elt :=
  (((cfgM tb hO).win w).blk t).view.read (Elt F) (V c (Pipeline.arrRef spec2 w))

theorem before0_0_of (hO : Ok tb) {c : Dev nD} (dat : Dat τ (Elt F) (HIx 2) ℕ UU ℕ (cfgM tb hO) c) (hA : dat.A 0 = V c (Pipeline.arrRef spec2 0))
    (hafter : ∀ t, dat.after 0 t = iblk V tb hO c 0 t) (t : Fin (cfgM tb hO).N) (d) : dat.before 0 t d = iblk V tb hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok tb) {c : Dev nD} (dat : Dat τ (Elt F) (HIx 2) ℕ UU ℕ (cfgM tb hO) c) (hA : dat.A 1 = V c (Pipeline.arrRef spec2 1))
    (hafter : ∀ t, dat.after 1 t = iblk V tb hO c 1 t) (t : Fin (cfgM tb hO).N) (d) : dat.before 1 t d = iblk V tb hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok tb) {c : Dev nD} (dat : Dat τ (Elt F) (HIx 2) ℕ UU ℕ (cfgM tb hO) c) (hA : dat.A 2 = V c (Pipeline.arrRef spec2 2))
    (hafter : ∀ t, dat.after 2 t = iblk V tb hO c 2 t) (t : Fin (cfgM tb hO).N) (d) : dat.before 2 t d = iblk V tb hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok tb) {c : Dev nD} (dat : Dat τ (Elt F) (HIx 2) ℕ UU ℕ (cfgM tb hO) c) (hA : dat.A 3 = V c (Pipeline.arrRef spec2 3))
    (hafter : ∀ t, dat.after 3 t = iblk V tb hO c 3 t) (t : Fin (cfgM tb hO).N) (d) : dat.before 3 t d = iblk V tb hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok tb) {c : Dev nD} (dat : Dat τ (Elt F) (HIx 2) ℕ UU ℕ (cfgM tb hO) c) (hA : dat.A 4 = V c (Pipeline.arrRef spec2 4))
    (hafter : ∀ t, dat.after 4 t = iblk V tb hO c 4 t) (t : Fin (cfgM tb hO).N) (d) : dat.before 4 t d = iblk V tb hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of (hO : Ok tb) {c : Dev nD} (dat : Dat τ (Elt F) (HIx 2) ℕ UU ℕ (cfgM tb hO) c) (hA : dat.A 5 = V c (Pipeline.arrRef spec2 5))
    (hafter : ∀ t, dat.after 5 t = iblk V tb hO c 5 t) (t : Fin (cfgM tb hO).N) (d) : dat.before 5 t d = iblk V tb hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of (hO : Ok tb) {c : Dev nD} (dat : Dat τ (Elt F) (HIx 2) ℕ UU ℕ (cfgM tb hO) c) (hA : dat.A 6 = V c (Pipeline.arrRef spec2 6))
    (hafter : ∀ t, dat.after 6 t = iblk V tb hO c 6 t) (t : Fin (cfgM tb hO).N) (d) : dat.before 6 t d = iblk V tb hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of (hO : Ok tb) {c : Dev nD} (dat : Dat τ (Elt F) (HIx 2) ℕ UU ℕ (cfgM tb hO) c) (hA : dat.A 7 = V c (Pipeline.arrRef spec2 7))
    (hafter : ∀ t, dat.after 7 t = iblk V tb hO c 7 t) (t : Fin (cfgM tb hO).N) (d) : dat.before 7 t d = iblk V tb hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of (hO : Ok tb) {c : Dev nD} (dat : Dat τ (Elt F) (HIx 2) ℕ UU ℕ (cfgM tb hO) c) (hA : dat.A 8 = V c (Pipeline.arrRef spec2 8))
    (hafter : ∀ t, dat.after 8 t = iblk V tb hO c 8 t) (t : Fin (cfgM tb hO).N) (d) : dat.before 8 t d = iblk V tb hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of (hO : Ok tb) {c : Dev nD} (dat : Dat τ (Elt F) (HIx 2) ℕ UU ℕ (cfgM tb hO) c) (hA : dat.A 9 = V c (Pipeline.arrRef spec2 9))
    (hafter : ∀ t, dat.after 9 t = iblk V tb hO c 9 t) (t : Fin (cfgM tb hO).N) (d) : dat.before 9 t d = iblk V tb hO c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of (hO : Ok tb) {c : Dev nD} (dat : Dat τ (Elt F) (HIx 2) ℕ UU ℕ (cfgM tb hO) c) (hA : dat.A 10 = V c (Pipeline.arrRef spec2 10))
    (hafter : ∀ t, dat.after 10 t = iblk V tb hO c 10 t) (t : Fin (cfgM tb hO).N) (d) : dat.before 10 t d = iblk V tb hO c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of (hO : Ok tb) {c : Dev nD} (dat : Dat τ (Elt F) (HIx 2) ℕ UU ℕ (cfgM tb hO) c) (hA : dat.A 11 = V c (Pipeline.arrRef spec2 11))
    (hafter : ∀ t, dat.after 11 t = iblk V tb hO c 11 t) (t : Fin (cfgM tb hO).N) (d) : dat.before 11 t d = iblk V tb hO c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of (hO : Ok tb) {c : Dev nD} (dat : Dat τ (Elt F) (HIx 2) ℕ UU ℕ (cfgM tb hO) c) (hA : dat.A 12 = V c (Pipeline.arrRef spec2 12))
    (hafter : ∀ t, dat.after 12 t = iblk V tb hO c 12 t) (t : Fin (cfgM tb hO).N) (d) : dat.before 12 t d = iblk V tb hO c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of (hO : Ok tb) {c : Dev nD} (dat : Dat τ (Elt F) (HIx 2) ℕ UU ℕ (cfgM tb hO) c) (hA : dat.A 13 = V c (Pipeline.arrRef spec2 13))
    (hafter : ∀ t, dat.after 13 t = iblk V tb hO c 13 t) (t : Fin (cfgM tb hO).N) (d) : dat.before 13 t d = iblk V tb hO c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of (hO : Ok tb) {c : Dev nD} (dat : Dat τ (Elt F) (HIx 2) ℕ UU ℕ (cfgM tb hO) c) (hA : dat.A 14 = V c (Pipeline.arrRef spec2 14))
    (hafter : ∀ t, dat.after 14 t = iblk V tb hO c 14 t) (t : Fin (cfgM tb hO).N) (d) : dat.before 14 t d = iblk V tb hO c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before0_15_of (hO : Ok tb) {c : Dev nD} (dat : Dat τ (Elt F) (HIx 2) ℕ UU ℕ (cfgM tb hO) c) (hA : dat.A 15 = V c (Pipeline.arrRef spec2 15))
    (hafter : ∀ t, dat.after 15 t = iblk V tb hO c 15 t) (t : Fin (cfgM tb hO).N) (d) : dat.before 15 t d = iblk V tb hO c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before0_16_of (hO : Ok tb) {c : Dev nD} (dat : Dat τ (Elt F) (HIx 2) ℕ UU ℕ (cfgM tb hO) c) (hA : dat.A 16 = V c (Pipeline.arrRef spec2 16))
    (hafter : ∀ t, dat.after 16 t = iblk V tb hO c 16 t) (t : Fin (cfgM tb hO).N) (d) : dat.before 16 t d = iblk V tb hO c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
theorem before0_17_of (hO : Ok tb) {c : Dev nD} (dat : Dat τ (Elt F) (HIx 2) ℕ UU ℕ (cfgM tb hO) c) (hA : dat.A 17 = V c (Pipeline.arrRef spec2 17))
    (hafter : ∀ t, dat.after 17 t = iblk V tb hO c 17 t) (t : Fin (cfgM tb hO).N) (d) : dat.before 17 t d = iblk V tb hO c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
theorem before0_18_of (hO : Ok tb) {c : Dev nD} (dat : Dat τ (Elt F) (HIx 2) ℕ UU ℕ (cfgM tb hO) c) (hA : dat.A 18 = V c (Pipeline.arrRef spec2 18))
    (hafter : ∀ t, dat.after 18 t = iblk V tb hO c 18 t) (t : Fin (cfgM tb hO).N) (d) : dat.before 18 t d = iblk V tb hO c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
theorem before0_19_of (hO : Ok tb) {c : Dev nD} (dat : Dat τ (Elt F) (HIx 2) ℕ UU ℕ (cfgM tb hO) c) (hA : dat.A 19 = V c (Pipeline.arrRef spec2 19))
    (hafter : ∀ t, dat.after 19 t = iblk V tb hO c 19 t) (t : Fin (cfgM tb hO).N) (d) : dat.before 19 t d = iblk V tb hO c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
theorem before0_20_of (hO : Ok tb) {c : Dev nD} (dat : Dat τ (Elt F) (HIx 2) ℕ UU ℕ (cfgM tb hO) c) (hA : dat.A 20 = V c (Pipeline.arrRef spec2 20))
    (hafter : ∀ t, dat.after 20 t = iblk V tb hO c 20 t) (t : Fin (cfgM tb hO).N) (d) : dat.before 20 t d = iblk V tb hO c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
theorem before0_21_of (hO : Ok tb) {c : Dev nD} (dat : Dat τ (Elt F) (HIx 2) ℕ UU ℕ (cfgM tb hO) c) (hA : dat.A 21 = V c (Pipeline.arrRef spec2 21))
    (hafter : ∀ t, dat.after 21 t = iblk V tb hO c 21 t) (t : Fin (cfgM tb hO).N) (d) : dat.before 21 t d = iblk V tb hO c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)
theorem before0_22_of (hO : Ok tb) {c : Dev nD} (dat : Dat τ (Elt F) (HIx 2) ℕ UU ℕ (cfgM tb hO) c) (hA : dat.A 22 = V c (Pipeline.arrRef spec2 22))
    (hafter : ∀ t, dat.after 22 t = iblk V tb hO c 22 t) (t : Fin (cfgM tb hO).N) (d) : dat.before 22 t d = iblk V tb hO c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)
theorem before0_23_of (hO : Ok tb) {c : Dev nD} (dat : Dat τ (Elt F) (HIx 2) ℕ UU ℕ (cfgM tb hO) c) (hA : dat.A 23 = V c (Pipeline.arrRef spec2 23))
    (hafter : ∀ t, dat.after 23 t = iblk V tb hO c 23 t) (t : Fin (cfgM tb hO).N) (d) : dat.before 23 t d = iblk V tb hO c 23 t :=
  (dat.before_in_eq_fetched 23 rfl (fun _ => rfl) (fun _ _ _ => rfl) (fun t => by rw [hafter]; unfold Dat.blockOf iblk; rw [hA]; try rfl) t d).trans
    (by unfold Dat.fetched Dat.blockOf iblk; rw [hA]; try rfl)
theorem before0_24_of (hO : Ok tb) {c : Dev nD} (dat : Dat τ (Elt F) (HIx 2) ℕ UU ℕ (cfgM tb hO) c) (hA : dat.A 24 = V c (Pipeline.arrRef spec2 24))
    (hafter : ∀ t, dat.after 24 t = iblk V tb hO c 24 t) (t : Fin (cfgM tb hO).N) (d) : dat.before 24 t d = iblk V tb hO c 24 t :=
  (dat.before_in_eq_fetched 24 rfl (fun _ => rfl) (fun _ _ _ => rfl) (fun t => by rw [hafter]; unfold Dat.blockOf iblk; rw [hA]; try rfl) t d).trans
    (by unfold Dat.fetched Dat.blockOf iblk; rw [hA]; try rfl)
theorem before0_25_of (hO : Ok tb) {c : Dev nD} (dat : Dat τ (Elt F) (HIx 2) ℕ UU ℕ (cfgM tb hO) c) (hA : dat.A 25 = V c (Pipeline.arrRef spec2 25))
    (hafter : ∀ t, dat.after 25 t = iblk V tb hO c 25 t) (t : Fin (cfgM tb hO).N) (d) : dat.before 25 t d = iblk V tb hO c 25 t :=
  (dat.before_in_eq_fetched 25 rfl (fun _ => rfl) (fun _ _ _ => rfl) (fun t => by rw [hafter]; unfold Dat.blockOf iblk; rw [hA]; try rfl) t d).trans
    (by unfold Dat.fetched Dat.blockOf iblk; rw [hA]; try rfl)
theorem before0_26_of (hO : Ok tb) {c : Dev nD} (dat : Dat τ (Elt F) (HIx 2) ℕ UU ℕ (cfgM tb hO) c) (hA : dat.A 26 = V c (Pipeline.arrRef spec2 26))
    (hafter : ∀ t, dat.after 26 t = iblk V tb hO c 26 t) (t : Fin (cfgM tb hO).N) (d) : dat.before 26 t d = iblk V tb hO c 26 t :=
  (dat.before_in_eq_fetched 26 rfl (fun _ => rfl) (fun _ _ _ => rfl) (fun t => by rw [hafter]; unfold Dat.blockOf iblk; rw [hA]; try rfl) t d).trans
    (by unfold Dat.fetched Dat.blockOf iblk; rw [hA]; try rfl)
theorem before0_27_of (hO : Ok tb) {c : Dev nD} (dat : Dat τ (Elt F) (HIx 2) ℕ UU ℕ (cfgM tb hO) c) (hA : dat.A 27 = V c (Pipeline.arrRef spec2 27))
    (hafter : ∀ t, dat.after 27 t = iblk V tb hO c 27 t) (t : Fin (cfgM tb hO).N) (d) : dat.before 27 t d = iblk V tb hO c 27 t :=
  (dat.before_in_eq_fetched 27 rfl (fun _ => rfl) (fun _ _ _ => rfl) (fun t => by rw [hafter]; unfold Dat.blockOf iblk; rw [hA]; try rfl) t d).trans
    (by unfold Dat.fetched Dat.blockOf iblk; rw [hA]; try rfl)
theorem before0_28_of (hO : Ok tb) {c : Dev nD} (dat : Dat τ (Elt F) (HIx 2) ℕ UU ℕ (cfgM tb hO) c) (hA : dat.A 28 = V c (Pipeline.arrRef spec2 28))
    (hafter : ∀ t, dat.after 28 t = iblk V tb hO c 28 t) (t : Fin (cfgM tb hO).N) (d) : dat.before 28 t d = iblk V tb hO c 28 t :=
  (dat.before_in_eq_fetched 28 rfl (fun _ => rfl) (fun _ _ _ => rfl) (fun t => by rw [hafter]; unfold Dat.blockOf iblk; rw [hA]; try rfl) t d).trans
    (by unfold Dat.fetched Dat.blockOf iblk; rw [hA]; try rfl)
theorem before0_29_of (hO : Ok tb) {c : Dev nD} (dat : Dat τ (Elt F) (HIx 2) ℕ UU ℕ (cfgM tb hO) c) (hA : dat.A 29 = V c (Pipeline.arrRef spec2 29))
    (hafter : ∀ t, dat.after 29 t = iblk V tb hO c 29 t) (t : Fin (cfgM tb hO).N) (d) : dat.before 29 t d = iblk V tb hO c 29 t :=
  (dat.before_in_eq_fetched 29 rfl (fun _ => rfl) (fun _ _ _ => rfl) (fun t => by rw [hafter]; unfold Dat.blockOf iblk; rw [hA]; try rfl) t d).trans
    (by unfold Dat.fetched Dat.blockOf iblk; rw [hA]; try rfl)
theorem before0_30_of (hO : Ok tb) {c : Dev nD} (dat : Dat τ (Elt F) (HIx 2) ℕ UU ℕ (cfgM tb hO) c) (hA : dat.A 30 = V c (Pipeline.arrRef spec2 30))
    (hafter : ∀ t, dat.after 30 t = iblk V tb hO c 30 t) (t : Fin (cfgM tb hO).N) (d) : dat.before 30 t d = iblk V tb hO c 30 t :=
  (dat.before_in_eq_fetched 30 rfl (fun _ => rfl) (fun _ _ _ => rfl) (fun t => by rw [hafter]; unfold Dat.blockOf iblk; rw [hA]; try rfl) t d).trans
    (by unfold Dat.fetched Dat.blockOf iblk; rw [hA]; try rfl)
theorem before0_31_of (hO : Ok tb) {c : Dev nD} (dat : Dat τ (Elt F) (HIx 2) ℕ UU ℕ (cfgM tb hO) c) (hA : dat.A 31 = V c (Pipeline.arrRef spec2 31))
    (hafter : ∀ t, dat.after 31 t = iblk V tb hO c 31 t) (t : Fin (cfgM tb hO).N) (d) : dat.before 31 t d = iblk V tb hO c 31 t :=
  (dat.before_in_eq_fetched 31 rfl (fun _ => rfl) (fun _ _ _ => rfl) (fun t => by rw [hafter]; unfold Dat.blockOf iblk; rw [hA]; try rfl) t d).trans
    (by unfold Dat.fetched Dat.blockOf iblk; rw [hA]; try rfl)
theorem before0_32_of (hO : Ok tb) {c : Dev nD} (dat : Dat τ (Elt F) (HIx 2) ℕ UU ℕ (cfgM tb hO) c) (hA : dat.A 32 = V c (Pipeline.arrRef spec2 32))
    (hafter : ∀ t, dat.after 32 t = iblk V tb hO c 32 t) (t : Fin (cfgM tb hO).N) (d) : dat.before 32 t d = iblk V tb hO c 32 t :=
  (dat.before_in_eq_fetched 32 rfl (fun _ => rfl) (fun _ _ _ => rfl) (fun t => by rw [hafter]; unfold Dat.blockOf iblk; rw [hA]; try rfl) t d).trans
    (by unfold Dat.fetched Dat.blockOf iblk; rw [hA]; try rfl)

abbrev VO0_33 : View sig .tc .vmem S512x768 .f32 := (Memref.whole cc2_stg33_0 : Memref sig .tc .vmem S512x768 .f32).view
abbrev ms0_0 (hO : Ok tb) (t : Fin (cfgM tb hO).N) : Memref sig .tc .vmem S512x768 .f32 := spec2_0.stage ((cfgM tb hO).slots t 0)
abbrev hs0_0 (hO : Ok tb) (t : Fin (cfgM tb hO).N) : (ms0_0 tb hO t).IsWhole := hstage2_0 (((cfgM tb hO).slots t 0).cast nbuf2_0)
abbrev ms0_1 (hO : Ok tb) (t : Fin (cfgM tb hO).N) : Memref sig .tc .vmem S1x128x768 .f32 := spec2_1.stage ((cfgM tb hO).slots t 1)
abbrev hs0_1 (hO : Ok tb) (t : Fin (cfgM tb hO).N) : (ms0_1 tb hO t).IsWhole := hstage2_1 (((cfgM tb hO).slots t 1).cast nbuf2_1)
abbrev ms0_2 (hO : Ok tb) (t : Fin (cfgM tb hO).N) : Memref sig .tc .vmem S1x128x768 .f32 := spec2_2.stage ((cfgM tb hO).slots t 2)
abbrev hs0_2 (hO : Ok tb) (t : Fin (cfgM tb hO).N) : (ms0_2 tb hO t).IsWhole := hstage2_2 (((cfgM tb hO).slots t 2).cast nbuf2_2)
abbrev ms0_3 (hO : Ok tb) (t : Fin (cfgM tb hO).N) : Memref sig .tc .vmem S1x384x128 .f32 := spec2_3.stage ((cfgM tb hO).slots t 3)
abbrev hs0_3 (hO : Ok tb) (t : Fin (cfgM tb hO).N) : (ms0_3 tb hO t).IsWhole := hstage2_3 (((cfgM tb hO).slots t 3).cast nbuf2_3)
abbrev ms0_4 (hO : Ok tb) (t : Fin (cfgM tb hO).N) : Memref sig .tc .vmem S1x384x128 .f32 := spec2_4.stage ((cfgM tb hO).slots t 4)
abbrev hs0_4 (hO : Ok tb) (t : Fin (cfgM tb hO).N) : (ms0_4 tb hO t).IsWhole := hstage2_4 (((cfgM tb hO).slots t 4).cast nbuf2_4)
abbrev ms0_5 (hO : Ok tb) (t : Fin (cfgM tb hO).N) : Memref sig .tc .vmem S1x128x768 .f32 := spec2_5.stage ((cfgM tb hO).slots t 5)
abbrev hs0_5 (hO : Ok tb) (t : Fin (cfgM tb hO).N) : (ms0_5 tb hO t).IsWhole := hstage2_5 (((cfgM tb hO).slots t 5).cast nbuf2_5)
abbrev ms0_6 (hO : Ok tb) (t : Fin (cfgM tb hO).N) : Memref sig .tc .vmem S1x128x768 .f32 := spec2_6.stage ((cfgM tb hO).slots t 6)
abbrev hs0_6 (hO : Ok tb) (t : Fin (cfgM tb hO).N) : (ms0_6 tb hO t).IsWhole := hstage2_6 (((cfgM tb hO).slots t 6).cast nbuf2_6)
abbrev ms0_7 (hO : Ok tb) (t : Fin (cfgM tb hO).N) : Memref sig .tc .vmem S1x384x128 .f32 := spec2_7.stage ((cfgM tb hO).slots t 7)
abbrev hs0_7 (hO : Ok tb) (t : Fin (cfgM tb hO).N) : (ms0_7 tb hO t).IsWhole := hstage2_7 (((cfgM tb hO).slots t 7).cast nbuf2_7)
abbrev ms0_8 (hO : Ok tb) (t : Fin (cfgM tb hO).N) : Memref sig .tc .vmem S1x384x128 .f32 := spec2_8.stage ((cfgM tb hO).slots t 8)
abbrev hs0_8 (hO : Ok tb) (t : Fin (cfgM tb hO).N) : (ms0_8 tb hO t).IsWhole := hstage2_8 (((cfgM tb hO).slots t 8).cast nbuf2_8)
abbrev ms0_9 (hO : Ok tb) (t : Fin (cfgM tb hO).N) : Memref sig .tc .vmem S1x128x768 .f32 := spec2_9.stage ((cfgM tb hO).slots t 9)
abbrev hs0_9 (hO : Ok tb) (t : Fin (cfgM tb hO).N) : (ms0_9 tb hO t).IsWhole := hstage2_9 (((cfgM tb hO).slots t 9).cast nbuf2_9)
abbrev ms0_10 (hO : Ok tb) (t : Fin (cfgM tb hO).N) : Memref sig .tc .vmem S1x128x768 .f32 := spec2_10.stage ((cfgM tb hO).slots t 10)
abbrev hs0_10 (hO : Ok tb) (t : Fin (cfgM tb hO).N) : (ms0_10 tb hO t).IsWhole := hstage2_10 (((cfgM tb hO).slots t 10).cast nbuf2_10)
abbrev ms0_11 (hO : Ok tb) (t : Fin (cfgM tb hO).N) : Memref sig .tc .vmem S1x384x128 .f32 := spec2_11.stage ((cfgM tb hO).slots t 11)
abbrev hs0_11 (hO : Ok tb) (t : Fin (cfgM tb hO).N) : (ms0_11 tb hO t).IsWhole := hstage2_11 (((cfgM tb hO).slots t 11).cast nbuf2_11)
abbrev ms0_12 (hO : Ok tb) (t : Fin (cfgM tb hO).N) : Memref sig .tc .vmem S1x384x128 .f32 := spec2_12.stage ((cfgM tb hO).slots t 12)
abbrev hs0_12 (hO : Ok tb) (t : Fin (cfgM tb hO).N) : (ms0_12 tb hO t).IsWhole := hstage2_12 (((cfgM tb hO).slots t 12).cast nbuf2_12)
abbrev ms0_13 (hO : Ok tb) (t : Fin (cfgM tb hO).N) : Memref sig .tc .vmem S1x128x768 .f32 := spec2_13.stage ((cfgM tb hO).slots t 13)
abbrev hs0_13 (hO : Ok tb) (t : Fin (cfgM tb hO).N) : (ms0_13 tb hO t).IsWhole := hstage2_13 (((cfgM tb hO).slots t 13).cast nbuf2_13)
abbrev ms0_14 (hO : Ok tb) (t : Fin (cfgM tb hO).N) : Memref sig .tc .vmem S1x128x768 .f32 := spec2_14.stage ((cfgM tb hO).slots t 14)
abbrev hs0_14 (hO : Ok tb) (t : Fin (cfgM tb hO).N) : (ms0_14 tb hO t).IsWhole := hstage2_14 (((cfgM tb hO).slots t 14).cast nbuf2_14)
abbrev ms0_15 (hO : Ok tb) (t : Fin (cfgM tb hO).N) : Memref sig .tc .vmem S1x384x128 .f32 := spec2_15.stage ((cfgM tb hO).slots t 15)
abbrev hs0_15 (hO : Ok tb) (t : Fin (cfgM tb hO).N) : (ms0_15 tb hO t).IsWhole := hstage2_15 (((cfgM tb hO).slots t 15).cast nbuf2_15)
abbrev ms0_16 (hO : Ok tb) (t : Fin (cfgM tb hO).N) : Memref sig .tc .vmem S1x384x128 .f32 := spec2_16.stage ((cfgM tb hO).slots t 16)
abbrev hs0_16 (hO : Ok tb) (t : Fin (cfgM tb hO).N) : (ms0_16 tb hO t).IsWhole := hstage2_16 (((cfgM tb hO).slots t 16).cast nbuf2_16)
abbrev ms0_17 (hO : Ok tb) (t : Fin (cfgM tb hO).N) : Memref sig .tc .vmem S1x128x768 .f32 := spec2_17.stage ((cfgM tb hO).slots t 17)
abbrev hs0_17 (hO : Ok tb) (t : Fin (cfgM tb hO).N) : (ms0_17 tb hO t).IsWhole := hstage2_17 (((cfgM tb hO).slots t 17).cast nbuf2_17)
abbrev ms0_18 (hO : Ok tb) (t : Fin (cfgM tb hO).N) : Memref sig .tc .vmem S1x128x768 .f32 := spec2_18.stage ((cfgM tb hO).slots t 18)
abbrev hs0_18 (hO : Ok tb) (t : Fin (cfgM tb hO).N) : (ms0_18 tb hO t).IsWhole := hstage2_18 (((cfgM tb hO).slots t 18).cast nbuf2_18)
abbrev ms0_19 (hO : Ok tb) (t : Fin (cfgM tb hO).N) : Memref sig .tc .vmem S1x384x128 .f32 := spec2_19.stage ((cfgM tb hO).slots t 19)
abbrev hs0_19 (hO : Ok tb) (t : Fin (cfgM tb hO).N) : (ms0_19 tb hO t).IsWhole := hstage2_19 (((cfgM tb hO).slots t 19).cast nbuf2_19)
abbrev ms0_20 (hO : Ok tb) (t : Fin (cfgM tb hO).N) : Memref sig .tc .vmem S1x384x128 .f32 := spec2_20.stage ((cfgM tb hO).slots t 20)
abbrev hs0_20 (hO : Ok tb) (t : Fin (cfgM tb hO).N) : (ms0_20 tb hO t).IsWhole := hstage2_20 (((cfgM tb hO).slots t 20).cast nbuf2_20)
abbrev ms0_21 (hO : Ok tb) (t : Fin (cfgM tb hO).N) : Memref sig .tc .vmem S1x128x768 .f32 := spec2_21.stage ((cfgM tb hO).slots t 21)
abbrev hs0_21 (hO : Ok tb) (t : Fin (cfgM tb hO).N) : (ms0_21 tb hO t).IsWhole := hstage2_21 (((cfgM tb hO).slots t 21).cast nbuf2_21)
abbrev ms0_22 (hO : Ok tb) (t : Fin (cfgM tb hO).N) : Memref sig .tc .vmem S1x128x768 .f32 := spec2_22.stage ((cfgM tb hO).slots t 22)
abbrev hs0_22 (hO : Ok tb) (t : Fin (cfgM tb hO).N) : (ms0_22 tb hO t).IsWhole := hstage2_22 (((cfgM tb hO).slots t 22).cast nbuf2_22)
abbrev ms0_23 (hO : Ok tb) (t : Fin (cfgM tb hO).N) : Memref sig .tc .vmem S1x384x128 .f32 := spec2_23.stage ((cfgM tb hO).slots t 23)
abbrev hs0_23 (hO : Ok tb) (t : Fin (cfgM tb hO).N) : (ms0_23 tb hO t).IsWhole := hstage2_23 (((cfgM tb hO).slots t 23).cast nbuf2_23)
abbrev ms0_24 (hO : Ok tb) (t : Fin (cfgM tb hO).N) : Memref sig .tc .vmem S1x384x128 .f32 := spec2_24.stage ((cfgM tb hO).slots t 24)
abbrev hs0_24 (hO : Ok tb) (t : Fin (cfgM tb hO).N) : (ms0_24 tb hO t).IsWhole := hstage2_24 (((cfgM tb hO).slots t 24).cast nbuf2_24)
abbrev ms0_25 (hO : Ok tb) (t : Fin (cfgM tb hO).N) : Memref sig .tc .vmem S1x128x768 .f32 := spec2_25.stage ((cfgM tb hO).slots t 25)
abbrev hs0_25 (hO : Ok tb) (t : Fin (cfgM tb hO).N) : (ms0_25 tb hO t).IsWhole := hstage2_25 (((cfgM tb hO).slots t 25).cast nbuf2_25)
abbrev ms0_26 (hO : Ok tb) (t : Fin (cfgM tb hO).N) : Memref sig .tc .vmem S1x128x768 .f32 := spec2_26.stage ((cfgM tb hO).slots t 26)
abbrev hs0_26 (hO : Ok tb) (t : Fin (cfgM tb hO).N) : (ms0_26 tb hO t).IsWhole := hstage2_26 (((cfgM tb hO).slots t 26).cast nbuf2_26)
abbrev ms0_27 (hO : Ok tb) (t : Fin (cfgM tb hO).N) : Memref sig .tc .vmem S1x384x128 .f32 := spec2_27.stage ((cfgM tb hO).slots t 27)
abbrev hs0_27 (hO : Ok tb) (t : Fin (cfgM tb hO).N) : (ms0_27 tb hO t).IsWhole := hstage2_27 (((cfgM tb hO).slots t 27).cast nbuf2_27)
abbrev ms0_28 (hO : Ok tb) (t : Fin (cfgM tb hO).N) : Memref sig .tc .vmem S1x384x128 .f32 := spec2_28.stage ((cfgM tb hO).slots t 28)
abbrev hs0_28 (hO : Ok tb) (t : Fin (cfgM tb hO).N) : (ms0_28 tb hO t).IsWhole := hstage2_28 (((cfgM tb hO).slots t 28).cast nbuf2_28)
abbrev ms0_29 (hO : Ok tb) (t : Fin (cfgM tb hO).N) : Memref sig .tc .vmem S1x128x768 .f32 := spec2_29.stage ((cfgM tb hO).slots t 29)
abbrev hs0_29 (hO : Ok tb) (t : Fin (cfgM tb hO).N) : (ms0_29 tb hO t).IsWhole := hstage2_29 (((cfgM tb hO).slots t 29).cast nbuf2_29)
abbrev ms0_30 (hO : Ok tb) (t : Fin (cfgM tb hO).N) : Memref sig .tc .vmem S1x128x768 .f32 := spec2_30.stage ((cfgM tb hO).slots t 30)
abbrev hs0_30 (hO : Ok tb) (t : Fin (cfgM tb hO).N) : (ms0_30 tb hO t).IsWhole := hstage2_30 (((cfgM tb hO).slots t 30).cast nbuf2_30)
abbrev ms0_31 (hO : Ok tb) (t : Fin (cfgM tb hO).N) : Memref sig .tc .vmem S1x384x128 .f32 := spec2_31.stage ((cfgM tb hO).slots t 31)
abbrev hs0_31 (hO : Ok tb) (t : Fin (cfgM tb hO).N) : (ms0_31 tb hO t).IsWhole := hstage2_31 (((cfgM tb hO).slots t 31).cast nbuf2_31)
abbrev ms0_32 (hO : Ok tb) (t : Fin (cfgM tb hO).N) : Memref sig .tc .vmem S1x384x128 .f32 := spec2_32.stage ((cfgM tb hO).slots t 32)
abbrev hs0_32 (hO : Ok tb) (t : Fin (cfgM tb hO).N) : (ms0_32 tb hO t).IsWhole := hstage2_32 (((cfgM tb hO).slots t 32).cast nbuf2_32)
abbrev ms0_33 (hO : Ok tb) (t : Fin (cfgM tb hO).N) : Memref sig .tc .vmem S512x768 .f32 := spec2_33.stage ((cfgM tb hO).slots t 33)
abbrev hs0_33 (hO : Ok tb) (t : Fin (cfgM tb hO).N) : (ms0_33 tb hO t).IsWhole := hstage2_33 (((cfgM tb hO).slots t 33).cast nbuf2_33)

end Cert.Proof.Whole.Ffn

end
-- ==== Proof.W.FfnRun.lean ====
/-
  The experts' call: its body on any staging buffers.
-/
module

public import proofs.«01_k».proof.Proof.W.FfnBlocks
public import Idealize.ShloMosaic.Lib.Pipeline.FrameBody
public import Idealize.ShloMosaic.Lib.Ring

@[expose] public section

set_option maxRecDepth 16384

noncomputable section

namespace Cert.Proof.Whole.Ffn

open Cert.WholeIdeal Cert.WholeIdeal.Gen Cert.Proof.Whole
open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf scopedRest)

variable {F : FTy → Type} [FloatOps F]

local notation "𝕄" => MT nD τ sig (HIx 2) (Elt F) ℕ UU ℕ

variable (V : (c : Dev nD) → Arrs F c) (n b : ℕ) (tb : pre2.Contents (Elt F))

/-- One block of 64 rows through one expert's gate and up projections and its half of the down projection. -/
def subOut (x0 : Vec F S512x768 .f32) (off : Fin 2 → Nat) (h : S512x768.Slices off S64x768) (wa wb : Vec F S1x128x768 .f32) (wd : Vec F S1x384x128 .f32) : FVec F S64x384 .f32 :=
  let xk : FVec F S64x768 .f32 := extractStridedSlice S64x768 off (shapeCast S512x768 x0 shapeCasts_S512x768_S512x768) h
  let g : FVec F S64x128 .f32 := matmul dot_S64x768_S128x768_S64x128_1_1_0_0_n_n none xk (shapeCast S128x768 wa shapeCasts_S1x128x768_S128x768) (constant S64x128 .f32 0x00000000#32)
  let u : FVec F S64x128 .f32 := matmul dot_S64x768_S128x768_S64x128_1_1_0_0_n_n none xk (shapeCast S128x768 wb shapeCasts_S1x128x768_S128x768) (constant S64x128 .f32 0x00000000#32)
  matmul dot_S64x128_S384x128_S64x384_1_1_0_0_n_n none (mulf (mulf g (logistic g)) u) (shapeCast S384x128 wd shapeCasts_S1x384x128_S384x128) (constant S64x384 .f32 0x00000000#32)

abbrev ldx (x : Vec F S512x768 .f32) : Vec F S512x768 .f32 := View.ld x (Rect.unit (s := S512x768) ![0, 0] S512x768.size inb_S512x768_S512x768_0_0)
abbrev lda (x : Vec F S1x128x768 .f32) : Vec F S1x128x768 .f32 := View.ld x (Rect.unit (s := S1x128x768) ![0, 0, 0] S1x128x768.size inb_S1x128x768_S1x128x768_0_0_0)
abbrev ldb (x : Vec F S1x384x128 .f32) : Vec F S1x384x128 .f32 := View.ld x (Rect.unit (s := S1x384x128) ![0, 0, 0] S1x384x128.size inb_S1x384x128_S1x384x128_0_0_0)

/-- The sixteen stores of one grid point, last first: eight blocks of rows, each in two halves of columns. -/
def outPieces (x0 : Vec F S512x768 .f32) (x1 : Vec F S1x128x768 .f32) (x2 : Vec F S1x128x768 .f32) (x3 : Vec F S1x384x128 .f32) (x4 : Vec F S1x384x128 .f32) (x5 : Vec F S1x128x768 .f32) (x6 : Vec F S1x128x768 .f32) (x7 : Vec F S1x384x128 .f32) (x8 : Vec F S1x384x128 .f32) (x9 : Vec F S1x128x768 .f32) (x10 : Vec F S1x128x768 .f32) (x11 : Vec F S1x384x128 .f32) (x12 : Vec F S1x384x128 .f32) (x13 : Vec F S1x128x768 .f32) (x14 : Vec F S1x128x768 .f32) (x15 : Vec F S1x384x128 .f32) (x16 : Vec F S1x384x128 .f32) (x17 : Vec F S1x128x768 .f32) (x18 : Vec F S1x128x768 .f32) (x19 : Vec F S1x384x128 .f32) (x20 : Vec F S1x384x128 .f32) (x21 : Vec F S1x128x768 .f32) (x22 : Vec F S1x128x768 .f32) (x23 : Vec F S1x384x128 .f32) (x24 : Vec F S1x384x128 .f32) (x25 : Vec F S1x128x768 .f32) (x26 : Vec F S1x128x768 .f32) (x27 : Vec F S1x384x128 .f32) (x28 : Vec F S1x384x128 .f32) (x29 : Vec F S1x128x768 .f32) (x30 : Vec F S1x128x768 .f32) (x31 : Vec F S1x384x128 .f32) (x32 : Vec F S1x384x128 .f32) : List (View.Piece (Elt F) S512x768 .f32) :=
  [⟨Rect.unit (s := S512x768) ![448, 384] S64x384.size inb_S512x768_S64x384_448_384,
      subOut (ldx x0) ![448, 0] slices_S512x768_o448_0_S64x768 (lda x29) (lda x30) (ldb x32)⟩,
    ⟨Rect.unit (s := S512x768) ![448, 0] S64x384.size inb_S512x768_S64x384_448_0,
      subOut (ldx x0) ![448, 0] slices_S512x768_o448_0_S64x768 (lda x29) (lda x30) (ldb x31)⟩,
    ⟨Rect.unit (s := S512x768) ![384, 384] S64x384.size inb_S512x768_S64x384_384_384,
      subOut (ldx x0) ![384, 0] slices_S512x768_o384_0_S64x768 (lda x25) (lda x26) (ldb x28)⟩,
    ⟨Rect.unit (s := S512x768) ![384, 0] S64x384.size inb_S512x768_S64x384_384_0,
      subOut (ldx x0) ![384, 0] slices_S512x768_o384_0_S64x768 (lda x25) (lda x26) (ldb x27)⟩,
    ⟨Rect.unit (s := S512x768) ![320, 384] S64x384.size inb_S512x768_S64x384_320_384,
      subOut (ldx x0) ![320, 0] slices_S512x768_o320_0_S64x768 (lda x21) (lda x22) (ldb x24)⟩,
    ⟨Rect.unit (s := S512x768) ![320, 0] S64x384.size inb_S512x768_S64x384_320_0,
      subOut (ldx x0) ![320, 0] slices_S512x768_o320_0_S64x768 (lda x21) (lda x22) (ldb x23)⟩,
    ⟨Rect.unit (s := S512x768) ![256, 384] S64x384.size inb_S512x768_S64x384_256_384,
      subOut (ldx x0) ![256, 0] slices_S512x768_o256_0_S64x768 (lda x17) (lda x18) (ldb x20)⟩,
    ⟨Rect.unit (s := S512x768) ![256, 0] S64x384.size inb_S512x768_S64x384_256_0,
      subOut (ldx x0) ![256, 0] slices_S512x768_o256_0_S64x768 (lda x17) (lda x18) (ldb x19)⟩,
    ⟨Rect.unit (s := S512x768) ![192, 384] S64x384.size inb_S512x768_S64x384_192_384,
      subOut (ldx x0) ![192, 0] slices_S512x768_o192_0_S64x768 (lda x13) (lda x14) (ldb x16)⟩,
    ⟨Rect.unit (s := S512x768) ![192, 0] S64x384.size inb_S512x768_S64x384_192_0,
      subOut (ldx x0) ![192, 0] slices_S512x768_o192_0_S64x768 (lda x13) (lda x14) (ldb x15)⟩,
    ⟨Rect.unit (s := S512x768) ![128, 384] S64x384.size inb_S512x768_S64x384_128_384,
      subOut (ldx x0) ![128, 0] slices_S512x768_o128_0_S64x768 (lda x9) (lda x10) (ldb x12)⟩,
    ⟨Rect.unit (s := S512x768) ![128, 0] S64x384.size inb_S512x768_S64x384_128_0,
      subOut (ldx x0) ![128, 0] slices_S512x768_o128_0_S64x768 (lda x9) (lda x10) (ldb x11)⟩,
    ⟨Rect.unit (s := S512x768) ![64, 384] S64x384.size inb_S512x768_S64x384_64_384,
      subOut (ldx x0) ![64, 0] slices_S512x768_o64_0_S64x768 (lda x5) (lda x6) (ldb x8)⟩,
    ⟨Rect.unit (s := S512x768) ![64, 0] S64x384.size inb_S512x768_S64x384_64_0,
      subOut (ldx x0) ![64, 0] slices_S512x768_o64_0_S64x768 (lda x5) (lda x6) (ldb x7)⟩,
    ⟨Rect.unit (s := S512x768) ![0, 384] S64x384.size inb_S512x768_S64x384_0_384,
      subOut (ldx x0) ![0, 0] slices_S512x768_o0_0_S64x768 (lda x1) (lda x2) (ldb x4)⟩,
    ⟨Rect.unit (s := S512x768) ![0, 0] S64x384.size inb_S512x768_S64x384_0_0,
      subOut (ldx x0) ![0, 0] slices_S512x768_o0_0_S64x768 (lda x1) (lda x2) (ldb x3)⟩]

/-- The sixteen stored pieces fill the block. -/
theorem cover_gen (p0 p1 p2 p3 p4 p5 p6 p7 p8 p9 p10 p11 p12 p13 p14 p15 : FVec F S64x384 .f32) (y : S512x768.Idx) :
    ∃ pc ∈ ([⟨Rect.unit (s := S512x768) ![448, 384] S64x384.size inb_S512x768_S64x384_448_384, p15⟩,
      ⟨Rect.unit (s := S512x768) ![448, 0] S64x384.size inb_S512x768_S64x384_448_0, p14⟩,
      ⟨Rect.unit (s := S512x768) ![384, 384] S64x384.size inb_S512x768_S64x384_384_384, p13⟩,
      ⟨Rect.unit (s := S512x768) ![384, 0] S64x384.size inb_S512x768_S64x384_384_0, p12⟩,
      ⟨Rect.unit (s := S512x768) ![320, 384] S64x384.size inb_S512x768_S64x384_320_384, p11⟩,
      ⟨Rect.unit (s := S512x768) ![320, 0] S64x384.size inb_S512x768_S64x384_320_0, p10⟩,
      ⟨Rect.unit (s := S512x768) ![256, 384] S64x384.size inb_S512x768_S64x384_256_384, p9⟩,
      ⟨Rect.unit (s := S512x768) ![256, 0] S64x384.size inb_S512x768_S64x384_256_0, p8⟩,
      ⟨Rect.unit (s := S512x768) ![192, 384] S64x384.size inb_S512x768_S64x384_192_384, p7⟩,
      ⟨Rect.unit (s := S512x768) ![192, 0] S64x384.size inb_S512x768_S64x384_192_0, p6⟩,
      ⟨Rect.unit (s := S512x768) ![128, 384] S64x384.size inb_S512x768_S64x384_128_384, p5⟩,
      ⟨Rect.unit (s := S512x768) ![128, 0] S64x384.size inb_S512x768_S64x384_128_0, p4⟩,
      ⟨Rect.unit (s := S512x768) ![64, 384] S64x384.size inb_S512x768_S64x384_64_384, p3⟩,
      ⟨Rect.unit (s := S512x768) ![64, 0] S64x384.size inb_S512x768_S64x384_64_0, p2⟩,
      ⟨Rect.unit (s := S512x768) ![0, 384] S64x384.size inb_S512x768_S64x384_0_384, p1⟩,
      ⟨Rect.unit (s := S512x768) ![0, 0] S64x384.size inb_S512x768_S64x384_0_0, p0⟩] : List (View.Piece (Elt F) S512x768 .f32)), y ∈ pc.1.set :=
  View.cover_of_tiledL ([⟨Rect.unit (s := S512x768) ![448, 384] S64x384.size inb_S512x768_S64x384_448_384, p15⟩,
      ⟨Rect.unit (s := S512x768) ![448, 0] S64x384.size inb_S512x768_S64x384_448_0, p14⟩,
      ⟨Rect.unit (s := S512x768) ![384, 384] S64x384.size inb_S512x768_S64x384_384_384, p13⟩,
      ⟨Rect.unit (s := S512x768) ![384, 0] S64x384.size inb_S512x768_S64x384_384_0, p12⟩,
      ⟨Rect.unit (s := S512x768) ![320, 384] S64x384.size inb_S512x768_S64x384_320_384, p11⟩,
      ⟨Rect.unit (s := S512x768) ![320, 0] S64x384.size inb_S512x768_S64x384_320_0, p10⟩,
      ⟨Rect.unit (s := S512x768) ![256, 384] S64x384.size inb_S512x768_S64x384_256_384, p9⟩,
      ⟨Rect.unit (s := S512x768) ![256, 0] S64x384.size inb_S512x768_S64x384_256_0, p8⟩,
      ⟨Rect.unit (s := S512x768) ![192, 384] S64x384.size inb_S512x768_S64x384_192_384, p7⟩,
      ⟨Rect.unit (s := S512x768) ![192, 0] S64x384.size inb_S512x768_S64x384_192_0, p6⟩,
      ⟨Rect.unit (s := S512x768) ![128, 384] S64x384.size inb_S512x768_S64x384_128_384, p5⟩,
      ⟨Rect.unit (s := S512x768) ![128, 0] S64x384.size inb_S512x768_S64x384_128_0, p4⟩,
      ⟨Rect.unit (s := S512x768) ![64, 384] S64x384.size inb_S512x768_S64x384_64_384, p3⟩,
      ⟨Rect.unit (s := S512x768) ![64, 0] S64x384.size inb_S512x768_S64x384_64_0, p2⟩,
      ⟨Rect.unit (s := S512x768) ![0, 384] S64x384.size inb_S512x768_S64x384_0_384, p1⟩,
      ⟨Rect.unit (s := S512x768) ![0, 0] S64x384.size inb_S512x768_S64x384_0_0, p0⟩] : List (View.Piece (Elt F) S512x768 .f32)) S64x384.size (by rfl) y

/-- The result's block at one grid point. -/
def out2 (x0 : Vec F S512x768 .f32) (x1 : Vec F S1x128x768 .f32) (x2 : Vec F S1x128x768 .f32) (x3 : Vec F S1x384x128 .f32) (x4 : Vec F S1x384x128 .f32) (x5 : Vec F S1x128x768 .f32) (x6 : Vec F S1x128x768 .f32) (x7 : Vec F S1x384x128 .f32) (x8 : Vec F S1x384x128 .f32) (x9 : Vec F S1x128x768 .f32) (x10 : Vec F S1x128x768 .f32) (x11 : Vec F S1x384x128 .f32) (x12 : Vec F S1x384x128 .f32) (x13 : Vec F S1x128x768 .f32) (x14 : Vec F S1x128x768 .f32) (x15 : Vec F S1x384x128 .f32) (x16 : Vec F S1x384x128 .f32) (x17 : Vec F S1x128x768 .f32) (x18 : Vec F S1x128x768 .f32) (x19 : Vec F S1x384x128 .f32) (x20 : Vec F S1x384x128 .f32) (x21 : Vec F S1x128x768 .f32) (x22 : Vec F S1x128x768 .f32) (x23 : Vec F S1x384x128 .f32) (x24 : Vec F S1x384x128 .f32) (x25 : Vec F S1x128x768 .f32) (x26 : Vec F S1x128x768 .f32) (x27 : Vec F S1x384x128 .f32) (x28 : Vec F S1x384x128 .f32) (x29 : Vec F S1x128x768 .f32) (x30 : Vec F S1x128x768 .f32) (x31 : Vec F S1x384x128 .f32) (x32 : Vec F S1x384x128 .f32) : Vec F S512x768 .f32 := View.canon (outPieces x0 x1 x2 x3 x4 x5 x6 x7 x8 x9 x10 x11 x12 x13 x14 x15 x16 x17 x18 x19 x20 x21 x22 x23 x24 x25 x26 x27 x28 x29 x30 x31 x32)

set_option maxHeartbeats 3200000 in
theorem sound_kernel (c : Dev nD) (i : grid2.Coords) (arg2 : Memref sig .tc .vmem S512x768 .f32) (harg2 : arg2.IsWhole) (arg3 : Memref sig .tc .vmem S1x128x768 .f32) (harg3 : arg3.IsWhole) (arg4 : Memref sig .tc .vmem S1x128x768 .f32) (harg4 : arg4.IsWhole) (arg5 : Memref sig .tc .vmem S1x384x128 .f32) (harg5 : arg5.IsWhole) (arg6 : Memref sig .tc .vmem S1x384x128 .f32) (harg6 : arg6.IsWhole) (arg7 : Memref sig .tc .vmem S1x128x768 .f32) (harg7 : arg7.IsWhole) (arg8 : Memref sig .tc .vmem S1x128x768 .f32) (harg8 : arg8.IsWhole) (arg9 : Memref sig .tc .vmem S1x384x128 .f32) (harg9 : arg9.IsWhole) (arg10 : Memref sig .tc .vmem S1x384x128 .f32) (harg10 : arg10.IsWhole) (arg11 : Memref sig .tc .vmem S1x128x768 .f32) (harg11 : arg11.IsWhole) (arg12 : Memref sig .tc .vmem S1x128x768 .f32) (harg12 : arg12.IsWhole) (arg13 : Memref sig .tc .vmem S1x384x128 .f32) (harg13 : arg13.IsWhole) (arg14 : Memref sig .tc .vmem S1x384x128 .f32) (harg14 : arg14.IsWhole) (arg15 : Memref sig .tc .vmem S1x128x768 .f32) (harg15 : arg15.IsWhole) (arg16 : Memref sig .tc .vmem S1x128x768 .f32) (harg16 : arg16.IsWhole) (arg17 : Memref sig .tc .vmem S1x384x128 .f32) (harg17 : arg17.IsWhole) (arg18 : Memref sig .tc .vmem S1x384x128 .f32) (harg18 : arg18.IsWhole) (arg19 : Memref sig .tc .vmem S1x128x768 .f32) (harg19 : arg19.IsWhole) (arg20 : Memref sig .tc .vmem S1x128x768 .f32) (harg20 : arg20.IsWhole) (arg21 : Memref sig .tc .vmem S1x384x128 .f32) (harg21 : arg21.IsWhole) (arg22 : Memref sig .tc .vmem S1x384x128 .f32) (harg22 : arg22.IsWhole) (arg23 : Memref sig .tc .vmem S1x128x768 .f32) (harg23 : arg23.IsWhole) (arg24 : Memref sig .tc .vmem S1x128x768 .f32) (harg24 : arg24.IsWhole) (arg25 : Memref sig .tc .vmem S1x384x128 .f32) (harg25 : arg25.IsWhole) (arg26 : Memref sig .tc .vmem S1x384x128 .f32) (harg26 : arg26.IsWhole) (arg27 : Memref sig .tc .vmem S1x128x768 .f32) (harg27 : arg27.IsWhole) (arg28 : Memref sig .tc .vmem S1x128x768 .f32) (harg28 : arg28.IsWhole) (arg29 : Memref sig .tc .vmem S1x384x128 .f32) (harg29 : arg29.IsWhole) (arg30 : Memref sig .tc .vmem S1x384x128 .f32) (harg30 : arg30.IsWhole) (arg31 : Memref sig .tc .vmem S1x128x768 .f32) (harg31 : arg31.IsWhole) (arg32 : Memref sig .tc .vmem S1x128x768 .f32) (harg32 : arg32.IsWhole) (arg33 : Memref sig .tc .vmem S1x384x128 .f32) (harg33 : arg33.IsWhole) (arg34 : Memref sig .tc .vmem S1x384x128 .f32) (harg34 : arg34.IsWhole) (arg35 : Memref sig .tc .vmem S512x768 .f32) (harg35 : arg35.IsWhole)
    (x0 : Vec F S512x768 .f32) (x1 : Vec F S1x128x768 .f32) (x2 : Vec F S1x128x768 .f32) (x3 : Vec F S1x384x128 .f32) (x4 : Vec F S1x384x128 .f32) (x5 : Vec F S1x128x768 .f32) (x6 : Vec F S1x128x768 .f32) (x7 : Vec F S1x384x128 .f32) (x8 : Vec F S1x384x128 .f32) (x9 : Vec F S1x128x768 .f32) (x10 : Vec F S1x128x768 .f32) (x11 : Vec F S1x384x128 .f32) (x12 : Vec F S1x384x128 .f32) (x13 : Vec F S1x128x768 .f32) (x14 : Vec F S1x128x768 .f32) (x15 : Vec F S1x384x128 .f32) (x16 : Vec F S1x384x128 .f32) (x17 : Vec F S1x128x768 .f32) (x18 : Vec F S1x128x768 .f32) (x19 : Vec F S1x384x128 .f32) (x20 : Vec F S1x384x128 .f32) (x21 : Vec F S1x128x768 .f32) (x22 : Vec F S1x128x768 .f32) (x23 : Vec F S1x384x128 .f32) (x24 : Vec F S1x384x128 .f32) (x25 : Vec F S1x128x768 .f32) (x26 : Vec F S1x128x768 .f32) (x27 : Vec F S1x384x128 .f32) (x28 : Vec F S1x384x128 .f32) (x29 : Vec F S1x128x768 .f32) (x30 : Vec F S1x128x768 .f32) (x31 : Vec F S1x384x128 .f32) (x32 : Vec F S1x384x128 .f32) (xt0 : TbBuf2 (F := F) c tbM2_0) (E : Set ℕ) (Q : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28 ∗ owns (c : Thread nD τ) arg31 fullShare x29 ∗ owns (c : Thread nD τ) arg32 fullShare x30 ∗ owns (c : Thread nD τ) arg33 fullShare x31 ∗ owns (c : Thread nD τ) arg34 fullShare x32 ∗ (∃ d, owns (c : Thread nD τ) arg35 fullShare d) ∗ tbPt2 c tbM2_0 xt0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28 ∗ owns (c : Thread nD τ) arg31 fullShare x29 ∗ owns (c : Thread nD τ) arg32 fullShare x30 ∗ owns (c : Thread nD τ) arg33 fullShare x31 ∗ owns (c : Thread nD τ) arg34 fullShare x32 ∗ owns (c : Thread nD τ) arg35 fullShare (out2 x0 x1 x2 x3 x4 x5 x6 x7 x8 x9 x10 x11 x12 x13 x14 x15 x16 x17 x18 x19 x20 x21 x22 x23 x24 x25 x26 x27 x28 x29 x30 x31 x32) ∗ tbPt2 c tbM2_0 xt0) -∗ Q ⟨⟩))
      ⊢ wp frame (wpE (defs₀ (F := F)) Variants.none c none) E (cc2__ffn_body i tbM2_0 htbM2_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35) Q := by
  simp only [cc2__ffn_body_eq_skeleton]; unfold cc2__ffn_body_skel
  simp only [k2_part1_eq_skeleton, k2_part2_eq_skeleton, k2_part3_eq_skeleton, k2_part4_eq_skeleton, k2_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%d33, %f33, -, H33⟩, HT0, Hk⟩
  subst hf0 hf1 hf2 hf3 hf4 hf5 hf6 hf7 hf8 hf9 hf10 hf11 hf12 hf13 hf14 hf15 hf16 hf17 hf18 hf19 hf20 hf21 hf22 hf23 hf24 hf25 hf26 hf27 hf28 hf29 hf30 hf31 hf32
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  isplitl [H31]
  · iexists f31; isplitr; · ipureintro; rfl
    iexact H31
  isplitl [H32]
  · iexists f32; isplitr; · ipureintro; rfl
    iexact H32
  isplitl [H33]
  · iexists _; isplitr
    swap; · iexact H33
    ipureintro
    refine (View.read_writes_eq_canon _ _ _ (cover_gen _ _ _ _ _ _ _ _ _ _ _ _ _ _ _ _)).trans ?_
    rfl
  iexact HT0

end Cert.Proof.Whole.Ffn

end
-- ==== Proof.W.FfnRegion.lean ====
/-
  The experts' call: what its body writes at each grid point, and the body as the region asks for it.
-/
module

public import proofs.«01_k».proof.Proof.W.FfnRun
public import Idealize.ShloMosaic.Lib.Pipeline.FrameBody
public import Idealize.ShloMosaic.Lib.Ring

@[expose] public section

set_option maxRecDepth 16384

noncomputable section

namespace Cert.Proof.Whole.Ffn

open Cert.WholeIdeal Cert.WholeIdeal.Gen Cert.Proof.Whole
open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf scopedRest)

variable {F : FTy → Type} [FloatOps F]

local notation "𝕄" => MT nD τ sig (HIx 2) (Elt F) ℕ UU ℕ

variable (V : (c : Dev nD) → Arrs F c) (n b : ℕ) (tb : pre2.Contents (Elt F))

def ffnDat (hO : Ok tb) (c : Dev nD) : Dat τ (Elt F) (HIx 2) ℕ UU ℕ (cfgM tb hO) c where
  A w := V c (Pipeline.arrRef spec2 w)
  after w t := match w with
    | ⟨0, _⟩ => iblk V tb hO c 0 t
    | ⟨1, _⟩ => iblk V tb hO c 1 t
    | ⟨2, _⟩ => iblk V tb hO c 2 t
    | ⟨3, _⟩ => iblk V tb hO c 3 t
    | ⟨4, _⟩ => iblk V tb hO c 4 t
    | ⟨5, _⟩ => iblk V tb hO c 5 t
    | ⟨6, _⟩ => iblk V tb hO c 6 t
    | ⟨7, _⟩ => iblk V tb hO c 7 t
    | ⟨8, _⟩ => iblk V tb hO c 8 t
    | ⟨9, _⟩ => iblk V tb hO c 9 t
    | ⟨10, _⟩ => iblk V tb hO c 10 t
    | ⟨11, _⟩ => iblk V tb hO c 11 t
    | ⟨12, _⟩ => iblk V tb hO c 12 t
    | ⟨13, _⟩ => iblk V tb hO c 13 t
    | ⟨14, _⟩ => iblk V tb hO c 14 t
    | ⟨15, _⟩ => iblk V tb hO c 15 t
    | ⟨16, _⟩ => iblk V tb hO c 16 t
    | ⟨17, _⟩ => iblk V tb hO c 17 t
    | ⟨18, _⟩ => iblk V tb hO c 18 t
    | ⟨19, _⟩ => iblk V tb hO c 19 t
    | ⟨20, _⟩ => iblk V tb hO c 20 t
    | ⟨21, _⟩ => iblk V tb hO c 21 t
    | ⟨22, _⟩ => iblk V tb hO c 22 t
    | ⟨23, _⟩ => iblk V tb hO c 23 t
    | ⟨24, _⟩ => iblk V tb hO c 24 t
    | ⟨25, _⟩ => iblk V tb hO c 25 t
    | ⟨26, _⟩ => iblk V tb hO c 26 t
    | ⟨27, _⟩ => iblk V tb hO c 27 t
    | ⟨28, _⟩ => iblk V tb hO c 28 t
    | ⟨29, _⟩ => iblk V tb hO c 29 t
    | ⟨30, _⟩ => iblk V tb hO c 30 t
    | ⟨31, _⟩ => iblk V tb hO c 31 t
    | ⟨32, _⟩ => iblk V tb hO c 32 t
    | ⟨33, _⟩ => (out2 (iblk V tb hO c 0 t) (iblk V tb hO c 1 t) (iblk V tb hO c 2 t) (iblk V tb hO c 3 t) (iblk V tb hO c 4 t) (iblk V tb hO c 5 t) (iblk V tb hO c 6 t) (iblk V tb hO c 7 t) (iblk V tb hO c 8 t) (iblk V tb hO c 9 t) (iblk V tb hO c 10 t) (iblk V tb hO c 11 t) (iblk V tb hO c 12 t) (iblk V tb hO c 13 t) (iblk V tb hO c 14 t) (iblk V tb hO c 15 t) (iblk V tb hO c 16 t) (iblk V tb hO c 17 t) (iblk V tb hO c 18 t) (iblk V tb hO c 19 t) (iblk V tb hO c 20 t) (iblk V tb hO c 21 t) (iblk V tb hO c 22 t) (iblk V tb hO c 23 t) (iblk V tb hO c 24 t) (iblk V tb hO c 25 t) (iblk V tb hO c 26 t) (iblk V tb hO c 27 t) (iblk V tb hO c 28 t) (iblk V tb hO c 29 t) (iblk V tb hO c 30 t) (iblk V tb hO c 31 t) (iblk V tb hO c 32 t))
    | ⟨_ + 34, h⟩ => absurd h (Nat.not_lt.2 (Nat.le_add_left _ _))
  Φ _ := iprop(scopedRest spec2 c ∗ PhiT tb c)
  q w := Pipeline.shareOf spec2 w
  owed _ := (K (F := F)).Otc c n
  recorded _ := recB (F := F) b c

theorem A_eq (hO : Ok tb) (c : Dev nD) (w : Fin (cfgM tb hO).W) : (ffnDat V n b tb hO c).A w = V c (Pipeline.arrRef spec2 w) := by
  dsimp only [ffnDat]

theorem after0_0 (hO : Ok tb) (c : Dev nD) (t : Fin (cfgM tb hO).N) : (ffnDat V n b tb hO c).after 0 t = iblk V tb hO c 0 t := by dsimp only [ffnDat]; try rfl
theorem after0_1 (hO : Ok tb) (c : Dev nD) (t : Fin (cfgM tb hO).N) : (ffnDat V n b tb hO c).after 1 t = iblk V tb hO c 1 t := by dsimp only [ffnDat]; try rfl
theorem after0_2 (hO : Ok tb) (c : Dev nD) (t : Fin (cfgM tb hO).N) : (ffnDat V n b tb hO c).after 2 t = iblk V tb hO c 2 t := by dsimp only [ffnDat]; try rfl
theorem after0_3 (hO : Ok tb) (c : Dev nD) (t : Fin (cfgM tb hO).N) : (ffnDat V n b tb hO c).after 3 t = iblk V tb hO c 3 t := by dsimp only [ffnDat]; try rfl
theorem after0_4 (hO : Ok tb) (c : Dev nD) (t : Fin (cfgM tb hO).N) : (ffnDat V n b tb hO c).after 4 t = iblk V tb hO c 4 t := by dsimp only [ffnDat]; try rfl
theorem after0_5 (hO : Ok tb) (c : Dev nD) (t : Fin (cfgM tb hO).N) : (ffnDat V n b tb hO c).after 5 t = iblk V tb hO c 5 t := by dsimp only [ffnDat]; try rfl
theorem after0_6 (hO : Ok tb) (c : Dev nD) (t : Fin (cfgM tb hO).N) : (ffnDat V n b tb hO c).after 6 t = iblk V tb hO c 6 t := by dsimp only [ffnDat]; try rfl
theorem after0_7 (hO : Ok tb) (c : Dev nD) (t : Fin (cfgM tb hO).N) : (ffnDat V n b tb hO c).after 7 t = iblk V tb hO c 7 t := by dsimp only [ffnDat]; try rfl
theorem after0_8 (hO : Ok tb) (c : Dev nD) (t : Fin (cfgM tb hO).N) : (ffnDat V n b tb hO c).after 8 t = iblk V tb hO c 8 t := by dsimp only [ffnDat]; try rfl
theorem after0_9 (hO : Ok tb) (c : Dev nD) (t : Fin (cfgM tb hO).N) : (ffnDat V n b tb hO c).after 9 t = iblk V tb hO c 9 t := by dsimp only [ffnDat]; try rfl
theorem after0_10 (hO : Ok tb) (c : Dev nD) (t : Fin (cfgM tb hO).N) : (ffnDat V n b tb hO c).after 10 t = iblk V tb hO c 10 t := by dsimp only [ffnDat]; try rfl
theorem after0_11 (hO : Ok tb) (c : Dev nD) (t : Fin (cfgM tb hO).N) : (ffnDat V n b tb hO c).after 11 t = iblk V tb hO c 11 t := by dsimp only [ffnDat]; try rfl
theorem after0_12 (hO : Ok tb) (c : Dev nD) (t : Fin (cfgM tb hO).N) : (ffnDat V n b tb hO c).after 12 t = iblk V tb hO c 12 t := by dsimp only [ffnDat]; try rfl
theorem after0_13 (hO : Ok tb) (c : Dev nD) (t : Fin (cfgM tb hO).N) : (ffnDat V n b tb hO c).after 13 t = iblk V tb hO c 13 t := by dsimp only [ffnDat]; try rfl
theorem after0_14 (hO : Ok tb) (c : Dev nD) (t : Fin (cfgM tb hO).N) : (ffnDat V n b tb hO c).after 14 t = iblk V tb hO c 14 t := by dsimp only [ffnDat]; try rfl
theorem after0_15 (hO : Ok tb) (c : Dev nD) (t : Fin (cfgM tb hO).N) : (ffnDat V n b tb hO c).after 15 t = iblk V tb hO c 15 t := by dsimp only [ffnDat]; try rfl
theorem after0_16 (hO : Ok tb) (c : Dev nD) (t : Fin (cfgM tb hO).N) : (ffnDat V n b tb hO c).after 16 t = iblk V tb hO c 16 t := by dsimp only [ffnDat]; try rfl
theorem after0_17 (hO : Ok tb) (c : Dev nD) (t : Fin (cfgM tb hO).N) : (ffnDat V n b tb hO c).after 17 t = iblk V tb hO c 17 t := by dsimp only [ffnDat]; try rfl
theorem after0_18 (hO : Ok tb) (c : Dev nD) (t : Fin (cfgM tb hO).N) : (ffnDat V n b tb hO c).after 18 t = iblk V tb hO c 18 t := by dsimp only [ffnDat]; try rfl
theorem after0_19 (hO : Ok tb) (c : Dev nD) (t : Fin (cfgM tb hO).N) : (ffnDat V n b tb hO c).after 19 t = iblk V tb hO c 19 t := by dsimp only [ffnDat]; try rfl
theorem after0_20 (hO : Ok tb) (c : Dev nD) (t : Fin (cfgM tb hO).N) : (ffnDat V n b tb hO c).after 20 t = iblk V tb hO c 20 t := by dsimp only [ffnDat]; try rfl
theorem after0_21 (hO : Ok tb) (c : Dev nD) (t : Fin (cfgM tb hO).N) : (ffnDat V n b tb hO c).after 21 t = iblk V tb hO c 21 t := by dsimp only [ffnDat]; try rfl
theorem after0_22 (hO : Ok tb) (c : Dev nD) (t : Fin (cfgM tb hO).N) : (ffnDat V n b tb hO c).after 22 t = iblk V tb hO c 22 t := by dsimp only [ffnDat]; try rfl
theorem after0_23 (hO : Ok tb) (c : Dev nD) (t : Fin (cfgM tb hO).N) : (ffnDat V n b tb hO c).after 23 t = iblk V tb hO c 23 t := by dsimp only [ffnDat]; try rfl
theorem after0_24 (hO : Ok tb) (c : Dev nD) (t : Fin (cfgM tb hO).N) : (ffnDat V n b tb hO c).after 24 t = iblk V tb hO c 24 t := by dsimp only [ffnDat]; try rfl
theorem after0_25 (hO : Ok tb) (c : Dev nD) (t : Fin (cfgM tb hO).N) : (ffnDat V n b tb hO c).after 25 t = iblk V tb hO c 25 t := by dsimp only [ffnDat]; try rfl
theorem after0_26 (hO : Ok tb) (c : Dev nD) (t : Fin (cfgM tb hO).N) : (ffnDat V n b tb hO c).after 26 t = iblk V tb hO c 26 t := by dsimp only [ffnDat]; try rfl
theorem after0_27 (hO : Ok tb) (c : Dev nD) (t : Fin (cfgM tb hO).N) : (ffnDat V n b tb hO c).after 27 t = iblk V tb hO c 27 t := by dsimp only [ffnDat]; try rfl
theorem after0_28 (hO : Ok tb) (c : Dev nD) (t : Fin (cfgM tb hO).N) : (ffnDat V n b tb hO c).after 28 t = iblk V tb hO c 28 t := by dsimp only [ffnDat]; try rfl
theorem after0_29 (hO : Ok tb) (c : Dev nD) (t : Fin (cfgM tb hO).N) : (ffnDat V n b tb hO c).after 29 t = iblk V tb hO c 29 t := by dsimp only [ffnDat]; try rfl
theorem after0_30 (hO : Ok tb) (c : Dev nD) (t : Fin (cfgM tb hO).N) : (ffnDat V n b tb hO c).after 30 t = iblk V tb hO c 30 t := by dsimp only [ffnDat]; try rfl
theorem after0_31 (hO : Ok tb) (c : Dev nD) (t : Fin (cfgM tb hO).N) : (ffnDat V n b tb hO c).after 31 t = iblk V tb hO c 31 t := by dsimp only [ffnDat]; try rfl
theorem after0_32 (hO : Ok tb) (c : Dev nD) (t : Fin (cfgM tb hO).N) : (ffnDat V n b tb hO c).after 32 t = iblk V tb hO c 32 t := by dsimp only [ffnDat]; try rfl
theorem after0_33 (hO : Ok tb) (c : Dev nD) (t : Fin (cfgM tb hO).N) : (ffnDat V n b tb hO c).after 33 t = (out2 (iblk V tb hO c 0 t) (iblk V tb hO c 1 t) (iblk V tb hO c 2 t) (iblk V tb hO c 3 t) (iblk V tb hO c 4 t) (iblk V tb hO c 5 t) (iblk V tb hO c 6 t) (iblk V tb hO c 7 t) (iblk V tb hO c 8 t) (iblk V tb hO c 9 t) (iblk V tb hO c 10 t) (iblk V tb hO c 11 t) (iblk V tb hO c 12 t) (iblk V tb hO c 13 t) (iblk V tb hO c 14 t) (iblk V tb hO c 15 t) (iblk V tb hO c 16 t) (iblk V tb hO c 17 t) (iblk V tb hO c 18 t) (iblk V tb hO c 19 t) (iblk V tb hO c 20 t) (iblk V tb hO c 21 t) (iblk V tb hO c 22 t) (iblk V tb hO c 23 t) (iblk V tb hO c 24 t) (iblk V tb hO c 25 t) (iblk V tb hO c 26 t) (iblk V tb hO c 27 t) (iblk V tb hO c 28 t) (iblk V tb hO c 29 t) (iblk V tb hO c 30 t) (iblk V tb hO c 31 t) (iblk V tb hO c 32 t)) := by dsimp only [ffnDat]; try rfl

theorem before0_0 (hO : Ok tb) (c : Dev nD) (t : Fin (cfgM tb hO).N) (d) : (ffnDat V n b tb hO c).before 0 t d = iblk V tb hO c 0 t :=
  before0_0_of V tb hO (ffnDat V n b tb hO c) (A_eq V n b tb hO c 0) (after0_0 V n b tb hO c) t d
theorem before0_1 (hO : Ok tb) (c : Dev nD) (t : Fin (cfgM tb hO).N) (d) : (ffnDat V n b tb hO c).before 1 t d = iblk V tb hO c 1 t :=
  before0_1_of V tb hO (ffnDat V n b tb hO c) (A_eq V n b tb hO c 1) (after0_1 V n b tb hO c) t d
theorem before0_2 (hO : Ok tb) (c : Dev nD) (t : Fin (cfgM tb hO).N) (d) : (ffnDat V n b tb hO c).before 2 t d = iblk V tb hO c 2 t :=
  before0_2_of V tb hO (ffnDat V n b tb hO c) (A_eq V n b tb hO c 2) (after0_2 V n b tb hO c) t d
theorem before0_3 (hO : Ok tb) (c : Dev nD) (t : Fin (cfgM tb hO).N) (d) : (ffnDat V n b tb hO c).before 3 t d = iblk V tb hO c 3 t :=
  before0_3_of V tb hO (ffnDat V n b tb hO c) (A_eq V n b tb hO c 3) (after0_3 V n b tb hO c) t d
theorem before0_4 (hO : Ok tb) (c : Dev nD) (t : Fin (cfgM tb hO).N) (d) : (ffnDat V n b tb hO c).before 4 t d = iblk V tb hO c 4 t :=
  before0_4_of V tb hO (ffnDat V n b tb hO c) (A_eq V n b tb hO c 4) (after0_4 V n b tb hO c) t d
theorem before0_5 (hO : Ok tb) (c : Dev nD) (t : Fin (cfgM tb hO).N) (d) : (ffnDat V n b tb hO c).before 5 t d = iblk V tb hO c 5 t :=
  before0_5_of V tb hO (ffnDat V n b tb hO c) (A_eq V n b tb hO c 5) (after0_5 V n b tb hO c) t d
theorem before0_6 (hO : Ok tb) (c : Dev nD) (t : Fin (cfgM tb hO).N) (d) : (ffnDat V n b tb hO c).before 6 t d = iblk V tb hO c 6 t :=
  before0_6_of V tb hO (ffnDat V n b tb hO c) (A_eq V n b tb hO c 6) (after0_6 V n b tb hO c) t d
theorem before0_7 (hO : Ok tb) (c : Dev nD) (t : Fin (cfgM tb hO).N) (d) : (ffnDat V n b tb hO c).before 7 t d = iblk V tb hO c 7 t :=
  before0_7_of V tb hO (ffnDat V n b tb hO c) (A_eq V n b tb hO c 7) (after0_7 V n b tb hO c) t d
theorem before0_8 (hO : Ok tb) (c : Dev nD) (t : Fin (cfgM tb hO).N) (d) : (ffnDat V n b tb hO c).before 8 t d = iblk V tb hO c 8 t :=
  before0_8_of V tb hO (ffnDat V n b tb hO c) (A_eq V n b tb hO c 8) (after0_8 V n b tb hO c) t d
theorem before0_9 (hO : Ok tb) (c : Dev nD) (t : Fin (cfgM tb hO).N) (d) : (ffnDat V n b tb hO c).before 9 t d = iblk V tb hO c 9 t :=
  before0_9_of V tb hO (ffnDat V n b tb hO c) (A_eq V n b tb hO c 9) (after0_9 V n b tb hO c) t d
theorem before0_10 (hO : Ok tb) (c : Dev nD) (t : Fin (cfgM tb hO).N) (d) : (ffnDat V n b tb hO c).before 10 t d = iblk V tb hO c 10 t :=
  before0_10_of V tb hO (ffnDat V n b tb hO c) (A_eq V n b tb hO c 10) (after0_10 V n b tb hO c) t d
theorem before0_11 (hO : Ok tb) (c : Dev nD) (t : Fin (cfgM tb hO).N) (d) : (ffnDat V n b tb hO c).before 11 t d = iblk V tb hO c 11 t :=
  before0_11_of V tb hO (ffnDat V n b tb hO c) (A_eq V n b tb hO c 11) (after0_11 V n b tb hO c) t d
theorem before0_12 (hO : Ok tb) (c : Dev nD) (t : Fin (cfgM tb hO).N) (d) : (ffnDat V n b tb hO c).before 12 t d = iblk V tb hO c 12 t :=
  before0_12_of V tb hO (ffnDat V n b tb hO c) (A_eq V n b tb hO c 12) (after0_12 V n b tb hO c) t d
theorem before0_13 (hO : Ok tb) (c : Dev nD) (t : Fin (cfgM tb hO).N) (d) : (ffnDat V n b tb hO c).before 13 t d = iblk V tb hO c 13 t :=
  before0_13_of V tb hO (ffnDat V n b tb hO c) (A_eq V n b tb hO c 13) (after0_13 V n b tb hO c) t d
theorem before0_14 (hO : Ok tb) (c : Dev nD) (t : Fin (cfgM tb hO).N) (d) : (ffnDat V n b tb hO c).before 14 t d = iblk V tb hO c 14 t :=
  before0_14_of V tb hO (ffnDat V n b tb hO c) (A_eq V n b tb hO c 14) (after0_14 V n b tb hO c) t d
theorem before0_15 (hO : Ok tb) (c : Dev nD) (t : Fin (cfgM tb hO).N) (d) : (ffnDat V n b tb hO c).before 15 t d = iblk V tb hO c 15 t :=
  before0_15_of V tb hO (ffnDat V n b tb hO c) (A_eq V n b tb hO c 15) (after0_15 V n b tb hO c) t d
theorem before0_16 (hO : Ok tb) (c : Dev nD) (t : Fin (cfgM tb hO).N) (d) : (ffnDat V n b tb hO c).before 16 t d = iblk V tb hO c 16 t :=
  before0_16_of V tb hO (ffnDat V n b tb hO c) (A_eq V n b tb hO c 16) (after0_16 V n b tb hO c) t d
theorem before0_17 (hO : Ok tb) (c : Dev nD) (t : Fin (cfgM tb hO).N) (d) : (ffnDat V n b tb hO c).before 17 t d = iblk V tb hO c 17 t :=
  before0_17_of V tb hO (ffnDat V n b tb hO c) (A_eq V n b tb hO c 17) (after0_17 V n b tb hO c) t d
theorem before0_18 (hO : Ok tb) (c : Dev nD) (t : Fin (cfgM tb hO).N) (d) : (ffnDat V n b tb hO c).before 18 t d = iblk V tb hO c 18 t :=
  before0_18_of V tb hO (ffnDat V n b tb hO c) (A_eq V n b tb hO c 18) (after0_18 V n b tb hO c) t d
theorem before0_19 (hO : Ok tb) (c : Dev nD) (t : Fin (cfgM tb hO).N) (d) : (ffnDat V n b tb hO c).before 19 t d = iblk V tb hO c 19 t :=
  before0_19_of V tb hO (ffnDat V n b tb hO c) (A_eq V n b tb hO c 19) (after0_19 V n b tb hO c) t d
theorem before0_20 (hO : Ok tb) (c : Dev nD) (t : Fin (cfgM tb hO).N) (d) : (ffnDat V n b tb hO c).before 20 t d = iblk V tb hO c 20 t :=
  before0_20_of V tb hO (ffnDat V n b tb hO c) (A_eq V n b tb hO c 20) (after0_20 V n b tb hO c) t d
theorem before0_21 (hO : Ok tb) (c : Dev nD) (t : Fin (cfgM tb hO).N) (d) : (ffnDat V n b tb hO c).before 21 t d = iblk V tb hO c 21 t :=
  before0_21_of V tb hO (ffnDat V n b tb hO c) (A_eq V n b tb hO c 21) (after0_21 V n b tb hO c) t d
theorem before0_22 (hO : Ok tb) (c : Dev nD) (t : Fin (cfgM tb hO).N) (d) : (ffnDat V n b tb hO c).before 22 t d = iblk V tb hO c 22 t :=
  before0_22_of V tb hO (ffnDat V n b tb hO c) (A_eq V n b tb hO c 22) (after0_22 V n b tb hO c) t d
theorem before0_23 (hO : Ok tb) (c : Dev nD) (t : Fin (cfgM tb hO).N) (d) : (ffnDat V n b tb hO c).before 23 t d = iblk V tb hO c 23 t :=
  before0_23_of V tb hO (ffnDat V n b tb hO c) (A_eq V n b tb hO c 23) (after0_23 V n b tb hO c) t d
theorem before0_24 (hO : Ok tb) (c : Dev nD) (t : Fin (cfgM tb hO).N) (d) : (ffnDat V n b tb hO c).before 24 t d = iblk V tb hO c 24 t :=
  before0_24_of V tb hO (ffnDat V n b tb hO c) (A_eq V n b tb hO c 24) (after0_24 V n b tb hO c) t d
theorem before0_25 (hO : Ok tb) (c : Dev nD) (t : Fin (cfgM tb hO).N) (d) : (ffnDat V n b tb hO c).before 25 t d = iblk V tb hO c 25 t :=
  before0_25_of V tb hO (ffnDat V n b tb hO c) (A_eq V n b tb hO c 25) (after0_25 V n b tb hO c) t d
theorem before0_26 (hO : Ok tb) (c : Dev nD) (t : Fin (cfgM tb hO).N) (d) : (ffnDat V n b tb hO c).before 26 t d = iblk V tb hO c 26 t :=
  before0_26_of V tb hO (ffnDat V n b tb hO c) (A_eq V n b tb hO c 26) (after0_26 V n b tb hO c) t d
theorem before0_27 (hO : Ok tb) (c : Dev nD) (t : Fin (cfgM tb hO).N) (d) : (ffnDat V n b tb hO c).before 27 t d = iblk V tb hO c 27 t :=
  before0_27_of V tb hO (ffnDat V n b tb hO c) (A_eq V n b tb hO c 27) (after0_27 V n b tb hO c) t d
theorem before0_28 (hO : Ok tb) (c : Dev nD) (t : Fin (cfgM tb hO).N) (d) : (ffnDat V n b tb hO c).before 28 t d = iblk V tb hO c 28 t :=
  before0_28_of V tb hO (ffnDat V n b tb hO c) (A_eq V n b tb hO c 28) (after0_28 V n b tb hO c) t d
theorem before0_29 (hO : Ok tb) (c : Dev nD) (t : Fin (cfgM tb hO).N) (d) : (ffnDat V n b tb hO c).before 29 t d = iblk V tb hO c 29 t :=
  before0_29_of V tb hO (ffnDat V n b tb hO c) (A_eq V n b tb hO c 29) (after0_29 V n b tb hO c) t d
theorem before0_30 (hO : Ok tb) (c : Dev nD) (t : Fin (cfgM tb hO).N) (d) : (ffnDat V n b tb hO c).before 30 t d = iblk V tb hO c 30 t :=
  before0_30_of V tb hO (ffnDat V n b tb hO c) (A_eq V n b tb hO c 30) (after0_30 V n b tb hO c) t d
theorem before0_31 (hO : Ok tb) (c : Dev nD) (t : Fin (cfgM tb hO).N) (d) : (ffnDat V n b tb hO c).before 31 t d = iblk V tb hO c 31 t :=
  before0_31_of V tb hO (ffnDat V n b tb hO c) (A_eq V n b tb hO c 31) (after0_31 V n b tb hO c) t d
theorem before0_32 (hO : Ok tb) (c : Dev nD) (t : Fin (cfgM tb hO).N) (d) : (ffnDat V n b tb hO c).before 32 t d = iblk V tb hO c 32 t :=
  before0_32_of V tb hO (ffnDat V n b tb hO c) (A_eq V n b tb hO c 32) (after0_32 V n b tb hO c) t d

/-- The body at point `t`, on the buffers of its windows there. -/
abbrev bodyAt2 (hO : Ok tb) (t : Fin (cfgM tb hO).N) : Prog (TpuEff nD τ sig (Elt F) Λ₀ .tc) PUnit :=
  cc2__ffn_body (grid2.coords t) tbM2_0 htbM2_0 (ms0_0 tb hO t) (hs0_0 tb hO t) (ms0_1 tb hO t) (hs0_1 tb hO t) (ms0_2 tb hO t) (hs0_2 tb hO t) (ms0_3 tb hO t) (hs0_3 tb hO t) (ms0_4 tb hO t) (hs0_4 tb hO t) (ms0_5 tb hO t) (hs0_5 tb hO t) (ms0_6 tb hO t) (hs0_6 tb hO t) (ms0_7 tb hO t) (hs0_7 tb hO t) (ms0_8 tb hO t) (hs0_8 tb hO t) (ms0_9 tb hO t) (hs0_9 tb hO t) (ms0_10 tb hO t) (hs0_10 tb hO t) (ms0_11 tb hO t) (hs0_11 tb hO t) (ms0_12 tb hO t) (hs0_12 tb hO t) (ms0_13 tb hO t) (hs0_13 tb hO t) (ms0_14 tb hO t) (hs0_14 tb hO t) (ms0_15 tb hO t) (hs0_15 tb hO t) (ms0_16 tb hO t) (hs0_16 tb hO t) (ms0_17 tb hO t) (hs0_17 tb hO t) (ms0_18 tb hO t) (hs0_18 tb hO t) (ms0_19 tb hO t) (hs0_19 tb hO t) (ms0_20 tb hO t) (hs0_20 tb hO t) (ms0_21 tb hO t) (hs0_21 tb hO t) (ms0_22 tb hO t) (hs0_22 tb hO t) (ms0_23 tb hO t) (hs0_23 tb hO t) (ms0_24 tb hO t) (hs0_24 tb hO t) (ms0_25 tb hO t) (hs0_25 tb hO t) (ms0_26 tb hO t) (hs0_26 tb hO t) (ms0_27 tb hO t) (hs0_27 tb hO t) (ms0_28 tb hO t) (hs0_28 tb hO t) (ms0_29 tb hO t) (hs0_29 tb hO t) (ms0_30 tb hO t) (hs0_30 tb hO t) (ms0_31 tb hO t) (hs0_31 tb hO t) (ms0_32 tb hO t) (hs0_32 tb hO t) (ms0_33 tb hO t) (hs0_33 tb hO t)

def bodyPre (hO : Ok tb) (c : Dev nD) (t : Fin (cfgM tb hO).N) : sProp 𝕄 :=
  iprop((ffnDat V n b tb hO c).Φ t.castSucc ∗ (ffnDat V n b tb hO c).owesAt (none : HIx 2) t.castSucc
    ∗ (∃ d, owns (c : Thread nD τ) (ms0_0 tb hO t) fullShare ((ffnDat V n b tb hO c).before 0 t d))
    ∗ (∃ d, owns (c : Thread nD τ) (ms0_1 tb hO t) fullShare ((ffnDat V n b tb hO c).before 1 t d))
    ∗ (∃ d, owns (c : Thread nD τ) (ms0_2 tb hO t) fullShare ((ffnDat V n b tb hO c).before 2 t d))
    ∗ (∃ d, owns (c : Thread nD τ) (ms0_3 tb hO t) fullShare ((ffnDat V n b tb hO c).before 3 t d))
    ∗ (∃ d, owns (c : Thread nD τ) (ms0_4 tb hO t) fullShare ((ffnDat V n b tb hO c).before 4 t d))
    ∗ (∃ d, owns (c : Thread nD τ) (ms0_5 tb hO t) fullShare ((ffnDat V n b tb hO c).before 5 t d))
    ∗ (∃ d, owns (c : Thread nD τ) (ms0_6 tb hO t) fullShare ((ffnDat V n b tb hO c).before 6 t d))
    ∗ (∃ d, owns (c : Thread nD τ) (ms0_7 tb hO t) fullShare ((ffnDat V n b tb hO c).before 7 t d))
    ∗ (∃ d, owns (c : Thread nD τ) (ms0_8 tb hO t) fullShare ((ffnDat V n b tb hO c).before 8 t d))
    ∗ (∃ d, owns (c : Thread nD τ) (ms0_9 tb hO t) fullShare ((ffnDat V n b tb hO c).before 9 t d))
    ∗ (∃ d, owns (c : Thread nD τ) (ms0_10 tb hO t) fullShare ((ffnDat V n b tb hO c).before 10 t d))
    ∗ (∃ d, owns (c : Thread nD τ) (ms0_11 tb hO t) fullShare ((ffnDat V n b tb hO c).before 11 t d))
    ∗ (∃ d, owns (c : Thread nD τ) (ms0_12 tb hO t) fullShare ((ffnDat V n b tb hO c).before 12 t d))
    ∗ (∃ d, owns (c : Thread nD τ) (ms0_13 tb hO t) fullShare ((ffnDat V n b tb hO c).before 13 t d))
    ∗ (∃ d, owns (c : Thread nD τ) (ms0_14 tb hO t) fullShare ((ffnDat V n b tb hO c).before 14 t d))
    ∗ (∃ d, owns (c : Thread nD τ) (ms0_15 tb hO t) fullShare ((ffnDat V n b tb hO c).before 15 t d))
    ∗ (∃ d, owns (c : Thread nD τ) (ms0_16 tb hO t) fullShare ((ffnDat V n b tb hO c).before 16 t d))
    ∗ (∃ d, owns (c : Thread nD τ) (ms0_17 tb hO t) fullShare ((ffnDat V n b tb hO c).before 17 t d))
    ∗ (∃ d, owns (c : Thread nD τ) (ms0_18 tb hO t) fullShare ((ffnDat V n b tb hO c).before 18 t d))
    ∗ (∃ d, owns (c : Thread nD τ) (ms0_19 tb hO t) fullShare ((ffnDat V n b tb hO c).before 19 t d))
    ∗ (∃ d, owns (c : Thread nD τ) (ms0_20 tb hO t) fullShare ((ffnDat V n b tb hO c).before 20 t d))
    ∗ (∃ d, owns (c : Thread nD τ) (ms0_21 tb hO t) fullShare ((ffnDat V n b tb hO c).before 21 t d))
    ∗ (∃ d, owns (c : Thread nD τ) (ms0_22 tb hO t) fullShare ((ffnDat V n b tb hO c).before 22 t d))
    ∗ (∃ d, owns (c : Thread nD τ) (ms0_23 tb hO t) fullShare ((ffnDat V n b tb hO c).before 23 t d))
    ∗ (∃ d, owns (c : Thread nD τ) (ms0_24 tb hO t) fullShare ((ffnDat V n b tb hO c).before 24 t d))
    ∗ (∃ d, owns (c : Thread nD τ) (ms0_25 tb hO t) fullShare ((ffnDat V n b tb hO c).before 25 t d))
    ∗ (∃ d, owns (c : Thread nD τ) (ms0_26 tb hO t) fullShare ((ffnDat V n b tb hO c).before 26 t d))
    ∗ (∃ d, owns (c : Thread nD τ) (ms0_27 tb hO t) fullShare ((ffnDat V n b tb hO c).before 27 t d))
    ∗ (∃ d, owns (c : Thread nD τ) (ms0_28 tb hO t) fullShare ((ffnDat V n b tb hO c).before 28 t d))
    ∗ (∃ d, owns (c : Thread nD τ) (ms0_29 tb hO t) fullShare ((ffnDat V n b tb hO c).before 29 t d))
    ∗ (∃ d, owns (c : Thread nD τ) (ms0_30 tb hO t) fullShare ((ffnDat V n b tb hO c).before 30 t d))
    ∗ (∃ d, owns (c : Thread nD τ) (ms0_31 tb hO t) fullShare ((ffnDat V n b tb hO c).before 31 t d))
    ∗ (∃ d, owns (c : Thread nD τ) (ms0_32 tb hO t) fullShare ((ffnDat V n b tb hO c).before 32 t d))
    ∗ (∃ d, owns (c : Thread nD τ) (ms0_33 tb hO t) fullShare ((ffnDat V n b tb hO c).before 33 t d)))

def bodyPost (hO : Ok tb) (c : Dev nD) (t : Fin (cfgM tb hO).N) : sProp 𝕄 :=
  iprop((ffnDat V n b tb hO c).Φ t.succ ∗ (ffnDat V n b tb hO c).owesAt (none : HIx 2) t.succ
    ∗ owns (c : Thread nD τ) (ms0_0 tb hO t) fullShare ((ffnDat V n b tb hO c).after 0 t)
    ∗ owns (c : Thread nD τ) (ms0_1 tb hO t) fullShare ((ffnDat V n b tb hO c).after 1 t)
    ∗ owns (c : Thread nD τ) (ms0_2 tb hO t) fullShare ((ffnDat V n b tb hO c).after 2 t)
    ∗ owns (c : Thread nD τ) (ms0_3 tb hO t) fullShare ((ffnDat V n b tb hO c).after 3 t)
    ∗ owns (c : Thread nD τ) (ms0_4 tb hO t) fullShare ((ffnDat V n b tb hO c).after 4 t)
    ∗ owns (c : Thread nD τ) (ms0_5 tb hO t) fullShare ((ffnDat V n b tb hO c).after 5 t)
    ∗ owns (c : Thread nD τ) (ms0_6 tb hO t) fullShare ((ffnDat V n b tb hO c).after 6 t)
    ∗ owns (c : Thread nD τ) (ms0_7 tb hO t) fullShare ((ffnDat V n b tb hO c).after 7 t)
    ∗ owns (c : Thread nD τ) (ms0_8 tb hO t) fullShare ((ffnDat V n b tb hO c).after 8 t)
    ∗ owns (c : Thread nD τ) (ms0_9 tb hO t) fullShare ((ffnDat V n b tb hO c).after 9 t)
    ∗ owns (c : Thread nD τ) (ms0_10 tb hO t) fullShare ((ffnDat V n b tb hO c).after 10 t)
    ∗ owns (c : Thread nD τ) (ms0_11 tb hO t) fullShare ((ffnDat V n b tb hO c).after 11 t)
    ∗ owns (c : Thread nD τ) (ms0_12 tb hO t) fullShare ((ffnDat V n b tb hO c).after 12 t)
    ∗ owns (c : Thread nD τ) (ms0_13 tb hO t) fullShare ((ffnDat V n b tb hO c).after 13 t)
    ∗ owns (c : Thread nD τ) (ms0_14 tb hO t) fullShare ((ffnDat V n b tb hO c).after 14 t)
    ∗ owns (c : Thread nD τ) (ms0_15 tb hO t) fullShare ((ffnDat V n b tb hO c).after 15 t)
    ∗ owns (c : Thread nD τ) (ms0_16 tb hO t) fullShare ((ffnDat V n b tb hO c).after 16 t)
    ∗ owns (c : Thread nD τ) (ms0_17 tb hO t) fullShare ((ffnDat V n b tb hO c).after 17 t)
    ∗ owns (c : Thread nD τ) (ms0_18 tb hO t) fullShare ((ffnDat V n b tb hO c).after 18 t)
    ∗ owns (c : Thread nD τ) (ms0_19 tb hO t) fullShare ((ffnDat V n b tb hO c).after 19 t)
    ∗ owns (c : Thread nD τ) (ms0_20 tb hO t) fullShare ((ffnDat V n b tb hO c).after 20 t)
    ∗ owns (c : Thread nD τ) (ms0_21 tb hO t) fullShare ((ffnDat V n b tb hO c).after 21 t)
    ∗ owns (c : Thread nD τ) (ms0_22 tb hO t) fullShare ((ffnDat V n b tb hO c).after 22 t)
    ∗ owns (c : Thread nD τ) (ms0_23 tb hO t) fullShare ((ffnDat V n b tb hO c).after 23 t)
    ∗ owns (c : Thread nD τ) (ms0_24 tb hO t) fullShare ((ffnDat V n b tb hO c).after 24 t)
    ∗ owns (c : Thread nD τ) (ms0_25 tb hO t) fullShare ((ffnDat V n b tb hO c).after 25 t)
    ∗ owns (c : Thread nD τ) (ms0_26 tb hO t) fullShare ((ffnDat V n b tb hO c).after 26 t)
    ∗ owns (c : Thread nD τ) (ms0_27 tb hO t) fullShare ((ffnDat V n b tb hO c).after 27 t)
    ∗ owns (c : Thread nD τ) (ms0_28 tb hO t) fullShare ((ffnDat V n b tb hO c).after 28 t)
    ∗ owns (c : Thread nD τ) (ms0_29 tb hO t) fullShare ((ffnDat V n b tb hO c).after 29 t)
    ∗ owns (c : Thread nD τ) (ms0_30 tb hO t) fullShare ((ffnDat V n b tb hO c).after 30 t)
    ∗ owns (c : Thread nD τ) (ms0_31 tb hO t) fullShare ((ffnDat V n b tb hO c).after 31 t)
    ∗ owns (c : Thread nD τ) (ms0_32 tb hO t) fullShare ((ffnDat V n b tb hO c).after 32 t)
    ∗ owns (c : Thread nD τ) (ms0_33 tb hO t) fullShare ((ffnDat V n b tb hO c).after 33 t))

set_option maxHeartbeats 3200000 in
theorem sound_body (hO : Ok tb) (c : Dev nD) (t : Fin (cfgM tb hO).N) :
    bodyPre V n b tb hO c t ⊢ wp frame (wpE (defs₀ (F := F)) Variants.none c none) Set.univ (bodyAt2 tb hO t) (fun _ => bodyPost V n b tb hO c t) := by
  unfold bodyPre bodyPost bodyAt2
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30, before0_31, before0_32]
  rw [show (ffnDat V n b tb hO c).Φ t.succ = (ffnDat V n b tb hO c).Φ t.castSucc from rfl,
    show (ffnDat V n b tb hO c).owesAt (none : HIx 2) t.succ = (ffnDat V n b tb hO c).owesAt (none : HIx 2) t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33]
  rw [show (ffnDat V n b tb hO c).Φ t.castSucc = iprop(scopedRest spec2 c ∗ PhiT tb c) from rfl, PhiT2_eq]
  iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩⟩
  iapply sound_kernel c (grid2.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk V tb hO c 0 t) (iblk V tb hO c 1 t) (iblk V tb hO c 2 t) (iblk V tb hO c 3 t) (iblk V tb hO c 4 t) (iblk V tb hO c 5 t) (iblk V tb hO c 6 t) (iblk V tb hO c 7 t) (iblk V tb hO c 8 t) (iblk V tb hO c 9 t) (iblk V tb hO c 10 t) (iblk V tb hO c 11 t) (iblk V tb hO c 12 t) (iblk V tb hO c 13 t) (iblk V tb hO c 14 t) (iblk V tb hO c 15 t) (iblk V tb hO c 16 t) (iblk V tb hO c 17 t) (iblk V tb hO c 18 t) (iblk V tb hO c 19 t) (iblk V tb hO c 20 t) (iblk V tb hO c 21 t) (iblk V tb hO c 22 t) (iblk V tb hO c 23 t) (iblk V tb hO c 24 t) (iblk V tb hO c 25 t) (iblk V tb hO c 26 t) (iblk V tb hO c 27 t) (iblk V tb hO c 28 t) (iblk V tb hO c 29 t) (iblk V tb hO c 30 t) (iblk V tb hO c 31 t) (iblk V tb hO c 32 t) (tb 0) Set.univ _
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexists _; iexact H33
  isplitl [HT0]; · iexact HT0
  iintro ⟨H0, H1, H2, H3, H4, H5, H6, H7, H8, H9, H10, H11, H12, H13, H14, H15, H16, H17, H18, H19, H20, H21, H22, H23, H24, H25, H26, H27, H28, H29, H30, H31, H32, H33, HT0⟩
  isplitl [HΦ HT0]
  · isplitl [HΦ]
    · iexact HΦ
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  iexact H33

theorem defs₀_row (hO : Ok tb) (t : Fin (cfgM tb hO).N) :
    defs₀ (F := F) .tc (cfgM tb hO).body ((cfgM tb hO).bodyArgs t ((cfgM tb hO).slots t)) = bodyAt2 tb hO t := by
  rfl

set_option maxHeartbeats 6400000 in
theorem body_obligation (hO : Ok tb) (c : Dev nD) : BodyObligation (ffnDat V n b tb hO c) (defs₀ (F := F)) Variants.none (none : HIx 2) Set.univ := fun t => by
  rw [bigSep_W2, bigSep_W2, defs₀_row tb hO]
  exact triple_restated (sound_body V n b tb hO c t) rfl .rfl fun _ => .rfl

end Cert.Proof.Whole.Ffn

end
-- ==== Proof.W.ScatSetup.lean ====
/- The scatter call: the task's windows, and the values its copies leave. -/
module

public import proofs.«01_k».proof.Proof.W.Base
public import Idealize.ShloMosaic.Lib.Writes
public import Idealize.ShloMosaic.Lib.ValueLayout

@[expose] public section

set_option maxRecDepth 16384

noncomputable section

namespace Cert.Proof.Whole.Scatter

open Cert.WholeIdeal Cert.WholeIdeal.Gen Cert.Proof.Whole
open Idealize.ShloMosaic
open Idealize.ShloMosaic.SparseCore (S V T rowsWhere)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ
local notation "xM" => (Memref.whole Cert.WholeIdeal.main_arg0_scv : Memref Cert.WholeIdeal.sig Kind.scVector Space.hbm Cert.WholeIdeal.S1024x768 EltTy.f32)
local notation "sM" => (Memref.whole Cert.WholeIdeal.main_v2_scv : Memref Cert.WholeIdeal.sig Kind.scVector Space.hbm Cert.WholeIdeal.S1024 EltTy.i32)
local notation "dM" => (Memref.whole Cert.WholeIdeal.main_v4_scv : Memref Cert.WholeIdeal.sig Kind.scVector Space.hbm Cert.WholeIdeal.S5120x768 EltTy.f32)
-- a subcore's scratch: its slots, its rows
local notation "svM" => (Memref.whole Cert.WholeIdeal.cc1_scratch0 : Memref Cert.WholeIdeal.sig Kind.scVector Space.vmem Cert.WholeIdeal.S32 EltTy.i32)
local notation "rvM" => (Memref.whole Cert.WholeIdeal.cc1_scratch1 : Memref Cert.WholeIdeal.sig Kind.scVector Space.vmem Cert.WholeIdeal.S32x768 EltTy.f32)

/-- The SparseCore and the subcore at grid coordinates `L`, and the thread there. -/
abbrev cV (L : grid1.Coords) : Fin τ.nSC := (L 0).castLE hcore1
abbrev jV (L : grid1.Coords) : Fin τ.nSub := (L 1).castLE hsub1
abbrev VT (d : Dev nD) (L : grid1.Coords) : Thread nD τ := V d (cV L) (jV L)

/-- What the run does not yet hold in sight. -/
def Later (P : sProp 𝕄) : sProp 𝕄 := P
theorem hide (P : sProp 𝕄) : P ⊢ Later P := .rfl
theorem reveal (P : sProp 𝕄) : Later P ⊢ P := .rfl

section Tile

variable (d : Dev nD) (L : grid1.Coords)

/-- The task's windows of the slots and of the tokens' rows, and a slab of 128 columns of the target. -/
abbrev sWin : Memref sig .scVector .hbm S32 .i32 := (sM).slice (Rect.unit (s := S1024) (k1_off1 L) S32.size (k1_off1_inb L)) (fun _ => rfl)
abbrev xWin : Memref sig .scVector .hbm S32x768 .f32 := (xM).slice (Rect.unit (s := S1024x768) (k1_off2 L) S32x768.size (k1_off2_inb L)) (fun _ => rfl)
abbrev slab (n : ℕ) (inb : ∀ a, (![0, n] : Fin 2 → ℕ) a + S5120x128.size a ≤ S5120x768.size a) : Memref sig .scVector .hbm S5120x128 .f32 :=
  (dM).slice (Rect.unit (s := S5120x768) ![0, n] S5120x128.size inb) (fun _ => rfl)

/-- The token whose row is the task's row `j`. -/
def tok (L : grid1.Coords) (j : Fin 32) : Fin 1024 :=
  ⟨64 * (L 1).val + 32 * (L 0).val + j.val, by
    have h0 : (L 0).val < 2 := (L 0).isLt
    have h1 : (L 1).val < 16 := (L 1).isLt
    omega⟩

/-- The rows of the target that the task's tokens name. -/
def mine (L : grid1.Coords) (fs : S1024.Idx → Elt F .i32) (r : ℕ) : Prop := ∃ j : Fin 32, (fs (ValueIdx.ix1 (tok L j)) : BitVec 32).toNat = r

/-- The slots name different rows. -/
def Distinct (fs : S1024.Idx → Elt F .i32) : Prop := Function.Injective fun j : S1024.Idx => (fs j : BitVec 32).toNat

theorem sWin_emb (j : S32.Idx) : (sWin L).view.emb j = ValueIdx.ix1 (tok L (j 0)) := by
  funext u
  match u with
  | 0 =>
    apply Fin.ext
    show ((Rect.unit (s := S1024) (k1_off1 L) S32.size (k1_off1_inb L)).emb j 0).val = _
    rw [Rect.emb_apply]
    show k1_off1 L 0 + 1 * (j 0).val = 64 * (L 1).val + 32 * (L 0).val + (j 0).val
    rw [k1_off1_eq]
    show 64 * (L 1).val + 32 * (L 0).val + 1 * (j 0).val = _
    omega

theorem xWin_emb (x : S32x768.Idx) : (xWin L).view.emb x = ValueIdx.ix2 (tok L (x 0)) (x 1) := by
  funext u
  match u with
  | 0 =>
    apply Fin.ext
    show ((Rect.unit (s := S1024x768) (k1_off2 L) S32x768.size (k1_off2_inb L)).emb x 0).val = 64 * (L 1).val + 32 * (L 0).val + (x 0).val
    rw [Rect.emb_apply]
    show k1_off2 L 0 + 1 * (x 0).val = _
    rw [k1_off2_eq]
    show 64 * (L 1).val + 32 * (L 0).val + 1 * (x 0).val = _
    omega
  | 1 =>
    apply Fin.ext
    show ((Rect.unit (s := S1024x768) (k1_off2 L) S32x768.size (k1_off2_inb L)).emb x 1).val = (x 1).val
    rw [Rect.emb_apply]
    show k1_off2 L 1 + 1 * (x 1).val = _
    rw [k1_off2_eq]
    show 0 + 1 * (x 1).val = _
    omega

/-- The fetched list, word by word. -/
theorem word (fs : Buf (Elt F) ((sM).view.loc (VT d L))) (f0 : Buf (Elt F) ((svM).view.loc (VT d L)))
    (pay : S32.Idx → Elt F .i32) (hpay : pay = (sWin L).view.read (Elt F) fs) (x : S32.Idx) :
    (svM).view.read (Elt F) (View.write (Elt F) (svM).view f0 pay Finset.univ) x = fs (ValueIdx.ix1 (tok L (x 0))) := by
  subst hpay
  rw [View.write_whole_univ]
  simp only [Memref.view_whole, View.read_whole]
  rw [show ∀ j, (sWin L).view.read (Elt F) fs j = fs ((sWin L).view.emb j) from fun j => (View.read_apply _ _).trans (cast_eq _ _), sWin_emb]

theorem words_lt (fs : Buf (Elt F) ((sM).view.loc (VT d L))) (hs : ∀ j : S1024.Idx, (fs j).toNat < 5120)
    (f0 : Buf (Elt F) ((svM).view.loc (VT d L))) (pay : S32.Idx → Elt F .i32) (hpay : pay = (sWin L).view.read (Elt F) fs) :
    ∀ x, ((svM).view.read (Elt F) (View.write (Elt F) (svM).view f0 pay Finset.univ) x).toNat < S5120x128.size gathers_S5120x128_S32x128.axis := by
  intro x; rw [word d L fs f0 pay hpay]; exact hs _

theorem words_inj (fs : Buf (Elt F) ((sM).view.loc (VT d L))) (hd : Distinct (F := F) fs)
    (f0 : Buf (Elt F) ((svM).view.loc (VT d L))) (pay : S32.Idx → Elt F .i32) (hpay : pay = (sWin L).view.read (Elt F) fs) :
    Function.Injective fun x => ((svM).view.read (Elt F) (View.write (Elt F) (svM).view f0 pay Finset.univ) x).toNat := by
  intro x y h
  dsimp only at h
  rw [word d L fs f0 pay hpay, word d L fs f0 pay hpay] at h
  have e := congrFun (hd h) 0
  have e' : (tok L (x 0)).val = (tok L (y 0)).val := congrArg Fin.val e
  unfold tok at e'
  dsimp only at e'
  funext u
  match u with
  | 0 => exact Fin.ext (by omega)

theorem words_mine (fs : Buf (Elt F) ((sM).view.loc (VT d L)))
    (f0 : Buf (Elt F) ((svM).view.loc (VT d L))) (pay : S32.Idx → Elt F .i32) (hpay : pay = (sWin L).view.read (Elt F) fs) :
    ∀ x, mine (F := F) L fs ((svM).view.read (Elt F) (View.write (Elt F) (svM).view f0 pay Finset.univ) x).toNat := by
  intro x; rw [word d L fs f0 pay hpay]; exact ⟨x 0, rfl⟩

/-- The target after the scatter: at a row that a token's slot names, that token's row; elsewhere as it was. -/
def scattered (fx : S1024x768.Idx → Elt F .f32) (fs : S1024.Idx → Elt F .i32) (fo : S5120x768.Idx → Elt F .f32) : S5120x768.Idx → Elt F .f32 :=
  open scoped Classical in
  fun y => if h : ∃ t : Fin 1024, (fs (ValueIdx.ix1 t) : BitVec 32).toNat = (y 0).val then fx (ValueIdx.ix2 h.choose (y 1)) else fo y

theorem scattered_of (fx : S1024x768.Idx → Elt F .f32) (fs : S1024.Idx → Elt F .i32) (hd : Distinct (F := F) fs) (fo : S5120x768.Idx → Elt F .f32)
    (y : S5120x768.Idx) (t : Fin 1024) (ht : (fs (ValueIdx.ix1 t) : BitVec 32).toNat = (y 0).val) :
    scattered fx fs fo y = fx (ValueIdx.ix2 t (y 1)) := by
  have h : ∃ t : Fin 1024, (fs (ValueIdx.ix1 t) : BitVec 32).toNat = (y 0).val := ⟨t, ht⟩
  unfold scattered
  rw [dif_pos h]
  have e : h.choose = t := congrFun (hd (h.choose_spec.trans ht.symm)) 0
  rw [e]

theorem slab_row (n : ℕ) (inb) (r : Fin (S5120x128.size gathers_S5120x128_S32x128.axis))
    (z : (Shape.rowRect (s := S5120x128) gathers_S5120x128_S32x128.axis r).shape.Idx) :
    ((((slab n inb).view.slice (Shape.rowRect gathers_S5120x128_S32x128.axis r)).emb z : S5120x768.Idx) 0).val = r.val := by
  show ((Rect.unit (s := S5120x768) ![0, n] S5120x128.size inb).emb ((Shape.rowRect (s := S5120x128) gathers_S5120x128_S32x128.axis r).emb z) 0).val = _
  rw [Rect.emb_apply]
  show 0 + 1 * ((Shape.rowRect (s := S5120x128) gathers_S5120x128_S32x128.axis r).emb z 0).val = _
  rw [Rect.emb_apply]
  show 0 + 1 * (r.val + 1 * (z 0).val) = _
  have z0 : (z 0).val < 1 := (z 0).isLt
  omega

theorem slab_col (n : ℕ) (inb) (r : Fin (S5120x128.size gathers_S5120x128_S32x128.axis))
    (z : (Shape.rowRect (s := S5120x128) gathers_S5120x128_S32x128.axis r).shape.Idx) :
    ((((slab n inb).view.slice (Shape.rowRect gathers_S5120x128_S32x128.axis r)).emb z : S5120x768.Idx) 1).val = n + (z 1).val := by
  show ((Rect.unit (s := S5120x768) ![0, n] S5120x128.size inb).emb ((Shape.rowRect (s := S5120x128) gathers_S5120x128_S32x128.axis r).emb z) 1).val = _
  rw [Rect.emb_apply]
  show n + 1 * ((Shape.rowRect (s := S5120x128) gathers_S5120x128_S32x128.axis r).emb z 1).val = _
  rw [Rect.emb_apply]
  show n + 1 * (0 + 1 * (z 1).val) = _
  omega

theorem read_recast {κ : Kind} {sp : Space} {s s' : Shape} {e : EltTy} (m : Memref sig κ sp s e) (h : s = s') (f : m.view.ty.Contents (Elt F)) (z : s'.Idx) :
    (m.cast h rfl).view.read (Elt F) f z = m.view.read (Elt F) f ((Shape.idxEquiv h).symm z) := by
  subst h; rfl

set_option maxHeartbeats 1600000 in
theorem payload_val (fx : Buf (Elt F) ((xM).view.loc (VT d L)))
    (r0 : Buf (Elt F) ((rvM).view.loc (VT d L))) (pay2 : S32x768.Idx → Elt F .f32) (hpay2 : pay2 = (xWin L).view.read (Elt F) fx)
    (n : ℕ) (inb' : ∀ a : Fin S32x768.rank, ![0, n] a + S32x128.size a ≤ S32x768.size a) (st)
    (k : Fin ((Rect.unit (s := S32x768) ![0, n] S32x128.size inb').shape.size gathers_S5120x128_S32x128.axis'))
    (r : Fin (S5120x128.size gathers_S5120x128_S32x128.axis)) (z : (Shape.rowRect (s := S5120x128) gathers_S5120x128_S32x128.axis r).shape.Idx) :
    SparseCore.scatterRowPayload (VT d L) ((rvM).slice (Rect.unit (s := S32x768) ![0, n] S32x128.size inb') st) gathers_S5120x128_S32x128
        (View.write (Elt F) (rvM).view r0 pay2 Finset.univ) k z
      = (fx (ValueIdx.ix2 (tok L ⟨k.val, k.isLt⟩) ⟨n + (z 1).val, lt_of_lt_of_le (Nat.add_lt_add_left (z 1).isLt n) (inb' 1)⟩) : Elt F .f32) := by
  subst hpay2
  unfold SparseCore.scatterRowPayload
  refine (read_recast _ _ _ _).trans ?_
  refine ((View.read_apply _ _).trans (cast_eq _ _)).trans ?_
  rw [View.write_whole_univ]
  refine ((View.read_apply _ _).trans (cast_eq _ _)).trans ?_
  rw [xWin_emb]
  have z0 : (z 0).val < 1 := (z 0).isLt
  have e0 := Shape.idxEquiv_symm_apply_val gathers_S5120x128_S32x128.rowShape_eq z (0 : Fin 2)
  have e1 := Shape.idxEquiv_symm_apply_val gathers_S5120x128_S32x128.rowShape_eq z (1 : Fin 2)
  refine congrArg fx ?_
  replace e0 : ((Shape.idxEquiv gathers_S5120x128_S32x128.rowShape_eq).symm z (0 : Fin 2)).val = (z 0).val := e0
  replace e1 : ((Shape.idxEquiv gathers_S5120x128_S32x128.rowShape_eq).symm z (1 : Fin 2)).val = (z 1).val := e1
  funext u
  match u with
  | 0 =>
    apply Fin.ext
    show 64 * (L 1).val + 32 * (L 0).val + _ = 64 * (L 1).val + 32 * (L 0).val + k.val
    refine congrArg (64 * (L 1).val + 32 * (L 0).val + ·) ?_
    show ((Rect.unit (s := S32x768) ![0, n] S32x128.size inb').emb ((Shape.rowRect (s := S32x128) gathers_S5120x128_S32x128.axis' k).emb ((Shape.idxEquiv gathers_S5120x128_S32x128.rowShape_eq).symm z)) 0).val = k.val
    rw [Rect.emb_apply]
    show 0 + 1 * ((Shape.rowRect (s := S32x128) gathers_S5120x128_S32x128.axis' k).emb ((Shape.idxEquiv gathers_S5120x128_S32x128.rowShape_eq).symm z) 0).val = k.val
    show 0 + 1 * (k.val + 1 * ((Shape.idxEquiv gathers_S5120x128_S32x128.rowShape_eq).symm z (0 : Fin 2)).val) = k.val
    omega
  | 1 =>
    apply Fin.ext
    show ((Rect.unit (s := S32x768) ![0, n] S32x128.size inb').emb ((Shape.rowRect (s := S32x128) gathers_S5120x128_S32x128.axis' k).emb ((Shape.idxEquiv gathers_S5120x128_S32x128.rowShape_eq).symm z)) 1).val = n + (z 1).val
    rw [Rect.emb_apply]
    show n + 1 * ((Shape.rowRect (s := S32x128) gathers_S5120x128_S32x128.axis' k).emb ((Shape.idxEquiv gathers_S5120x128_S32x128.rowShape_eq).symm z) 1).val = _
    show n + 1 * (0 + 1 * ((Shape.idxEquiv gathers_S5120x128_S32x128.rowShape_eq).symm z (1 : Fin 2)).val) = n + (z 1).val
    omega

set_option maxHeartbeats 3200000 in
/-- One slab of the scatter leaves the whole scatter's values on the task's rows of the slab. -/

theorem scatter_piece (fx : Buf (Elt F) ((xM).view.loc (VT d L))) (fs : Buf (Elt F) ((sM).view.loc (VT d L))) (hd : Distinct (F := F) fs)
    (fo : S5120x768.Idx → Elt F .f32)
    (f0 : Buf (Elt F) ((svM).view.loc (VT d L))) (pay : S32.Idx → Elt F .i32) (hpay : pay = (sWin L).view.read (Elt F) fs)
    (r0 : Buf (Elt F) ((rvM).view.loc (VT d L))) (pay2 : S32x768.Idx → Elt F .f32) (hpay2 : pay2 = (xWin L).view.read (Elt F) fx)
    (n : ℕ) (inb) (inb') (st) (hn) (hin) :
    ((slab n inb).view.loc (VT d L) ↦[rowsWhere (slab n inb).view gathers_S5120x128_S32x128.axis (mine (F := F) L fs)]{fullShare}
        SparseCore.scatterBuf (VT d L) (slab n inb).view gathers_S5120x128_S32x128.axis
          (SparseCore.rows (z := S5120x128.size gathers_S5120x128_S32x128.axis)
            ((svM).view.read (Elt F) (View.write (Elt F) (svM).view f0 pay Finset.univ)) hn hin)
          (SparseCore.scatterRowPayload (VT d L) ((rvM).slice (Rect.unit (s := S32x768) ![0, n] S32x128.size inb') st) gathers_S5120x128_S32x128
            (View.write (Elt F) (rvM).view r0 pay2 Finset.univ)) fo : sProp 𝕄)
      = (slab n inb).view.loc (VT d L) ↦[rowsWhere (slab n inb).view gathers_S5120x128_S32x128.axis (mine (F := F) L fs)]{fullShare} scattered fx fs fo := by
  refine pointsTo_congr fun i hi => ?_
  obtain ⟨r, ⟨j, hj⟩, hi⟩ := SparseCore.mem_rowsWhere.mp hi
  have hr : r = SparseCore.rows (z := S5120x128.size gathers_S5120x128_S32x128.axis)
      ((svM).view.read (Elt F) (View.write (Elt F) (svM).view f0 pay Finset.univ)) hn hin ⟨j.val, j.isLt⟩ := by
    apply Fin.ext
    unfold SparseCore.rows
    refine hj.symm.trans ?_
    show _ = BitVec.toNat ((svM).view.read (Elt F) (View.write (Elt F) (svM).view f0 pay Finset.univ) (S32.rowMajor.symm _))
    rw [word d L fs f0 pay hpay]
    congr 4
    apply Fin.ext
    rw [← Shape.rowMajor_val_one (d := ![32])]
    show _ = (S32.rowMajor (S32.rowMajor.symm _)).val
    rw [Equiv.apply_symm_apply]
    rfl
  subst hr
  rw [SparseCore.scatterBuf_of_mem _ _ _ _ (SparseCore.rows_injective (words_inj d L fs hd f0 pay hpay)) _ _ hi]
  obtain ⟨z, -, rfl⟩ := Finset.mem_map.mp hi
  refine (View.write_emb_of_mem _ _ (Finset.mem_univ z)).trans ?_
  refine (cast_eq _ _).trans ?_
  refine (payload_val d L fx r0 pay2 hpay2 n inb' st _ _ z).trans ?_
  refine Eq.trans ?_ (scattered_of fx fs hd fo _ (tok L j) (hj.trans (slab_row n inb _ z).symm)).symm
  refine congrArg fx ?_
  funext u
  match u with
  | 0 => rfl
  | 1 => exact Fin.ext (slab_col n inb _ z).symm

end Tile

end Cert.Proof.Whole.Scatter

end
-- ==== Proof.W.ScatRun.lean ====
/- The scatter call's task on one vector subcore: it fetches its 32 slots and its 32 tokens' rows, and scatters the rows to their slots. -/
module

public import proofs.«01_k».proof.Proof.W.ScatSetup

@[expose] public section

set_option maxRecDepth 16384

noncomputable section

namespace Cert.Proof.Whole.Scatter

open Cert.WholeIdeal Cert.WholeIdeal.Gen Cert.Proof.Whole
open Idealize.ShloMosaic
open Idealize.ShloMosaic.SparseCore (S V T rowsWhere)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ
local notation "xM" => (Memref.whole Cert.WholeIdeal.main_arg0_scv : Memref Cert.WholeIdeal.sig Kind.scVector Space.hbm Cert.WholeIdeal.S1024x768 EltTy.f32)
local notation "sM" => (Memref.whole Cert.WholeIdeal.main_v2_scv : Memref Cert.WholeIdeal.sig Kind.scVector Space.hbm Cert.WholeIdeal.S1024 EltTy.i32)
local notation "dM" => (Memref.whole Cert.WholeIdeal.main_v4_scv : Memref Cert.WholeIdeal.sig Kind.scVector Space.hbm Cert.WholeIdeal.S5120x768 EltTy.f32)
-- a subcore's scratch: its slots, its rows
local notation "svM" => (Memref.whole Cert.WholeIdeal.cc1_scratch0 : Memref Cert.WholeIdeal.sig Kind.scVector Space.vmem Cert.WholeIdeal.S32 EltTy.i32)
local notation "rvM" => (Memref.whole Cert.WholeIdeal.cc1_scratch1 : Memref Cert.WholeIdeal.sig Kind.scVector Space.vmem Cert.WholeIdeal.S32x768 EltTy.f32)

section Tile

variable (d : Dev nD) (L : grid1.Coords)

set_option maxHeartbeats 4000000 in
set_option pp.maxSteps 300 in
theorem tile_run (fx : Buf (Elt F) ((xM).view.loc (VT d L))) (fs : Buf (Elt F) ((sM).view.loc (VT d L))) (fo : Buf (Elt F) ((dM).view.loc (VT d L)))
    (q : PosShare TreeShare) (hs : ∀ j : S1024.Idx, (fs j).toNat < 5120) (hd : Distinct (F := F) fs)
    (s0 : Buf (Elt F) ((svM).view.loc (VT d L))) (r0 : Buf (Elt F) ((rvM).view.loc (VT d L)))
    (O : CellTallies nD τ sig (HIx 2)) (W : Waits sig (HIx 2)) :
    (iprop(Transfers.MayWaits (VT d L) (default : HIx 2) O
        ∗ ((xM).view.loc (VT d L) ↦{q} fx) ∗ ((sM).view.loc (VT d L) ↦{q} fs)
        ∗ ((slab 0 inb_S5120x768_S5120x128_0_0).view.loc (VT d L) ↦[rowsWhere (slab 0 inb_S5120x768_S5120x128_0_0).view gathers_S5120x128_S32x128.axis (mine (F := F) L fs)]{fullShare} fo)
        ∗ ((slab 128 inb_S5120x768_S5120x128_0_128).view.loc (VT d L) ↦[rowsWhere (slab 128 inb_S5120x768_S5120x128_0_128).view gathers_S5120x128_S32x128.axis (mine (F := F) L fs)]{fullShare} fo)
        ∗ ((slab 256 inb_S5120x768_S5120x128_0_256).view.loc (VT d L) ↦[rowsWhere (slab 256 inb_S5120x768_S5120x128_0_256).view gathers_S5120x128_S32x128.axis (mine (F := F) L fs)]{fullShare} fo)
        ∗ ((slab 384 inb_S5120x768_S5120x128_0_384).view.loc (VT d L) ↦[rowsWhere (slab 384 inb_S5120x768_S5120x128_0_384).view gathers_S5120x128_S32x128.axis (mine (F := F) L fs)]{fullShare} fo)
        ∗ ((slab 512 inb_S5120x768_S5120x128_0_512).view.loc (VT d L) ↦[rowsWhere (slab 512 inb_S5120x768_S5120x128_0_512).view gathers_S5120x128_S32x128.axis (mine (F := F) L fs)]{fullShare} fo)
        ∗ ((slab 640 inb_S5120x768_S5120x128_0_640).view.loc (VT d L) ↦[rowsWhere (slab 640 inb_S5120x768_S5120x128_0_640).view gathers_S5120x128_S32x128.axis (mine (F := F) L fs)]{fullShare} fo)
        ∗ ((svM).view.loc (VT d L) ↦{fullShare} s0) ∗ ((rvM).view.loc (VT d L) ↦{fullShare} r0)
        ∗ semVal (VT d L, SemLoc.dma cc1_scratch2.sem) 0 ∗ semVal (VT d L, SemLoc.dma cc1_scratch3.sem) 0 ∗ semVal (VT d L, SemLoc.dma cc1_scratch4.sem) 0
        ∗ owes (VT d L) O W) : sProp 𝕄)
      ⊢ wp frame (wpE (defs₀ (F := F)) 𝒱₀ (VT d L) none) Set.univ
          (cc1__scatter_call L xM (Memref.isWhole_whole _) sM (Memref.isWhole_whole _) dM (Memref.isWhole_whole _)
            svM (Memref.isWhole_whole _) rvM (Memref.isWhole_whole _) cc1_scratch2 cc1_scratch3 cc1_scratch4)
          fun _ => iprop(((xM).view.loc (VT d L) ↦{q} fx) ∗ ((sM).view.loc (VT d L) ↦{q} fs)
            ∗ ((slab 0 inb_S5120x768_S5120x128_0_0).view.loc (VT d L) ↦[rowsWhere (slab 0 inb_S5120x768_S5120x128_0_0).view gathers_S5120x128_S32x128.axis (mine (F := F) L fs)]{fullShare} (scattered fx fs fo))
        ∗ ((slab 128 inb_S5120x768_S5120x128_0_128).view.loc (VT d L) ↦[rowsWhere (slab 128 inb_S5120x768_S5120x128_0_128).view gathers_S5120x128_S32x128.axis (mine (F := F) L fs)]{fullShare} (scattered fx fs fo))
        ∗ ((slab 256 inb_S5120x768_S5120x128_0_256).view.loc (VT d L) ↦[rowsWhere (slab 256 inb_S5120x768_S5120x128_0_256).view gathers_S5120x128_S32x128.axis (mine (F := F) L fs)]{fullShare} (scattered fx fs fo))
        ∗ ((slab 384 inb_S5120x768_S5120x128_0_384).view.loc (VT d L) ↦[rowsWhere (slab 384 inb_S5120x768_S5120x128_0_384).view gathers_S5120x128_S32x128.axis (mine (F := F) L fs)]{fullShare} (scattered fx fs fo))
        ∗ ((slab 512 inb_S5120x768_S5120x128_0_512).view.loc (VT d L) ↦[rowsWhere (slab 512 inb_S5120x768_S5120x128_0_512).view gathers_S5120x128_S32x128.axis (mine (F := F) L fs)]{fullShare} (scattered fx fs fo))
        ∗ ((slab 640 inb_S5120x768_S5120x128_0_640).view.loc (VT d L) ↦[rowsWhere (slab 640 inb_S5120x768_S5120x128_0_640).view gathers_S5120x128_S32x128.axis (mine (F := F) L fs)]{fullShare} (scattered fx fs fo))
            ∗ (∃ f, (svM).view.loc (VT d L) ↦{fullShare} f) ∗ (∃ f, (rvM).view.loc (VT d L) ↦{fullShare} f)
            ∗ semVal (VT d L, SemLoc.dma cc1_scratch2.sem) 0 ∗ semVal (VT d L, SemLoc.dma cc1_scratch3.sem) 0 ∗ semVal (VT d L, SemLoc.dma cc1_scratch4.sem) 0
            ∗ ∃ W', ⌜∀ p ∈ W', p ∈ W ∨ p.2 = none⌝ ∗ owes (VT d L) O W') := by
  rw [cc1__scatter_call_eq_skeleton]; unfold cc1__scatter_call_skel
  rw [k1_part1_eq_skeleton]; unfold k1_part1_skel
  iintro ⟨#Hmw, Hx, Hs, H0, H1, H2, H3, H4, H5, Hsv, Hrv, Hc0, Hc1, Hc2, HO⟩
  ihave G1 := (hide _) $$ H1
  ihave G2 := (hide _) $$ H2
  ihave G3 := (hide _) $$ H3
  ihave G4 := (hide _) $$ H4
  ihave G5 := (hide _) $$ H5
  sl_exec
  have hin := fun f0 => words_lt d L fs hs f0 (tile_run.sl.dma0 d L fs) rfl
  have hinj := fun f0 => words_inj d L fs hd f0 (tile_run.sl.dma0 d L fs) rfl
  have hown := fun f0 => words_mine d L fs f0 (tile_run.sl.dma0 d L fs) rfl
  sl_exec
  ihave G0 := (show ((slab 0 inb_S5120x768_S5120x128_0_0).view.loc (VT d L) ↦[rowsWhere (slab 0 inb_S5120x768_S5120x128_0_0).view gathers_S5120x128_S32x128.axis (mine (F := F) L fs)]{fullShare} tile_run.sl.H0_sc0 d L fx fs fo s0 r0 hin : sProp 𝕄) ⊢ _ from Entails.of_eq (scatter_piece d L fx fs hd fo s0 (tile_run.sl.dma0 d L fs) rfl r0 (tile_run.sl.dma0_1 d L fx) rfl 0 inb_S5120x768_S5120x128_0_0 inb_S32x768_S32x128_0_0 (fun _ => rfl) rfl (fun y => hin s0 y))) $$ H0
  ihave K0 := (hide _) $$ G0
  ihave H1 := (reveal _) $$ G1
  sl_exec
  ihave G1 := (show ((slab 128 inb_S5120x768_S5120x128_0_128).view.loc (VT d L) ↦[rowsWhere (slab 128 inb_S5120x768_S5120x128_0_128).view gathers_S5120x128_S32x128.axis (mine (F := F) L fs)]{fullShare} tile_run.sl.H1_sc0 d L fx fs fo s0 r0 hin : sProp 𝕄) ⊢ _ from Entails.of_eq (scatter_piece d L fx fs hd fo s0 (tile_run.sl.dma0 d L fs) rfl r0 (tile_run.sl.dma0_1 d L fx) rfl 128 inb_S5120x768_S5120x128_0_128 inb_S32x768_S32x128_0_128 (fun _ => rfl) rfl (fun y => hin s0 y))) $$ H1
  ihave K1 := (hide _) $$ G1
  ihave H2 := (reveal _) $$ G2
  sl_exec
  ihave G2 := (show ((slab 256 inb_S5120x768_S5120x128_0_256).view.loc (VT d L) ↦[rowsWhere (slab 256 inb_S5120x768_S5120x128_0_256).view gathers_S5120x128_S32x128.axis (mine (F := F) L fs)]{fullShare} tile_run.sl.H2_sc0 d L fx fs fo s0 r0 hin : sProp 𝕄) ⊢ _ from Entails.of_eq (scatter_piece d L fx fs hd fo s0 (tile_run.sl.dma0 d L fs) rfl r0 (tile_run.sl.dma0_1 d L fx) rfl 256 inb_S5120x768_S5120x128_0_256 inb_S32x768_S32x128_0_256 (fun _ => rfl) rfl (fun y => hin s0 y))) $$ H2
  ihave K2 := (hide _) $$ G2
  ihave H3 := (reveal _) $$ G3
  sl_exec
  ihave G3 := (show ((slab 384 inb_S5120x768_S5120x128_0_384).view.loc (VT d L) ↦[rowsWhere (slab 384 inb_S5120x768_S5120x128_0_384).view gathers_S5120x128_S32x128.axis (mine (F := F) L fs)]{fullShare} tile_run.sl.H3_sc0 d L fx fs fo s0 r0 hin : sProp 𝕄) ⊢ _ from Entails.of_eq (scatter_piece d L fx fs hd fo s0 (tile_run.sl.dma0 d L fs) rfl r0 (tile_run.sl.dma0_1 d L fx) rfl 384 inb_S5120x768_S5120x128_0_384 inb_S32x768_S32x128_0_384 (fun _ => rfl) rfl (fun y => hin s0 y))) $$ H3
  ihave K3 := (hide _) $$ G3
  ihave H4 := (reveal _) $$ G4
  sl_exec
  ihave G4 := (show ((slab 512 inb_S5120x768_S5120x128_0_512).view.loc (VT d L) ↦[rowsWhere (slab 512 inb_S5120x768_S5120x128_0_512).view gathers_S5120x128_S32x128.axis (mine (F := F) L fs)]{fullShare} tile_run.sl.H4_sc0 d L fx fs fo s0 r0 hin : sProp 𝕄) ⊢ _ from Entails.of_eq (scatter_piece d L fx fs hd fo s0 (tile_run.sl.dma0 d L fs) rfl r0 (tile_run.sl.dma0_1 d L fx) rfl 512 inb_S5120x768_S5120x128_0_512 inb_S32x768_S32x128_0_512 (fun _ => rfl) rfl (fun y => hin s0 y))) $$ H4
  ihave K4 := (hide _) $$ G4
  ihave H5 := (reveal _) $$ G5
  sl_exec
  ihave G5 := (show ((slab 640 inb_S5120x768_S5120x128_0_640).view.loc (VT d L) ↦[rowsWhere (slab 640 inb_S5120x768_S5120x128_0_640).view gathers_S5120x128_S32x128.axis (mine (F := F) L fs)]{fullShare} tile_run.sl.H5_sc0 d L fx fs fo s0 r0 hin : sProp 𝕄) ⊢ _ from Entails.of_eq (scatter_piece d L fx fs hd fo s0 (tile_run.sl.dma0 d L fs) rfl r0 (tile_run.sl.dma0_1 d L fx) rfl 640 inb_S5120x768_S5120x128_0_640 inb_S32x768_S32x128_0_640 (fun _ => rfl) rfl (fun y => hin s0 y))) $$ H5
  ihave K5 := (hide _) $$ G5
  sl_step
  isplitl [Hx]; · iexact Hx
  isplitl [Hs]; · iexact Hs
  isplitl [K0]; · iapply (reveal _); iexact K0
  isplitl [K1]; · iapply (reveal _); iexact K1
  isplitl [K2]; · iapply (reveal _); iexact K2
  isplitl [K3]; · iapply (reveal _); iexact K3
  isplitl [K4]; · iapply (reveal _); iexact K4
  isplitl [K5]; · iapply (reveal _); iexact K5
  isplitl [Hsv]; · iexists _; iexact Hsv
  isplitl [Hrv]; · iexists _; iexact Hrv
  isplitl [Hc0]; · iexact Hc0
  isplitl [Hc1]; · iexact Hc1
  isplitl [Hc2]; · iexact Hc2
  iexists _; isplitr
  swap; · iexact HO
  ipureintro; intro p hp
  repeat' (rcases Finset.mem_insert.mp hp with hp | hp; · exact .inr (hp ▸ rfl))
  exact .inl hp

end Tile

end Cert.Proof.Whole.Scatter

end
-- ==== Proof.W.ScatLaunch.lean ====
/-
  The scatter call inside the whole kernel: how the target's rows are dealt to the subcores, and a subcore's task from what it is dealt.
-/
module

public import proofs.«01_k».proof.Proof.W.ScatRun

public import Idealize.ShloMosaic.Lib.ShareLeaves

@[expose] public section

set_option maxRecDepth 16384

noncomputable section

namespace Cert.Proof.Whole.Scatter

open Cert.WholeIdeal Cert.WholeIdeal.Gen Cert.Proof.Whole
open Idealize.ShloMosaic
open Idealize.ShloMosaic.SparseCore (S V T rowsWhere)
open Idealize.ShloMosaic.SparseCore.Cfg (HIx Pay ownBufs ownSems0 ownCells ownRefs mem_ownCells mem_ownRefs)
open Idealize.ShloMosaic.ShareLeaves
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ
local notation "xM" => (Memref.whole Cert.WholeIdeal.main_arg0_scv : Memref Cert.WholeIdeal.sig Kind.scVector Space.hbm Cert.WholeIdeal.S1024x768 EltTy.f32)
local notation "sM" => (Memref.whole Cert.WholeIdeal.main_v2_scv : Memref Cert.WholeIdeal.sig Kind.scVector Space.hbm Cert.WholeIdeal.S1024 EltTy.i32)
local notation "dM" => (Memref.whole Cert.WholeIdeal.main_v4_scv : Memref Cert.WholeIdeal.sig Kind.scVector Space.hbm Cert.WholeIdeal.S5120x768 EltTy.f32)
-- a subcore's scratch: its slots, its rows
local notation "svM" => (Memref.whole Cert.WholeIdeal.cc1_scratch0 : Memref Cert.WholeIdeal.sig Kind.scVector Space.vmem Cert.WholeIdeal.S32 EltTy.i32)
local notation "rvM" => (Memref.whole Cert.WholeIdeal.cc1_scratch1 : Memref Cert.WholeIdeal.sig Kind.scVector Space.vmem Cert.WholeIdeal.S32x768 EltTy.f32)

/-! ## What the call hands out -/

abbrev xLoc (d : Dev nD) : Loc nD τ sig := (SparseCore.T d).loc main_arg0
abbrev sLoc (d : Dev nD) : Loc nD τ sig := (SparseCore.T d).loc main_v2
abbrev oLoc (d : Dev nD) : Loc nD τ sig := (SparseCore.T d).loc main_v4

variable (fx : Dev nD → S1024x768.Idx → Elt F .f32) (fs : Dev nD → S1024.Idx → Elt F .i32) (fo : Dev nD → S5120x768.Idx → Elt F .f32)

/-- A SparseCore's share of each operand, and a subcore's. -/
abbrev qc (c : Fin 2) : PosShare TreeShare := leaf 1 fullShare c
abbrev qt (c : Fin 2) (i : Fin 16) : PosShare TreeShare := leaf 4 (qc c) i

/-- The token of row `j` of the subcore's block. -/
def tokn (c : Fin 2) (i : Fin 16) (j : Fin 32) : Fin 1024 := ⟨64 * i.val + 32 * c.val + j.val, by omega⟩

open scoped Classical in
/-- The rows of the target that a subcore's tokens name, a SparseCore's, and all the tokens'. -/
def tileSet (f : S1024.Idx → Elt F .i32) (c : Fin 2) (i : Fin 16) : Finset S5120x768.Idx :=
  Finset.univ.filter fun y => ∃ j : Fin 32, (f (ValueIdx.ix1 (tokn c i j)) : BitVec 32).toNat = (y 0).val
def coreSet (f : S1024.Idx → Elt F .i32) (c : Fin 2) : Finset S5120x768.Idx := Finset.univ.biUnion fun i : Fin 16 => tileSet (F := F) f c i
def allSet (f : S1024.Idx → Elt F .i32) : Finset S5120x768.Idx := Finset.univ.biUnion fun c : Fin 2 => coreSet (F := F) f c

theorem mem_tileSet {f : S1024.Idx → Elt F .i32} {c : Fin 2} {i : Fin 16} {y : S5120x768.Idx} :
    y ∈ tileSet (F := F) f c i ↔ ∃ j : Fin 32, (f (ValueIdx.ix1 (tokn c i j)) : BitVec 32).toNat = (y 0).val := by
  unfold tileSet
  rw [Finset.mem_filter]
  exact ⟨fun h => h.2, fun h => ⟨Finset.mem_univ _, h⟩⟩

theorem mem_allSet {f : S1024.Idx → Elt F .i32} {y : S5120x768.Idx} :
    y ∈ allSet (F := F) f ↔ ∃ t : Fin 1024, (f (ValueIdx.ix1 t) : BitVec 32).toNat = (y 0).val := by
  unfold allSet coreSet
  simp only [Finset.mem_biUnion, Finset.mem_univ, true_and, mem_tileSet]
  constructor
  · rintro ⟨c, i, j, h⟩; exact ⟨_, h⟩
  · rintro ⟨t, h⟩
    refine ⟨⟨t.val / 32 % 2, by omega⟩, ⟨t.val / 64, by omega⟩, ⟨t.val % 32, by omega⟩, ?_⟩
    rw [show tokn ⟨t.val / 32 % 2, by omega⟩ ⟨t.val / 64, by omega⟩ ⟨t.val % 32, by omega⟩ = t from
      Fin.ext (by show 64 * (t.val / 64) + 32 * (t.val / 32 % 2) + t.val % 32 = t.val; omega)]
    exact h

theorem same_tok {f : S1024.Idx → Elt F .i32} (hd : Distinct (F := F) f) {t u : Fin 1024} {n : ℕ}
    (ht : (f (ValueIdx.ix1 t) : BitVec 32).toNat = n) (hu : (f (ValueIdx.ix1 u) : BitVec 32).toNat = n) : t.val = u.val :=
  congrArg (fun z : S1024.Idx => (z 0).val) (hd (ht.trans hu.symm))

theorem tiles_disjoint {f : S1024.Idx → Elt F .i32} (hd : Distinct (F := F) f) (c : Fin 2) :
    ∀ i ∈ (Finset.univ : Finset (Fin 16)), ∀ j ∈ (Finset.univ : Finset (Fin 16)), i ≠ j → Disjoint (tileSet (F := F) f c i) (tileSet (F := F) f c j) := by
  intro i _ j _ h
  refine Finset.disjoint_left.mpr fun y hi hj => h (Fin.ext ?_)
  obtain ⟨a, ha⟩ := mem_tileSet.mp hi
  obtain ⟨b, hb⟩ := mem_tileSet.mp hj
  have e := same_tok hd ha hb
  change 64 * i.val + 32 * c.val + a.val = 64 * j.val + 32 * c.val + b.val at e
  omega

theorem cores_disjoint {f : S1024.Idx → Elt F .i32} (hd : Distinct (F := F) f) :
    ∀ i ∈ (Finset.univ : Finset (Fin 2)), ∀ j ∈ (Finset.univ : Finset (Fin 2)), i ≠ j → Disjoint (coreSet (F := F) f i) (coreSet (F := F) f j) := by
  intro c _ c' _ h
  refine Finset.disjoint_left.mpr fun y hi hj => h (Fin.ext ?_)
  unfold coreSet at hi hj
  obtain ⟨i, -, hi⟩ := Finset.mem_biUnion.mp hi
  obtain ⟨j, -, hj⟩ := Finset.mem_biUnion.mp hj
  obtain ⟨a, ha⟩ := mem_tileSet.mp hi
  obtain ⟨b, hb⟩ := mem_tileSet.mp hj
  have e := same_tok hd ha hb
  change 64 * i.val + 32 * c.val + a.val = 64 * j.val + 32 * c'.val + b.val at e
  omega

/-- The operands at a share, and the rows of the target. -/
abbrev inPts (d : Dev nD) (q : PosShare TreeShare) : sProp 𝕄 :=
  iprop((xLoc d ↦{q} (fx d : Buf (Elt F) (xLoc d))) ∗ sLoc d ↦{q} (fs d : Buf (Elt F) (sLoc d)))
abbrev oTile (d : Dev nD) (c : Fin 2) (i : Fin 16) (f : S5120x768.Idx → Elt F .f32) : sProp 𝕄 := oLoc d ↦[tileSet (F := F) (fs d) c i]{fullShare} (f : Buf (Elt F) (oLoc d))
abbrev oCore (d : Dev nD) (c : Fin 2) (f : S5120x768.Idx → Elt F .f32) : sProp 𝕄 := oLoc d ↦[coreSet (F := F) (fs d) c]{fullShare} (f : Buf (Elt F) (oLoc d))

abbrev cc (c : Fin ((K (F := F)).nCore 0)) : Fin 2 := Fin.cast nCore_0 c
abbrev ii (i : Fin ((K (F := F)).nSub 0)) : Fin 16 := Fin.cast nSub_0 i

theorem oCore_tiles (hd : ∀ d, Distinct (F := F) (fs d)) (d : Dev nD) (c : Fin 2) (f : S5120x768.Idx → Elt F .f32) :
    (oCore fs d c f : sProp 𝕄) = bigSep Finset.univ fun i : Fin 16 => oTile fs d c i f :=
  pointsTo_biUnion Finset.univ (ℓ := oLoc d) (tileSet (F := F) (fs d) c) (tiles_disjoint (hd d) c)

theorem oAll_cores (hd : ∀ d, Distinct (F := F) (fs d)) (d : Dev nD) (f : S5120x768.Idx → Elt F .f32) :
    (oLoc d ↦[allSet (F := F) (fs d)]{fullShare} (f : Buf (Elt F) (oLoc d)) : sProp 𝕄) = bigSep Finset.univ fun c : Fin 2 => oCore fs d c f :=
  pointsTo_biUnion Finset.univ (ℓ := oLoc d) (coreSet (F := F) (fs d)) (cores_disjoint (hd d))

theorem inPts_leaves (d : Dev nD) (n : ℕ) (q : PosShare TreeShare) :
    (inPts fx fs d q : sProp 𝕄) = bigSep Finset.univ fun i : Fin (2 ^ n) => inPts fx fs d (leaf n q i) := by
  unfold inPts
  rw [bigSep_sep', ← pointsTo_leaves, ← pointsTo_leaves]

theorem core_tasks (hd : ∀ d, Distinct (F := F) (fs d)) (d : Dev nD) (c : Fin 2) (f : S5120x768.Idx → Elt F .f32) :
    (iprop(inPts fx fs d (qc c) ∗ oCore fs d c f) : sProp 𝕄) = bigSep Finset.univ fun i : Fin 16 => iprop(inPts fx fs d (qt c i) ∗ oTile fs d c i f) := by
  rw [bigSep_sep', ← oCore_tiles fs hd]
  exact congrArg (fun X : sProp 𝕄 => iprop(X ∗ oCore fs d c f)) (inPts_leaves fx fs d 4 (qc c))

theorem all_cores (hd : ∀ d, Distinct (F := F) (fs d)) (d : Dev nD) (f : S5120x768.Idx → Elt F .f32) :
    (iprop(inPts fx fs d fullShare ∗ oLoc d ↦[allSet (F := F) (fs d)]{fullShare} (f : Buf (Elt F) (oLoc d))) : sProp 𝕄)
      = bigSep Finset.univ fun c : Fin 2 => iprop(inPts fx fs d (qc c) ∗ oCore fs d c f) := by
  rw [bigSep_sep', ← oAll_cores fs hd]
  exact congrArg (fun X : sProp 𝕄 => iprop(X ∗ oLoc d ↦[allSet (F := F) (fs d)]{fullShare} (f : Buf (Elt F) (oLoc d)))) (inPts_leaves fx fs d 1 fullShare)

theorem bigSep_tasks (Φ : Fin 16 → sProp 𝕄) :
    (bigSep Finset.univ fun i : Fin ((K (F := F)).nSub 0) => Φ (Fin.cast nSub_0 i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_0 c)) = bigSep Finset.univ Φ :=
  bigSep_congr fun _ _ => congrArg Φ (Fin.ext rfl)

theorem deal (hd : ∀ d, Distinct (F := F) (fs d)) (d : Dev nD) (c : Fin ((K (F := F)).nCore 0)) :
    iprop(inPts fx fs d (qc (cc c)) ∗ oCore fs d (cc c) (fo d)) ⊢ |={Set.univ}=> iprop(
      (bigSep Finset.univ fun i : Fin ((K (F := F)).nSub 0) => iprop(inPts fx fs d (qt (cc c) (Fin.cast nSub_0 i)) ∗ oTile fs d (cc c) (Fin.cast nSub_0 i) (fo d)))
      ∗ ((bigSep Finset.univ fun i : Fin ((K (F := F)).nSub 0) => iprop(inPts fx fs d (qt (cc c) (Fin.cast nSub_0 i)) ∗ oTile fs d (cc c) (Fin.cast nSub_0 i) (scattered (fx d) (fs d) (fo d))))
          -∗ iprop(inPts fx fs d (qc (cc c)) ∗ oCore fs d (cc c) (scattered (fx d) (fs d) (fo d))))) := by
  rw [bigSep_tasks (F := F) (fun i => iprop(inPts fx fs d (qt (cc c) i) ∗ oTile fs d (cc c) i (fo d))),
    bigSep_tasks (F := F) (fun i => iprop(inPts fx fs d (qt (cc c) i) ∗ oTile fs d (cc c) i (scattered (fx d) (fs d) (fo d)))), ← core_tasks fx fs hd, ← core_tasks fx fs hd]
  iintro H; imodintro
  isplitl [H]; · iexact H
  iintro H; iexact H

theorem bigSep_st (hd : ∀ d, Distinct (F := F) (fs d)) (d : Dev nD) (f : S5120x768.Idx → Elt F .f32) :
    (bigSep Finset.univ fun c : Fin ((K (F := F)).nCore 0) => iprop(inPts fx fs d (qc (cc c)) ∗ oCore fs d (cc c) f))
      = (iprop(inPts fx fs d fullShare ∗ oLoc d ↦[allSet (F := F) (fs d)]{fullShare} (f : Buf (Elt F) (oLoc d))) : sProp 𝕄) := by
  rw [all_cores fx fs hd]
  exact bigSep_cores (F := F) fun c => iprop(inPts fx fs d (qc c) ∗ oCore fs d c f)

/-- The rows no token names keep what they held, so that the two parts together hold the scatter's values. -/
theorem whole_scattered (d : Dev nD) :
    (iprop((oLoc d ↦[allSet (F := F) (fs d)]{fullShare} (scattered (fx d) (fs d) (fo d) : Buf (Elt F) (oLoc d)))
        ∗ oLoc d ↦[Finset.univ \ allSet (F := F) (fs d)]{fullShare} (fo d : Buf (Elt F) (oLoc d))) : sProp 𝕄)
      ⊢ oLoc d ↦{fullShare} (scattered (fx d) (fs d) (fo d) : Buf (Elt F) (oLoc d)) := by
  have e : (oLoc d ↦[Finset.univ \ allSet (F := F) (fs d)]{fullShare} (fo d : Buf (Elt F) (oLoc d)) : sProp 𝕄)
      = oLoc d ↦[Finset.univ \ allSet (F := F) (fs d)]{fullShare} (scattered (fx d) (fs d) (fo d) : Buf (Elt F) (oLoc d)) := by
    refine pointsTo_congr fun y hy => ?_
    have h : ¬ ∃ t : Fin 1024, (fs d (ValueIdx.ix1 t) : BitVec 32).toNat = (y 0).val := fun h => (Finset.mem_sdiff.mp hy).2 (mem_allSet.mpr h)
    unfold scattered
    rw [dif_neg h]
  rw [e]
  exact (pointsTo_split_subset (Finset.subset_univ _)).2

theorem split_all (d : Dev nD) :
    (oLoc d ↦{fullShare} (fo d : Buf (Elt F) (oLoc d)) : sProp 𝕄)
      ⊢ iprop((oLoc d ↦[allSet (F := F) (fs d)]{fullShare} (fo d : Buf (Elt F) (oLoc d)))
        ∗ oLoc d ↦[Finset.univ \ allSet (F := F) (fs d)]{fullShare} (fo d : Buf (Elt F) (oLoc d))) :=
  (pointsTo_split_subset (Finset.subset_univ _)).1

/-! ## A slab's rows -/

theorem mem_rows (n : ℕ) (inb) (p : ℕ → Prop) (y : S5120x768.Idx) :
    y ∈ rowsWhere (slab n inb).view gathers_S5120x128_S32x128.axis p ↔ p (y 0).val ∧ n ≤ (y 1).val ∧ (y 1).val < n + 128 := by
  refine SparseCore.mem_rowsWhere.trans ⟨?_, ?_⟩
  · rintro ⟨r, hp, hy⟩
    obtain ⟨z, -, rfl⟩ := Finset.mem_map.mp hy
    have e0 := slab_row n inb r z
    have e1 := slab_col n inb r z
    have z1 : (z 1).val < 128 := (z 1).isLt
    refine ⟨by rw [e0]; exact hp, ?_, ?_⟩
    · rw [e1]; omega
    · rw [e1]; omega
  · rintro ⟨hp, h1, h2⟩
    refine ⟨⟨(y 0).val, (y 0).isLt⟩, hp, ?_⟩
    rw [View.set_slice]
    refine Finset.mem_map.mpr ⟨(ValueIdx.ix2 (y 0) ⟨(y 1).val - n, by omega⟩ : S5120x128.Idx), ?_, ?_⟩
    · refine Rect.mem_set_unit.mpr ?_
      intro a
      match a with
      | 0 => exact ⟨Nat.le_refl _, Nat.lt_succ_self _⟩
      | 1 => exact ⟨Nat.zero_le _, by show (y 1).val - n < 0 + 128; omega⟩
    · funext u
      match u with
      | 0 =>
        apply Fin.ext
        show ((Rect.unit (s := S5120x768) ![0, n] S5120x128.size inb).emb _ 0).val = _
        rw [Rect.emb_apply]
        show 0 + 1 * (y 0).val = (y 0).val
        omega
      | 1 =>
        apply Fin.ext
        show ((Rect.unit (s := S5120x768) ![0, n] S5120x128.size inb).emb _ 1).val = _
        rw [Rect.emb_apply]
        show n + 1 * ((y 1).val - n) = (y 1).val
        omega

section Obl

variable (d : Dev nD) (L : grid1.Coords)

open scoped Classical in
/-- A subcore's rows of the target, slab by slab. -/
def slabSet (f : S1024.Idx → Elt F .i32) (k : Fin 6) : Finset S5120x768.Idx := Finset.univ.filter fun y => mine (F := F) L f (y 0).val ∧ (y 1).val / 128 = k.val

theorem mem_slabSet {f : S1024.Idx → Elt F .i32} {k : Fin 6} {y : S5120x768.Idx} :
    y ∈ slabSet (F := F) L f k ↔ mine (F := F) L f (y 0).val ∧ (y 1).val / 128 = k.val := by
  classical
  unfold slabSet
  exact Finset.mem_filter.trans ⟨fun h => h.2, fun h => ⟨Finset.mem_univ _, h⟩⟩

theorem slabs_union (f : S1024.Idx → Elt F .i32) : (Finset.univ.biUnion fun k : Fin 6 => slabSet (F := F) L f k) = tileSet (F := F) f (L 0) (L 1) := by
  ext y
  simp only [Finset.mem_biUnion, Finset.mem_univ, true_and, mem_slabSet]
  refine Iff.trans ?_ (mem_tileSet (F := F)).symm
  have h1 : (y 1).val < 768 := (y 1).isLt
  constructor
  · rintro ⟨k, h, -⟩; exact h
  · intro h; exact ⟨⟨(y 1).val / 128, by omega⟩, h, rfl⟩

theorem slabs_disjoint (f : S1024.Idx → Elt F .i32) :
    ∀ i ∈ (Finset.univ : Finset (Fin 6)), ∀ j ∈ (Finset.univ : Finset (Fin 6)), i ≠ j → Disjoint (slabSet (F := F) L f i) (slabSet (F := F) L f j) := by
  intro i _ j _ h
  refine Finset.disjoint_left.mpr fun y hi hj => h (Fin.ext ?_)
  exact ((mem_slabSet L).mp hi).2.symm.trans ((mem_slabSet L).mp hj).2

theorem slab_eq (f : S1024.Idx → Elt F .i32) (k : Fin 6) (inb) :
    rowsWhere (slab (128 * k.val) inb).view gathers_S5120x128_S32x128.axis (mine (F := F) L f) = slabSet (F := F) L f k := by
  ext y
  rw [mem_slabSet]
  refine (mem_rows _ inb _ y).trans (and_congr_right fun _ => ?_)
  omega

abbrev slabPt (f : S5120x768.Idx → Elt F .f32) (n : ℕ) (inb : ∀ a, (![0, n] : Fin 2 → ℕ) a + S5120x128.size a ≤ S5120x768.size a) : sProp 𝕄 :=
  iprop((slab n inb).view.loc (VT d L) ↦[rowsWhere (slab n inb).view gathers_S5120x128_S32x128.axis (mine (F := F) L (fs d))]{fullShare} (f : Buf (Elt F) (oLoc d)))

theorem pts_slabs (f : S5120x768.Idx → Elt F .f32) :
    (oTile fs d (L 0) (L 1) f : sProp 𝕄) = iprop(slabPt fs d L f 0 inb_S5120x768_S5120x128_0_0 ∗ slabPt fs d L f 128 inb_S5120x768_S5120x128_0_128 ∗ slabPt fs d L f 256 inb_S5120x768_S5120x128_0_256 ∗ slabPt fs d L f 384 inb_S5120x768_S5120x128_0_384 ∗ slabPt fs d L f 512 inb_S5120x768_S5120x128_0_512 ∗ slabPt fs d L f 640 inb_S5120x768_S5120x128_0_640) := by
  unfold oTile
  rw [← slabs_union, pointsTo_biUnion Finset.univ (ℓ := oLoc d) (slabSet (F := F) L (fs d)) (slabs_disjoint L (fs d)),
    show (Finset.univ : Finset (Fin 6)) = {0, 1, 2, 3, 4, 5} by decide,
    SparseCore.bigSep_insert' (by decide), SparseCore.bigSep_insert' (by decide), SparseCore.bigSep_insert' (by decide),
    SparseCore.bigSep_insert' (by decide), SparseCore.bigSep_insert' (by decide), bigSep_singleton,
    ← slab_eq L (fs d) 0 inb_S5120x768_S5120x128_0_0, ← slab_eq L (fs d) 1 inb_S5120x768_S5120x128_0_128, ← slab_eq L (fs d) 2 inb_S5120x768_S5120x128_0_256,
    ← slab_eq L (fs d) 3 inb_S5120x768_S5120x128_0_384, ← slab_eq L (fs d) 4 inb_S5120x768_S5120x128_0_512, ← slab_eq L (fs d) 5 inb_S5120x768_S5120x128_0_640]
  rfl

abbrev cell (s : DmaSem sig) : GSem nD τ sig := (VT d L, .dma s)

theorem ownSems0_V :
    (ownSems0 (VT d L) : sProp 𝕄)
      = iprop(semVal (cell d L cc1_scratch2.sem) 0 ∗ semVal (cell d L cc1_scratch3.sem) 0 ∗ semVal (cell d L cc1_scratch4.sem) 0
          ∗ bigSep ((((ownCells (VT d L)).erase (cell d L cc1_scratch2.sem)).erase (cell d L cc1_scratch3.sem)).erase (cell d L cc1_scratch4.sem)) fun g => semVal g 0) := by
  have hmem : ∀ s : DmaSem sig, (SemLoc.dma s : SemLoc sig).isScoped .scVector = true → cell d L s ∈ ownCells (VT d L) := fun s h => mem_ownCells.mpr ⟨rfl, h⟩
  have hne : ∀ s t : DmaSem sig, s ≠ t → cell d L s ≠ cell d L t := fun s t h e => h (by injection e with _ e; injection e)
  unfold SparseCore.Cfg.ownSems0
  rw [SparseCore.bigSep_erase' (hmem cc1_scratch2.sem (by decide)),
    SparseCore.bigSep_erase' (Finset.mem_erase.mpr ⟨hne _ _ (by decide), hmem cc1_scratch3.sem (by decide)⟩),
    SparseCore.bigSep_erase' (Finset.mem_erase.mpr ⟨hne _ _ (by decide), Finset.mem_erase.mpr ⟨hne _ _ (by decide), hmem cc1_scratch4.sem (by decide)⟩⟩)]

abbrev bref (b : Ref sig .scVector) : DevRef τ sig := (Proc.scVector (cV L) (jV L)).devRef b

theorem ownBufs_V :
    (ownBufs (VT d L) : sProp 𝕄)
      = iprop((∃ f, (VT d L).loc cc1_scratch0 ↦{fullShare} f) ∗ (∃ f, (VT d L).loc cc1_scratch1 ↦{fullShare} f)
          ∗ bigSep (((ownRefs (τ := τ) (.scVector (cV L) (jV L))).erase (bref L cc1_scratch0)).erase (bref L cc1_scratch1))
              fun b => iprop(∃ f, ((d, b) : Loc nD τ sig) ↦{fullShare} f)) := by
  have hne : ∀ b c : Ref sig .scVector, b ≠ c → bref L b ≠ bref L c := fun b c h e => h (Proc.devRef_injective _ e)
  unfold SparseCore.Cfg.ownBufs
  refine (SparseCore.bigSep_erase' (SparseCore.Cfg.mem_ownRefs_of_owner (p := Proc.scVector (cV L) (jV L)) (b := bref L cc1_scratch0) rfl)).trans ?_
  rw [SparseCore.bigSep_erase' (Finset.mem_erase.mpr ⟨hne _ _ (by decide), SparseCore.Cfg.mem_ownRefs_of_owner (p := Proc.scVector (cV L) (jV L)) (b := bref L cc1_scratch1) rfl⟩)]

/-- The task from what the launch deals it to what it brings back. -/
theorem tile_body (hF : (K (F := F)).Facts) (hpre : ∀ (d : Dev nD) (j : S1024.Idx), (fs d j : BitVec 32).toNat < 5120) (hd : ∀ d, Distinct (F := F) (fs d))
    (O : CellTallies nD τ sig (HIx 2)) (W : Waits sig (HIx 2)) (hO : ∀ g, O g none = 0) :
    iprop(levAts (K (F := F)).L (K (F := F)).lev ∗ emp
        ∗ (inPts fx fs d (qt (L 0) (L 1)) ∗ oTile fs d (L 0) (L 1) (fo d))
        ∗ scopedBufs (VT d L) ∗ scopedSems0 (VT d L) ∗ owes (VT d L) O W)
      ⊢ wp frame (wpE (defs₀ (F := F)) 𝒱₀ (VT d L) none) Set.univ
          (cc1__scatter_call L xM (Memref.isWhole_whole _) sM (Memref.isWhole_whole _) dM (Memref.isWhole_whole _)
            svM (Memref.isWhole_whole _) rvM (Memref.isWhole_whole _) cc1_scratch2 cc1_scratch3 cc1_scratch4)
          fun _ => iprop((inPts fx fs d (qt (L 0) (L 1)) ∗ oTile fs d (L 0) (L 1) (scattered (fx d) (fs d) (fo d)))
            ∗ scopedBufs (VT d L) ∗ scopedSems0 (VT d L)
            ∗ ∃ W', ⌜∀ p ∈ W', p ∈ W ∨ p.2 = none⌝ ∗ owes (VT d L) O W') := by
  rw [(K (F := F)).scopedBufs_V hF d (cV L) (jV L), SparseCore.Cfg.scopedSems0_V (Val := Elt F) d (cV L) (jV L), ownSems0_V, ownBufs_V]
  iintro ⟨#Hlv, -, ⟨⟨Hx, Hs⟩, Ho⟩, ⟨⟨%s0, Hsv⟩, ⟨%r0, Hrv⟩, Hbufs⟩, ⟨Hc0, Hc1, Hc2, Hsems⟩, HO⟩
  ihave Hmw := (show levAts (K (F := F)).L (K (F := F)).lev ⊢ Transfers.MayWaits (VT d L) (default : HIx 2) O from
    (K (F := F)).mayWaits_none (thr := VT d L) hO) $$ Hlv
  ihave Ho' := (Entails.of_eq (pts_slabs (F := F) fs d L _)) $$ Ho
  icases Ho' with ⟨H0, H1, H2, H3, H4, H5⟩
  iapply (wp_wand_r Idealize.ShloMosaic.frame (wpE (defs₀ (F := F)) 𝒱₀ (VT d L) none) Set.univ)
  isplitl [Hmw Hx Hs H0 H1 H2 H3 H4 H5 Hsv Hrv Hc0 Hc1 Hc2 HO]
  · iapply (tile_run d L (fx d) (fs d) (fo d) (qt (L 0) (L 1)) (hpre d) (hd d) s0 r0 O W)
    isplitl [Hmw]; · iexact Hmw
    isplitl [Hx]; · iexact Hx
    isplitl [Hs]; · iexact Hs
    isplitl [H0]; · iexact H0
    isplitl [H1]; · iexact H1
    isplitl [H2]; · iexact H2
    isplitl [H3]; · iexact H3
    isplitl [H4]; · iexact H4
    isplitl [H5]; · iexact H5
    isplitl [Hsv]; · iexact Hsv
    isplitl [Hrv]; · iexact Hrv
    isplitl [Hc0]; · iexact Hc0
    isplitl [Hc1]; · iexact Hc1
    isplitl [Hc2]; · iexact Hc2
    iexact HO
  iintro %_ ⟨Hx, Hs, H0, H1, H2, H3, H4, H5, Hsv, Hrv, Hc0, Hc1, Hc2, HW⟩
  isplitl [Hx Hs H0 H1 H2 H3 H4 H5]
  · isplitl [Hx Hs]
    · isplitl [Hx]; · iexact Hx
      iexact Hs
    iapply (Entails.of_eq (pts_slabs (F := F) fs d L _).symm)
    isplitl [H0]; · iexact H0
    isplitl [H1]; · iexact H1
    isplitl [H2]; · iexact H2
    isplitl [H3]; · iexact H3
    isplitl [H4]; · iexact H4
    iexact H5
  isplitl [Hsv Hrv Hbufs]
  · isplitl [Hsv]; · iexact Hsv
    isplitl [Hrv]; · iexact Hrv
    iexact Hbufs
  isplitl [Hc0 Hc1 Hc2 Hsems]
  · isplitl [Hc0]; · iexact Hc0
    isplitl [Hc1]; · iexact Hc1
    isplitl [Hc2]; · iexact Hc2
    iexact Hsems
  iexact HW

end Obl

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__scatter_call (coordsV c s)
          xM (Memref.isWhole_whole _) sM (Memref.isWhole_whole _) dM (Memref.isWhole_whole _)
            svM (Memref.isWhole_whole _) rvM (Memref.isWhole_whole _) cc1_scratch2 cc1_scratch3 cc1_scratch4) ⟨⟩ c s := rfl

end Cert.Proof.Whole.Scatter

end
-- ==== Proof.W.CombSetup.lean ====
/- The combine call: short names for its arrays and for a subcore's scratch buffers. -/
module

public import proofs.«01_k».proof.Proof.W.Base

@[expose] public section

noncomputable section

namespace Cert.Proof.Whole.Combine

open Cert.WholeIdeal Cert.WholeIdeal.Gen Cert.Proof.Whole
open Idealize.ShloMosaic
open Idealize.ShloMosaic.SparseCore (S V T)

/-! ## The arrays: the experts' rows, the slots, the shared expert's rows, the gating weights spread over lanes, the result -/

abbrev aLoc (d : Dev nD) : Loc nD τ sig := (SparseCore.T d).loc main_v5
abbrev sLoc (d : Dev nD) : Loc nD τ sig := (SparseCore.T d).loc main_v2
abbrev hLoc (d : Dev nD) : Loc nD τ sig := (SparseCore.T d).loc main_v1_4
abbrev gLoc (d : Dev nD) : Loc nD τ sig := (SparseCore.T d).loc main_v1_1
abbrev oLoc (d : Dev nD) : Loc nD τ sig := (SparseCore.T d).loc main_v6

/-- The SparseCore and the subcore at grid coordinates `L`, and the thread there. -/
abbrev cV (L : grid3.Coords) : Fin τ.nSC := (L 0).castLE hcore3
abbrev jV (L : grid3.Coords) : Fin τ.nSub := (L 1).castLE hsub3
abbrev VT (d : Dev nD) (L : grid3.Coords) : Thread nD τ := V d (cV L) (jV L)

end Cert.Proof.Whole.Combine

end
-- ==== Proof.W.CombTrip.lean ====
/-
  One trip of the combine call's loop: row `k` of the gathered rows is scaled by the row's gating weights, lane by lane,
  and added to the shared expert's row; every other row is untouched.
-/
module

public import proofs.«01_k».proof.Proof.W.CombSetup
public import Idealize.ShloMosaic.Lib.Writes
public import Idealize.ShloMosaic.Lib.ValueLayout

@[expose] public section

set_option maxRecDepth 16384

noncomputable section

namespace Cert.Proof.Whole.Combine

open Cert.WholeIdeal Cert.WholeIdeal.Gen Cert.Proof.Whole
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ
local notation "aM" => (Memref.whole Cert.WholeIdeal.main_v5_scv : Memref Cert.WholeIdeal.sig Kind.scVector Space.hbm Cert.WholeIdeal.S5120x768 EltTy.f32)
local notation "sM" => (Memref.whole Cert.WholeIdeal.main_v2_scv : Memref Cert.WholeIdeal.sig Kind.scVector Space.hbm Cert.WholeIdeal.S1024 EltTy.i32)
local notation "hM" => (Memref.whole Cert.WholeIdeal.main_v1_4_scv : Memref Cert.WholeIdeal.sig Kind.scVector Space.hbm Cert.WholeIdeal.S1024x768 EltTy.f32)
local notation "gM" => (Memref.whole Cert.WholeIdeal.main_v1_1_scv : Memref Cert.WholeIdeal.sig Kind.scVector Space.hbm Cert.WholeIdeal.S1024x128 EltTy.f32)
local notation "oM" => (Memref.whole Cert.WholeIdeal.main_v6_scv : Memref Cert.WholeIdeal.sig Kind.scVector Space.hbm Cert.WholeIdeal.S1024x768 EltTy.f32)
-- a subcore's scratch: its slots, its gathered rows, the shared expert's rows, the gating rows
local notation "svM" => (Memref.whole Cert.WholeIdeal.cc3_scratch0 : Memref Cert.WholeIdeal.sig Kind.scVector Space.vmem Cert.WholeIdeal.S32 EltTy.i32)
local notation "rvM" => (Memref.whole Cert.WholeIdeal.cc3_scratch1 : Memref Cert.WholeIdeal.sig Kind.scVector Space.vmem Cert.WholeIdeal.S32x768 EltTy.f32)
local notation "hvM" => (Memref.whole Cert.WholeIdeal.cc3_scratch2 : Memref Cert.WholeIdeal.sig Kind.scVector Space.vmem Cert.WholeIdeal.S32x768 EltTy.f32)
local notation "gvM" => (Memref.whole Cert.WholeIdeal.cc3_scratch3 : Memref Cert.WholeIdeal.sig Kind.scVector Space.vmem Cert.WholeIdeal.S32x128 EltTy.f32)

abbrev bodyAt (L : grid3.Coords) : Fin k3_t1_loop.trips → Unit → Prog (TpuEff nD τ sig (Elt F) Λ₀ (.scVector (cV L) (jV L))) Unit :=
  k3_t1_body L aM (Memref.isWhole_whole _) sM (Memref.isWhole_whole _) hM (Memref.isWhole_whole _) gM (Memref.isWhole_whole _)
    oM (Memref.isWhole_whole _) svM (Memref.isWhole_whole _) rvM (Memref.isWhole_whole _) hvM (Memref.isWhole_whole _)
    gvM (Memref.isWhole_whole _) cc3_scratch4 cc3_scoped0 cc3_scoped1 cc3_scoped2 cc3_scoped3 0#32

def trip_run (d : Dev nD) (L : grid3.Coords) (k : Fin k3_t1_loop.trips) (h : Buf (Elt F) ((hvM).view.loc (VT d L)))
    (g : Buf (Elt F) ((gvM).view.loc (VT d L))) (r : Buf (Elt F) ((rvM).view.loc (VT d L))) :
    { L' : Buf (Elt F) ((rvM).view.loc (VT d L)) // ∀ Q : Unit → sProp 𝕄,
      iprop(((rvM).view.loc (VT d L) ↦{fullShare} r) ∗ ((hvM).view.loc (VT d L) ↦{fullShare} h) ∗ ((gvM).view.loc (VT d L) ↦{fullShare} g)
        ∗ ((((rvM).view.loc (VT d L) ↦{fullShare} L') ∗ ((hvM).view.loc (VT d L) ↦{fullShare} h) ∗ ((gvM).view.loc (VT d L) ↦{fullShare} g)) -∗ Q ()))
      ⊢ wp frame (wpE (defs₀ (F := F)) 𝒱₀ (VT d L) none) Set.univ (bodyAt L k ()) Q } := by
  refine ⟨?_, fun Q => ?run⟩
  case run =>
    unfold bodyAt k3_t1_body
    rw [k3_part13_eq_skeleton]; unfold k3_part13_skel
    rw [k3_part1_eq_skeleton]; unfold k3_part1_skel
    rw [k3_part2_eq_skeleton]; unfold k3_part2_skel
    rw [k3_part3_eq_skeleton]; unfold k3_part3_skel
    rw [k3_part4_eq_skeleton]; unfold k3_part4_skel
    rw [k3_part5_eq_skeleton]; unfold k3_part5_skel
    rw [k3_part6_eq_skeleton]; unfold k3_part6_skel
    rw [k3_part7_eq_skeleton]; unfold k3_part7_skel
    rw [k3_part8_eq_skeleton]; unfold k3_part8_skel
    rw [k3_part9_eq_skeleton]; unfold k3_part9_skel
    rw [k3_part10_eq_skeleton]; unfold k3_part10_skel
    rw [k3_part11_eq_skeleton]; unfold k3_part11_skel
    rw [k3_part12_eq_skeleton]; unfold k3_part12_skel
    iintro ⟨Hr, Hh, Hg, HQ⟩
    sl_exec
    sl_step
    iapply HQ
    isplitl [Hr]; · iexact Hr
    isplitl [Hh] <;> iassumption

/-! ## What a trip leaves -/

/-- An index of a rank-two shape is its two coordinates. -/
theorem ix2_coords {a b : ℕ} (x : (⟨2, ![a, b]⟩ : Shape).Idx) : ValueIdx.ix2 (x 0) (x 1) = x := by
  funext u
  match u with
  | 0 => rfl
  | 1 => rfl

/-- Lane `n` (below sixteen) of row `j` of the gating rows. -/
def laneOf (j : Fin 32) (n : ℕ) : S32x128.Idx := ValueIdx.ix2 j ⟨n % 16, by omega⟩

/-- Row `k` scaled by its gating lanes and added to the shared row; the other rows as they were. -/
def rowDone (k : ℕ) (g : S32x128.Idx → Elt F .f32) (h r : S32x768.Idx → Elt F .f32) : S32x768.Idx → Elt F .f32 := fun y =>
  if (y 0).val = k then FloatOps.addf (φ := .f32) (FloatOps.mulf (φ := .f32) (r y) (g (laneOf (y 0) (y 1).val))) (h y) else r y

/-- A store's payload over the three loads before it. -/
abbrev scaled (a g h : FVec F S1x16 .f32) : FVec F S1x16 .f32 :=
  shapeCast S1x16 (addf (mulf (shapeCast S16 a shapeCasts_S1x16_S16) (shapeCast S16 g shapeCasts_S1x16_S16)) (shapeCast S16 h shapeCasts_S1x16_S16)) shapeCasts_S16_S1x16

theorem scaled_lane (a g h : FVec F S1x16 .f32) (i : Fin 16) :
    scaled a g h (ValueIdx.ix2 (0 : Fin 1) i) = FloatOps.addf (φ := .f32) (FloatOps.mulf (φ := .f32) (a (ValueIdx.ix2 (0 : Fin 1) i))
      (g (ValueIdx.ix2 (0 : Fin 1) i))) (h (ValueIdx.ix2 (0 : Fin 1) i)) :=
  (ValueIdx.shapeCast_a_1a_apply (a := 16) _ _ 0 i).trans
    (congrArg₂ (FloatOps.addf (φ := .f32)) (congrArg₂ (FloatOps.mulf (φ := .f32)) (ValueIdx.shapeCast_1a_a_apply (a := 16) a _ i)
      (ValueIdx.shapeCast_1a_a_apply (a := 16) g _ i)) (ValueIdx.shapeCast_1a_a_apply (a := 16) h _ i))

theorem scaled_apply (a g h : FVec F S1x16 .f32) (x : S1x16.Idx) :
    scaled a g h x = FloatOps.addf (φ := .f32) (FloatOps.mulf (φ := .f32) (a x) (g x)) (h x) := by
  have hx : ValueIdx.ix2 (0 : Fin 1) (x 1) = x := by
    rw [show (0 : Fin 1) = x 0 from (Subsingleton.elim _ _)]; exact ix2_coords x
  rw [← hx]
  exact scaled_lane a g h (x 1)

/-- Sixteen lanes from `off` on are the columns `off 1 ≤ · < off 1 + 16` of row `off 0`. -/
theorem mem_lanes {off : Fin 2 → ℕ} {inb} (y : S32x768.Idx) :
    y ∈ (Rect.unit (s := S32x768) off S1x16.size inb).set ↔ (off 0 ≤ (y 0).val ∧ (y 0).val < off 0 + 1) ∧ (off 1 ≤ (y 1).val ∧ (y 1).val < off 1 + 16) := by
  rw [Rect.mem_set_unit]
  exact Fin.forall_fin_two

theorem not_mem_lanes {off : Fin 2 → ℕ} {inb} {k n : ℕ} (y : S32x768.Idx) (hoff : off = ![k, n]) (hy : (y 0).val ≠ k) :
    y ∉ (Rect.unit (s := S32x768) off S1x16.size inb).set := by
  subst hoff
  rw [mem_lanes]
  rintro ⟨⟨h0, h1⟩, -⟩
  change k ≤ (y 0).val at h0
  change (y 0).val < k + 1 at h1
  omega

theorem mem_lanes_of {off : Fin 2 → ℕ} {inb} {k c : ℕ} (y : S32x768.Idx) (hoff : off = ![k, 16 * c]) (hy : (y 0).val = k) (hc : (y 1).val / 16 = c) :
    y ∈ (Rect.unit (s := S32x768) off S1x16.size inb).set := by
  subst hoff
  rw [mem_lanes]
  refine ⟨⟨?_, ?_⟩, ?_, ?_⟩
  · change k ≤ (y 0).val; omega
  · change (y 0).val < k + 1; omega
  · change 16 * c ≤ (y 1).val; omega
  · change (y 1).val < 16 * c + 16; omega

/-- The payload stored at the lanes `off = (k, 16 c)` is the row's new value there. -/
theorem piece_ok (k c : ℕ) (hk : k < 32) (off off4 : Fin 2 → ℕ) (inb inb4) (hoff : off = ![k, 16 * c]) (hoff4 : off4 = ![k, 0])
    (g : S32x128.Idx → Elt F .f32) (h r : S32x768.Idx → Elt F .f32) (x : S1x16.Idx) :
    scaled ((rvM).view.readAt (Elt F) (Rect.unit (s := S32x768) off S1x16.size inb).toLoadRect r)
        ((gvM).view.readAt (Elt F) (Rect.unit (s := S32x128) off4 S1x16.size inb4).toLoadRect g)
        ((hvM).view.readAt (Elt F) (Rect.unit (s := S32x768) off S1x16.size inb).toLoadRect h) x
      = rowDone k g h r ((Rect.unit (s := S32x768) off S1x16.size inb).emb x) := by
  subst hoff; subst hoff4
  have h0 : (x 0).val = 0 := by have := (x 0).isLt; change _ < 1 at this; omega
  have h1 : (x 1).val < 16 := (x 1).isLt
  have e0 : (((Rect.unit (s := S32x768) ![k, 16 * c] S1x16.size inb).emb x) 0).val = k := by
    rw [Rect.emb_apply]; simp [h0]
  have e1 : (((Rect.unit (s := S32x768) ![k, 16 * c] S1x16.size inb).emb x) 1).val = 16 * c + (x 1).val := by
    rw [Rect.emb_apply]; simp
  rw [scaled_apply]
  unfold rowDone
  rw [if_pos e0]
  congr 2
  show g ((Rect.unit (s := S32x128) ![k, 0] S1x16.size inb4).emb x) = g _
  congr 1
  funext u
  apply Fin.ext
  match u with
  | 0 =>
    show ((Rect.unit (s := S32x128) ![k, 0] S1x16.size inb4).emb x 0).val = (((Rect.unit (s := S32x768) ![k, 16 * c] S1x16.size inb).emb x) 0).val
    rw [e0, Rect.emb_apply]; simp [h0]
  | 1 =>
    show ((Rect.unit (s := S32x128) ![k, 0] S1x16.size inb4).emb x 1).val = (((Rect.unit (s := S32x768) ![k, 16 * c] S1x16.size inb).emb x) 1).val % 16
    rw [e1, Rect.emb_apply]; simp; omega

theorem trips_eq : k3_t1_loop.trips = 32 := by decide +kernel

/-- Stores whose payloads are the row's new values and whose lanes are exactly the row leave `rowDone`. -/
theorem writes_rowDone (k : ℕ) (g : S32x128.Idx → Elt F .f32) (h r : S32x768.Idx → Elt F .f32) (Ls : List (View.Piece (Elt F) S32x768 .f32))
    (hG : ∀ p ∈ Ls, ∀ x : p.1.shape.Idx, p.2 x = rowDone k g h r (p.1.emb x))
    (hin : ∀ y : S32x768.Idx, (y 0).val = k → ¬ ∀ p ∈ Ls, y ∉ p.1.set) (hout : ∀ y : S32x768.Idx, (y 0).val ≠ k → ∀ p ∈ Ls, y ∉ p.1.set) :
    (View.whole cc3_scratch1).writes (Elt F) r Ls = rowDone k g h r := by
  rw [← View.read_whole cc3_scratch1 ((View.whole cc3_scratch1).writes (Elt F) r Ls)]
  funext y
  by_cases hy : (y 0).val = k
  · refine View.read_writes_apply_of_pieces (View.whole cc3_scratch1) r (rowDone k g h r) Ls hG y ?_
    by_contra hn
    push Not at hn
    exact hin y hy hn
  · refine (View.read_writes_apply_of_forall_not_mem (View.whole cc3_scratch1) r y Ls (hout y hy)).trans ?_
    unfold rowDone
    rw [if_neg hy]
    rfl

set_option maxHeartbeats 4000000 in
set_option pp.maxSteps 150 in
theorem trip_val (d : Dev nD) (L : grid3.Coords) (k : Fin k3_t1_loop.trips) (h r : S32x768.Idx → Elt F .f32) (g : S32x128.Idx → Elt F .f32) :
    (trip_run d L k h g r).1 = rowDone k.val g h r := by
  have hk : k.val < 32 := lt_of_lt_of_eq k.isLt trips_eq
  unfold trip_run
  dsimp only
  refine writes_rowDone k.val g h r _ ?_ ?_ ?_
  · refine List.forall_mem_cons.2 ⟨piece_ok k.val 47 hk (k3_off52 k) (k3_off4 k) _ _ (k3_off52_eq k) (k3_off4_eq k) g h r, ?_⟩
    refine List.forall_mem_cons.2 ⟨piece_ok k.val 46 hk (k3_off51 k) (k3_off4 k) _ _ (k3_off51_eq k) (k3_off4_eq k) g h r, ?_⟩
    refine List.forall_mem_cons.2 ⟨piece_ok k.val 45 hk (k3_off50 k) (k3_off4 k) _ _ (k3_off50_eq k) (k3_off4_eq k) g h r, ?_⟩
    refine List.forall_mem_cons.2 ⟨piece_ok k.val 44 hk (k3_off49 k) (k3_off4 k) _ _ (k3_off49_eq k) (k3_off4_eq k) g h r, ?_⟩
    refine List.forall_mem_cons.2 ⟨piece_ok k.val 43 hk (k3_off48 k) (k3_off4 k) _ _ (k3_off48_eq k) (k3_off4_eq k) g h r, ?_⟩
    refine List.forall_mem_cons.2 ⟨piece_ok k.val 42 hk (k3_off47 k) (k3_off4 k) _ _ (k3_off47_eq k) (k3_off4_eq k) g h r, ?_⟩
    refine List.forall_mem_cons.2 ⟨piece_ok k.val 41 hk (k3_off46 k) (k3_off4 k) _ _ (k3_off46_eq k) (k3_off4_eq k) g h r, ?_⟩
    refine List.forall_mem_cons.2 ⟨piece_ok k.val 40 hk (k3_off45 k) (k3_off4 k) _ _ (k3_off45_eq k) (k3_off4_eq k) g h r, ?_⟩
    refine List.forall_mem_cons.2 ⟨piece_ok k.val 39 hk (k3_off44 k) (k3_off4 k) _ _ (k3_off44_eq k) (k3_off4_eq k) g h r, ?_⟩
    refine List.forall_mem_cons.2 ⟨piece_ok k.val 38 hk (k3_off43 k) (k3_off4 k) _ _ (k3_off43_eq k) (k3_off4_eq k) g h r, ?_⟩
    refine List.forall_mem_cons.2 ⟨piece_ok k.val 37 hk (k3_off42 k) (k3_off4 k) _ _ (k3_off42_eq k) (k3_off4_eq k) g h r, ?_⟩
    refine List.forall_mem_cons.2 ⟨piece_ok k.val 36 hk (k3_off41 k) (k3_off4 k) _ _ (k3_off41_eq k) (k3_off4_eq k) g h r, ?_⟩
    refine List.forall_mem_cons.2 ⟨piece_ok k.val 35 hk (k3_off40 k) (k3_off4 k) _ _ (k3_off40_eq k) (k3_off4_eq k) g h r, ?_⟩
    refine List.forall_mem_cons.2 ⟨piece_ok k.val 34 hk (k3_off39 k) (k3_off4 k) _ _ (k3_off39_eq k) (k3_off4_eq k) g h r, ?_⟩
    refine List.forall_mem_cons.2 ⟨piece_ok k.val 33 hk (k3_off38 k) (k3_off4 k) _ _ (k3_off38_eq k) (k3_off4_eq k) g h r, ?_⟩
    refine List.forall_mem_cons.2 ⟨piece_ok k.val 32 hk (k3_off37 k) (k3_off4 k) _ _ (k3_off37_eq k) (k3_off4_eq k) g h r, ?_⟩
    refine List.forall_mem_cons.2 ⟨piece_ok k.val 31 hk (k3_off36 k) (k3_off4 k) _ _ (k3_off36_eq k) (k3_off4_eq k) g h r, ?_⟩
    refine List.forall_mem_cons.2 ⟨piece_ok k.val 30 hk (k3_off35 k) (k3_off4 k) _ _ (k3_off35_eq k) (k3_off4_eq k) g h r, ?_⟩
    refine List.forall_mem_cons.2 ⟨piece_ok k.val 29 hk (k3_off34 k) (k3_off4 k) _ _ (k3_off34_eq k) (k3_off4_eq k) g h r, ?_⟩
    refine List.forall_mem_cons.2 ⟨piece_ok k.val 28 hk (k3_off33 k) (k3_off4 k) _ _ (k3_off33_eq k) (k3_off4_eq k) g h r, ?_⟩
    refine List.forall_mem_cons.2 ⟨piece_ok k.val 27 hk (k3_off32 k) (k3_off4 k) _ _ (k3_off32_eq k) (k3_off4_eq k) g h r, ?_⟩
    refine List.forall_mem_cons.2 ⟨piece_ok k.val 26 hk (k3_off31 k) (k3_off4 k) _ _ (k3_off31_eq k) (k3_off4_eq k) g h r, ?_⟩
    refine List.forall_mem_cons.2 ⟨piece_ok k.val 25 hk (k3_off30 k) (k3_off4 k) _ _ (k3_off30_eq k) (k3_off4_eq k) g h r, ?_⟩
    refine List.forall_mem_cons.2 ⟨piece_ok k.val 24 hk (k3_off29 k) (k3_off4 k) _ _ (k3_off29_eq k) (k3_off4_eq k) g h r, ?_⟩
    refine List.forall_mem_cons.2 ⟨piece_ok k.val 23 hk (k3_off28 k) (k3_off4 k) _ _ (k3_off28_eq k) (k3_off4_eq k) g h r, ?_⟩
    refine List.forall_mem_cons.2 ⟨piece_ok k.val 22 hk (k3_off27 k) (k3_off4 k) _ _ (k3_off27_eq k) (k3_off4_eq k) g h r, ?_⟩
    refine List.forall_mem_cons.2 ⟨piece_ok k.val 21 hk (k3_off26 k) (k3_off4 k) _ _ (k3_off26_eq k) (k3_off4_eq k) g h r, ?_⟩
    refine List.forall_mem_cons.2 ⟨piece_ok k.val 20 hk (k3_off25 k) (k3_off4 k) _ _ (k3_off25_eq k) (k3_off4_eq k) g h r, ?_⟩
    refine List.forall_mem_cons.2 ⟨piece_ok k.val 19 hk (k3_off24 k) (k3_off4 k) _ _ (k3_off24_eq k) (k3_off4_eq k) g h r, ?_⟩
    refine List.forall_mem_cons.2 ⟨piece_ok k.val 18 hk (k3_off23 k) (k3_off4 k) _ _ (k3_off23_eq k) (k3_off4_eq k) g h r, ?_⟩
    refine List.forall_mem_cons.2 ⟨piece_ok k.val 17 hk (k3_off22 k) (k3_off4 k) _ _ (k3_off22_eq k) (k3_off4_eq k) g h r, ?_⟩
    refine List.forall_mem_cons.2 ⟨piece_ok k.val 16 hk (k3_off21 k) (k3_off4 k) _ _ (k3_off21_eq k) (k3_off4_eq k) g h r, ?_⟩
    refine List.forall_mem_cons.2 ⟨piece_ok k.val 15 hk (k3_off20 k) (k3_off4 k) _ _ (k3_off20_eq k) (k3_off4_eq k) g h r, ?_⟩
    refine List.forall_mem_cons.2 ⟨piece_ok k.val 14 hk (k3_off19 k) (k3_off4 k) _ _ (k3_off19_eq k) (k3_off4_eq k) g h r, ?_⟩
    refine List.forall_mem_cons.2 ⟨piece_ok k.val 13 hk (k3_off18 k) (k3_off4 k) _ _ (k3_off18_eq k) (k3_off4_eq k) g h r, ?_⟩
    refine List.forall_mem_cons.2 ⟨piece_ok k.val 12 hk (k3_off17 k) (k3_off4 k) _ _ (k3_off17_eq k) (k3_off4_eq k) g h r, ?_⟩
    refine List.forall_mem_cons.2 ⟨piece_ok k.val 11 hk (k3_off16 k) (k3_off4 k) _ _ (k3_off16_eq k) (k3_off4_eq k) g h r, ?_⟩
    refine List.forall_mem_cons.2 ⟨piece_ok k.val 10 hk (k3_off15 k) (k3_off4 k) _ _ (k3_off15_eq k) (k3_off4_eq k) g h r, ?_⟩
    refine List.forall_mem_cons.2 ⟨piece_ok k.val 9 hk (k3_off14 k) (k3_off4 k) _ _ (k3_off14_eq k) (k3_off4_eq k) g h r, ?_⟩
    refine List.forall_mem_cons.2 ⟨piece_ok k.val 8 hk (k3_off13 k) (k3_off4 k) _ _ (k3_off13_eq k) (k3_off4_eq k) g h r, ?_⟩
    refine List.forall_mem_cons.2 ⟨piece_ok k.val 7 hk (k3_off12 k) (k3_off4 k) _ _ (k3_off12_eq k) (k3_off4_eq k) g h r, ?_⟩
    refine List.forall_mem_cons.2 ⟨piece_ok k.val 6 hk (k3_off11 k) (k3_off4 k) _ _ (k3_off11_eq k) (k3_off4_eq k) g h r, ?_⟩
    refine List.forall_mem_cons.2 ⟨piece_ok k.val 5 hk (k3_off10 k) (k3_off4 k) _ _ (k3_off10_eq k) (k3_off4_eq k) g h r, ?_⟩
    refine List.forall_mem_cons.2 ⟨piece_ok k.val 4 hk (k3_off9 k) (k3_off4 k) _ _ (k3_off9_eq k) (k3_off4_eq k) g h r, ?_⟩
    refine List.forall_mem_cons.2 ⟨piece_ok k.val 3 hk (k3_off8 k) (k3_off4 k) _ _ (k3_off8_eq k) (k3_off4_eq k) g h r, ?_⟩
    refine List.forall_mem_cons.2 ⟨piece_ok k.val 2 hk (k3_off7 k) (k3_off4 k) _ _ (k3_off7_eq k) (k3_off4_eq k) g h r, ?_⟩
    refine List.forall_mem_cons.2 ⟨piece_ok k.val 1 hk (k3_off6 k) (k3_off4 k) _ _ (k3_off6_eq k) (k3_off4_eq k) g h r, ?_⟩
    refine List.forall_mem_cons.2 ⟨piece_ok k.val 0 hk (k3_off5 k) (k3_off4 k) _ _ (k3_off5_eq k) (k3_off4_eq k) g h r, ?_⟩
    exact fun _ hp => absurd hp List.not_mem_nil
  · intro y hy hn
    simp only [List.forall_mem_cons] at hn
    obtain ⟨h52, h51, h50, h49, h48, h47, h46, h45, h44, h43, h42, h41, h40, h39, h38, h37, h36, h35, h34, h33, h32, h31, h30, h29, h28, h27, h26, h25, h24, h23, h22, h21, h20, h19, h18, h17, h16, h15, h14, h13, h12, h11, h10, h9, h8, h7, h6, h5, -⟩ := hn
    have h1 : (y 1).val < 768 := (y 1).isLt
    obtain ⟨q, hq⟩ : ∃ q, q = (y 1).val / 16 := ⟨_, rfl⟩
    have hq' : q < 48 := by omega
    interval_cases q
    · exact h5 (mem_lanes_of y (k3_off5_eq k) hy (c := 0) hq.symm)
    · exact h6 (mem_lanes_of y (k3_off6_eq k) hy (c := 1) hq.symm)
    · exact h7 (mem_lanes_of y (k3_off7_eq k) hy (c := 2) hq.symm)
    · exact h8 (mem_lanes_of y (k3_off8_eq k) hy (c := 3) hq.symm)
    · exact h9 (mem_lanes_of y (k3_off9_eq k) hy (c := 4) hq.symm)
    · exact h10 (mem_lanes_of y (k3_off10_eq k) hy (c := 5) hq.symm)
    · exact h11 (mem_lanes_of y (k3_off11_eq k) hy (c := 6) hq.symm)
    · exact h12 (mem_lanes_of y (k3_off12_eq k) hy (c := 7) hq.symm)
    · exact h13 (mem_lanes_of y (k3_off13_eq k) hy (c := 8) hq.symm)
    · exact h14 (mem_lanes_of y (k3_off14_eq k) hy (c := 9) hq.symm)
    · exact h15 (mem_lanes_of y (k3_off15_eq k) hy (c := 10) hq.symm)
    · exact h16 (mem_lanes_of y (k3_off16_eq k) hy (c := 11) hq.symm)
    · exact h17 (mem_lanes_of y (k3_off17_eq k) hy (c := 12) hq.symm)
    · exact h18 (mem_lanes_of y (k3_off18_eq k) hy (c := 13) hq.symm)
    · exact h19 (mem_lanes_of y (k3_off19_eq k) hy (c := 14) hq.symm)
    · exact h20 (mem_lanes_of y (k3_off20_eq k) hy (c := 15) hq.symm)
    · exact h21 (mem_lanes_of y (k3_off21_eq k) hy (c := 16) hq.symm)
    · exact h22 (mem_lanes_of y (k3_off22_eq k) hy (c := 17) hq.symm)
    · exact h23 (mem_lanes_of y (k3_off23_eq k) hy (c := 18) hq.symm)
    · exact h24 (mem_lanes_of y (k3_off24_eq k) hy (c := 19) hq.symm)
    · exact h25 (mem_lanes_of y (k3_off25_eq k) hy (c := 20) hq.symm)
    · exact h26 (mem_lanes_of y (k3_off26_eq k) hy (c := 21) hq.symm)
    · exact h27 (mem_lanes_of y (k3_off27_eq k) hy (c := 22) hq.symm)
    · exact h28 (mem_lanes_of y (k3_off28_eq k) hy (c := 23) hq.symm)
    · exact h29 (mem_lanes_of y (k3_off29_eq k) hy (c := 24) hq.symm)
    · exact h30 (mem_lanes_of y (k3_off30_eq k) hy (c := 25) hq.symm)
    · exact h31 (mem_lanes_of y (k3_off31_eq k) hy (c := 26) hq.symm)
    · exact h32 (mem_lanes_of y (k3_off32_eq k) hy (c := 27) hq.symm)
    · exact h33 (mem_lanes_of y (k3_off33_eq k) hy (c := 28) hq.symm)
    · exact h34 (mem_lanes_of y (k3_off34_eq k) hy (c := 29) hq.symm)
    · exact h35 (mem_lanes_of y (k3_off35_eq k) hy (c := 30) hq.symm)
    · exact h36 (mem_lanes_of y (k3_off36_eq k) hy (c := 31) hq.symm)
    · exact h37 (mem_lanes_of y (k3_off37_eq k) hy (c := 32) hq.symm)
    · exact h38 (mem_lanes_of y (k3_off38_eq k) hy (c := 33) hq.symm)
    · exact h39 (mem_lanes_of y (k3_off39_eq k) hy (c := 34) hq.symm)
    · exact h40 (mem_lanes_of y (k3_off40_eq k) hy (c := 35) hq.symm)
    · exact h41 (mem_lanes_of y (k3_off41_eq k) hy (c := 36) hq.symm)
    · exact h42 (mem_lanes_of y (k3_off42_eq k) hy (c := 37) hq.symm)
    · exact h43 (mem_lanes_of y (k3_off43_eq k) hy (c := 38) hq.symm)
    · exact h44 (mem_lanes_of y (k3_off44_eq k) hy (c := 39) hq.symm)
    · exact h45 (mem_lanes_of y (k3_off45_eq k) hy (c := 40) hq.symm)
    · exact h46 (mem_lanes_of y (k3_off46_eq k) hy (c := 41) hq.symm)
    · exact h47 (mem_lanes_of y (k3_off47_eq k) hy (c := 42) hq.symm)
    · exact h48 (mem_lanes_of y (k3_off48_eq k) hy (c := 43) hq.symm)
    · exact h49 (mem_lanes_of y (k3_off49_eq k) hy (c := 44) hq.symm)
    · exact h50 (mem_lanes_of y (k3_off50_eq k) hy (c := 45) hq.symm)
    · exact h51 (mem_lanes_of y (k3_off51_eq k) hy (c := 46) hq.symm)
    · exact h52 (mem_lanes_of y (k3_off52_eq k) hy (c := 47) hq.symm)
  · intro y hy
    refine List.forall_mem_cons.2 ⟨not_mem_lanes (inb := k3_off52_inb k) y (k3_off52_eq k) hy, ?_⟩
    refine List.forall_mem_cons.2 ⟨not_mem_lanes (inb := k3_off51_inb k) y (k3_off51_eq k) hy, ?_⟩
    refine List.forall_mem_cons.2 ⟨not_mem_lanes (inb := k3_off50_inb k) y (k3_off50_eq k) hy, ?_⟩
    refine List.forall_mem_cons.2 ⟨not_mem_lanes (inb := k3_off49_inb k) y (k3_off49_eq k) hy, ?_⟩
    refine List.forall_mem_cons.2 ⟨not_mem_lanes (inb := k3_off48_inb k) y (k3_off48_eq k) hy, ?_⟩
    refine List.forall_mem_cons.2 ⟨not_mem_lanes (inb := k3_off47_inb k) y (k3_off47_eq k) hy, ?_⟩
    refine List.forall_mem_cons.2 ⟨not_mem_lanes (inb := k3_off46_inb k) y (k3_off46_eq k) hy, ?_⟩
    refine List.forall_mem_cons.2 ⟨not_mem_lanes (inb := k3_off45_inb k) y (k3_off45_eq k) hy, ?_⟩
    refine List.forall_mem_cons.2 ⟨not_mem_lanes (inb := k3_off44_inb k) y (k3_off44_eq k) hy, ?_⟩
    refine List.forall_mem_cons.2 ⟨not_mem_lanes (inb := k3_off43_inb k) y (k3_off43_eq k) hy, ?_⟩
    refine List.forall_mem_cons.2 ⟨not_mem_lanes (inb := k3_off42_inb k) y (k3_off42_eq k) hy, ?_⟩
    refine List.forall_mem_cons.2 ⟨not_mem_lanes (inb := k3_off41_inb k) y (k3_off41_eq k) hy, ?_⟩
    refine List.forall_mem_cons.2 ⟨not_mem_lanes (inb := k3_off40_inb k) y (k3_off40_eq k) hy, ?_⟩
    refine List.forall_mem_cons.2 ⟨not_mem_lanes (inb := k3_off39_inb k) y (k3_off39_eq k) hy, ?_⟩
    refine List.forall_mem_cons.2 ⟨not_mem_lanes (inb := k3_off38_inb k) y (k3_off38_eq k) hy, ?_⟩
    refine List.forall_mem_cons.2 ⟨not_mem_lanes (inb := k3_off37_inb k) y (k3_off37_eq k) hy, ?_⟩
    refine List.forall_mem_cons.2 ⟨not_mem_lanes (inb := k3_off36_inb k) y (k3_off36_eq k) hy, ?_⟩
    refine List.forall_mem_cons.2 ⟨not_mem_lanes (inb := k3_off35_inb k) y (k3_off35_eq k) hy, ?_⟩
    refine List.forall_mem_cons.2 ⟨not_mem_lanes (inb := k3_off34_inb k) y (k3_off34_eq k) hy, ?_⟩
    refine List.forall_mem_cons.2 ⟨not_mem_lanes (inb := k3_off33_inb k) y (k3_off33_eq k) hy, ?_⟩
    refine List.forall_mem_cons.2 ⟨not_mem_lanes (inb := k3_off32_inb k) y (k3_off32_eq k) hy, ?_⟩
    refine List.forall_mem_cons.2 ⟨not_mem_lanes (inb := k3_off31_inb k) y (k3_off31_eq k) hy, ?_⟩
    refine List.forall_mem_cons.2 ⟨not_mem_lanes (inb := k3_off30_inb k) y (k3_off30_eq k) hy, ?_⟩
    refine List.forall_mem_cons.2 ⟨not_mem_lanes (inb := k3_off29_inb k) y (k3_off29_eq k) hy, ?_⟩
    refine List.forall_mem_cons.2 ⟨not_mem_lanes (inb := k3_off28_inb k) y (k3_off28_eq k) hy, ?_⟩
    refine List.forall_mem_cons.2 ⟨not_mem_lanes (inb := k3_off27_inb k) y (k3_off27_eq k) hy, ?_⟩
    refine List.forall_mem_cons.2 ⟨not_mem_lanes (inb := k3_off26_inb k) y (k3_off26_eq k) hy, ?_⟩
    refine List.forall_mem_cons.2 ⟨not_mem_lanes (inb := k3_off25_inb k) y (k3_off25_eq k) hy, ?_⟩
    refine List.forall_mem_cons.2 ⟨not_mem_lanes (inb := k3_off24_inb k) y (k3_off24_eq k) hy, ?_⟩
    refine List.forall_mem_cons.2 ⟨not_mem_lanes (inb := k3_off23_inb k) y (k3_off23_eq k) hy, ?_⟩
    refine List.forall_mem_cons.2 ⟨not_mem_lanes (inb := k3_off22_inb k) y (k3_off22_eq k) hy, ?_⟩
    refine List.forall_mem_cons.2 ⟨not_mem_lanes (inb := k3_off21_inb k) y (k3_off21_eq k) hy, ?_⟩
    refine List.forall_mem_cons.2 ⟨not_mem_lanes (inb := k3_off20_inb k) y (k3_off20_eq k) hy, ?_⟩
    refine List.forall_mem_cons.2 ⟨not_mem_lanes (inb := k3_off19_inb k) y (k3_off19_eq k) hy, ?_⟩
    refine List.forall_mem_cons.2 ⟨not_mem_lanes (inb := k3_off18_inb k) y (k3_off18_eq k) hy, ?_⟩
    refine List.forall_mem_cons.2 ⟨not_mem_lanes (inb := k3_off17_inb k) y (k3_off17_eq k) hy, ?_⟩
    refine List.forall_mem_cons.2 ⟨not_mem_lanes (inb := k3_off16_inb k) y (k3_off16_eq k) hy, ?_⟩
    refine List.forall_mem_cons.2 ⟨not_mem_lanes (inb := k3_off15_inb k) y (k3_off15_eq k) hy, ?_⟩
    refine List.forall_mem_cons.2 ⟨not_mem_lanes (inb := k3_off14_inb k) y (k3_off14_eq k) hy, ?_⟩
    refine List.forall_mem_cons.2 ⟨not_mem_lanes (inb := k3_off13_inb k) y (k3_off13_eq k) hy, ?_⟩
    refine List.forall_mem_cons.2 ⟨not_mem_lanes (inb := k3_off12_inb k) y (k3_off12_eq k) hy, ?_⟩
    refine List.forall_mem_cons.2 ⟨not_mem_lanes (inb := k3_off11_inb k) y (k3_off11_eq k) hy, ?_⟩
    refine List.forall_mem_cons.2 ⟨not_mem_lanes (inb := k3_off10_inb k) y (k3_off10_eq k) hy, ?_⟩
    refine List.forall_mem_cons.2 ⟨not_mem_lanes (inb := k3_off9_inb k) y (k3_off9_eq k) hy, ?_⟩
    refine List.forall_mem_cons.2 ⟨not_mem_lanes (inb := k3_off8_inb k) y (k3_off8_eq k) hy, ?_⟩
    refine List.forall_mem_cons.2 ⟨not_mem_lanes (inb := k3_off7_inb k) y (k3_off7_eq k) hy, ?_⟩
    refine List.forall_mem_cons.2 ⟨not_mem_lanes (inb := k3_off6_inb k) y (k3_off6_eq k) hy, ?_⟩
    refine List.forall_mem_cons.2 ⟨not_mem_lanes (inb := k3_off5_inb k) y (k3_off5_eq k) hy, ?_⟩
    exact fun _ hp => absurd hp List.not_mem_nil

end Cert.Proof.Whole.Combine

end
-- ==== Proof.W.CombTile.lean ====
/-
  The combine call's task on one vector subcore: it fetches its 32 slots, the shared expert's 32 rows and the 32 gating
  rows, gathers the 32 experts' rows the slots name (six column slabs), combines them in the loop, and copies its 32
  rows of the result out.
-/
module

public import proofs.«01_k».proof.Proof.W.CombTrip

@[expose] public section

set_option maxRecDepth 16384

noncomputable section

namespace Cert.Proof.Whole.Combine

open Cert.WholeIdeal Cert.WholeIdeal.Gen Cert.Proof.Whole
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ
local notation "aM" => (Memref.whole Cert.WholeIdeal.main_v5_scv : Memref Cert.WholeIdeal.sig Kind.scVector Space.hbm Cert.WholeIdeal.S5120x768 EltTy.f32)
local notation "sM" => (Memref.whole Cert.WholeIdeal.main_v2_scv : Memref Cert.WholeIdeal.sig Kind.scVector Space.hbm Cert.WholeIdeal.S1024 EltTy.i32)
local notation "hM" => (Memref.whole Cert.WholeIdeal.main_v1_4_scv : Memref Cert.WholeIdeal.sig Kind.scVector Space.hbm Cert.WholeIdeal.S1024x768 EltTy.f32)
local notation "gM" => (Memref.whole Cert.WholeIdeal.main_v1_1_scv : Memref Cert.WholeIdeal.sig Kind.scVector Space.hbm Cert.WholeIdeal.S1024x128 EltTy.f32)
local notation "oM" => (Memref.whole Cert.WholeIdeal.main_v6_scv : Memref Cert.WholeIdeal.sig Kind.scVector Space.hbm Cert.WholeIdeal.S1024x768 EltTy.f32)
-- a subcore's scratch: its slots, its gathered rows, the shared expert's rows, the gating rows
local notation "svM" => (Memref.whole Cert.WholeIdeal.cc3_scratch0 : Memref Cert.WholeIdeal.sig Kind.scVector Space.vmem Cert.WholeIdeal.S32 EltTy.i32)
local notation "rvM" => (Memref.whole Cert.WholeIdeal.cc3_scratch1 : Memref Cert.WholeIdeal.sig Kind.scVector Space.vmem Cert.WholeIdeal.S32x768 EltTy.f32)
local notation "hvM" => (Memref.whole Cert.WholeIdeal.cc3_scratch2 : Memref Cert.WholeIdeal.sig Kind.scVector Space.vmem Cert.WholeIdeal.S32x768 EltTy.f32)
local notation "gvM" => (Memref.whole Cert.WholeIdeal.cc3_scratch3 : Memref Cert.WholeIdeal.sig Kind.scVector Space.vmem Cert.WholeIdeal.S32x128 EltTy.f32)

/-! ## The task -/

section Tile

variable (d : Dev nD) (L : grid3.Coords)

/-- The task's windows of the slots, of the shared expert's rows, of the gating rows and of the result. -/
abbrev sWin : Memref sig .scVector .hbm S32 .i32 := (sM).slice (Rect.unit (s := S1024) (k3_off1 L) S32.size (k3_off1_inb L)) (fun _ => rfl)
abbrev hWin : Memref sig .scVector .hbm S32x768 .f32 := (hM).slice (Rect.unit (s := S1024x768) (k3_off2 L) S32x768.size (k3_off2_inb L)) (fun _ => rfl)
abbrev gWin : Memref sig .scVector .hbm S32x128 .f32 := (gM).slice (Rect.unit (s := S1024x128) (k3_off3 L) S32x128.size (k3_off3_inb L)) (fun _ => rfl)
abbrev oWin : Memref sig .scVector .hbm S32x768 .f32 := (oM).slice (Rect.unit (s := S1024x768) (k3_off2 L) S32x768.size (k3_off2_inb L)) (fun _ => rfl)

/-- The slots fetched are words of the slot array: in range when all of those are. -/
theorem slots_lt (fs : Buf (Elt F) ((sM).view.loc (VT d L))) (hs : ∀ j : S1024.Idx, (fs j).toNat < 5120)
    (f0 : Buf (Elt F) ((svM).view.loc (VT d L))) (pay : S32.Idx → Elt F .i32) (hpay : pay = (sWin L).view.read (Elt F) fs) :
    ∀ x, ((svM).view.read (Elt F) (View.write (Elt F) (svM).view f0 pay Finset.univ) x).toNat < S5120x128.size gathers_S5120x128_S32x128.axis := by
  subst hpay; intro x
  rw [View.write_whole_univ]
  simp only [Memref.view_whole, View.read_whole]
  rw [show ∀ j, (sWin L).view.read (Elt F) fs j = fs ((sWin L).view.emb j) from fun j => (View.read_apply _ _).trans (cast_eq _ _)]
  exact hs _

/-- The token whose row is the task's row `j`. -/
def tok (L : grid3.Coords) (j : Fin 32) : Fin 1024 :=
  ⟨64 * (L 1).val + 32 * (L 0).val + j.val, by
    have h0 : (L 0).val < 2 := (L 0).isLt
    have h1 : (L 1).val < 16 := (L 1).isLt
    omega⟩

/-- The slot of a token, as a row of the experts' rows (a slot out of range wraps; none is). -/
def slotOf (fs : S1024.Idx → Elt F .i32) (t : Fin 1024) : Fin 5120 := ⟨(fs (ValueIdx.ix1 t)).toNat % 5120, Nat.mod_lt _ (by decide)⟩

theorem slotOf_val (fs : S1024.Idx → Elt F .i32) (hs : ∀ j : S1024.Idx, (fs j).toNat < 5120) (t : Fin 1024) :
    (slotOf fs t).val = (fs (ValueIdx.ix1 t)).toNat := Nat.mod_eq_of_lt (hs _)

/-- The task's gathered rows: row `j` is the experts' row at the slot of the task's token `j`. -/
def gathered (L : grid3.Coords) (fa : S5120x768.Idx → Elt F .f32) (fs : S1024.Idx → Elt F .i32) : S32x768.Idx → Elt F .f32 := fun y =>
  fa (ValueIdx.ix2 (slotOf fs (tok L (y 0))) (y 1))

theorem sWin_emb (j : S32.Idx) : (sWin L).view.emb j = ValueIdx.ix1 (tok L (j 0)) := by
  funext u
  match u with
  | 0 =>
    apply Fin.ext
    show ((Rect.unit (s := S1024) (k3_off1 L) S32.size (k3_off1_inb L)).emb j 0).val = _
    rw [Rect.emb_apply]
    show k3_off1 L 0 + 1 * (j 0).val = 64 * (L 1).val + 32 * (L 0).val + (j 0).val
    rw [k3_off1_eq]
    show 64 * (L 1).val + 32 * (L 0).val + 1 * (j 0).val = _
    omega

/-- One slab of the gather: columns `n` to `n + 127` of the gathered rows. -/
theorem gather_piece (fa : S5120x768.Idx → Elt F .f32) (fs : Buf (Elt F) ((sM).view.loc (VT d L))) (hs : ∀ j : S1024.Idx, (fs j).toNat < 5120)
    (f0 : Buf (Elt F) ((svM).view.loc (VT d L))) (pay : S32.Idx → Elt F .i32) (hpay : pay = (sWin L).view.read (Elt F) fs)
    (n : ℕ) (inb) (inb') (st) (hnum) (hin) (x : S32x128.Idx) :
    SparseCore.gatherPayload gathers_S5120x128_S32x128
        (View.read (Elt F) ((aM).slice (Rect.unit (s := S5120x768) ![0, n] S5120x128.size inb) st).view fa)
        (SparseCore.rows (z := S5120x128.size gathers_S5120x128_S32x128.axis)
          ((svM).view.read (Elt F) (View.write (Elt F) (svM).view f0 pay Finset.univ)) hnum hin) x
      = gathered L fa fs ((Rect.unit (s := S32x768) ![0, n] S32x128.size inb').emb x) := by
  subst hpay
  unfold SparseCore.gatherPayload
  refine ((View.read_apply _ _).trans (cast_eq _ _)).trans ?_
  unfold gathered
  congr 1
  funext u
  match u with
  | 0 =>
    apply Fin.ext
    show ((Rect.unit (s := S5120x768) ![0, n] S5120x128.size inb).emb (gathers_S5120x128_S32x128.idx _ x) 0).val = (slotOf fs _).val
    rw [Rect.emb_apply]
    show 0 + 1 * (gathers_S5120x128_S32x128.idx _ x gathers_S5120x128_S32x128.axis).val = _
    rw [Shape.Gathers.idx_axis]
    rw [Nat.zero_add, Nat.one_mul, slotOf_val fs hs]
    unfold SparseCore.rows
    show ((View.read (Elt F) (svM).view (View.write (Elt F) (svM).view f0 _ Finset.univ) _) : BitVec 32).toNat = _
    rw [View.write_whole_univ]
    simp only [Memref.view_whole, View.read_whole]
    rw [show ∀ j, (sWin L).view.read (Elt F) fs j = fs ((sWin L).view.emb j) from fun j => (View.read_apply _ _).trans (cast_eq _ _), sWin_emb]
    congr 4
    apply Fin.ext
    rw [← Shape.rowMajor_val_one (d := ![32])]
    show (S32.rowMajor (S32.rowMajor.symm _)).val = _
    rw [Equiv.apply_symm_apply]
    show (x 0).val = ((Rect.unit (s := S32x768) ![0, n] S32x128.size inb').emb x 0).val
    rw [Rect.emb_apply]
    show (x 0).val = 0 + 1 * (x 0).val
    omega
  | 1 => rfl

theorem mem_slab {n : ℕ} {inb} (y : S32x768.Idx) (h : (y 1).val / 128 * 128 = n) :
    y ∈ (Rect.unit (s := S32x768) ![0, n] S32x128.size inb).set := by
  rw [Rect.mem_set_unit]
  intro a
  match a with
  | 0 => exact ⟨Nat.zero_le _, by have := (y 0).isLt; show (y 0).val < 0 + 32; change (y 0).val < 32 at this; omega⟩
  | 1 => exact ⟨by show n ≤ (y 1).val; omega, by show (y 1).val < n + 128; omega⟩

/-- Stores of slabs that together cover the buffer leave the gathered rows. -/
theorem slabs_gathered (fa : S5120x768.Idx → Elt F .f32) (fs : S1024.Idx → Elt F .i32) (Ls : List (View.Piece (Elt F) S32x768 .f32))
    (hG : ∀ p ∈ Ls, ∀ x : p.1.shape.Idx, p.2 x = gathered L fa fs (p.1.emb x)) (hcov : ∀ y : S32x768.Idx, ¬ ∀ p ∈ Ls, y ∉ p.1.set) :
    (View.whole cc3_scratch1).writes (Elt F) (View.whole cc3_scratch1).junk Ls = gathered L fa fs := by
  rw [← View.read_whole cc3_scratch1 ((View.whole cc3_scratch1).writes (Elt F) _ Ls)]
  funext y
  refine View.read_writes_apply_of_pieces (View.whole cc3_scratch1) _ (gathered L fa fs) Ls hG y ?_
  by_contra hn
  push Not at hn
  exact hcov y hn

/-- The rows after the loop's first `k` trips. -/
def doneTo (k : ℕ) (g : S32x128.Idx → Elt F .f32) (h r : S32x768.Idx → Elt F .f32) : S32x768.Idx → Elt F .f32 := fun y =>
  if (y 0).val < k then FloatOps.addf (φ := .f32) (FloatOps.mulf (φ := .f32) (r y) (g (laneOf (y 0) (y 1).val))) (h y) else r y

theorem doneTo_zero (g : S32x128.Idx → Elt F .f32) (h r : S32x768.Idx → Elt F .f32) : doneTo 0 g h r = r := by
  funext y
  unfold doneTo
  rw [if_neg (Nat.not_lt_zero _)]

theorem doneTo_succ (k : ℕ) (g : S32x128.Idx → Elt F .f32) (h r : S32x768.Idx → Elt F .f32) :
    rowDone k g h (doneTo k g h r) = doneTo (k + 1) g h r := by
  funext y
  unfold rowDone doneTo
  by_cases h1 : (y 0).val = k
  · rw [if_pos h1, if_neg (by omega), if_pos (by omega)]
  · rw [if_neg h1]
    by_cases h2 : (y 0).val < k
    · rw [if_pos h2, if_pos (by omega)]
    · rw [if_neg h2, if_neg (by omega)]

/-- The loop's invariant: the rows after `k` trips, the shared rows and the gating rows. -/
def inv (g : S32x128.Idx → Elt F .f32) (h r : S32x768.Idx → Elt F .f32) (k : ℕ) (_ : PUnit) : sProp 𝕄 :=
  iprop(((rvM).view.loc (VT d L) ↦{fullShare} doneTo k g h r) ∗ ((hvM).view.loc (VT d L) ↦{fullShare} h) ∗ ((gvM).view.loc (VT d L) ↦{fullShare} g))

/-- The whole result: each token's experts' row, scaled by its gating lanes, added to the shared expert's row. -/
def combined (fa : S5120x768.Idx → Elt F .f32) (fs : S1024.Idx → Elt F .i32) (fh : S1024x768.Idx → Elt F .f32) (fg : S1024x128.Idx → Elt F .f32) :
    S1024x768.Idx → Elt F .f32 := fun y =>
  FloatOps.addf (φ := .f32) (FloatOps.mulf (φ := .f32) (fa (ValueIdx.ix2 (slotOf fs (y 0)) (y 1))) (fg (ValueIdx.ix2 (y 0) ⟨(y 1).val % 16, by omega⟩))) (fh y)

theorem oWin_emb (x : S32x768.Idx) : (oWin L).view.emb x = ValueIdx.ix2 (tok L (x 0)) (x 1) := by
  funext u
  match u with
  | 0 =>
    apply Fin.ext
    show ((Rect.unit (s := S1024x768) (k3_off2 L) S32x768.size (k3_off2_inb L)).emb x 0).val = 64 * (L 1).val + 32 * (L 0).val + (x 0).val
    rw [Rect.emb_apply]
    show k3_off2 L 0 + 1 * (x 0).val = _
    rw [k3_off2_eq]
    show 64 * (L 1).val + 32 * (L 0).val + 1 * (x 0).val = _
    omega
  | 1 =>
    apply Fin.ext
    show ((Rect.unit (s := S1024x768) (k3_off2 L) S32x768.size (k3_off2_inb L)).emb x 1).val = (x 1).val
    rw [Rect.emb_apply]
    show k3_off2 L 1 + 1 * (x 1).val = _
    rw [k3_off2_eq]
    show 0 + 1 * (x 1).val = _
    omega

theorem gWin_emb (x : S32x128.Idx) : (gWin L).view.emb x = ValueIdx.ix2 (tok L (x 0)) (x 1) := by
  funext u
  match u with
  | 0 =>
    apply Fin.ext
    show ((Rect.unit (s := S1024x128) (k3_off3 L) S32x128.size (k3_off3_inb L)).emb x 0).val = 64 * (L 1).val + 32 * (L 0).val + (x 0).val
    rw [Rect.emb_apply]
    show k3_off3 L 0 + 1 * (x 0).val = _
    rw [k3_off3_eq]
    show 64 * (L 1).val + 32 * (L 0).val + 1 * (x 0).val = _
    omega
  | 1 =>
    apply Fin.ext
    show ((Rect.unit (s := S1024x128) (k3_off3 L) S32x128.size (k3_off3_inb L)).emb x 1).val = (x 1).val
    rw [Rect.emb_apply]
    show k3_off3 L 1 + 1 * (x 1).val = _
    rw [k3_off3_eq]
    show 0 + 1 * (x 1).val = _
    omega

/-- The task's rows after the loop are its rows of the whole result. -/
theorem doneTo_combined (fa : S5120x768.Idx → Elt F .f32) (fs : S1024.Idx → Elt F .i32) (fh : S1024x768.Idx → Elt F .f32) (fg : S1024x128.Idx → Elt F .f32)
    (pg : S32x128.Idx → Elt F .f32) (hg : pg = (gWin L).view.read (Elt F) fg) (ph : S32x768.Idx → Elt F .f32) (hh : ph = (hWin L).view.read (Elt F) fh)
    (n : ℕ) (hn : n = 32) (x : S32x768.Idx) :
    doneTo n pg ph (gathered L fa fs) x = combined fa fs fh fg ((oWin L).view.emb x) := by
  subst hg; subst hh; subst hn
  have hx : (x 0).val < 32 := (x 0).isLt
  unfold doneTo gathered combined
  rw [if_pos hx, oWin_emb]
  congr 1
  · congr 1
    refine ((View.read_apply _ _).trans (cast_eq _ _)).trans ?_
    rw [gWin_emb]
    rfl
  · refine ((View.read_apply _ _).trans (cast_eq _ _)).trans ?_
    exact congrArg fh (oWin_emb L x)

/-- The result's window written whole with those rows holds the whole result's rows there. -/
theorem oWin_result (fo : Buf (Elt F) ((oM).view.loc (VT d L))) (G : S1024x768.Idx → Elt F .f32) (pay : S32x768.Idx → Elt F .f32)
    (hpay : ∀ x, pay x = G ((oWin L).view.emb x)) :
    ((oWin L).view.loc (VT d L) ↦[(oWin L).view.set]{fullShare} ((oWin L).view.writes (Elt F) fo [⟨Rect.whole S32x768, pay⟩]) : sProp 𝕄)
      = (oWin L).view.loc (VT d L) ↦[(oWin L).view.set]{fullShare} G := by
  refine pointsTo_congr fun i hi => ?_
  obtain ⟨x, -, rfl⟩ := Finset.mem_map.mp hi
  rw [← hpay x]
  refine Eq.trans ?_ (congrFun (View.read_writes_whole (oWin L).view fo pay) x)
  exact ((View.read_apply _ _).trans (cast_eq _ _)).symm

end Tile

end Cert.Proof.Whole.Combine

end
-- ==== Proof.W.CombRun.lean ====
/-
  The combine call's task on one vector subcore: it fetches its 32 slots, the shared expert's 32 rows and the 32 gating
  rows, gathers the 32 experts' rows the slots name (six column slabs), combines them in the loop, and copies its 32
  rows of the result out.
-/
module

public import proofs.«01_k».proof.Proof.W.CombTile

@[expose] public section

set_option maxRecDepth 16384

noncomputable section

namespace Cert.Proof.Whole.Combine

open Cert.WholeIdeal Cert.WholeIdeal.Gen Cert.Proof.Whole
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ
local notation "aM" => (Memref.whole Cert.WholeIdeal.main_v5_scv : Memref Cert.WholeIdeal.sig Kind.scVector Space.hbm Cert.WholeIdeal.S5120x768 EltTy.f32)
local notation "sM" => (Memref.whole Cert.WholeIdeal.main_v2_scv : Memref Cert.WholeIdeal.sig Kind.scVector Space.hbm Cert.WholeIdeal.S1024 EltTy.i32)
local notation "hM" => (Memref.whole Cert.WholeIdeal.main_v1_4_scv : Memref Cert.WholeIdeal.sig Kind.scVector Space.hbm Cert.WholeIdeal.S1024x768 EltTy.f32)
local notation "gM" => (Memref.whole Cert.WholeIdeal.main_v1_1_scv : Memref Cert.WholeIdeal.sig Kind.scVector Space.hbm Cert.WholeIdeal.S1024x128 EltTy.f32)
local notation "oM" => (Memref.whole Cert.WholeIdeal.main_v6_scv : Memref Cert.WholeIdeal.sig Kind.scVector Space.hbm Cert.WholeIdeal.S1024x768 EltTy.f32)
-- a subcore's scratch: its slots, its gathered rows, the shared expert's rows, the gating rows
local notation "svM" => (Memref.whole Cert.WholeIdeal.cc3_scratch0 : Memref Cert.WholeIdeal.sig Kind.scVector Space.vmem Cert.WholeIdeal.S32 EltTy.i32)
local notation "rvM" => (Memref.whole Cert.WholeIdeal.cc3_scratch1 : Memref Cert.WholeIdeal.sig Kind.scVector Space.vmem Cert.WholeIdeal.S32x768 EltTy.f32)
local notation "hvM" => (Memref.whole Cert.WholeIdeal.cc3_scratch2 : Memref Cert.WholeIdeal.sig Kind.scVector Space.vmem Cert.WholeIdeal.S32x768 EltTy.f32)
local notation "gvM" => (Memref.whole Cert.WholeIdeal.cc3_scratch3 : Memref Cert.WholeIdeal.sig Kind.scVector Space.vmem Cert.WholeIdeal.S32x128 EltTy.f32)

/-! ## The task -/

section Tile

variable (d : Dev nD) (L : grid3.Coords)

set_option maxHeartbeats 4000000 in
set_option pp.maxSteps 300 in
theorem tile_run (fa : Buf (Elt F) ((aM).view.loc (VT d L))) (fs : Buf (Elt F) ((sM).view.loc (VT d L)))
    (fh : Buf (Elt F) ((hM).view.loc (VT d L))) (fg : Buf (Elt F) ((gM).view.loc (VT d L))) (fo : Buf (Elt F) ((oM).view.loc (VT d L)))
    (q : PosShare TreeShare) (hs : ∀ j : S1024.Idx, (fs j).toNat < 5120)
    (s0 : Buf (Elt F) ((svM).view.loc (VT d L))) (r0 : Buf (Elt F) ((rvM).view.loc (VT d L)))
    (h0 : Buf (Elt F) ((hvM).view.loc (VT d L))) (g0 : Buf (Elt F) ((gvM).view.loc (VT d L)))
    (O : CellTallies nD τ sig (HIx 2)) (W : Waits sig (HIx 2)) :
    (iprop(Transfers.MayWaits (VT d L) (default : HIx 2) O
        ∗ ((aM).view.loc (VT d L) ↦{q} fa) ∗ ((sM).view.loc (VT d L) ↦{q} fs) ∗ ((hM).view.loc (VT d L) ↦{q} fh) ∗ ((gM).view.loc (VT d L) ↦{q} fg)
        ∗ ((oWin L).view.loc (VT d L) ↦[(oWin L).view.set]{fullShare} fo)
        ∗ ((svM).view.loc (VT d L) ↦{fullShare} s0) ∗ ((rvM).view.loc (VT d L) ↦{fullShare} r0)
        ∗ ((hvM).view.loc (VT d L) ↦{fullShare} h0) ∗ ((gvM).view.loc (VT d L) ↦{fullShare} g0)
        ∗ semVal (VT d L, SemLoc.dma cc3_scratch4.sem) 0 ∗ semVal (VT d L, SemLoc.dma cc3_scoped0.sem) 0 ∗ semVal (VT d L, SemLoc.dma cc3_scoped1.sem) 0
        ∗ semVal (VT d L, SemLoc.dma cc3_scoped2.sem) 0 ∗ semVal (VT d L, SemLoc.dma cc3_scoped3.sem) 0
        ∗ owes (VT d L) O W) : sProp 𝕄)
      ⊢ wp frame (wpE (defs₀ (F := F)) 𝒱₀ (VT d L) none) Set.univ
          (cc3__combine_call L aM (Memref.isWhole_whole _) sM (Memref.isWhole_whole _) hM (Memref.isWhole_whole _) gM (Memref.isWhole_whole _)
            oM (Memref.isWhole_whole _) svM (Memref.isWhole_whole _) rvM (Memref.isWhole_whole _) hvM (Memref.isWhole_whole _)
            gvM (Memref.isWhole_whole _) cc3_scratch4 cc3_scoped0 cc3_scoped1 cc3_scoped2 cc3_scoped3)
          fun _ => iprop(((aM).view.loc (VT d L) ↦{q} fa) ∗ ((sM).view.loc (VT d L) ↦{q} fs) ∗ ((hM).view.loc (VT d L) ↦{q} fh) ∗ ((gM).view.loc (VT d L) ↦{q} fg)
            ∗ ((oWin L).view.loc (VT d L) ↦[(oWin L).view.set]{fullShare} combined fa fs fh fg)
            ∗ (∃ f, (svM).view.loc (VT d L) ↦{fullShare} f) ∗ (∃ f, (rvM).view.loc (VT d L) ↦{fullShare} f)
            ∗ (∃ f, (hvM).view.loc (VT d L) ↦{fullShare} f) ∗ (∃ f, (gvM).view.loc (VT d L) ↦{fullShare} f)
            ∗ semVal (VT d L, SemLoc.dma cc3_scratch4.sem) 0 ∗ semVal (VT d L, SemLoc.dma cc3_scoped0.sem) 0 ∗ semVal (VT d L, SemLoc.dma cc3_scoped1.sem) 0
            ∗ semVal (VT d L, SemLoc.dma cc3_scoped2.sem) 0 ∗ semVal (VT d L, SemLoc.dma cc3_scoped3.sem) 0
            ∗ ∃ W', ⌜∀ p ∈ W', p ∈ W ∨ p.2 = none⌝ ∗ owes (VT d L) O W') := by
  rw [cc3__combine_call_eq_skeleton]; unfold cc3__combine_call_skel
  rw [k3_part14_eq_skeleton]; unfold k3_part14_skel
  rw [k3_part15_eq_skeleton]; unfold k3_part15_skel
  iintro ⟨#Hmw, Ha, Hs, Hh, Hg, Ho, Hsv, Hrv, Hhv, Hgv, HcG, Hc0, Hc1, Hc2, Hc3, HO⟩
  sl_exec
  have hin := fun f0 => slots_lt d L fs hs f0 (tile_run.sl.dma0 d L fs) rfl
  sl_exec
  have hp0 : ∀ x, tile_run.sl.gather0 d L fa fs s0 hin x = gathered L fa fs ((Rect.unit (s := S32x768) ![0, 0] S32x128.size inb_S32x768_S32x128_0_0).emb x) := by
    intro x
    have e := gather_piece d L fa fs hs s0 (tile_run.sl.dma0 d L fs) rfl 0 inb_S5120x768_S5120x128_0_0 inb_S32x768_S32x128_0_0 (fun _ => rfl) rfl (fun y => hin s0 y) x
    exact e
  have hp1 : ∀ x, tile_run.sl.gather1 d L fa fs s0 hin x = gathered L fa fs ((Rect.unit (s := S32x768) ![0, 128] S32x128.size inb_S32x768_S32x128_0_128).emb x) := by
    intro x
    have e := gather_piece d L fa fs hs s0 (tile_run.sl.dma0 d L fs) rfl 128 inb_S5120x768_S5120x128_0_128 inb_S32x768_S32x128_0_128 (fun _ => rfl) rfl (fun y => hin s0 y) x
    exact e
  have hp2 : ∀ x, tile_run.sl.gather2 d L fa fs s0 hin x = gathered L fa fs ((Rect.unit (s := S32x768) ![0, 256] S32x128.size inb_S32x768_S32x128_0_256).emb x) := by
    intro x
    have e := gather_piece d L fa fs hs s0 (tile_run.sl.dma0 d L fs) rfl 256 inb_S5120x768_S5120x128_0_256 inb_S32x768_S32x128_0_256 (fun _ => rfl) rfl (fun y => hin s0 y) x
    exact e
  have hp3 : ∀ x, tile_run.sl.gather3 d L fa fs s0 hin x = gathered L fa fs ((Rect.unit (s := S32x768) ![0, 384] S32x128.size inb_S32x768_S32x128_0_384).emb x) := by
    intro x
    have e := gather_piece d L fa fs hs s0 (tile_run.sl.dma0 d L fs) rfl 384 inb_S5120x768_S5120x128_0_384 inb_S32x768_S32x128_0_384 (fun _ => rfl) rfl (fun y => hin s0 y) x
    exact e
  have hp4 : ∀ x, tile_run.sl.gather4 d L fa fs s0 hin x = gathered L fa fs ((Rect.unit (s := S32x768) ![0, 512] S32x128.size inb_S32x768_S32x128_0_512).emb x) := by
    intro x
    have e := gather_piece d L fa fs hs s0 (tile_run.sl.dma0 d L fs) rfl 512 inb_S5120x768_S5120x128_0_512 inb_S32x768_S32x128_0_512 (fun _ => rfl) rfl (fun y => hin s0 y) x
    exact e
  have hp5 : ∀ x, tile_run.sl.gather5 d L fa fs s0 hin x = gathered L fa fs ((Rect.unit (s := S32x768) ![0, 640] S32x128.size inb_S32x768_S32x128_0_640).emb x) := by
    intro x
    have e := gather_piece d L fa fs hs s0 (tile_run.sl.dma0 d L fs) rfl 640 inb_S5120x768_S5120x128_0_640 inb_S32x768_S32x128_0_640 (fun _ => rfl) rfl (fun y => hin s0 y) x
    exact e
  have hrows : (Memref.whole cc3_scratch1).view.writes (Elt F) (Memref.whole cc3_scratch1).view.junk
      [⟨Rect.unit ![0, 640] S32x128.size inb_S32x768_S32x128_0_640, tile_run.sl.gather5 d L fa fs s0 hin⟩,
        ⟨Rect.unit ![0, 512] S32x128.size inb_S32x768_S32x128_0_512, tile_run.sl.gather4 d L fa fs s0 hin⟩,
        ⟨Rect.unit ![0, 384] S32x128.size inb_S32x768_S32x128_0_384, tile_run.sl.gather3 d L fa fs s0 hin⟩,
        ⟨Rect.unit ![0, 256] S32x128.size inb_S32x768_S32x128_0_256, tile_run.sl.gather2 d L fa fs s0 hin⟩,
        ⟨Rect.unit ![0, 128] S32x128.size inb_S32x768_S32x128_0_128, tile_run.sl.gather1 d L fa fs s0 hin⟩,
        ⟨Rect.unit ![0, 0] S32x128.size inb_S32x768_S32x128_0_0, tile_run.sl.gather0 d L fa fs s0 hin⟩] = gathered L fa fs := by
    refine slabs_gathered L fa fs _ ?_ ?_
    · refine List.forall_mem_cons.2 ⟨hp5, ?_⟩
      refine List.forall_mem_cons.2 ⟨hp4, ?_⟩
      refine List.forall_mem_cons.2 ⟨hp3, ?_⟩
      refine List.forall_mem_cons.2 ⟨hp2, ?_⟩
      refine List.forall_mem_cons.2 ⟨hp1, ?_⟩
      refine List.forall_mem_cons.2 ⟨hp0, ?_⟩
      exact fun _ hp => absurd hp List.not_mem_nil
    · intro y hn
      simp only [List.forall_mem_cons] at hn
      obtain ⟨h5, h4, h3, h2, h1, h0, -⟩ := hn
      have hy : (y 1).val < 768 := (y 1).isLt
      obtain ⟨q, hq⟩ : ∃ q, q = (y 1).val / 128 := ⟨_, rfl⟩
      have hq' : q < 6 := by omega
      interval_cases q
      · exact h0 (mem_slab y (by omega))
      · exact h1 (mem_slab y (by omega))
      · exact h2 (mem_slab y (by omega))
      · exact h3 (mem_slab y (by omega))
      · exact h4 (mem_slab y (by omega))
      · exact h5 (mem_slab y (by omega))
  rw [hrows, View.write_whole_univ, View.write_whole_univ]
  sl_for (inv d L (tile_run.sl.dma0_2 d L fg) (tile_run.sl.dma0_1 d L fh) (gathered L fa fs)) $$ [Hrv Hhv Hgv]
  case region =>
    intro k _
    unfold inv
    iintro ⟨Hr, Hh, Hg⟩
    iapply ((trip_run d L k (tile_run.sl.dma0_1 d L fh) (tile_run.sl.dma0_2 d L fg) (doneTo k.val (tile_run.sl.dma0_2 d L fg) (tile_run.sl.dma0_1 d L fh) (gathered L fa fs))).2 _) $$ [Hr Hh Hg]
    isplitl [Hr]; · iexact Hr
    isplitl [Hh]; · iexact Hh
    isplitl [Hg]; · iexact Hg
    rw [trip_val, doneTo_succ]
    iintro H
    iexact H
  · unfold inv
    rw [doneTo_zero]
    isplitl [Hrv]; · iexact Hrv
    isplitl [Hhv]; · iexact Hhv
    iexact Hgv
  iintro %_ HI
  unfold inv
  icases HI with ⟨Hrv, Hhv, Hgv⟩
  sl_exec
  sl_step
  ihave Ho' := (Entails.of_eq (oWin_result d L fo (combined fa fs fh fg) (tile_run.sl.dma0_3 d L fa fs fh fg)
    (doneTo_combined L fa fs fh fg (tile_run.sl.dma0_2 d L fg) rfl (tile_run.sl.dma0_1 d L fh) rfl _ trips_eq))) $$ Ho
  isplitl [Ha]; · iexact Ha
  isplitl [Hs]; · iexact Hs
  isplitl [Hh]; · iexact Hh
  isplitl [Hg]; · iexact Hg
  isplitl [Ho']; · iexact Ho'
  isplitl [Hsv]; · iexists _; iexact Hsv
  isplitl [Hrv]; · iexists _; iexact Hrv
  isplitl [Hhv]; · iexists _; iexact Hhv
  isplitl [Hgv]; · iexists _; iexact Hgv
  isplitl [HcG]; · iexact HcG
  isplitl [Hc0]; · iexact Hc0
  isplitl [Hc1]; · iexact Hc1
  isplitl [Hc2]; · iexact Hc2
  isplitl [Hc3]; · iexact Hc3
  iexists _; isplitr
  swap; · iexact HO
  ipureintro; intro p hp
  repeat' (rcases Finset.mem_insert.mp hp with hp | hp; · exact .inr (hp ▸ rfl))
  exact .inl hp

end Tile

end Cert.Proof.Whole.Combine

end
-- ==== Proof.W.CombLaunch.lean ====
/-
  The combine call inside the whole kernel: how its operands are dealt to the subcores, and a subcore's task from what it is dealt.
-/
module

public import proofs.«01_k».proof.Proof.W.CombRun
public import Idealize.ShloMosaic.Lib.ShareLeaves

@[expose] public section

set_option maxRecDepth 16384

noncomputable section

namespace Cert.Proof.Whole.Combine

open Cert.WholeIdeal Cert.WholeIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ
local notation "aM" => (Memref.whole Cert.WholeIdeal.main_v5_scv : Memref Cert.WholeIdeal.sig Kind.scVector Space.hbm Cert.WholeIdeal.S5120x768 EltTy.f32)
local notation "sM" => (Memref.whole Cert.WholeIdeal.main_v2_scv : Memref Cert.WholeIdeal.sig Kind.scVector Space.hbm Cert.WholeIdeal.S1024 EltTy.i32)
local notation "hM" => (Memref.whole Cert.WholeIdeal.main_v1_4_scv : Memref Cert.WholeIdeal.sig Kind.scVector Space.hbm Cert.WholeIdeal.S1024x768 EltTy.f32)
local notation "gM" => (Memref.whole Cert.WholeIdeal.main_v1_1_scv : Memref Cert.WholeIdeal.sig Kind.scVector Space.hbm Cert.WholeIdeal.S1024x128 EltTy.f32)
local notation "oM" => (Memref.whole Cert.WholeIdeal.main_v6_scv : Memref Cert.WholeIdeal.sig Kind.scVector Space.hbm Cert.WholeIdeal.S1024x768 EltTy.f32)
-- a subcore's scratch: its slots, its gathered rows, the shared expert's rows, the gating rows
local notation "svM" => (Memref.whole Cert.WholeIdeal.cc3_scratch0 : Memref Cert.WholeIdeal.sig Kind.scVector Space.vmem Cert.WholeIdeal.S32 EltTy.i32)
local notation "rvM" => (Memref.whole Cert.WholeIdeal.cc3_scratch1 : Memref Cert.WholeIdeal.sig Kind.scVector Space.vmem Cert.WholeIdeal.S32x768 EltTy.f32)
local notation "hvM" => (Memref.whole Cert.WholeIdeal.cc3_scratch2 : Memref Cert.WholeIdeal.sig Kind.scVector Space.vmem Cert.WholeIdeal.S32x768 EltTy.f32)
local notation "gvM" => (Memref.whole Cert.WholeIdeal.cc3_scratch3 : Memref Cert.WholeIdeal.sig Kind.scVector Space.vmem Cert.WholeIdeal.S32x128 EltTy.f32)

open Idealize.ShloMosaic.ShareLeaves
open Idealize.ShloMosaic.StableHlo (held wp_hlo_within)

/-! ## What the call hands out -/

variable (fa : Dev nD → S5120x768.Idx → Elt F .f32) (fs : Dev nD → S1024.Idx → Elt F .i32)
variable (fh : Dev nD → S1024x768.Idx → Elt F .f32) (fg : Dev nD → S1024x128.Idx → Elt F .f32) (fo : Dev nD → S1024x768.Idx → Elt F .f32)

/-- A SparseCore's share of each operand, and a subcore's. -/
abbrev qc (c : Fin 2) : PosShare TreeShare := leaf 1 fullShare c
abbrev qt (c : Fin 2) (i : Fin 16) : PosShare TreeShare := leaf 4 (qc c) i

/-- The rows of the result a subcore writes, and a SparseCore's subcores together: blocks of 32 rows, alternating between the SparseCores. -/
def tileSet (c : Fin 2) (i : Fin 16) : Finset S1024x768.Idx := Finset.univ.filter fun y => (y 0).val / 32 = 2 * i.val + c.val
def coreSet (c : Fin 2) : Finset S1024x768.Idx := Finset.univ.filter fun y => (y 0).val / 32 % 2 = c.val

/-- The operands at a share. -/
abbrev inPts (d : Dev nD) (q : PosShare TreeShare) : sProp 𝕄 :=
  iprop((aLoc d ↦{q} (fa d : Buf (Elt F) (aLoc d))) ∗ (sLoc d ↦{q} (fs d : Buf (Elt F) (sLoc d))) ∗ (hLoc d ↦{q} (fh d : Buf (Elt F) (hLoc d)))
    ∗ gLoc d ↦{q} (fg d : Buf (Elt F) (gLoc d)))
abbrev oTile (d : Dev nD) (c : Fin 2) (i : Fin 16) (f : Buf (Elt F) (oLoc d)) : sProp 𝕄 := oLoc d ↦[tileSet c i]{fullShare} f
abbrev oCore (d : Dev nD) (c : Fin 2) (f : Buf (Elt F) (oLoc d)) : sProp 𝕄 := oLoc d ↦[coreSet c]{fullShare} f

abbrev cc (c : Fin ((K (F := F)).nCore 1)) : Fin 2 := Fin.cast nCore_1 c
abbrev ii (i : Fin ((K (F := F)).nSub 1)) : Fin 16 := Fin.cast nSub_1 i

/-! ## The rows split and join, and the operands' shares -/

theorem core_eq (c : Fin 2) : (Finset.univ : Finset (Fin 16)).biUnion (tileSet c) = coreSet c := by
  ext y
  simp only [Finset.mem_biUnion, Finset.mem_univ, true_and, tileSet, coreSet, Finset.mem_filter]
  have hy : (y 0).val < 1024 := (y 0).isLt
  have hc := c.isLt
  constructor
  · rintro ⟨i, hi⟩; omega
  · intro h
    exact ⟨⟨(y 0).val / 64, by omega⟩, by show (y 0).val / 32 = 2 * ((y 0).val / 64) + c.val; omega⟩

theorem tiles_disjoint (c : Fin 2) : ∀ i ∈ (Finset.univ : Finset (Fin 16)), ∀ j ∈ (Finset.univ : Finset (Fin 16)), i ≠ j → Disjoint (tileSet c i) (tileSet c j) := by
  intro i _ j _ h
  refine Finset.disjoint_left.mpr fun y hi hj => h (Fin.ext ?_)
  simp only [tileSet, Finset.mem_filter, Finset.mem_univ, true_and] at hi hj
  omega

theorem cores_eq : (Finset.univ : Finset (Fin 2)).biUnion coreSet = Finset.univ := by
  ext y
  simp only [Finset.mem_biUnion, Finset.mem_univ, true_and, coreSet, Finset.mem_filter, iff_true]
  exact ⟨⟨(y 0).val / 32 % 2, Nat.mod_lt _ (by decide)⟩, rfl⟩

theorem cores_disjoint : ∀ i ∈ (Finset.univ : Finset (Fin 2)), ∀ j ∈ (Finset.univ : Finset (Fin 2)), i ≠ j → Disjoint (coreSet i) (coreSet j) := by
  intro i _ j _ h
  refine Finset.disjoint_left.mpr fun y hi hj => h (Fin.ext ?_)
  simp only [coreSet, Finset.mem_filter, Finset.mem_univ, true_and] at hi hj
  omega

theorem oCore_tiles (d : Dev nD) (c : Fin 2) (f : Buf (Elt F) (oLoc d)) :
    (oCore d c f : sProp 𝕄) = bigSep Finset.univ fun i : Fin 16 => oTile d c i f := by
  unfold oCore
  rw [← core_eq]
  exact pointsTo_biUnion Finset.univ (ℓ := oLoc d) (tileSet c) (tiles_disjoint c)

theorem oAll_cores (d : Dev nD) (f : Buf (Elt F) (oLoc d)) :
    (oLoc d ↦{fullShare} f : sProp 𝕄) = bigSep Finset.univ fun c : Fin 2 => oCore d c f := by
  refine Eq.trans ?_ (pointsTo_biUnion Finset.univ (ℓ := oLoc d) coreSet cores_disjoint)
  rw [cores_eq]

theorem inPts_leaves (d : Dev nD) (n : ℕ) (q : PosShare TreeShare) :
    (inPts fa fs fh fg d q : sProp 𝕄) = bigSep Finset.univ fun i : Fin (2 ^ n) => inPts fa fs fh fg d (leaf n q i) := by
  unfold inPts
  rw [bigSep_sep', bigSep_sep', bigSep_sep', ← pointsTo_leaves, ← pointsTo_leaves, ← pointsTo_leaves, ← pointsTo_leaves]

theorem core_tasks (d : Dev nD) (c : Fin 2) (f : Buf (Elt F) (oLoc d)) :
    (iprop(inPts fa fs fh fg d (qc c) ∗ oCore d c f) : sProp 𝕄) = bigSep Finset.univ fun i : Fin 16 => iprop(inPts fa fs fh fg d (qt c i) ∗ oTile d c i f) := by
  rw [bigSep_sep', ← oCore_tiles]
  exact congrArg (fun X : sProp 𝕄 => iprop(X ∗ oCore d c f)) (inPts_leaves fa fs fh fg d 4 (qc c))

theorem all_cores (d : Dev nD) (f : Buf (Elt F) (oLoc d)) :
    (iprop(inPts fa fs fh fg d fullShare ∗ oLoc d ↦{fullShare} f) : sProp 𝕄) = bigSep Finset.univ fun c : Fin 2 => iprop(inPts fa fs fh fg d (qc c) ∗ oCore d c f) := by
  rw [bigSep_sep', ← oAll_cores]
  exact congrArg (fun X : sProp 𝕄 => iprop(X ∗ oLoc d ↦{fullShare} f)) (inPts_leaves fa fs fh fg d 1 fullShare)

theorem bigSep_tasks (Φ : Fin 16 → sProp 𝕄) :
    (bigSep Finset.univ fun i : Fin ((K (F := F)).nSub 1) => Φ (Fin.cast nSub_1 i)) = bigSep Finset.univ Φ :=
  bigSep_congr fun _ _ => congrArg Φ (Fin.ext rfl)
theorem bigSep_cores (Φ : Fin 2 → sProp 𝕄) :
    (bigSep Finset.univ fun c : Fin ((K (F := F)).nCore 1) => Φ (Fin.cast nCore_1 c)) = bigSep Finset.univ Φ :=
  bigSep_congr fun _ _ => congrArg Φ (Fin.ext rfl)

theorem deal (d : Dev nD) (c : Fin ((K (F := F)).nCore 1)) :
    iprop(inPts fa fs fh fg d (qc (cc c)) ∗ oCore d (cc c) (fo d)) ⊢ |={Set.univ}=> iprop(
      (bigSep Finset.univ fun i : Fin ((K (F := F)).nSub 1) => iprop(inPts fa fs fh fg d (qt (cc c) (Fin.cast nSub_1 i)) ∗ oTile d (cc c) (Fin.cast nSub_1 i) (fo d)))
      ∗ ((bigSep Finset.univ fun i : Fin ((K (F := F)).nSub 1) => iprop(inPts fa fs fh fg d (qt (cc c) (Fin.cast nSub_1 i)) ∗ oTile d (cc c) (Fin.cast nSub_1 i) (combined (fa d) (fs d) (fh d) (fg d))))
          -∗ iprop(inPts fa fs fh fg d (qc (cc c)) ∗ oCore d (cc c) (combined (fa d) (fs d) (fh d) (fg d))))) := by
  rw [bigSep_tasks (F := F) (fun i => iprop(inPts fa fs fh fg d (qt (cc c) i) ∗ oTile d (cc c) i (fo d))),
    bigSep_tasks (F := F) (fun i => iprop(inPts fa fs fh fg d (qt (cc c) i) ∗ oTile d (cc c) i (combined (fa d) (fs d) (fh d) (fg d)))), ← core_tasks, ← core_tasks]
  iintro H; imodintro
  isplitl [H]; · iexact H
  iintro H; iexact H

/-! ## The task as the launch theorem asks for it -/

section Obl

variable (d : Dev nD) (L : grid3.Coords)

abbrev cell (s : DmaSem sig) : GSem nD τ sig := (VT d L, .dma s)

theorem ownSems0_V :
    (ownSems0 (VT d L) : sProp 𝕄)
      = iprop(semVal (cell d L cc3_scratch4.sem) 0 ∗ semVal (cell d L cc3_scoped0.sem) 0 ∗ semVal (cell d L cc3_scoped1.sem) 0
          ∗ semVal (cell d L cc3_scoped2.sem) 0 ∗ semVal (cell d L cc3_scoped3.sem) 0
          ∗ bigSep ((((((ownCells (VT d L)).erase (cell d L cc3_scratch4.sem)).erase (cell d L cc3_scoped0.sem)).erase (cell d L cc3_scoped1.sem)).erase
              (cell d L cc3_scoped2.sem)).erase (cell d L cc3_scoped3.sem)) fun g => semVal g 0) := by
  have hmem : ∀ s : DmaSem sig, (SemLoc.dma s : SemLoc sig).isScoped .scVector = true → cell d L s ∈ ownCells (VT d L) := fun s h => mem_ownCells.mpr ⟨rfl, h⟩
  have hne : ∀ s t : DmaSem sig, s ≠ t → cell d L s ≠ cell d L t := fun s t h e => h (by injection e with _ e; injection e)
  unfold SparseCore.Cfg.ownSems0
  rw [SparseCore.bigSep_erase' (hmem cc3_scratch4.sem (by decide)),
    SparseCore.bigSep_erase' (Finset.mem_erase.mpr ⟨hne _ _ (by decide), hmem cc3_scoped0.sem (by decide)⟩),
    SparseCore.bigSep_erase' (Finset.mem_erase.mpr ⟨hne _ _ (by decide), Finset.mem_erase.mpr ⟨hne _ _ (by decide), hmem cc3_scoped1.sem (by decide)⟩⟩),
    SparseCore.bigSep_erase' (Finset.mem_erase.mpr ⟨hne _ _ (by decide), Finset.mem_erase.mpr ⟨hne _ _ (by decide), Finset.mem_erase.mpr ⟨hne _ _ (by decide),
      hmem cc3_scoped2.sem (by decide)⟩⟩⟩),
    SparseCore.bigSep_erase' (Finset.mem_erase.mpr ⟨hne _ _ (by decide), Finset.mem_erase.mpr ⟨hne _ _ (by decide), Finset.mem_erase.mpr ⟨hne _ _ (by decide),
      Finset.mem_erase.mpr ⟨hne _ _ (by decide), hmem cc3_scoped3.sem (by decide)⟩⟩⟩⟩)]

abbrev bref (b : Ref sig .scVector) : DevRef τ sig := (Proc.scVector (cV L) (jV L)).devRef b

theorem ownBufs_V :
    (ownBufs (VT d L) : sProp 𝕄)
      = iprop((∃ f, (VT d L).loc cc3_scratch0 ↦{fullShare} f) ∗ (∃ f, (VT d L).loc cc3_scratch1 ↦{fullShare} f)
          ∗ (∃ f, (VT d L).loc cc3_scratch2 ↦{fullShare} f) ∗ (∃ f, (VT d L).loc cc3_scratch3 ↦{fullShare} f)
          ∗ bigSep (((((ownRefs (τ := τ) (.scVector (cV L) (jV L))).erase (bref L cc3_scratch0)).erase (bref L cc3_scratch1)).erase (bref L cc3_scratch2)).erase
              (bref L cc3_scratch3)) fun b => iprop(∃ f, ((d, b) : Loc nD τ sig) ↦{fullShare} f)) := by
  have hne : ∀ b c : Ref sig .scVector, b ≠ c → bref L b ≠ bref L c := fun b c h e => h (Proc.devRef_injective _ e)
  unfold SparseCore.Cfg.ownBufs
  refine (SparseCore.bigSep_erase' (SparseCore.Cfg.mem_ownRefs_of_owner (p := Proc.scVector (cV L) (jV L)) (b := bref L cc3_scratch0) rfl)).trans ?_
  rw [SparseCore.bigSep_erase' (Finset.mem_erase.mpr ⟨hne _ _ (by decide), SparseCore.Cfg.mem_ownRefs_of_owner (p := Proc.scVector (cV L) (jV L)) (b := bref L cc3_scratch1) rfl⟩),
    SparseCore.bigSep_erase' (Finset.mem_erase.mpr ⟨hne _ _ (by decide), Finset.mem_erase.mpr ⟨hne _ _ (by decide),
      SparseCore.Cfg.mem_ownRefs_of_owner (p := Proc.scVector (cV L) (jV L)) (b := bref L cc3_scratch2) rfl⟩⟩),
    SparseCore.bigSep_erase' (Finset.mem_erase.mpr ⟨hne _ _ (by decide), Finset.mem_erase.mpr ⟨hne _ _ (by decide), Finset.mem_erase.mpr ⟨hne _ _ (by decide),
      SparseCore.Cfg.mem_ownRefs_of_owner (p := Proc.scVector (cV L) (jV L)) (b := bref L cc3_scratch3) rfl⟩⟩⟩)]

theorem set_oWin : (oWin L).view.set = tileSet (L 0) (L 1) := by
  ext y
  show y ∈ ((View.whole (main_v6_scv : Ref sig .scVector)).slice (Rect.unit (s := S1024x768) (k3_off2 L) S32x768.size (k3_off2_inb L))).set ↔ _
  rw [View.set_slice]
  refine Iff.trans (Iff.of_eq (congrArg (y ∈ ·) Finset.map_refl)) ?_
  rw [Rect.mem_set_unit]
  refine Iff.trans ?_ (Finset.mem_filter (p := fun y : S1024x768.Idx => (y 0).val / 32 = 2 * (L 1).val + (L 0).val)).symm
  have h1 : (y 1).val < 768 := (y 1).isLt
  have e0 : k3_off2 L 0 = 64 * (L 1).val + 32 * (L 0).val := by rw [k3_off2_eq]; rfl
  have e1 : k3_off2 L 1 = 0 := by rw [k3_off2_eq]; rfl
  have hc : (L 0).val < 2 := (L 0).isLt
  constructor
  · intro h
    have h0 := h 0
    rw [e0] at h0
    have h01 : (y 0).val < 64 * (L 1).val + 32 * (L 0).val + 32 := h0.2
    refine ⟨Finset.mem_univ _, ?_⟩
    have := h0.1
    omega
  · rintro ⟨-, h⟩ a
    match a with
    | 0 =>
      show k3_off2 L 0 ≤ (y 0).val ∧ (y 0).val < k3_off2 L 0 + 32
      rw [e0]; omega
    | 1 =>
      show k3_off2 L 1 ≤ (y 1).val ∧ (y 1).val < k3_off2 L 1 + 768
      rw [e1]; omega

theorem pts_oWin (f : Buf (Elt F) (oLoc d)) :
    ((oWin L).view.loc (VT d L) ↦[(oWin L).view.set]{fullShare} f : sProp 𝕄) = oTile d (L 0) (L 1) f := by
  rw [set_oWin]

/-- The task from what the launch deals it to what it brings back. -/
theorem tile_body (hF : (K (F := F)).Facts) (hpre : ∀ (d : Dev nD) (j : S1024.Idx), (fs d j : BitVec 32).toNat < 5120) (O : CellTallies nD τ sig (HIx 2)) (W : Waits sig (HIx 2)) (hO : ∀ g, O g none = 0) :
    iprop(levAts (K (F := F)).L (K (F := F)).lev ∗ emp
        ∗ (inPts fa fs fh fg d (qt (L 0) (L 1)) ∗ oTile d (L 0) (L 1) (fo d))
        ∗ scopedBufs (VT d L) ∗ scopedSems0 (VT d L) ∗ owes (VT d L) O W)
      ⊢ wp frame (wpE (defs₀ (F := F)) 𝒱₀ (VT d L) none) Set.univ
          (cc3__combine_call L aM (Memref.isWhole_whole _) sM (Memref.isWhole_whole _) hM (Memref.isWhole_whole _) gM (Memref.isWhole_whole _)
            oM (Memref.isWhole_whole _) svM (Memref.isWhole_whole _) rvM (Memref.isWhole_whole _) hvM (Memref.isWhole_whole _)
            gvM (Memref.isWhole_whole _) cc3_scratch4 cc3_scoped0 cc3_scoped1 cc3_scoped2 cc3_scoped3)
          fun _ => iprop((inPts fa fs fh fg d (qt (L 0) (L 1)) ∗ oTile d (L 0) (L 1) (combined (fa d) (fs d) (fh d) (fg d)))
            ∗ scopedBufs (VT d L) ∗ scopedSems0 (VT d L)
            ∗ ∃ W', ⌜∀ p ∈ W', p ∈ W ∨ p.2 = none⌝ ∗ owes (VT d L) O W') := by
  rw [(K (F := F)).scopedBufs_V hF d (cV L) (jV L), SparseCore.Cfg.scopedSems0_V (Val := Elt F) d (cV L) (jV L), ownSems0_V, ownBufs_V]
  iintro ⟨#Hlv, -, ⟨⟨Ha, Hs, Hh, Hg⟩, Ho⟩, ⟨⟨%s0, Hsv⟩, ⟨%r0, Hrv⟩, ⟨%h0, Hhv⟩, ⟨%g0, Hgv⟩, Hbufs⟩, ⟨HcG, Hc0, Hc1, Hc2, Hc3, Hsems⟩, HO⟩
  ihave Hmw := (show levAts (K (F := F)).L (K (F := F)).lev ⊢ Transfers.MayWaits (VT d L) (default : HIx 2) O from
    (K (F := F)).mayWaits_none (thr := VT d L) hO) $$ Hlv
  ihave Ho' := (Entails.of_eq (pts_oWin (F := F) d L _).symm) $$ Ho
  iapply (wp_wand_r Idealize.ShloMosaic.frame (wpE (defs₀ (F := F)) 𝒱₀ (VT d L) none) Set.univ)
  isplitl [Hmw Ha Hs Hh Hg Ho' Hsv Hrv Hhv Hgv HcG Hc0 Hc1 Hc2 Hc3 HO]
  · iapply (tile_run d L (fa d) (fs d) (fh d) (fg d) (fo d) (qt (L 0) (L 1)) (hpre d) s0 r0 h0 g0 O W)
    isplitl [Hmw]; · iexact Hmw
    isplitl [Ha]; · iexact Ha
    isplitl [Hs]; · iexact Hs
    isplitl [Hh]; · iexact Hh
    isplitl [Hg]; · iexact Hg
    isplitl [Ho']; · iexact Ho'
    isplitl [Hsv]; · iexact Hsv
    isplitl [Hrv]; · iexact Hrv
    isplitl [Hhv]; · iexact Hhv
    isplitl [Hgv]; · iexact Hgv
    isplitl [HcG]; · iexact HcG
    isplitl [Hc0]; · iexact Hc0
    isplitl [Hc1]; · iexact Hc1
    isplitl [Hc2]; · iexact Hc2
    isplitl [Hc3]; · iexact Hc3
    iexact HO
  iintro %_ ⟨Ha, Hs, Hh, Hg, Ho, Hsv, Hrv, Hhv, Hgv, HcG, Hc0, Hc1, Hc2, Hc3, HW⟩
  isplitl [Ha Hs Hh Hg Ho]
  · isplitl [Ha Hs Hh Hg]
    · isplitl [Ha]; · iexact Ha
      isplitl [Hs]; · iexact Hs
      isplitl [Hh]; · iexact Hh
      iexact Hg
    iapply (Entails.of_eq (pts_oWin (F := F) d L _)); iexact Ho
  isplitl [Hsv Hrv Hhv Hgv Hbufs]
  · isplitl [Hsv]; · iexact Hsv
    isplitl [Hrv]; · iexact Hrv
    isplitl [Hhv]; · iexact Hhv
    isplitl [Hgv]; · iexact Hgv
    iexact Hbufs
  isplitl [HcG Hc0 Hc1 Hc2 Hc3 Hsems]
  · isplitl [HcG]; · iexact HcG
    isplitl [Hc0]; · iexact Hc0
    isplitl [Hc1]; · iexact Hc1
    isplitl [Hc2]; · iexact Hc2
    isplitl [Hc3]; · iexact Hc3
    iexact Hsems
  iexact HW

end Obl

def coordsV (c : Fin (grid3.bound 0)) (s : Fin (grid3.bound 1)) : grid3.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 3 ()
      = SparseCore.onTile hcore3 hsub3 (fun c s => cc3__combine_call (coordsV c s)
          aM (Memref.isWhole_whole _) sM (Memref.isWhole_whole _) hM (Memref.isWhole_whole _) gM (Memref.isWhole_whole _)
            oM (Memref.isWhole_whole _) svM (Memref.isWhole_whole _) rvM (Memref.isWhole_whole _) hvM (Memref.isWhole_whole _)
            gvM (Memref.isWhole_whole _) cc3_scratch4 cc3_scoped0 cc3_scoped1 cc3_scoped2 cc3_scoped3) ⟨⟩ c s := rfl

theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem bigSep_st (d : Dev nD) (f : Buf (Elt F) (oLoc d)) :
    (bigSep Finset.univ fun c : Fin ((K (F := F)).nCore 1) => iprop(inPts fa fs fh fg d (qc (cc c)) ∗ oCore d (cc c) f))
      = (iprop(inPts fa fs fh fg d fullShare ∗ oLoc d ↦{fullShare} f) : sProp 𝕄) := by
  rw [all_cores]
  exact bigSep_cores (F := F) fun c => iprop(inPts fa fs fh fg d (qc c) ∗ oCore d c f)

end Cert.Proof.Whole.Combine

end
-- ==== Proof.W.States.lean ====
/- The arrays as `@main` goes: their contents before each step, and the two TensorCore calls between those. -/
module

public import proofs.«01_k».proof.Proof.W.PlanRegion
public import proofs.«01_k».proof.Proof.W.FfnRegion
public import proofs.«01_k».proof.Proof.W.ScatLaunch
public import proofs.«01_k».proof.Proof.W.CombLaunch
public import Idealize.ShloMosaic.Lib.Pipeline.FrameSuffix

@[expose] public section

set_option maxRecDepth 16384

noncomputable section

namespace Cert.Proof.Whole

open Cert.WholeIdeal Cert.WholeIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat PLaunchFacts₀ BodyObligationLoose pin arrRef scopedRest unscopedRest unscopedRestP prefHeld RegionSeg withArrays)

variable {F : FTy → Type} [FloatOps F]

local notation "𝕄" => MT nD τ sig (HIx 2) (Elt F) ℕ UU ℕ

variable (m : (ℓ : Loc nD τ sig) → Buf (Elt F) ℓ)

/-! ## The contents, step by step -/

abbrev dr (b : Ref sig .tc) : DevRef τ sig := Proc.devRef .tc b
abbrev arrs (W : Dev nD → Valuation τ sig (Elt F)) (c : Dev nD) : Arrs F c := fun b => W c (dr b)

abbrev op0 : HloOp τ sig (Elt F) := StableHlo.reshape main_arg2 main_v0 (rfl : (.f32 : EltTy) = .f32) shapeCasts_S64_S1x64
abbrev op2 : HloOp τ sig (Elt F) := StableHlo.reshape main_v1_2 main_v2 (rfl : (.i32 : EltTy) = .i32) shapeCasts_S1024x1_S1024
abbrev op3 : HloOp τ sig (Elt F) := StableHlo.reshape main_v1_3 main_v3 (rfl : (.i32 : EltTy) = .i32) shapeCasts_S80x1_S80
abbrev op7 : HloOp τ sig (Elt F) := StableHlo.reshape main_v1_0 main_v7 (rfl : (.f32 : EltTy) = .f32) shapeCasts_S1x1_S_

def W0 (d : Dev nD) : Valuation τ sig (Elt F) := fun b => m (d, b)
def W1 (d : Dev nD) : Valuation τ sig (Elt F) := (op0 (F := F)).result (W0 m d)
def W2 (d : Dev nD) : Valuation τ sig (Elt F) :=
  withArrays spec0 d (W1 m d) fun w => (Plan.planDat (arrs (W1 m)) 0 0 d).arrAt w cfg0.N
def W3 (d : Dev nD) : Valuation τ sig (Elt F) := (op2 (F := F)).result (W2 m d)
def W4 (d : Dev nD) : Valuation τ sig (Elt F) := (op3 (F := F)).result (W3 m d)

/-- The tokens' rows, their slots, and the sorted rows' array before the scatter. -/
abbrev fx (d : Dev nD) : S1024x768.Idx → Elt F .f32 := W4 m d (dr main_arg0)
abbrev fs (d : Dev nD) : S1024.Idx → Elt F .i32 := W4 m d (dr main_v2)
abbrev f4 (d : Dev nD) : S5120x768.Idx → Elt F .f32 := W4 m d (dr main_v4)

def W5 (d : Dev nD) : Valuation τ sig (Elt F) :=
  Function.update (W4 m d) (dr main_v4) (Scatter.scattered (fx m d) (fs m d) (f4 m d) : S5120x768.Idx → Elt F .f32)

/-- The experts' table, block of rows by block of rows. -/
def tb : pre2.Contents (Elt F) := fun k => W5 m 0 (dr (pre2.ref k))

variable (hO : Ffn.Ok (tb m))

def W6 (d : Dev nD) : Valuation τ sig (Elt F) :=
  withArrays spec2 d (W5 m d) fun w => (Ffn.ffnDat (arrs (W5 m)) 1 8 (tb m) hO d).arrAt w (Ffn.cfgM (tb m) hO).N

abbrev fa (d : Dev nD) : S5120x768.Idx → Elt F .f32 := W6 m hO d (dr main_v5)
abbrev fs' (d : Dev nD) : S1024.Idx → Elt F .i32 := W6 m hO d (dr main_v2)
abbrev fh (d : Dev nD) : S1024x768.Idx → Elt F .f32 := W6 m hO d (dr main_v1_4)
abbrev fg (d : Dev nD) : S1024x128.Idx → Elt F .f32 := W6 m hO d (dr main_v1_1)
abbrev f6 (d : Dev nD) : S1024x768.Idx → Elt F .f32 := W6 m hO d (dr main_v6)

def W7 (d : Dev nD) : Valuation τ sig (Elt F) :=
  Function.update (W6 m hO d) (dr main_v6) (Combine.combined (fa m hO d) (fs' m hO d) (fh m hO d) (fg m hO d) : S1024x768.Idx → Elt F .f32)
def W8 (d : Dev nD) : Valuation τ sig (Elt F) := (op7 (F := F)).result (W7 m hO d)

/-! ## The two TensorCore calls -/

def adms : (p : Fin 2) → (pcfgs (F := F) p).Adm := fun | 0 => cfg0.toPCfg_adm | 1 => Ffn.adm (tb m) hO

def dats : (p : Fin 2) → (c : Dev nD) → Dat τ (Elt F) (HIx 2) ℕ UU ℕ (pin (pcfgs (F := F)) (adms m hO) p) c :=
  fun | 0 => fun c => Plan.planDat (arrs (W1 m)) 0 0 c | 1 => fun c => Ffn.ffnDat (arrs (W5 m)) 1 8 (tb m) hO c

theorem Otc_none (n : ℕ) (c : Dev nD) (g : GSem nD τ sig) : (K (F := F)).Otc (N := 2) c n g none = 0 := by
  rcases Nat.eq_zero_or_pos ((K (F := F)).Otc (N := 2) c n g none) with h | h
  · exact h
  · have := SparseCore.Cfg.lev_of_Otc_pos (K := K (F := F)) h
    rw [SparseCore.Cfg.lev_none] at this
    exact absurd this (by omega)

theorem pref_none (c : Dev nD) (v) : (prefHeld (Pipeline.Prefetch.none (sig := sig)) c (fun _ => fullShare) v : sProp 𝕄) = iprop(emp) := by
  unfold prefHeld
  rw [show (Finset.univ : Finset (Fin (Pipeline.Prefetch.none (sig := sig)).K)) = ∅ from rfl, bigSep_empty]
  rfl

theorem mem_image {W : ℕ} {gr : ℕ} (win : Fin W → Pipeline.WinSpec sig gr) (b : Ref sig .tc) (hb : b ∉ Finset.univ.image (arrRef win)) (w : Fin W) : arrRef win w ≠ b :=
  fun e => hb (Finset.mem_image.mpr ⟨w, Finset.mem_univ w, e⟩)

def seg0 : RegionSeg (pcfgs (F := F)) (adms m hO) (dats m hO) (none : HIx 2) (defs₀ (F := F)) 𝒱₀ (K (F := F)).L (K (F := F)).lev 0 :=
  segB (adms m hO) (dats m hO) (p := 0) 0 0 (arrs (W1 m)) (arrs (W2 m)) (fun c => unscopedRest spec0 c (arrs (W1 m) c))
    (Pipeline.PLaunchFacts.to₀ launch0) (fun c => (Plan.body_obligation (arrs (W1 m)) 0 0 c).loose) (fun _ _ => rfl) (fun _ _ => rfl)
    (Otc_none 0)
    (fun c => (Pipeline.arrays_of_unscopedBufs (pcfgs (F := F)) (adms m hO) (dats m hO) (p := 0) winFacts0 arr_whole0 c (fun w => by change (Plan.planDat (arrs (W1 m)) 0 0 c).share w = _; unfold Dat.share; split <;> rfl) (arrs (W1 m) c) (fun w => Plan.A_eq _ 0 0 c w)).trans (by
      iintro ⟨Ha, HR⟩
      isplitl [Ha]; · iexact Ha
      isplitr [HR]; · iapply (Entails.of_eq (pref_none c _).symm); iempintro
      iexact HR))
    (fun c => by
      iintro ⟨Ha, -, HR⟩
      iapply (Pipeline.unscopedBufs_of_arrays (pcfgs (F := F)) (adms m hO) (p := 0) winFacts0 arr_whole0 c (dats m hO) (fun w => by change (Plan.planDat (arrs (W1 m)) 0 0 c).share w = _; unfold Dat.share; split <;> rfl) (arrs (W1 m) c) (arrs (W2 m) c) _
        (fun w => (Pipeline.withArrays_arr spec0 winFacts0.arr_inj c (W1 m c) _ w).symm) (fun b hb => Pipeline.withArrays_of_ne spec0 c (W1 m c) _ b (mem_image spec0 b hb)))
      isplitl [Ha]; · iexact Ha
      iexact HR)
    (fun c => by
      change _ ⊢ (scopedRest spec0 c : sProp 𝕄)
      iintro ⟨-, Hr⟩; iexact Hr)
    (fun c => by
      change (scopedRest spec0 c : sProp 𝕄) ⊢ _
      iintro Hr
      isplitr; · iapply (Entails.of_eq (pref_none c _).symm); iempintro
      iexact Hr)

def seg1 : RegionSeg (pcfgs (F := F)) (adms m hO) (dats m hO) (none : HIx 2) (defs₀ (F := F)) 𝒱₀ (K (F := F)).L (K (F := F)).lev 1 :=
  segB (adms m hO) (dats m hO) (p := 1) 1 8 (arrs (W5 m)) (arrs (W6 m hO)) (fun c => unscopedRestP pre2 spec2 c (arrs (W5 m) c))
    launch₀2 (fun c => (Ffn.body_obligation (arrs (W5 m)) 1 8 (tb m) hO c).loose) (fun _ _ => rfl) (fun _ _ => rfl)
    (Otc_none 1)
    (fun c => (Pipeline.arrays_of_unscopedBufs_shared (pcfgs (F := F)) (adms m hO) (dats m hO) (p := 1) winFacts₀2 sharedIn2 arr_whole2 c (fun _ _ => rfl) (arrs (W5 m) c)
        (fun w => Ffn.A_eq _ 1 8 (tb m) hO c w)).trans (by
      obtain rfl : c = 0 := Subsingleton.elim _ _
      iintro ⟨Ha, HR⟩
      isplitl [Ha]; · iexact Ha
      ihave HR := (Entails.of_eq (Pipeline.unscopedRest_split preFacts2 0 (arrs (W5 m) 0))) $$ HR
      iexact HR))
    (fun c => by
      obtain rfl : c = 0 := Subsingleton.elim _ _
      iintro ⟨Ha, Hp, HR⟩
      iapply (Pipeline.unscopedBufs_of_arrays_shared (pcfgs (F := F)) (adms m hO) (p := 1) winFacts₀2 sharedIn2 arr_whole2 0 (dats m hO) (fun _ _ => rfl) (arrs (W5 m) 0) (arrs (W6 m hO) 0) _
        (fun w => ((Ffn.ffnDat (arrs (W5 m)) 1 8 (tb m) hO 0).withArrays_arrAt sharedIn2 (W5 m 0) (fun w => Ffn.A_eq _ 1 8 (tb m) hO 0 w) w).symm)
        (fun b hb => Pipeline.withArrays_of_ne spec2 0 (W5 m 0) _ b (mem_image spec2 b hb)))
      isplitl [Ha]; · iexact Ha
      iapply (Entails.of_eq (Pipeline.unscopedRest_split preFacts2 0 (arrs (W5 m) 0)).symm)
      isplitl [Hp]; · iexact Hp
      iexact HR)
    (fun c => by
      change _ ⊢ (iprop(scopedRest spec2 c ∗ Ffn.PhiT (tb m) c) : sProp 𝕄)
      iintro ⟨Hp, Hr⟩
      isplitl [Hr]; · iexact Hr
      iexact Hp)
    (fun c => by
      change (iprop(scopedRest spec2 c ∗ Ffn.PhiT (tb m) c) : sProp 𝕄) ⊢ _
      iintro ⟨Hr, Hp⟩
      isplitl [Hp]; · iexact Hp
      iexact Hr)

end Cert.Proof.Whole

end
-- ==== Proof.W.Main.lean ====
/- `@main` and the whole program's run: the plan, the scatter, the experts' products, the combine, one after the other. -/
module

public import proofs.«01_k».proof.Proof.W.States

@[expose] public section

set_option maxRecDepth 16384

noncomputable section

namespace Cert.Proof.Whole

open Cert.WholeIdeal Cert.WholeIdeal.Gen
open Idealize.ShloMosaic
open Idealize.ShloMosaic.SparseCore (S V T)
open Idealize.ShloMosaic.SparseCore.Cfg (HIx Pay)
open Idealize.ShloMosaic.StableHlo (held held_sub_split held_congr wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat pin arrRef RegionSeg ucRefs unscopedBufs_held cellsGhost toksInit)

variable {F : FTy → Type} [FloatOps F]

local notation "𝕄" => MT nD τ sig (HIx 2) (Elt F) ℕ UU ℕ

variable (m : (ℓ : Loc nD τ sig) → Buf (Elt F) ℓ) (ρ : Dev nD → PrngReg) (hO : Ffn.Ok (tb m))

/-! ## What the SparseCores are handed -/

def P : (K (F := F)).Pay (nD := nD) (Val := Elt F) (Name := ℕ) (U := UU) where
  st := fun q d => match q with
    | 0 => fun c => iprop(Scatter.inPts (fx m) (fs m) d (Scatter.qc (Scatter.cc c)) ∗ Scatter.oCore (fs m) d (Scatter.cc c) (f4 m d))
    | 1 => fun c => iprop(Combine.inPts (fa m hO) (fs' m hO) (fh m hO) (fg m hO) d (Combine.qc (Combine.cc c)) ∗ Combine.oCore d (Combine.cc c) (f6 m hO d))
  dn := fun q d => match q with
    | 0 => fun c => iprop(Scatter.inPts (fx m) (fs m) d (Scatter.qc (Scatter.cc c)) ∗ Scatter.oCore (fs m) d (Scatter.cc c) (Scatter.scattered (fx m d) (fs m d) (f4 m d)))
    | 1 => fun c => iprop(Combine.inPts (fa m hO) (fs' m hO) (fh m hO) (fg m hO) d (Combine.qc (Combine.cc c))
        ∗ Combine.oCore d (Combine.cc c) (Combine.combined (fa m hO d) (fs' m hO d) (fh m hO d) (fg m hO d)))
  go := fun q d => match q with
    | 0 => fun c i => iprop(Scatter.inPts (fx m) (fs m) d (Scatter.qt (Scatter.cc c) (Scatter.ii i)) ∗ Scatter.oTile (fs m) d (Scatter.cc c) (Scatter.ii i) (f4 m d))
    | 1 => fun c i => iprop(Combine.inPts (fa m hO) (fs' m hO) (fh m hO) (fg m hO) d (Combine.qt (Combine.cc c) (Combine.ii i)) ∗ Combine.oTile d (Combine.cc c) (Combine.ii i) (f6 m hO d))
  td := fun q d => match q with
    | 0 => fun c i => iprop(Scatter.inPts (fx m) (fs m) d (Scatter.qt (Scatter.cc c) (Scatter.ii i)) ∗ Scatter.oTile (fs m) d (Scatter.cc c) (Scatter.ii i) (Scatter.scattered (fx m d) (fs m d) (f4 m d)))
    | 1 => fun c i => iprop(Combine.inPts (fa m hO) (fs' m hO) (fh m hO) (fg m hO) d (Combine.qt (Combine.cc c) (Combine.ii i))
        ∗ Combine.oTile d (Combine.cc c) (Combine.ii i) (Combine.combined (fa m hO d) (fs' m hO d) (fh m hO d) (fg m hO d)))
  x := fun _ _ => iprop(emp)

instance P_storable : (P (F := F) m hO).IsStorable where
  st q d c := match q, c with
    | 0, c => (inferInstance : BI.Storable (upEmb : UEmb _ 𝕄) iprop(Scatter.inPts (fx m) (fs m) d (Scatter.qc (Scatter.cc c)) ∗ Scatter.oCore (fs m) d (Scatter.cc c) (f4 m d)))
    | 1, c => (inferInstance : BI.Storable (upEmb : UEmb _ 𝕄) iprop(Combine.inPts (fa m hO) (fs' m hO) (fh m hO) (fg m hO) d (Combine.qc (Combine.cc c)) ∗ Combine.oCore d (Combine.cc c) (f6 m hO d)))
  dn q d c := match q, c with
    | 0, c => (inferInstance : BI.Storable (upEmb : UEmb _ 𝕄) iprop(Scatter.inPts (fx m) (fs m) d (Scatter.qc (Scatter.cc c)) ∗ Scatter.oCore (fs m) d (Scatter.cc c) (Scatter.scattered (fx m d) (fs m d) (f4 m d))))
    | 1, c => (inferInstance : BI.Storable (upEmb : UEmb _ 𝕄) iprop(Combine.inPts (fa m hO) (fs' m hO) (fh m hO) (fg m hO) d (Combine.qc (Combine.cc c))
        ∗ Combine.oCore d (Combine.cc c) (Combine.combined (fa m hO d) (fs' m hO d) (fh m hO d) (fg m hO d))))
  go q d c i := match q, c, i with
    | 0, c, i => (inferInstance : BI.Storable (upEmb : UEmb _ 𝕄) iprop(Scatter.inPts (fx m) (fs m) d (Scatter.qt (Scatter.cc c) (Scatter.ii i)) ∗ Scatter.oTile (fs m) d (Scatter.cc c) (Scatter.ii i) (f4 m d)))
    | 1, c, i => (inferInstance : BI.Storable (upEmb : UEmb _ 𝕄) iprop(Combine.inPts (fa m hO) (fs' m hO) (fh m hO) (fg m hO) d (Combine.qt (Combine.cc c) (Combine.ii i)) ∗ Combine.oTile d (Combine.cc c) (Combine.ii i) (f6 m hO d)))
  td q d c i := match q, c, i with
    | 0, c, i => (inferInstance : BI.Storable (upEmb : UEmb _ 𝕄) iprop(Scatter.inPts (fx m) (fs m) d (Scatter.qt (Scatter.cc c) (Scatter.ii i)) ∗ Scatter.oTile (fs m) d (Scatter.cc c) (Scatter.ii i) (Scatter.scattered (fx m d) (fs m d) (f4 m d))))
    | 1, c, i => (inferInstance : BI.Storable (upEmb : UEmb _ 𝕄) iprop(Combine.inPts (fa m hO) (fs' m hO) (fh m hO) (fg m hO) d (Combine.qt (Combine.cc c) (Combine.ii i))
        ∗ Combine.oTile d (Combine.cc c) (Combine.ii i) (Combine.combined (fa m hO d) (fs' m hO d) (fh m hO d) (fg m hO d))))

/-! ## The tasks -/

variable (hin : ∀ (d : Dev nD) (j : S1024.Idx), (fs m d j : BitVec 32).toNat < 5120) (hd : ∀ d, Scatter.Distinct (F := F) (fs m d))
  (hin' : ∀ (d : Dev nD) (j : S1024.Idx), (fs' m hO d j : BitVec 32).toNat < 5120)

include hin hd in
theorem tileObl0 : (K (F := F)).TileObl (D (F := F)) 𝒱 (P m hO) v₀ 0 := by
  intro d c i O W hOw _ _
  simp only [show (P m hO).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [Scatter.defs₀_vector]
  simp only [SparseCore.onTile, hci, and_self, ↓reduceDIte]
  exact (Scatter.tile_body (fx m) (fs m) (f4 m) d (Scatter.coordsV ⟨((K (F := F)).core 0 c).val, hci.1⟩ ⟨((K (F := F)).sub 0 i).val, hci.2⟩) facts hin hd O W hOw).trans
    (wp_mono frame _ _ fun _ => Combine.obl_post)

include hin' in
theorem tileObl1 : (K (F := F)).TileObl (D (F := F)) 𝒱 (P m hO) v₀ 1 := by
  intro d c i O W hOw _ _
  simp only [show (P m hO).ox = fun _ _ => 0 from rfl, add_zero]
  have hci : ((K (F := F)).core 1 c).val < grid3.bound 0 ∧ ((K (F := F)).sub 1 i).val < grid3.bound 1 := ⟨c.isLt, i.isLt⟩
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  rw [Combine.defs₀_vector]
  simp only [SparseCore.onTile, hci, and_self, ↓reduceDIte]
  exact (Combine.tile_body (fa m hO) (fs' m hO) (fh m hO) (fg m hO) (f6 m hO) d (Combine.coordsV ⟨((K (F := F)).core 1 c).val, hci.1⟩ ⟨((K (F := F)).sub 1 i).val, hci.2⟩) facts hin' O W hOw).trans
    (wp_mono frame _ _ fun _ => Combine.obl_post)

/-! ## The launch's ghost state -/

abbrev ghost (c : Dev nD) : sProp 𝕄 :=
  iprop((bigSep Finset.univ fun p : Fin 2 => cellsGhost (pin (pcfgs (F := F)) (adms m hO)) (EP (F := F)) p c)
    ∗ bigSep Finset.univ fun p : Fin 2 => toksInit (pin (pcfgs (F := F)) (adms m hO)) (EP (F := F)) p c)

def u₀ : UU := ((initOf (K (F := F)).hsCells (K (F := F)).hsToks,
  initOf (Pipeline.cells (pin (pcfgs (F := F)) (adms m hO)) (cellOf_inj (adms m hO))) (Pipeline.launchToks (pin (pcfgs (F := F)) (adms m hO)) (cellOf_inj (adms m hO)))), 1)

theorem no_res {I : Type} (s : Finset I) : (bigSep s fun _ => iprop(emp)) = (iprop(emp) : sProp 𝕄) := bigSep_emp_const s

theorem hu₀ : (ownU (u₀ m hO) : sProp 𝕄)
    ⊢ |={Set.univ}=> iprop(BI.own (EH (initOf (K (F := F)).hsCells (K (F := F)).hsToks)) ∗ (bigSep Finset.univ fun c : Dev nD => ghost m hO c)
        ∗ bigSep Finset.univ fun thr : Thread nD τ => bigSep Finset.univ fun q : Fin 2 => (P m hO).x q thr) := by
  unfold u₀
  iintro Hu
  ihave H := (ownU_pair _ (1 : Counters)) $$ Hu
  icases H with ⟨HHP, -⟩
  ihave H := (ownHP_split _ _) $$ HHP
  icases H with ⟨HH, HP⟩
  imod (Pipeline.fund_ghost (pin (pcfgs (F := F)) (adms m hO)) (EP (F := F)) (cellOf_inj (adms m hO))) $$ HP with ⟨Hc, Ht⟩
  imodintro
  isplitl [HH]; · iexact HH
  isplitl [Hc Ht]
  · rw [bigSep_sep' (Finset.univ : Finset (Dev nD))]
    isplitl [Hc]; · iexact Hc
    iexact Ht
  rw [show (bigSep Finset.univ fun thr : Thread nD τ => bigSep Finset.univ fun q : Fin 2 => (P (F := F) m hO).x q thr) = bigSep Finset.univ fun _ => iprop(emp) from
    bigSep_congr fun _ _ => no_res _, no_res]
  iempintro

/-! ## The SparseCore calls between states of the arrays -/

abbrev R4 : Finset (DevRef τ sig) := {dr main_arg0, dr main_v2, dr main_v4}
abbrev R6 : Finset (DevRef τ sig) := {dr main_v5, dr main_v2, dr main_v1_4, dr main_v1_1, dr main_v6}
theorem R4_sub : R4 ⊆ ucRefs τ sig := by decide
theorem R6_sub : R6 ⊆ ucRefs τ sig := by decide

theorem ne_of_not_mem {S R : Finset (DevRef τ sig)} {a b : DevRef τ sig} (hb : b ∈ S \ R) (ha : a ∈ R) : b ≠ a := fun e =>
  (Finset.mem_sdiff.mp hb).2 (by rw [e]; exact ha)

theorem held_R4 (d : Dev nD) (W : Valuation τ sig (Elt F)) :
    (held (T d) R4 W : sProp 𝕄) = iprop((Scatter.xLoc d ↦{fullShare} W (dr main_arg0)) ∗ (Scatter.sLoc d ↦{fullShare} W (dr main_v2)) ∗ Scatter.oLoc d ↦{fullShare} W (dr main_v4)) := by
  unfold held
  rw [SparseCore.bigSep_insert' (by decide), SparseCore.bigSep_insert' (by decide), bigSep_singleton]

theorem held_R6 (d : Dev nD) (W : Valuation τ sig (Elt F)) :
    (held (T d) R6 W : sProp 𝕄) = iprop((Combine.aLoc d ↦{fullShare} W (dr main_v5)) ∗ (Combine.sLoc d ↦{fullShare} W (dr main_v2)) ∗ (Combine.hLoc d ↦{fullShare} W (dr main_v1_4))
      ∗ (Combine.gLoc d ↦{fullShare} W (dr main_v1_1)) ∗ Combine.oLoc d ↦{fullShare} W (dr main_v6)) := by
  unfold held
  rw [SparseCore.bigSep_insert' (by decide), SparseCore.bigSep_insert' (by decide), SparseCore.bigSep_insert' (by decide), SparseCore.bigSep_insert' (by decide), bigSep_singleton]

include hd in
theorem st0 (d : Dev nD) : (bigSep Finset.univ fun c : Fin ((K (F := F)).nCore 0) => (P m hO).st 0 d c)
    = (iprop(Scatter.inPts (fx m) (fs m) d fullShare ∗ Scatter.oLoc d ↦[Scatter.allSet (F := F) (fs m d)]{fullShare} (f4 m d : Buf (Elt F) (Scatter.oLoc d))) : sProp 𝕄) :=
  Scatter.bigSep_st (fx m) (fs m) hd d (f4 m d)
include hd in
theorem dn0 (d : Dev nD) : (bigSep Finset.univ fun c : Fin ((K (F := F)).nCore 0) => (P m hO).dn 0 d c)
    = (iprop(Scatter.inPts (fx m) (fs m) d fullShare
        ∗ Scatter.oLoc d ↦[Scatter.allSet (F := F) (fs m d)]{fullShare} (Scatter.scattered (fx m d) (fs m d) (f4 m d) : Buf (Elt F) (Scatter.oLoc d))) : sProp 𝕄) :=
  Scatter.bigSep_st (fx m) (fs m) hd d (Scatter.scattered (fx m d) (fs m d) (f4 m d))
theorem st1 (d : Dev nD) : (bigSep Finset.univ fun c : Fin ((K (F := F)).nCore 1) => (P m hO).st 1 d c)
    = (iprop(Combine.inPts (fa m hO) (fs' m hO) (fh m hO) (fg m hO) d fullShare ∗ Combine.oLoc d ↦{fullShare} (f6 m hO d : Buf (Elt F) (Combine.oLoc d))) : sProp 𝕄) :=
  Combine.bigSep_st (fa m hO) (fs' m hO) (fh m hO) (fg m hO) d (f6 m hO d)
theorem dn1 (d : Dev nD) : (bigSep Finset.univ fun c : Fin ((K (F := F)).nCore 1) => (P m hO).dn 1 d c)
    = (iprop(Combine.inPts (fa m hO) (fs' m hO) (fh m hO) (fg m hO) d fullShare
        ∗ Combine.oLoc d ↦{fullShare} (Combine.combined (fa m hO d) (fs' m hO d) (fh m hO d) (fg m hO d) : Buf (Elt F) (Combine.oLoc d))) : sProp 𝕄) :=
  Combine.bigSep_st (fa m hO) (fs' m hO) (fh m hO) (fg m hO) d (Combine.combined (fa m hO d) (fs' m hO d) (fh m hO d) (fg m hO d))

include hd in
theorem run_scatter (κ : GSem nD τ sig → ℕ) (d : Dev nD) {Φ : PUnit → sProp 𝕄} :
    iprop((K (F := F)).ctx EH (P m hO) κ ∗ (K (F := F)).tcSt EH d 0 ∗ held (T d) (ucRefs τ sig) (W4 m d)
        ∗ (((K (F := F)).tcSt EH d 1 ∗ held (T d) (ucRefs τ sig) (W5 m d)) -∗ Φ ⟨⟩))
      ⊢ wp frame (wpE ((K (F := F)).defs (D (F := F))) 𝒱 (T d) none) Set.univ ((K (F := F)).run d 0) Φ := by
  rw [held_sub_split (T d) R4_sub (W4 m d), held_sub_split (T d) R4_sub (W5 m d), held_R4, held_R4,
    held_congr (T d) (S := ucRefs τ sig \ R4) (V := W5 m d) (V' := W4 m d) (fun b hb => Function.update_of_ne (ne_of_not_mem hb (by decide)) _ _),
    show W5 m d (dr main_arg0) = W4 m d (dr main_arg0) from Function.update_of_ne (by decide) _ _,
    show W5 m d (dr main_v2) = W4 m d (dr main_v2) from Function.update_of_ne (by decide) _ _,
    show W5 m d (dr main_v4) = (Scatter.scattered (fx m d) (fs m d) (f4 m d) : S5120x768.Idx → Elt F .f32) from Function.update_self _ _ _]
  iintro ⟨#Hctx, Hst, ⟨⟨Hx, Hs, Ho⟩, Hrest⟩, Hk⟩
  ihave Ho' := (Scatter.split_all (fs m) (f4 m) d) $$ Ho
  icases Ho' with ⟨Ho, Hoff⟩
  iapply ((K (F := F)).wp_run (D (F := F)) 𝒱 (EH := EH) (P := P m hO) κ d 0) $$ [Hst Hx Hs Ho Hoff Hrest Hk]
  isplitr; · iexact Hctx
  isplitl [Hst]; · iexact Hst
  isplitl [Hx Hs Ho]
  · iapply (Entails.of_eq (st0 m hO hd d).symm)
    isplitl [Hx Hs]
    · isplitl [Hx]; · iexact Hx
      iexact Hs
    iexact Ho
  iintro ⟨Hst, Hdn⟩
  ihave Hdn' := (Entails.of_eq (dn0 m hO hd d)) $$ Hdn
  icases Hdn' with ⟨⟨Hx, Hs⟩, Ho⟩
  iapply Hk
  isplitl [Hst]; · iexact Hst
  isplitr [Hrest]
  · isplitl [Hx]; · iexact Hx
    isplitl [Hs]; · iexact Hs
    iapply (Scatter.whole_scattered (fx m) (fs m) (f4 m) d)
    isplitl [Ho]; · iexact Ho
    iexact Hoff
  iexact Hrest

theorem run_combine (κ : GSem nD τ sig → ℕ) (d : Dev nD) {Φ : PUnit → sProp 𝕄} :
    iprop((K (F := F)).ctx EH (P m hO) κ ∗ (K (F := F)).tcSt EH d 1 ∗ held (T d) (ucRefs τ sig) (W6 m hO d)
        ∗ (((K (F := F)).tcSt EH d 2 ∗ held (T d) (ucRefs τ sig) (W7 m hO d)) -∗ Φ ⟨⟩))
      ⊢ wp frame (wpE ((K (F := F)).defs (D (F := F))) 𝒱 (T d) none) Set.univ ((K (F := F)).run d 1) Φ := by
  rw [held_sub_split (T d) R6_sub (W6 m hO d), held_sub_split (T d) R6_sub (W7 m hO d), held_R6, held_R6,
    held_congr (T d) (S := ucRefs τ sig \ R6) (V := W7 m hO d) (V' := W6 m hO d) (fun b hb => Function.update_of_ne (ne_of_not_mem hb (by decide)) _ _),
    show W7 m hO d (dr main_v5) = W6 m hO d (dr main_v5) from Function.update_of_ne (by decide) _ _,
    show W7 m hO d (dr main_v2) = W6 m hO d (dr main_v2) from Function.update_of_ne (by decide) _ _,
    show W7 m hO d (dr main_v1_4) = W6 m hO d (dr main_v1_4) from Function.update_of_ne (by decide) _ _,
    show W7 m hO d (dr main_v1_1) = W6 m hO d (dr main_v1_1) from Function.update_of_ne (by decide) _ _,
    show W7 m hO d (dr main_v6) = (Combine.combined (fa m hO d) (fs' m hO d) (fh m hO d) (fg m hO d) : S1024x768.Idx → Elt F .f32) from Function.update_self _ _ _]
  iintro ⟨#Hctx, Hst, ⟨⟨Ha, Hs, Hh, Hg, Ho⟩, Hrest⟩, Hk⟩
  iapply ((K (F := F)).wp_run (D (F := F)) 𝒱 (EH := EH) (P := P m hO) κ d 1) $$ [Hst Ha Hs Hh Hg Ho Hrest Hk]
  isplitr; · iexact Hctx
  isplitl [Hst]; · iexact Hst
  isplitl [Ha Hs Hh Hg Ho]
  · iapply (Entails.of_eq (st1 m hO d).symm)
    isplitl [Ha Hs Hh Hg]
    · isplitl [Ha]; · iexact Ha
      isplitl [Hs]; · iexact Hs
      isplitl [Hh]; · iexact Hh
      iexact Hg
    iexact Ho
  iintro ⟨Hst, Hdn⟩
  ihave Hdn' := (Entails.of_eq (dn1 m hO d)) $$ Hdn
  icases Hdn' with ⟨⟨Ha, Hs, Hh, Hg⟩, Ho⟩
  iapply Hk
  isplitl [Hst]; · iexact Hst
  isplitr [Hrest]
  · isplitl [Ha]; · iexact Ha
    isplitl [Hs]; · iexact Hs
    isplitl [Hh]; · iexact Hh
    isplitl [Hg]; · iexact Hg
    iexact Ho
  iexact Hrest

/-! ## The TensorCore calls -/

theorem tcSt_take (d : Dev nD) (n : ℕ) :
    ((K (F := F)).tcSt EH d n : sProp 𝕄) ⊢ iprop(owesB (F := F) n (8 * n) d ∗ (owesB (F := F) n (8 * n) d -∗ (K (F := F)).tcSt EH d n)) := by
  unfold SparseCore.Cfg.tcSt owesB
  iintro ⟨HO, Hrest⟩
  isplitl [HO]; · iexact HO
  iintro HO
  isplitl [HO]; · iexact HO
  iexact Hrest

theorem pre0 (d : Dev nD) : (seg0 m hO).pre d = iprop(unscopedBufs d (arrs (W1 m) d) ∗ owesB (F := F) 0 0 d) := rfl
theorem post0 (d : Dev nD) : (seg0 m hO).post d = iprop(unscopedBufs d (arrs (W2 m) d) ∗ owesB (F := F) 0 0 d) := rfl
theorem pre1 (d : Dev nD) : (seg1 m hO).pre d = iprop(unscopedBufs d (arrs (W5 m) d) ∗ owesB (F := F) 1 8 d) := rfl
theorem post1 (d : Dev nD) : (seg1 m hO).post d = iprop(unscopedBufs d (arrs (W6 m hO) d) ∗ owesB (F := F) 1 8 d) := rfl

theorem run_region (p : Fin 2) (R : RegionSeg (pcfgs (F := F)) (adms m hO) (dats m hO) (none : HIx 2) (defs₀ (F := F)) 𝒱₀ (K (F := F)).L (K (F := F)).lev p)
    (d : Dev nD) {Φ : PUnit → sProp 𝕄} :
    iprop(boundary (T d) ∗ R.pre d ∗ levAts (K (F := F)).L (K (F := F)).lev
        ∗ cellsGhost (pin (pcfgs (F := F)) (adms m hO)) (EP (F := F)) p d ∗ toksInit (pin (pcfgs (F := F)) (adms m hO)) (EP (F := F)) p d
        ∗ (iprop(boundary (T d) ∗ R.post d) -∗ Φ ⟨⟩))
      ⊢ wp frame (wpE ((K (F := F)).defs (D (F := F))) 𝒱 (T d) none) Set.univ (Prog.lift (.customCall (SparseCore.inner (Pipeline.entry p)) ())) Φ := by
  refine BIBase.Entails.trans ?_ ((K (F := F)).wp_liftProg (D (F := F)) 𝒱 (T d) Set.univ none (.op (.customCall (Pipeline.entry p) ()) .ret) Φ)
  refine BIBase.Entails.trans ?_ (Pipeline.RegionSeg.wp (pcfgs (F := F)) (adms m hO) (dats m hO) (none : HIx 2) (cellOf_inj (adms m hO)) (EP (F := F)) (defs₀ (F := F)) 𝒱₀ (K (F := F)).L (K (F := F)).lev
    R d none (fun u hu => by cases hu) .ret Φ)
  iintro ⟨Hb, Hp, Hl, Hc, Ht, Hk⟩
  isplitl [Hk]
  · iintro H
    rw [wp_ret]; imodintro
    iapply Hk
    iexact H
  isplitl [Hb]; · iexact Hb
  isplitl [Hp]; · iexact Hp
  isplitl [Hl]; · iexact Hl
  isplitl [Hc]; · iexact Hc
  iexact Ht

/-! ## `@main` -/

theorem two (f : Fin 2 → sProp 𝕄) : bigSep Finset.univ f = iprop(f 0 ∗ f 1) := by
  rw [show (Finset.univ : Finset (Fin 2)) = {0, 1} by decide, SparseCore.bigSep_insert' (by decide), bigSep_singleton]

theorem sub0 : (op0 (F := F)).bufs ⊆ ucRefs τ sig := show ({dr main_arg2, dr main_v0} : Finset (DevRef τ sig)) ⊆ ucRefs τ sig by decide
theorem sub2 : (op2 (F := F)).bufs ⊆ ucRefs τ sig := show ({dr main_v1_2, dr main_v2} : Finset (DevRef τ sig)) ⊆ ucRefs τ sig by decide
theorem sub3 : (op3 (F := F)).bufs ⊆ ucRefs τ sig := show ({dr main_v1_3, dr main_v3} : Finset (DevRef τ sig)) ⊆ ucRefs τ sig by decide
theorem sub7 : (op7 (F := F)).bufs ⊆ ucRefs τ sig := show ({dr main_v1_0, dr main_v7} : Finset (DevRef τ sig)) ⊆ ucRefs τ sig by decide

theorem held_of (d : Dev nD) (W : Dev nD → Valuation τ sig (Elt F)) : (unscopedBufs d (arrs W d) : sProp 𝕄) = held (T d) (ucRefs τ sig) (W d) :=
  unscopedBufs_held d (W d)

theorem held_start (d : Dev nD) : (unscopedBufs d (fun b => m ((SparseCore.T d : Thread nD τ).loc b)) : sProp 𝕄) = held (T d) (ucRefs τ sig) (W0 m d) :=
  held_of d (W0 m)

theorem ghost_two (c : Dev nD) : ghost m hO c
    = iprop((cellsGhost (pin (pcfgs (F := F)) (adms m hO)) (EP (F := F)) 0 c ∗ cellsGhost (pin (pcfgs (F := F)) (adms m hO)) (EP (F := F)) 1 c)
      ∗ toksInit (pin (pcfgs (F := F)) (adms m hO)) (EP (F := F)) 0 c ∗ toksInit (pin (pcfgs (F := F)) (adms m hO)) (EP (F := F)) 1 c) := by
  unfold ghost
  rw [two, two]

variable [∀ e, Nonempty (Elt F e)]

set_option maxHeartbeats 2000000 in
include hd in
theorem hmain (κ : GSem nD τ sig → ℕ) (d : Dev nD) :
    iprop((K (F := F)).ctx EH (P m hO) κ ∗ (K (F := F)).tcSt EH d 0 ∗ (K (F := F)).tcRes m ρ d ∗ ghost m hO d)
      ⊢ wp frame (wpE ((K (F := F)).defs (D (F := F))) 𝒱 (SparseCore.T d) none) Set.univ (main (F := F) d)
          fun _ => iprop((K (F := F)).tcSt EH d 2 ∗ held (T d) (ucRefs τ sig) (W8 m hO d) ∗ (K (F := F)).tcEnd d) := by
  unfold SparseCore.Cfg.tcRes SparseCore.Cfg.tcEnd
  rw [held_start, ghost_two]
  simp only [main, wp_bind, wp_pure]
  iintro ⟨#Hctx, Hst, ⟨Hb, Hh, Hts, -⟩, ⟨Hc0, Hc1⟩, Ht0, Ht1⟩
  ihave #Hlev := (SparseCore.Cfg.ctx_levAts κ) $$ Hctx
  -- the bias as a row
  iapply (wp_hlo_within 𝒱 (SparseCore.T d) none Set.univ (op := op0) (S := ucRefs τ sig) sub0 (V := W0 m d)) $$ [Hb Hh]
  · isplitl [Hb]; · iexact Hb
    iexact Hh
  iintro ⟨Hb, Hh⟩
  rw [wp_ret, show (op0 (F := F)).result (W0 m d) = W1 m d from rfl]; imodintro
  -- the plan
  ihave HO := (tcSt_take d 0) $$ Hst
  icases HO with ⟨HO, Hst⟩
  ihave Hu := (Entails.of_eq (held_of d (W1 m)).symm) $$ Hh
  iapply (run_region m hO 0 (seg0 m hO) d)
  rw [pre0, post0]
  isplitl [Hb]; · iexact Hb
  isplitl [Hu HO]
  · isplitl [Hu]; · iexact Hu
    iexact HO
  isplitr; · iexact Hlev
  isplitl [Hc0]; · iexact Hc0
  isplitl [Ht0]; · iexact Ht0
  iintro ⟨Hb, Hu, HO⟩
  ihave Hst := Hst $$ HO
  ihave Hh := (Entails.of_eq (held_of d (W2 m))) $$ Hu
  -- the slots and the table in their own shapes
  iapply (wp_hlo_within 𝒱 (SparseCore.T d) none Set.univ (op := op2) (S := ucRefs τ sig) sub2 (V := W2 m d)) $$ [Hb Hh]
  · isplitl [Hb]; · iexact Hb
    iexact Hh
  iintro ⟨Hb, Hh⟩
  rw [wp_ret, show (op2 (F := F)).result (W2 m d) = W3 m d from rfl]; imodintro
  iapply (wp_hlo_within 𝒱 (SparseCore.T d) none Set.univ (op := op3) (S := ucRefs τ sig) sub3 (V := W3 m d)) $$ [Hb Hh]
  · isplitl [Hb]; · iexact Hb
    iexact Hh
  iintro ⟨Hb, Hh⟩
  rw [wp_ret, show (op3 (F := F)).result (W3 m d) = W4 m d from rfl]; imodintro
  -- the scatter
  iapply (run_scatter m hO hd κ d)
  isplitr; · iexact Hctx
  isplitl [Hst]; · iexact Hst
  isplitl [Hh]; · iexact Hh
  iintro ⟨Hst, Hh⟩
  -- the experts' products
  ihave HO := (tcSt_take d 1) $$ Hst
  icases HO with ⟨HO, Hst⟩
  ihave Hu := (Entails.of_eq (held_of d (W5 m)).symm) $$ Hh
  iapply (run_region m hO 1 (seg1 m hO) d)
  rw [pre1, post1]
  isplitl [Hb]; · iexact Hb
  isplitl [Hu HO]
  · isplitl [Hu]; · iexact Hu
    iexact HO
  isplitr; · iexact Hlev
  isplitl [Hc1]; · iexact Hc1
  isplitl [Ht1]; · iexact Ht1
  iintro ⟨Hb, Hu, HO⟩
  ihave Hst := Hst $$ HO
  ihave Hh := (Entails.of_eq (held_of d (W6 m hO))) $$ Hu
  -- the combine
  iapply (run_combine m hO κ d)
  isplitr; · iexact Hctx
  isplitl [Hst]; · iexact Hst
  isplitl [Hh]; · iexact Hh
  iintro ⟨Hst, Hh⟩
  -- the loss as a scalar
  iapply (wp_hlo_within 𝒱 (SparseCore.T d) none Set.univ (op := op7) (S := ucRefs τ sig) sub7 (V := W7 m hO d)) $$ [Hb Hh]
  · isplitl [Hb]; · iexact Hb
    iexact Hh
  iintro ⟨Hb, Hh⟩
  rw [wp_ret, show (op7 (F := F)).result (W7 m hO d) = W8 m hO d from rfl]; imodintro
  imodintro
  isplitl [Hst]; · iexact Hst
  isplitl [Hh]; · iexact Hh
  isplitl [Hb] <;> iassumption

/-! ## The run -/

def fq (d : Dev nD) (s' : Phys nD τ sig (Elt F)) : Prop := ∀ b ∈ ucRefs τ sig, s'.mem.mem (d, b) = W8 m hO d b

theorem hfin (d : Dev nD) (s' : Phys nD τ sig (Elt F)) : iprop(held (T d) (ucRefs τ sig) (W8 m hO d) ∗ SI s') ⊢ (⌜fq m hO d s'⌝ : sProp 𝕄) := by
  unfold held
  iintro ⟨Ha, HSI⟩
  ihave Hr := (pointsTo_read_all (ucRefs τ sig) (fun b => ((d, b) : Loc nD τ sig)) (fun b => W8 m hO d b) s') $$ [Ha HSI]
  · isplitl [Ha] <;> iassumption
  icases Hr with ⟨%ha, -⟩
  ipureintro; exact ha

def QC : PUnit × MemSt nD τ sig (Elt F) → Prop := fun r => (∀ (c : Dev nD), ∀ b ∈ ucRefs τ sig, r.2.mem (c, b) = W8 m hO c b) ∧ r.2.sem = fun _ => 0

include hin hd hin' in
theorem run_main :
    θ_run (Cert.WholeIdeal.defs (F := F)) (Cert.WholeIdeal.threads (F := F)) ⟨m, fun _ => 0, ρ⟩ (QC m hO) :=
  SparseCore.Cfg.θ_run_sc_quiescent (K := K (F := F)) (D := D (F := F)) (𝒱 := 𝒱) (EH := EH) (P := P m hO) (A := ∅) facts v₀
    (fun q hq => match q with | 0 => nomatch hq | 1 => nomatch hq)
    (fun q _ => match q with | 0 => tileObl0 m hO hin hd | 1 => tileObl1 m hO hin')
    (fun q _ => match q with
      | 0 => SparseCore.Cfg.VecSplit.of_plain (fun d c => Scatter.deal (fx m) (fs m) (f4 m) hd d c)
      | 1 => SparseCore.Cfg.VecSplit.of_plain (fun d c => Combine.deal (fa m hO) (fs' m hO) (fh m hO) (fg m hO) (f6 m hO) d c))
    m ρ main (ghost m hO) (fun d => held (T d) (ucRefs τ sig) (W8 m hO d)) (u₀ m hO) (sep_elim_left.trans (hu₀ m hO)) (hmain m ρ hO hd) (fq m hO) (hfin m hO) (QC m hO) (fun _ h hz => ⟨h, hz⟩)

end Cert.Proof.Whole

end
-- ==== Proof.W.PlanNat.lean ====
/-
  The counting behind the plan: where each token's row goes, and which expert owns each block of rows.
-/
module

public import Mathlib.Algebra.BigOperators.Fin
public import Mathlib.Algebra.Order.BigOperators.Group.Finset
public import Mathlib.Data.Fintype.BigOperators
public import Mathlib.Tactic.Linarith

@[expose] public section

namespace Cert.Proof.Whole.Count

/-- How many tokens chose expert `e`. -/
def cnt (sel : Fin 1024 → Fin 64) (e : Fin 64) : ℕ := (Finset.univ.filter fun t => sel t = e).card
/-- How many blocks of 64 rows expert `e` needs. -/
def nb (sel : Fin 1024 → Fin 64) (e : Fin 64) : ℕ := (cnt sel e + 63) / 64
/-- The first block of expert `e`. -/
def bst (sel : Fin 1024 → Fin 64) (e : Fin 64) : ℕ := ∑ i ∈ Finset.univ.filter (fun i => i < e), nb sel i
/-- How many blocks are in use. -/
def used (sel : Fin 1024 → Fin 64) : ℕ := ∑ i, nb sel i
/-- How many tokens up to and including `t` chose the expert of `t`. -/
def upto (sel : Fin 1024 → Fin 64) (t : Fin 1024) : ℕ := (Finset.univ.filter fun t' => t' ≤ t ∧ sel t' = sel t).card
/-- The row of token `t`. -/
def slot (sel : Fin 1024 → Fin 64) (t : Fin 1024) : ℕ := 64 * bst sel (sel t) + (upto sel t - 1)
/-- How many experts start at block `j` or before it. -/
def starts (sel : Fin 1024 → Fin 64) (j : ℕ) : ℕ := (Finset.univ.filter fun e => bst sel e ≤ j).card

variable (sel : Fin 1024 → Fin 64)

theorem sum_cnt : ∑ e, cnt sel e = 1024 := by
  have h := Finset.card_eq_sum_card_fiberwise (f := sel) (s := Finset.univ) (t := Finset.univ) (fun _ _ => Finset.mem_coe.2 (Finset.mem_univ _))
  simp only [Finset.card_univ, Fintype.card_fin] at h
  exact h.symm

theorem cnt_le_nb (e : Fin 64) : cnt sel e ≤ 64 * nb sel e := by unfold nb; omega
theorem nb_le_cnt (e : Fin 64) : 64 * nb sel e ≤ cnt sel e + 63 := by unfold nb; omega

theorem used_le : used sel ≤ 79 := by
  have h : ∑ e, 64 * nb sel e ≤ ∑ e, (cnt sel e + 63) := Finset.sum_le_sum fun e _ => nb_le_cnt sel e
  rw [← Finset.mul_sum, Finset.sum_add_distrib, sum_cnt] at h
  simp only [Finset.sum_const, Finset.card_univ, Fintype.card_fin, smul_eq_mul] at h
  unfold used; omega

theorem le_used : 16 ≤ used sel := by
  have h : ∑ e, cnt sel e ≤ ∑ e, 64 * nb sel e := Finset.sum_le_sum fun e _ => cnt_le_nb sel e
  rw [← Finset.mul_sum, sum_cnt] at h
  unfold used; omega

theorem bst_step {i e : Fin 64} (h : i < e) : bst sel i + nb sel i ≤ bst sel e := by
  unfold bst
  rw [add_comm, ← Finset.sum_insert (s := Finset.univ.filter (fun k => k < i)) (a := i) (by simp)]
  refine Finset.sum_le_sum_of_subset fun k hk => ?_
  simp only [Finset.mem_insert, Finset.mem_filter, Finset.mem_univ, true_and] at hk ⊢
  rcases hk with rfl | hk
  · exact h
  · exact lt_trans hk h

theorem bst_mono {i e : Fin 64} (h : i ≤ e) : bst sel i ≤ bst sel e := by
  rcases h.eq_or_lt with rfl | h
  · exact le_refl _
  · exact le_trans (Nat.le_add_right _ _) (bst_step sel h)

theorem bst_zero : bst sel 0 = 0 := by
  unfold bst
  refine Finset.sum_eq_zero fun i hi => ?_
  simp only [Finset.mem_filter, Finset.mem_univ, true_and] at hi
  exact absurd hi (Fin.not_lt_zero i)

theorem bst_used (e : Fin 64) : bst sel e + nb sel e ≤ used sel := by
  unfold bst used
  rw [add_comm, ← Finset.sum_insert (s := Finset.univ.filter (fun k => k < e)) (a := e) (by simp)]
  exact Finset.sum_le_sum_of_subset (Finset.subset_univ _)

theorem bst_le (e : Fin 64) : bst sel e ≤ 79 := le_trans (le_trans (Nat.le_add_right _ _) (bst_used sel e)) (used_le sel)
theorem nb_le (e : Fin 64) : nb sel e ≤ 79 := le_trans (le_trans (Nat.le_add_left _ _) (bst_used sel e)) (used_le sel)

theorem upto_pos (t : Fin 1024) : 1 ≤ upto sel t :=
  Finset.card_pos.2 ⟨t, by simp⟩

theorem upto_le (t : Fin 1024) : upto sel t ≤ cnt sel (sel t) :=
  Finset.card_le_card fun t' h => by
    simp only [Finset.mem_filter, Finset.mem_univ, true_and] at h ⊢
    exact h.2

theorem upto_lt {t t' : Fin 1024} (hs : sel t = sel t') (h : t < t') : upto sel t < upto sel t' := by
  refine Finset.card_lt_card ⟨fun k hk => ?_, fun hsub => ?_⟩
  · simp only [Finset.mem_filter, Finset.mem_univ, true_and] at hk ⊢
    exact ⟨le_trans hk.1 h.le, hk.2.trans hs⟩
  · have hm : t' ∈ Finset.univ.filter (fun k => k ≤ t ∧ sel k = sel t) := hsub (by simp)
    simp only [Finset.mem_filter, Finset.mem_univ, true_and] at hm
    exact absurd hm.1 (not_le.2 h)

theorem slot_blk (t : Fin 1024) : bst sel (sel t) ≤ slot sel t / 64 ∧ slot sel t / 64 < bst sel (sel t) + nb sel (sel t) := by
  have h1 := upto_pos sel t
  have h2 := upto_le sel t
  have h3 := cnt_le_nb sel (sel t)
  unfold slot
  constructor
  · omega
  · omega

theorem slot_lt (t : Fin 1024) : slot sel t < 5120 := by
  have h1 := slot_blk sel t
  have h2 := bst_used sel (sel t)
  have h3 := used_le sel
  omega

theorem starts_slot (t : Fin 1024) : starts sel (slot sel t / 64) = (sel t : ℕ) + 1 := by
  obtain ⟨h1, h2⟩ := slot_blk sel t
  have h : (Finset.univ.filter fun e => bst sel e ≤ slot sel t / 64) = Finset.Iic (sel t) := by
    ext e
    simp only [Finset.mem_filter, Finset.mem_univ, true_and, Finset.mem_Iic]
    constructor
    · intro he
      by_contra hn
      have := bst_step sel (not_le.1 hn)
      omega
    · intro he
      exact le_trans (bst_mono sel he) h1
  unfold starts
  rw [h]
  simp

theorem starts_pos (j : ℕ) : 1 ≤ starts sel j := Finset.card_pos.2 ⟨0, by simp [bst_zero]⟩
theorem starts_le (j : ℕ) : starts sel j ≤ 64 := le_trans (Finset.card_le_univ _) (by simp)

theorem slot_inj {t t' : Fin 1024} (h : slot sel t = slot sel t') : t = t' := by
  have hs : sel t = sel t' := by
    have h1 := starts_slot sel t
    have h2 := starts_slot sel t'
    rw [h, h2] at h1
    exact Fin.ext (by omega)
  rcases lt_trichotomy t t' with hl | he | hl
  · have := upto_lt sel hs hl
    have := upto_pos sel t
    unfold slot at h; rw [hs] at h; omega
  · exact he
  · have := upto_lt sel hs.symm hl
    have := upto_pos sel t'
    unfold slot at h; rw [hs] at h; omega

end Cert.Proof.Whole.Count
-- ==== Proof.W.PlanIdeal.lean ====
/-
  The plan in exact arithmetic: the expert a token picks is the first one of the largest score, and what the planning
  call computes from the picks are the counts, the rows and the blocks of `PlanNat`.
-/
module

public import proofs.«01_k».proof.Proof.W.PlanNat
public import proofs.«01_k».proof.Proof.Gen.WholeIdeal.Skeleton
public import Idealize.ShloMosaic.Lib.Pointwise
public import Idealize.ShloMosaic.PureOps.Ideal.Laws
public import Idealize.ShloMosaic.Lib.IdealHost
public import Idealize.ShloMosaic.Lib.Routing.BitFacts

@[expose] public section

set_option maxRecDepth 16384

noncomputable section

namespace Cert.Proof.Whole.Plan

open Cert.WholeIdeal Cert.WholeIdeal.Gen Cert.Proof.Whole
open Idealize.ShloMosaic Idealize.ShloMosaic.Tactic

/-! ### Words and constants -/

theorem neg_inf : Ideal.ofBits .f32 0xFF800000#32 = (⊥ : EReal) := by
  simp [Ideal.ofBits, Ideal.ieee]

theorem c63 : Ideal.ofBits .f32 0x427C0000#32 = ((63 : ℝ) : EReal) := by
  simp [Ideal.ofBits, Ideal.ieee, -EReal.coe_mul]; norm_num

theorem c64 : Ideal.ofBits .f32 0x42800000#32 = ((64 : ℝ) : EReal) := by
  simp [Ideal.ofBits, Ideal.ieee, -EReal.coe_mul]; norm_num

theorem cinv : Ideal.ofBits .f32 0x3C800000#32 = ((1 / 64 : ℝ) : EReal) := by
  simp [Ideal.ofBits, Ideal.ieee, -EReal.coe_mul]; norm_num

theorem toInt_minsi (a b : BitVec 32) : (IntOp.minsi a b).toInt = min a.toInt b.toInt := by
  unfold IntOp.minsi
  rw [BitVec.slt_eq_decide]
  by_cases h : a.toInt < b.toInt <;> simp [h] <;> omega

theorem toInt_ofNat {n : ℕ} (h : n < 2 ^ 31) : (BitVec.ofNat 32 n).toInt = n := by
  rw [BitVec.toInt_eq_toNat_of_lt (by rw [BitVec.toNat_ofNat]; omega), BitVec.toNat_ofNat, Nat.mod_eq_of_lt (by omega)]

theorem eq_ofNat {a b : ℕ} (ha : a < 2 ^ 32) (hb : b < 2 ^ 32) : IntOp.cmpi .eq (BitVec.ofNat 32 a) (BitVec.ofNat 32 b) = BitVec.ofBool (decide (a = b)) := by
  change BitVec.ofBool (BitVec.ofNat 32 a == BitVec.ofNat 32 b) = _
  have h : (BitVec.ofNat 32 a = BitVec.ofNat 32 b) ↔ a = b := by
    rw [← BitVec.toNat_inj, BitVec.toNat_ofNat, BitVec.toNat_ofNat, Nat.mod_eq_of_lt ha, Nat.mod_eq_of_lt hb]
  by_cases hab : a = b
  · simp [hab]
  · rw [beq_eq_false_iff_ne.2 (fun hh => hab (h.1 hh)), decide_eq_false hab]

theorem slt_ofNat {a b : ℕ} (ha : a < 2 ^ 31) (hb : b < 2 ^ 31) : IntOp.cmpi .slt (BitVec.ofNat 32 a) (BitVec.ofNat 32 b) = BitVec.ofBool (decide (a < b)) := by
  change BitVec.ofBool ((BitVec.ofNat 32 a).slt (BitVec.ofNat 32 b)) = _
  rw [Routing.slt_ofNat32 ha hb]

theorem sle_ofNat {a b : ℕ} (ha : a < 2 ^ 31) (hb : b < 2 ^ 31) : IntOp.cmpi .sle (BitVec.ofNat 32 a) (BitVec.ofNat 32 b) = BitVec.ofBool (decide (a ≤ b)) := by
  change BitVec.ofBool ((BitVec.ofNat 32 a).sle (BitVec.ofNat 32 b)) = _
  rw [Routing.sle_ofNat32 ha hb]

theorem bool01 (p : Prop) [Decidable p] : (FloatOps.sitofp FTy.f32 (BitVec.setWidth 32 (BitVec.ofBool (decide p))) : Ideal .f32) = if p then (1 : EReal) else 0 := by
  by_cases h : p
  · simp only [h, decide_true, if_true]
    change (((BitVec.setWidth 32 (BitVec.ofBool true)).toInt : ℝ) : EReal) = 1
    rw [show (BitVec.setWidth 32 (BitVec.ofBool true)).toInt = 1 from by decide]; norm_num
  · simp only [h, decide_false, if_false]
    change (((BitVec.setWidth 32 (BitVec.ofBool false)).toInt : ℝ) : EReal) = 0
    rw [show (BitVec.setWidth 32 (BitVec.ofBool false)).toInt = 0 from by decide]; norm_num

theorem coe_sum {ι : Type} (u : Finset ι) (g : ι → ℝ) : ((∑ i ∈ u, g i : ℝ) : EReal) = ∑ i ∈ u, ((g i : ℝ) : EReal) := by
  classical
  induction u using Finset.induction_on with
  | empty => simp
  | insert i u hi ih => rw [Finset.sum_insert hi, Finset.sum_insert hi, EReal.coe_add, ih]

theorem fptosi_nat {n : ℕ} (h : n < 2 ^ 31) : Ideal.fptosi 32 ((n : ℝ) : EReal) = BitVec.ofNat 32 n := by
  unfold Ideal.fptosi
  change BitVec.ofInt 32 (max _ (min _ (if (0 : ℝ) ≤ (n : ℝ) then ⌊(n : ℝ)⌋ else ⌈(n : ℝ)⌉))) = _
  rw [if_pos (Nat.cast_nonneg n), Int.floor_natCast]
  rw [show max (-((2 ^ (32 - 1) : ℕ) : ℤ)) (min (((2 ^ (32 - 1) : ℕ) : ℤ) - 1) (n : ℤ)) = (n : ℤ) from by omega]
  simp

/-! ### The first lane of the largest score -/

/-- Lane `m` holds the largest score, and no lane before it does. -/
def IsFirst (s : Fin 64 → EReal) (m : Fin 64) : Prop := (∀ e, s e ≤ s m) ∧ ∀ e, e < m → s e < s m

theorem exists_first (s : Fin 64 → EReal) : ∃ m, IsFirst s m := by
  obtain ⟨e₀, -, h₀⟩ := Finset.exists_max_image Finset.univ s ⟨0, Finset.mem_univ _⟩
  have hne : (Finset.univ.filter fun e => ∀ e', s e' ≤ s e).Nonempty := ⟨e₀, by simpa using fun e' => h₀ e' (Finset.mem_univ _)⟩
  refine ⟨(Finset.univ.filter fun e => ∀ e', s e' ≤ s e).min' hne, ?_, ?_⟩
  · have := Finset.min'_mem _ hne
    simpa using this
  · intro e he
    by_contra hn
    have hm := Finset.min'_mem _ hne
    simp only [Finset.mem_filter, Finset.mem_univ, true_and] at hm
    have hmem : e ∈ Finset.univ.filter fun e => ∀ e', s e' ≤ s e := by
      simp only [Finset.mem_filter, Finset.mem_univ, true_and]
      exact fun e' => le_trans (hm e') (not_lt.1 hn)
    exact absurd (Finset.min'_le _ _ hmem) (not_le.2 he)

/-- The first lane of the largest score. -/
def first (s : Fin 64 → EReal) : Fin 64 := (exists_first s).choose
theorem first_is (s : Fin 64 → EReal) : IsFirst s (first s) := (exists_first s).choose_spec

theorem first_unique {s : Fin 64 → EReal} {m : Fin 64} (h : IsFirst s m) : first s = m := by
  rcases lt_trichotomy (first s) m with hl | he | hl
  · exact absurd ((first_is s).1 m) (not_le.2 (h.2 _ hl))
  · exact he
  · exact absurd (h.1 _) (not_le.2 ((first_is s).2 _ hl))

theorem fold_first (s : Fin 64 → EReal) :
    Finset.fold IntOp.minsi 2147483647#32 (fun e : Fin 64 => if Finset.fold max (⊥ : EReal) s Finset.univ ≤ s e then BitVec.ofNat 32 (e : ℕ) else 64#32) Finset.univ
      = BitVec.ofNat 32 (first s : ℕ) := by
  have hP : ∀ e, Finset.fold max (⊥ : EReal) s Finset.univ ≤ s e ↔ ∀ e', s e' ≤ s e := fun e => by
    rw [Finset.fold_max_le]; simp
  obtain ⟨h1, h2⟩ := first_is s
  refine BitVec.eq_of_toInt_eq ?_
  rw [← Finset.fold_hom (op := IntOp.minsi) (op' := min) (m := BitVec.toInt) toInt_minsi, toInt_ofNat (n := (first s : ℕ)) (by omega)]
  refine le_antisymm ?_ ?_
  · rw [Finset.fold_min_le]
    refine .inr ⟨first s, Finset.mem_univ _, ?_⟩
    rw [if_pos ((hP _).2 h1), toInt_ofNat (by omega)]
  · rw [Finset.le_fold_min]
    refine ⟨by rw [show (2147483647#32 : BitVec 32).toInt = 2147483647 from by decide]; omega, fun e _ => ?_⟩
    by_cases he : Finset.fold max (⊥ : EReal) s Finset.univ ≤ s e
    · rw [if_pos he, toInt_ofNat (by omega)]
      have hle : first s ≤ e := by
        by_contra hn
        exact absurd ((hP e).1 he (first s)) (not_le.2 (h2 e (not_le.1 hn)))
      exact_mod_cast hle
    · rw [if_neg he, show (64#32 : BitVec 32).toInt = 64 from by decide]; omega

/-- The scores of token `t`, and the expert it picks. -/
def score (x : Vec Ideal S1024x768 .f32) (w : Vec Ideal S64x768 .f32) (b : Vec Ideal S1x64 .f32) (t : Fin 1024) (e : Fin 64) : EReal :=
  k0_pay3 x w (ix2 t e) + b (ix2 0 e)
def sel (x : Vec Ideal S1024x768 .f32) (w : Vec Ideal S64x768 .f32) (b : Vec Ideal S1x64 .f32) (t : Fin 1024) : Fin 64 := first (score x w b t)

section
variable (x : Vec Ideal S1024x768 .f32) (w : Vec Ideal S64x768 .f32) (b : Vec Ideal S1x64 .f32) (t : Fin 1024) (e : Fin 64)

theorem pay4_apply : k0_pay4 x w b (ix2 t e) = BitVec.ofBool (decide (e = sel x w b t)) := by
  pointwise [k0_pay4]
  rw [neg_inf]
  have h := fold_first (score x w b t)
  unfold score at h
  rw [h, eq_ofNat (by omega) (by omega)]
  simp only [Fin.val_inj]
  rfl

theorem pay5_apply : k0_pay5 x w b (ix2 t e) = if e = sel x w b t then (1 : EReal) else 0 := by
  pointwise [k0_pay5]
  rw [pay4_apply, bool01]

theorem pay6_apply : k0_pay6 x w b (ix2 t e) = if e = sel x w b t then k0_pay3 x w (ix2 t e) else (0 : EReal) := by
  pointwise [k0_pay6]
  rw [pay4_apply]
  by_cases h : e = sel x w b t <;> simp [h, Scalar.select]

end

/-! ### Counts, rows, blocks -/

section
variable (s : Fin 1024 → Fin 64) (o : FVec Ideal S1024x64 .f32) (ob : IVec S1024x64 1)
  (ho : ∀ t e, o (ix2 t e) = if e = s t then (1 : EReal) else 0) (hob : ∀ t e, ob (ix2 t e) = BitVec.ofBool (decide (e = s t)))

include ho in
theorem pay8_apply (e : Fin 64) : k0_pay8 o (ix2 0 e) = ((Count.nb s e : ℝ) : EReal) := by
  pointwise [k0_pay8]
  simp only [ho]
  rw [Finset.sum_boole, c63, cinv, ← EReal.coe_natCast, ← EReal.coe_add, ← EReal.coe_mul, Ideal.liftRound_coe]
  congr 1
  rw [show (Finset.univ.filter fun t => e = s t).card = Count.cnt s e from by unfold Count.cnt; congr 1; ext t; simp [eq_comm]]
  have : ((Count.cnt s e : ℝ) + 63) * (1 / 64) = ((Count.cnt s e + 63 : ℕ) : ℝ) / ((64 : ℕ) : ℝ) := by push_cast; ring
  rw [this]
  have hf : ⌊((Count.cnt s e + 63 : ℕ) : ℝ) / ((64 : ℕ) : ℝ)⌋ = (Count.nb s e : ℤ) := by
    have h1 : 64 * Count.nb s e ≤ Count.cnt s e + 63 := by unfold Count.nb; omega
    have h2 : Count.cnt s e + 63 < 64 * (Count.nb s e + 1) := by unfold Count.nb; omega
    have h1' : (64 : ℝ) * Count.nb s e ≤ ((Count.cnt s e + 63 : ℕ) : ℝ) := by exact_mod_cast h1
    have h2' : ((Count.cnt s e + 63 : ℕ) : ℝ) < 64 * ((Count.nb s e : ℝ) + 1) := by exact_mod_cast h2
    rw [Int.floor_eq_iff]
    constructor
    · rw [le_div_iff₀ (by norm_num)]; push_cast at h1' ⊢; linarith
    · rw [div_lt_iff₀ (by norm_num)]; push_cast at h2' ⊢; linarith
  rw [hf]
  norm_cast

include ho in
theorem pay9_apply (e : Fin 64) : k0_pay9 o (ix2 0 e) = ((Count.bst s e : ℝ) : EReal) := by
  pointwise [k0_pay9]
  simp only [pay8_apply s o ho]
  have h : ∀ i : Fin 64, IntOp.cmpi CmpIPredicate.slt (BitVec.ofNat 32 (i : ℕ)) (BitVec.ofNat 32 (e : ℕ)) = BitVec.ofBool (decide (i < e)) := fun i => by
    rw [slt_ofNat (by omega) (by omega)]
    rfl
  simp only [h, bool01]
  unfold Count.bst
  rw [Nat.cast_sum, Finset.sum_filter, coe_sum]
  refine Finset.sum_congr rfl fun i _ => ?_
  by_cases hi : i < e <;> simp [hi]

include ho hob in
theorem pay10_apply (t : Fin 1024) : k0_pay10 ob o (ix2 t 0) = BitVec.ofNat 32 (Count.slot s t) := by
  pointwise [k0_pay10]
  simp only [pay9_apply s o ho, ho, hob]
  have h : ∀ i : Fin 1024, IntOp.cmpi CmpIPredicate.sle (BitVec.ofNat 32 (i : ℕ)) (BitVec.ofNat 32 (t : ℕ)) = BitVec.ofBool (decide (i ≤ t)) := fun i => by
    rw [sle_ofNat (by omega) (by omega)]
    rfl
  simp only [h, bool01]
  have hs : ∀ (g : Fin 64 → EReal), ∑ e, Scalar.select (BitVec.ofBool (decide (e = s t))) (g e) 0 = g (s t) := fun g => by
    rw [Finset.sum_eq_single (s t)]
    · simp [Scalar.select]
    · intro e _ he; simp [he, Scalar.select]
    · simp
  rw [hs, hs]
  have hu : (∑ i : Fin 1024, (if i ≤ t then (1 : EReal) else 0) * (if s t = s i then (1 : EReal) else 0)) = ((Count.upto s t : ℝ) : EReal) := by
    unfold Count.upto
    rw [← Finset.sum_boole, coe_sum]
    refine Finset.sum_congr rfl fun i _ => ?_
    by_cases h1 : i ≤ t <;> by_cases h2 : s i = s t
    · simp [h1, h2]
    · simp [h1, h2, show ¬ s t = s i from fun h => h2 h.symm]
    · simp [h1, h2]
    · simp [h1, h2]
  rw [hu, c64]
  have := Count.upto_pos s t
  rw [show ((64 : ℝ) : EReal) * ((Count.bst s (s t) : ℝ) : EReal) + (((Count.upto s t : ℝ) : EReal) - 1) = ((Count.slot s t : ℝ) : EReal) from by
    rw [show (1 : EReal) = ((1 : ℝ) : EReal) from by norm_cast, ← EReal.coe_sub, ← EReal.coe_mul, ← EReal.coe_add]
    congr 1
    unfold Count.slot
    push_cast [Nat.cast_sub this]
    ring]
  exact fptosi_nat (lt_trans (Count.slot_lt s t) (by norm_num))

end

/-- The block whose owner the table gives for grid block `g`: the block itself while it is in use, then the same place of
    the last full group of eight. -/
def jof (u g : ℕ) : ℕ := if g < u then g else g - 8 * ((g - u) / 8 + 1)

theorem jof_words : ∀ u : Fin 80, 16 ≤ (u : ℕ) → ∀ g : Fin 80,
    Scalar.select (IntOp.cmpi CmpIPredicate.slt (IntOp.subi (BitVec.ofNat 32 (g : ℕ)) (BitVec.ofNat 32 (u : ℕ))) 0#32) (BitVec.ofNat 32 (g : ℕ))
      (IntOp.subi (BitVec.ofNat 32 (g : ℕ)) (IntOp.muli 8#32 (IntOp.addi (IntOp.shrsi ArithUnit.vector (IntOp.subi (BitVec.ofNat 32 (g : ℕ)) (BitVec.ofNat 32 (u : ℕ))) 3#32) 1#32)))
    = BitVec.ofNat 32 (jof u g) := by
  decide +kernel

theorem jof_le (u g : ℕ) : jof u g ≤ g := by unfold jof; split <;> omega

theorem fold_card (P : Fin 64 → Prop) [DecidablePred P] :
    Finset.fold IntOp.addi 0#32 (fun e : Fin 64 => BitVec.setWidth 32 (BitVec.ofBool (decide (P e)))) Finset.univ = BitVec.ofNat 32 (Finset.univ.filter P).card := by
  rw [Finset.card_filter]
  have h : ∀ u : Finset (Fin 64), Finset.fold IntOp.addi 0#32 (fun e : Fin 64 => BitVec.setWidth 32 (BitVec.ofBool (decide (P e)))) u = BitVec.ofNat 32 (∑ e ∈ u, if P e then 1 else 0) := fun u => by
    induction u using Finset.induction_on with
    | empty => simp
    | insert i u hi ih =>
      rw [Finset.fold_insert hi, Finset.sum_insert hi, ih, BitVec.ofNat_add]
      by_cases hp : P i <;> simp [hp, IntOp.addi]
  exact h Finset.univ

theorem pay11_apply (s : Fin 1024 → Fin 64) (v w : FVec Ideal S1x64 .f32) (hv : ∀ e, v (ix2 0 e) = ((Count.nb s e : ℝ) : EReal))
    (hw : ∀ e, w (ix2 0 e) = ((Count.bst s e : ℝ) : EReal)) (g : Fin 80) :
    k0_pay11 v w (ix2 g 0) = BitVec.ofNat 32 (Count.starts s (jof (Count.used s) g) - 1) := by
  have h1 := Count.le_used s
  have h2 := Count.used_le s
  pointwise [k0_pay11]
  have hu : Ideal.fptosi 32 (∑ x : Fin 1, ∑ e : Fin 64, v (ix2 0 e)) = BitVec.ofNat 32 (Count.used s) := by
    rw [Fintype.sum_unique, Finset.sum_congr rfl fun e _ => hv e, ← coe_sum, ← Nat.cast_sum]
    exact fptosi_nat (by change Count.used s < _; omega)
  have hb : ∀ e, (FloatOps.fptosi 32 (w (ix2 0 e)) : BitVec 32) = BitVec.ofNat 32 (Count.bst s e) := fun e => by
    rw [hw]; exact fptosi_nat (by have := Count.bst_le s e; omega)
  have hj := jof_words ⟨Count.used s, by omega⟩ h1 g
  have hg := jof_le (Count.used s) g
  simp only [hu, hb]
  simp only at hj
  simp only [hj]
  have hc : ∀ e, IntOp.cmpi CmpIPredicate.sle (BitVec.ofNat 32 (Count.bst s e)) (BitVec.ofNat 32 (jof (Count.used s) g)) = BitVec.ofBool (decide (Count.bst s e ≤ jof (Count.used s) g)) := fun e =>
    sle_ofNat (by have := Count.bst_le s e; omega) (by omega)
  simp only [hc, fold_card]
  exact Routing.ofNat32_sub (Count.starts_pos s _)

end Cert.Proof.Whole.Plan
-- ==== Proof.W.PlanValue.lean ====
/-
  What the planning call leaves in its five results, as functions of the arrays it reads.
-/
module

public import proofs.«01_k».proof.Proof.W.PlanRegion
public import Idealize.ShloMosaic.Lib.Pipeline.ValueKit

@[expose] public section

set_option maxRecDepth 16384

noncomputable section

namespace Cert.Proof.Whole.Plan

open Cert.WholeIdeal Cert.WholeIdeal.Gen Cert.Proof.Whole
open Idealize.ShloMosaic Idealize.ShloMosaic.TcCoe Idealize.ShloMosaic.Tactic
open Idealize.SL.Sem

variable {F : FTy → Type} [FloatOps F]
variable (V : (c : Dev nD) → Arrs F c) (n b : ℕ) (c : Dev nD)

abbrev xs : Vec F S1024x768 .f32 := V c main_arg0
abbrev wg : Vec F S64x768 .f32 := V c main_arg1
abbrev bs : Vec F S1x64 .f32 := V c main_v0
abbrev wu : Vec F S256x768 .f32 := V c main_arg5
abbrev wd : Vec F S768x128 .f32 := V c main_arg6

theorem iblk0 (t : Fin cfg0.N) : iblk V c 0 t = xs V c := by
  funext y
  have e : ((cfg0.win 0).blk t).view.emb y = y := funext fun a => Fin.ext (by
    have h := Pipeline.Window.rect_emb_val_of_index_zero win0_0 t a ((by decide +kernel : ∀ (t : Fin cfg0.N) a, win0_0.index t a = 0) t a) y
    exact h)
  exact congrArg (xs V c) e
theorem iblk1 (t : Fin cfg0.N) : iblk V c 1 t = wg V c := by
  funext y
  have e : ((cfg0.win 1).blk t).view.emb y = y := funext fun a => Fin.ext (by
    have h := Pipeline.Window.rect_emb_val_of_index_zero win0_1 t a ((by decide +kernel : ∀ (t : Fin cfg0.N) a, win0_1.index t a = 0) t a) y
    exact h)
  exact congrArg (wg V c) e
theorem iblk2 (t : Fin cfg0.N) : iblk V c 2 t = bs V c := by
  funext y
  have e : ((cfg0.win 2).blk t).view.emb y = y := funext fun a => Fin.ext (by
    have h := Pipeline.Window.rect_emb_val_of_index_zero win0_2 t a ((by decide +kernel : ∀ (t : Fin cfg0.N) a, win0_2.index t a = 0) t a) y
    exact h)
  exact congrArg (bs V c) e
theorem iblk3 (t : Fin cfg0.N) : iblk V c 3 t = wu V c := by
  funext y
  have e : ((cfg0.win 3).blk t).view.emb y = y := funext fun a => Fin.ext (by
    have h := Pipeline.Window.rect_emb_val_of_index_zero win0_3 t a ((by decide +kernel : ∀ (t : Fin cfg0.N) a, win0_3.index t a = 0) t a) y
    exact h)
  exact congrArg (wu V c) e
theorem iblk4 (t : Fin cfg0.N) : iblk V c 4 t = wd V c := by
  funext y
  have e : ((cfg0.win 4).blk t).view.emb y = y := funext fun a => Fin.ext (by
    have h := Pipeline.Window.rect_emb_val_of_index_zero win0_4 t a ((by decide +kernel : ∀ (t : Fin cfg0.N) a, win0_4.index t a = 0) t a) y
    exact h)
  exact congrArg (wd V c) e

theorem out5 : (planDat V n b c).arrAt 5 cfg0.N = (k0_pay2 (xs V c) (wg V c) : S1x1.Idx → Elt F .f32) := by
  refine (planDat V n b c).arrAt_eq_of_after_last 5 ⟨0, by decide⟩ (by decide +kernel) _ fun j => ?_
  change (planDat V n b c).after 5 ⟨0, by decide⟩ j = _
  rw [after0_5, iblk0, iblk1, iblk2, iblk3, iblk4]
  unfold out0_5
  rw [View.canon_cons_unit_lit _ _ _ (by decide), View.ld_unit_lit _ _ (by decide), View.ld_unit_lit _ _ (by decide)]
  rfl

theorem out6 : (planDat V n b c).arrAt 6 cfg0.N = (k0_pay7 (k0_pay6 (xs V c) (wg V c) (bs V c)) : S1024x128.Idx → Elt F .f32) := by
  refine (planDat V n b c).arrAt_eq_of_after_last 6 ⟨0, by decide⟩ (by decide +kernel) _ fun j => ?_
  change (planDat V n b c).after 6 ⟨0, by decide⟩ j = _
  rw [after0_6, iblk0, iblk1, iblk2, iblk3, iblk4]
  unfold out0_6
  rw [View.canon_cons_unit_lit _ _ _ (by decide), View.ld_unit_lit _ _ (by decide), View.ld_unit_lit _ _ (by decide), View.ld_unit_lit _ _ (by decide)]
  rfl

theorem out7 : (planDat V n b c).arrAt 7 cfg0.N = (k0_pay10 (k0_pay4 (xs V c) (wg V c) (bs V c)) (k0_pay5 (xs V c) (wg V c) (bs V c)) : S1024x1.Idx → Elt F .i32) := by
  refine (planDat V n b c).arrAt_eq_of_after_last 7 ⟨0, by decide⟩ (by decide +kernel) _ fun j => ?_
  change (planDat V n b c).after 7 ⟨0, by decide⟩ j = _
  rw [after0_7, iblk0, iblk1, iblk2, iblk3, iblk4]
  unfold out0_7 k0_pay13
  rw [View.canon_cons_unit_lit _ _ _ (by decide), View.ld_unit_lit _ _ (by decide), View.ld_unit_lit _ _ (by decide), View.ld_unit_lit _ _ (by decide)]
  rfl

theorem out8 : (planDat V n b c).arrAt 8 cfg0.N = (k0_pay11 (k0_pay8 (k0_pay5 (xs V c) (wg V c) (bs V c))) (k0_pay9 (k0_pay5 (xs V c) (wg V c) (bs V c))) : S80x1.Idx → Elt F .i32) := by
  refine (planDat V n b c).arrAt_eq_of_after_last 8 ⟨0, by decide⟩ (by decide +kernel) _ fun j => ?_
  change (planDat V n b c).after 8 ⟨0, by decide⟩ j = _
  rw [after0_8, iblk0, iblk1, iblk2, iblk3, iblk4]
  unfold out0_8 k0_pay13
  rw [View.canon_cons_unit_lit _ _ _ (by decide), View.ld_unit_lit _ _ (by decide), View.ld_unit_lit _ _ (by decide), View.ld_unit_lit _ _ (by decide)]
  rfl

theorem out9 : (planDat V n b c).arrAt 9 cfg0.N = (k0_pay12 (xs V c) (wu V c) (wd V c) : S1024x768.Idx → Elt F .f32) := by
  refine (planDat V n b c).arrAt_eq_of_after_last 9 ⟨0, by decide⟩ (by decide +kernel) _ fun j => ?_
  change (planDat V n b c).after 9 ⟨0, by decide⟩ j = _
  rw [after0_9, iblk0, iblk1, iblk2, iblk3, iblk4]
  unfold out0_9
  rw [View.canon_cons_unit_lit _ _ _ (by decide), View.ld_unit_lit _ _ (by decide), View.ld_unit_lit _ _ (by decide), View.ld_unit_lit _ _ (by decide)]
  rfl

end Cert.Proof.Whole.Plan
-- ==== Proof.W.FfnValue.lean ====
/-
  What the expert call leaves, row by row: each block of 64 rows through the weights of the expert the table names.
-/
module

public import proofs.«01_k».proof.Proof.W.FfnRegion
public import Idealize.ShloMosaic.Lib.Pipeline.ValueKit
public import Idealize.ShloMosaic.Lib.Pointwise

@[expose] public section

set_option maxRecDepth 16384

noncomputable section

namespace Cert.Proof.Whole.Ffn

open Cert.WholeIdeal Cert.WholeIdeal.Gen Cert.Proof.Whole
open Idealize.ShloMosaic Idealize.ShloMosaic.TcCoe Idealize.ShloMosaic.Tactic
open Idealize.SL.Sem

variable {F : FTy → Type} [FloatOps F]
variable (V : (c : Dev nD) → Arrs F c) (n b : ℕ) (tb : pre2.Contents (Elt F))

/-- The table's entry for block `8 i + k`. -/
abbrev ent (i : grid2.Coords) (k : Fin 8) : ℕ := (tb 0 (ix1 ⟨8 * (i 0).val + k.val, by have := (i 0).isLt; change (i 0).val < 10 at this; omega⟩) : BitVec 32).toNat

def wat (n : ℕ) (k : BitVec 32) : ℕ := (Scalar.indexCast (Scalar.addi (Scalar.muli 8#32 (BitVec.ofNat 32 n)) k) : Index).toNat

theorem wat_eq : ∀ (n : Fin 10) (k : Fin 8), wat n (BitVec.ofNat 32 k) = 8 * n.val + k.val := by decide +kernel

theorem at_ent (i : grid2.Coords) (k : Fin 8) (h) :
    (tb.at 0 (Rect.unit (s := S80) ![wat (i 0).val (BitVec.ofNat 32 k.val)] S1.size h) numel1_S1 : BitVec 32).toNat = ent tb i k := by
  unfold ent
  refine congrArg (fun j => (tb 0 j : BitVec 32).toNat) (funext fun (a : Fin 1) => Fin.ext ?_)
  obtain rfl : a = 0 := Subsingleton.elim _ _
  have h1 := (i 0).isLt
  have h2 := wat_eq ⟨(i 0).val, h1⟩ k
  change wat (i 0).val (BitVec.ofNat 32 k.val) + _ = 8 * (i 0).val + k.val
  rw [← h2]
  rfl

theorem tr1 (i : grid2.Coords) : cc2_transform_1 k2_off1_inb numel1_S1 tb i = ![ent tb i 0, 0, 0] :=
  congrArg (fun x => (![x, 0, 0] : Fin 3 → Nat)) (at_ent tb i 0 (k2_off1_inb i 0))
theorem tr2 (i : grid2.Coords) : cc2_transform_2 k2_off1_inb numel1_S1 tb i = ![ent tb i 0, 1, 0] :=
  congrArg (fun x => (![x, 1, 0] : Fin 3 → Nat)) (at_ent tb i 0 (k2_off1_inb i 0))
theorem tr3 (i : grid2.Coords) : cc2_transform_3 k2_off1_inb numel1_S1 tb i = ![ent tb i 0, 0, 0] :=
  congrArg (fun x => (![x, 0, 0] : Fin 3 → Nat)) (at_ent tb i 0 (k2_off1_inb i 0))
theorem tr4 (i : grid2.Coords) : cc2_transform_4 k2_off1_inb numel1_S1 tb i = ![ent tb i 0, 1, 0] :=
  congrArg (fun x => (![x, 1, 0] : Fin 3 → Nat)) (at_ent tb i 0 (k2_off1_inb i 0))
theorem tr5 (i : grid2.Coords) : cc2_transform_5 k2_off1_inb numel1_S1 tb i = ![ent tb i 1, 0, 0] :=
  congrArg (fun x => (![x, 0, 0] : Fin 3 → Nat)) (at_ent tb i 1 (k2_off1_inb i 1))
theorem tr6 (i : grid2.Coords) : cc2_transform_6 k2_off1_inb numel1_S1 tb i = ![ent tb i 1, 1, 0] :=
  congrArg (fun x => (![x, 1, 0] : Fin 3 → Nat)) (at_ent tb i 1 (k2_off1_inb i 1))
theorem tr7 (i : grid2.Coords) : cc2_transform_7 k2_off1_inb numel1_S1 tb i = ![ent tb i 1, 0, 0] :=
  congrArg (fun x => (![x, 0, 0] : Fin 3 → Nat)) (at_ent tb i 1 (k2_off1_inb i 1))
theorem tr8 (i : grid2.Coords) : cc2_transform_8 k2_off1_inb numel1_S1 tb i = ![ent tb i 1, 1, 0] :=
  congrArg (fun x => (![x, 1, 0] : Fin 3 → Nat)) (at_ent tb i 1 (k2_off1_inb i 1))
theorem tr9 (i : grid2.Coords) : cc2_transform_9 k2_off1_inb numel1_S1 tb i = ![ent tb i 2, 0, 0] :=
  congrArg (fun x => (![x, 0, 0] : Fin 3 → Nat)) (at_ent tb i 2 (k2_off1_inb i 2))
theorem tr10 (i : grid2.Coords) : cc2_transform_10 k2_off1_inb numel1_S1 tb i = ![ent tb i 2, 1, 0] :=
  congrArg (fun x => (![x, 1, 0] : Fin 3 → Nat)) (at_ent tb i 2 (k2_off1_inb i 2))
theorem tr11 (i : grid2.Coords) : cc2_transform_11 k2_off1_inb numel1_S1 tb i = ![ent tb i 2, 0, 0] :=
  congrArg (fun x => (![x, 0, 0] : Fin 3 → Nat)) (at_ent tb i 2 (k2_off1_inb i 2))
theorem tr12 (i : grid2.Coords) : cc2_transform_12 k2_off1_inb numel1_S1 tb i = ![ent tb i 2, 1, 0] :=
  congrArg (fun x => (![x, 1, 0] : Fin 3 → Nat)) (at_ent tb i 2 (k2_off1_inb i 2))
theorem tr13 (i : grid2.Coords) : cc2_transform_13 k2_off1_inb numel1_S1 tb i = ![ent tb i 3, 0, 0] :=
  congrArg (fun x => (![x, 0, 0] : Fin 3 → Nat)) (at_ent tb i 3 (k2_off1_inb i 3))
theorem tr14 (i : grid2.Coords) : cc2_transform_14 k2_off1_inb numel1_S1 tb i = ![ent tb i 3, 1, 0] :=
  congrArg (fun x => (![x, 1, 0] : Fin 3 → Nat)) (at_ent tb i 3 (k2_off1_inb i 3))
theorem tr15 (i : grid2.Coords) : cc2_transform_15 k2_off1_inb numel1_S1 tb i = ![ent tb i 3, 0, 0] :=
  congrArg (fun x => (![x, 0, 0] : Fin 3 → Nat)) (at_ent tb i 3 (k2_off1_inb i 3))
theorem tr16 (i : grid2.Coords) : cc2_transform_16 k2_off1_inb numel1_S1 tb i = ![ent tb i 3, 1, 0] :=
  congrArg (fun x => (![x, 1, 0] : Fin 3 → Nat)) (at_ent tb i 3 (k2_off1_inb i 3))
theorem tr17 (i : grid2.Coords) : cc2_transform_17 k2_off1_inb numel1_S1 tb i = ![ent tb i 4, 0, 0] :=
  congrArg (fun x => (![x, 0, 0] : Fin 3 → Nat)) (at_ent tb i 4 (k2_off1_inb i 4))
theorem tr18 (i : grid2.Coords) : cc2_transform_18 k2_off1_inb numel1_S1 tb i = ![ent tb i 4, 1, 0] :=
  congrArg (fun x => (![x, 1, 0] : Fin 3 → Nat)) (at_ent tb i 4 (k2_off1_inb i 4))
theorem tr19 (i : grid2.Coords) : cc2_transform_19 k2_off1_inb numel1_S1 tb i = ![ent tb i 4, 0, 0] :=
  congrArg (fun x => (![x, 0, 0] : Fin 3 → Nat)) (at_ent tb i 4 (k2_off1_inb i 4))
theorem tr20 (i : grid2.Coords) : cc2_transform_20 k2_off1_inb numel1_S1 tb i = ![ent tb i 4, 1, 0] :=
  congrArg (fun x => (![x, 1, 0] : Fin 3 → Nat)) (at_ent tb i 4 (k2_off1_inb i 4))
theorem tr21 (i : grid2.Coords) : cc2_transform_21 k2_off1_inb numel1_S1 tb i = ![ent tb i 5, 0, 0] :=
  congrArg (fun x => (![x, 0, 0] : Fin 3 → Nat)) (at_ent tb i 5 (k2_off1_inb i 5))
theorem tr22 (i : grid2.Coords) : cc2_transform_22 k2_off1_inb numel1_S1 tb i = ![ent tb i 5, 1, 0] :=
  congrArg (fun x => (![x, 1, 0] : Fin 3 → Nat)) (at_ent tb i 5 (k2_off1_inb i 5))
theorem tr23 (i : grid2.Coords) : cc2_transform_23 k2_off1_inb numel1_S1 tb i = ![ent tb i 5, 0, 0] :=
  congrArg (fun x => (![x, 0, 0] : Fin 3 → Nat)) (at_ent tb i 5 (k2_off1_inb i 5))
theorem tr24 (i : grid2.Coords) : cc2_transform_24 k2_off1_inb numel1_S1 tb i = ![ent tb i 5, 1, 0] :=
  congrArg (fun x => (![x, 1, 0] : Fin 3 → Nat)) (at_ent tb i 5 (k2_off1_inb i 5))
theorem tr25 (i : grid2.Coords) : cc2_transform_25 k2_off1_inb numel1_S1 tb i = ![ent tb i 6, 0, 0] :=
  congrArg (fun x => (![x, 0, 0] : Fin 3 → Nat)) (at_ent tb i 6 (k2_off1_inb i 6))
theorem tr26 (i : grid2.Coords) : cc2_transform_26 k2_off1_inb numel1_S1 tb i = ![ent tb i 6, 1, 0] :=
  congrArg (fun x => (![x, 1, 0] : Fin 3 → Nat)) (at_ent tb i 6 (k2_off1_inb i 6))
theorem tr27 (i : grid2.Coords) : cc2_transform_27 k2_off1_inb numel1_S1 tb i = ![ent tb i 6, 0, 0] :=
  congrArg (fun x => (![x, 0, 0] : Fin 3 → Nat)) (at_ent tb i 6 (k2_off1_inb i 6))
theorem tr28 (i : grid2.Coords) : cc2_transform_28 k2_off1_inb numel1_S1 tb i = ![ent tb i 6, 1, 0] :=
  congrArg (fun x => (![x, 1, 0] : Fin 3 → Nat)) (at_ent tb i 6 (k2_off1_inb i 6))
theorem tr29 (i : grid2.Coords) : cc2_transform_29 k2_off1_inb numel1_S1 tb i = ![ent tb i 7, 0, 0] :=
  congrArg (fun x => (![x, 0, 0] : Fin 3 → Nat)) (at_ent tb i 7 (k2_off1_inb i 7))
theorem tr30 (i : grid2.Coords) : cc2_transform_30 k2_off1_inb numel1_S1 tb i = ![ent tb i 7, 1, 0] :=
  congrArg (fun x => (![x, 1, 0] : Fin 3 → Nat)) (at_ent tb i 7 (k2_off1_inb i 7))
theorem tr31 (i : grid2.Coords) : cc2_transform_31 k2_off1_inb numel1_S1 tb i = ![ent tb i 7, 0, 0] :=
  congrArg (fun x => (![x, 0, 0] : Fin 3 → Nat)) (at_ent tb i 7 (k2_off1_inb i 7))
theorem tr32 (i : grid2.Coords) : cc2_transform_32 k2_off1_inb numel1_S1 tb i = ![ent tb i 7, 1, 0] :=
  congrArg (fun x => (![x, 1, 0] : Fin 3 → Nat)) (at_ent tb i 7 (k2_off1_inb i 7))

theorem ok_of (h : ∀ i k, ent tb i k < 64) : Ok tb := by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> intro i
  · refine ⟨fun a => ?_, Or.inl rfl⟩
    rw [tr1]
    have := h i 0
    match a with
    | 0 => change (ent tb i 0 + 1) * 1 ≤ 64; omega
    | 1 => change (0 + 1) * 128 ≤ _; decide
    | 2 => change (0 + 1) * 768 ≤ _; decide
  · refine ⟨fun a => ?_, Or.inl rfl⟩
    rw [tr2]
    have := h i 0
    match a with
    | 0 => change (ent tb i 0 + 1) * 1 ≤ 64; omega
    | 1 => change (1 + 1) * 128 ≤ _; decide
    | 2 => change (0 + 1) * 768 ≤ _; decide
  · refine ⟨fun a => ?_, Or.inl rfl⟩
    rw [tr3]
    have := h i 0
    match a with
    | 0 => change (ent tb i 0 + 1) * 1 ≤ 64; omega
    | 1 => change (0 + 1) * 384 ≤ _; decide
    | 2 => change (0 + 1) * 128 ≤ _; decide
  · refine ⟨fun a => ?_, Or.inl rfl⟩
    rw [tr4]
    have := h i 0
    match a with
    | 0 => change (ent tb i 0 + 1) * 1 ≤ 64; omega
    | 1 => change (1 + 1) * 384 ≤ _; decide
    | 2 => change (0 + 1) * 128 ≤ _; decide
  · refine ⟨fun a => ?_, Or.inl rfl⟩
    rw [tr5]
    have := h i 1
    match a with
    | 0 => change (ent tb i 1 + 1) * 1 ≤ 64; omega
    | 1 => change (0 + 1) * 128 ≤ _; decide
    | 2 => change (0 + 1) * 768 ≤ _; decide
  · refine ⟨fun a => ?_, Or.inl rfl⟩
    rw [tr6]
    have := h i 1
    match a with
    | 0 => change (ent tb i 1 + 1) * 1 ≤ 64; omega
    | 1 => change (1 + 1) * 128 ≤ _; decide
    | 2 => change (0 + 1) * 768 ≤ _; decide
  · refine ⟨fun a => ?_, Or.inl rfl⟩
    rw [tr7]
    have := h i 1
    match a with
    | 0 => change (ent tb i 1 + 1) * 1 ≤ 64; omega
    | 1 => change (0 + 1) * 384 ≤ _; decide
    | 2 => change (0 + 1) * 128 ≤ _; decide
  · refine ⟨fun a => ?_, Or.inl rfl⟩
    rw [tr8]
    have := h i 1
    match a with
    | 0 => change (ent tb i 1 + 1) * 1 ≤ 64; omega
    | 1 => change (1 + 1) * 384 ≤ _; decide
    | 2 => change (0 + 1) * 128 ≤ _; decide
  · refine ⟨fun a => ?_, Or.inl rfl⟩
    rw [tr9]
    have := h i 2
    match a with
    | 0 => change (ent tb i 2 + 1) * 1 ≤ 64; omega
    | 1 => change (0 + 1) * 128 ≤ _; decide
    | 2 => change (0 + 1) * 768 ≤ _; decide
  · refine ⟨fun a => ?_, Or.inl rfl⟩
    rw [tr10]
    have := h i 2
    match a with
    | 0 => change (ent tb i 2 + 1) * 1 ≤ 64; omega
    | 1 => change (1 + 1) * 128 ≤ _; decide
    | 2 => change (0 + 1) * 768 ≤ _; decide
  · refine ⟨fun a => ?_, Or.inl rfl⟩
    rw [tr11]
    have := h i 2
    match a with
    | 0 => change (ent tb i 2 + 1) * 1 ≤ 64; omega
    | 1 => change (0 + 1) * 384 ≤ _; decide
    | 2 => change (0 + 1) * 128 ≤ _; decide
  · refine ⟨fun a => ?_, Or.inl rfl⟩
    rw [tr12]
    have := h i 2
    match a with
    | 0 => change (ent tb i 2 + 1) * 1 ≤ 64; omega
    | 1 => change (1 + 1) * 384 ≤ _; decide
    | 2 => change (0 + 1) * 128 ≤ _; decide
  · refine ⟨fun a => ?_, Or.inl rfl⟩
    rw [tr13]
    have := h i 3
    match a with
    | 0 => change (ent tb i 3 + 1) * 1 ≤ 64; omega
    | 1 => change (0 + 1) * 128 ≤ _; decide
    | 2 => change (0 + 1) * 768 ≤ _; decide
  · refine ⟨fun a => ?_, Or.inl rfl⟩
    rw [tr14]
    have := h i 3
    match a with
    | 0 => change (ent tb i 3 + 1) * 1 ≤ 64; omega
    | 1 => change (1 + 1) * 128 ≤ _; decide
    | 2 => change (0 + 1) * 768 ≤ _; decide
  · refine ⟨fun a => ?_, Or.inl rfl⟩
    rw [tr15]
    have := h i 3
    match a with
    | 0 => change (ent tb i 3 + 1) * 1 ≤ 64; omega
    | 1 => change (0 + 1) * 384 ≤ _; decide
    | 2 => change (0 + 1) * 128 ≤ _; decide
  · refine ⟨fun a => ?_, Or.inl rfl⟩
    rw [tr16]
    have := h i 3
    match a with
    | 0 => change (ent tb i 3 + 1) * 1 ≤ 64; omega
    | 1 => change (1 + 1) * 384 ≤ _; decide
    | 2 => change (0 + 1) * 128 ≤ _; decide
  · refine ⟨fun a => ?_, Or.inl rfl⟩
    rw [tr17]
    have := h i 4
    match a with
    | 0 => change (ent tb i 4 + 1) * 1 ≤ 64; omega
    | 1 => change (0 + 1) * 128 ≤ _; decide
    | 2 => change (0 + 1) * 768 ≤ _; decide
  · refine ⟨fun a => ?_, Or.inl rfl⟩
    rw [tr18]
    have := h i 4
    match a with
    | 0 => change (ent tb i 4 + 1) * 1 ≤ 64; omega
    | 1 => change (1 + 1) * 128 ≤ _; decide
    | 2 => change (0 + 1) * 768 ≤ _; decide
  · refine ⟨fun a => ?_, Or.inl rfl⟩
    rw [tr19]
    have := h i 4
    match a with
    | 0 => change (ent tb i 4 + 1) * 1 ≤ 64; omega
    | 1 => change (0 + 1) * 384 ≤ _; decide
    | 2 => change (0 + 1) * 128 ≤ _; decide
  · refine ⟨fun a => ?_, Or.inl rfl⟩
    rw [tr20]
    have := h i 4
    match a with
    | 0 => change (ent tb i 4 + 1) * 1 ≤ 64; omega
    | 1 => change (1 + 1) * 384 ≤ _; decide
    | 2 => change (0 + 1) * 128 ≤ _; decide
  · refine ⟨fun a => ?_, Or.inl rfl⟩
    rw [tr21]
    have := h i 5
    match a with
    | 0 => change (ent tb i 5 + 1) * 1 ≤ 64; omega
    | 1 => change (0 + 1) * 128 ≤ _; decide
    | 2 => change (0 + 1) * 768 ≤ _; decide
  · refine ⟨fun a => ?_, Or.inl rfl⟩
    rw [tr22]
    have := h i 5
    match a with
    | 0 => change (ent tb i 5 + 1) * 1 ≤ 64; omega
    | 1 => change (1 + 1) * 128 ≤ _; decide
    | 2 => change (0 + 1) * 768 ≤ _; decide
  · refine ⟨fun a => ?_, Or.inl rfl⟩
    rw [tr23]
    have := h i 5
    match a with
    | 0 => change (ent tb i 5 + 1) * 1 ≤ 64; omega
    | 1 => change (0 + 1) * 384 ≤ _; decide
    | 2 => change (0 + 1) * 128 ≤ _; decide
  · refine ⟨fun a => ?_, Or.inl rfl⟩
    rw [tr24]
    have := h i 5
    match a with
    | 0 => change (ent tb i 5 + 1) * 1 ≤ 64; omega
    | 1 => change (1 + 1) * 384 ≤ _; decide
    | 2 => change (0 + 1) * 128 ≤ _; decide
  · refine ⟨fun a => ?_, Or.inl rfl⟩
    rw [tr25]
    have := h i 6
    match a with
    | 0 => change (ent tb i 6 + 1) * 1 ≤ 64; omega
    | 1 => change (0 + 1) * 128 ≤ _; decide
    | 2 => change (0 + 1) * 768 ≤ _; decide
  · refine ⟨fun a => ?_, Or.inl rfl⟩
    rw [tr26]
    have := h i 6
    match a with
    | 0 => change (ent tb i 6 + 1) * 1 ≤ 64; omega
    | 1 => change (1 + 1) * 128 ≤ _; decide
    | 2 => change (0 + 1) * 768 ≤ _; decide
  · refine ⟨fun a => ?_, Or.inl rfl⟩
    rw [tr27]
    have := h i 6
    match a with
    | 0 => change (ent tb i 6 + 1) * 1 ≤ 64; omega
    | 1 => change (0 + 1) * 384 ≤ _; decide
    | 2 => change (0 + 1) * 128 ≤ _; decide
  · refine ⟨fun a => ?_, Or.inl rfl⟩
    rw [tr28]
    have := h i 6
    match a with
    | 0 => change (ent tb i 6 + 1) * 1 ≤ 64; omega
    | 1 => change (1 + 1) * 384 ≤ _; decide
    | 2 => change (0 + 1) * 128 ≤ _; decide
  · refine ⟨fun a => ?_, Or.inl rfl⟩
    rw [tr29]
    have := h i 7
    match a with
    | 0 => change (ent tb i 7 + 1) * 1 ≤ 64; omega
    | 1 => change (0 + 1) * 128 ≤ _; decide
    | 2 => change (0 + 1) * 768 ≤ _; decide
  · refine ⟨fun a => ?_, Or.inl rfl⟩
    rw [tr30]
    have := h i 7
    match a with
    | 0 => change (ent tb i 7 + 1) * 1 ≤ 64; omega
    | 1 => change (1 + 1) * 128 ≤ _; decide
    | 2 => change (0 + 1) * 768 ≤ _; decide
  · refine ⟨fun a => ?_, Or.inl rfl⟩
    rw [tr31]
    have := h i 7
    match a with
    | 0 => change (ent tb i 7 + 1) * 1 ≤ 64; omega
    | 1 => change (0 + 1) * 384 ≤ _; decide
    | 2 => change (0 + 1) * 128 ≤ _; decide
  · refine ⟨fun a => ?_, Or.inl rfl⟩
    rw [tr32]
    have := h i 7
    match a with
    | 0 => change (ent tb i 7 + 1) * 1 ≤ 64; omega
    | 1 => change (1 + 1) * 384 ≤ _; decide
    | 2 => change (0 + 1) * 128 ≤ _; decide

/-! ### One block, in exact arithmetic -/

abbrev V5 := S5120x768.Idx → Ideal .f32
abbrev V3 := S64x256x768.Idx → Ideal .f32
abbrev V4 := S64x768x128.Idx → Ideal .f32

/-- One row through one gated feed-forward layer: gate and up projections, the gate's `x / (1 + e^(-x))`, the product,
    the down projection. -/
def layer (x : Fin 768 → EReal) (g u : Fin 128 → Fin 768 → EReal) (d : Fin 128 → EReal) : EReal :=
  ∑ f : Fin 128, (∑ i, x i * g f i) * Ideal.logistic (∑ i, x i * g f i) * (∑ i, x i * u f i) * d f

theorem subOut_apply (x0 : Vec Ideal S512x768 .f32) (k : Fin 8) (h : S512x768.Slices ![64 * k.val, 0] S64x768) (wa wb : Vec Ideal S1x128x768 .f32) (wd : Vec Ideal S1x384x128 .f32)
    (r : Fin 64) (c : Fin 384) :
    subOut x0 ![64 * k.val, 0] h wa wb wd (Idealize.ShloMosaic.ix2 r c)
      = layer (fun i => x0 (Idealize.ShloMosaic.ix2 ⟨64 * k.val + r.val, by omega⟩ i)) (fun f i => wa (ix3 0 f i)) (fun f i => wb (ix3 0 f i)) (fun f => wd (ix3 0 c f)) := by
  unfold layer
  pointwise [subOut]

end Cert.Proof.Whole.Ffn
-- ==== Proof.W.FfnArr.lean ====
/-
  The array the expert call leaves: every row the token layer of the expert its block of 64 rows is for.
-/
module

public import proofs.«01_k».proof.Proof.W.FfnValue
public import Idealize.ShloMosaic.Lib.Pipeline.Covers

@[expose] public section

set_option maxRecDepth 16384

noncomputable section

namespace Cert.Proof.Whole.Ffn

open Cert.WholeIdeal Cert.WholeIdeal.Gen Cert.Proof.Whole
open Idealize.ShloMosaic Idealize.ShloMosaic.TcCoe Idealize.ShloMosaic.Tactic
open Idealize.SL.Sem

section Blocks

variable {F : FTy → Type} [FloatOps F]
variable (V : (c : Dev nD) → Arrs F c) (tb : pre2.Contents (Elt F)) (hO : Ok tb) (c : Dev nD) (t : Fin (cfgM tb hO).N)

/-- The grid point's number. -/
abbrev pt : ℕ := (((cfgM tb hO).grid.coords t : grid2.Coords) 0).val

theorem pt_lt : pt tb hO t < 10 := ((cfgM tb hO).grid.coords t 0).isLt

theorem iblk_0 (y : S512x768.Idx) (z : S5120x768.Idx) (h0 : (z 0).val = pt tb hO t * 512 + (y 0).val) (h1 : (z 1).val = 0 * 768 + (y 1).val) :
    iblk V tb hO c 0 t y = (V c main_v4 : S5120x768.Idx → Elt F .f32) z := by
  have e : (((cfgM tb hO).win 0).blk t).view.emb y = z := funext fun (a : Fin 2) => Fin.ext (by
    have h := ((cfgM tb hO).win 0).rect_emb_val t y a
    refine h.trans ?_
    match a with
    | 0 =>
      change (BitVec.ofNat 32 (pt tb hO t)).toNat * 512 + _ = _
      have hp : pt tb hO t < 10 := pt_lt tb hO t
      rw [BitVec.toNat_ofNat, Nat.mod_eq_of_lt (by omega), h0]
    | 1 => exact h1.symm)
  exact congrArg (V c main_v4 : S5120x768.Idx → Elt F .f32) e

theorem iblk_1 (y : S1x128x768.Idx) (z : S64x256x768.Idx) (h0 : (z 0).val = ent tb ((cfgM tb hO).grid.coords t) 0 * 1 + (y 0).val) (h1 : (z 1).val = 0 * 128 + (y 1).val) (h2 : (z 2).val = 0 * 768 + (y 2).val) :
    iblk V tb hO c 1 t y = (V c main_arg3 : S64x256x768.Idx → Elt F .f32) z := by
  have e : (((cfgM tb hO).win 1).blk t).view.emb y = z := funext fun (a : Fin 3) => Fin.ext (by
    refine (((cfgM tb hO).win 1).rect_emb_val t y a).trans ?_
    change cc2_transform_1 k2_off1_inb numel1_S1 tb _ a * _ + _ = _
    rw [tr1]
    match a with
    | 0 => exact h0.symm
    | 1 => exact h1.symm
    | 2 => exact h2.symm)
  exact congrArg (V c main_arg3 : S64x256x768.Idx → Elt F .f32) e

theorem iblk_2 (y : S1x128x768.Idx) (z : S64x256x768.Idx) (h0 : (z 0).val = ent tb ((cfgM tb hO).grid.coords t) 0 * 1 + (y 0).val) (h1 : (z 1).val = 1 * 128 + (y 1).val) (h2 : (z 2).val = 0 * 768 + (y 2).val) :
    iblk V tb hO c 2 t y = (V c main_arg3 : S64x256x768.Idx → Elt F .f32) z := by
  have e : (((cfgM tb hO).win 2).blk t).view.emb y = z := funext fun (a : Fin 3) => Fin.ext (by
    refine (((cfgM tb hO).win 2).rect_emb_val t y a).trans ?_
    change cc2_transform_2 k2_off1_inb numel1_S1 tb _ a * _ + _ = _
    rw [tr2]
    match a with
    | 0 => exact h0.symm
    | 1 => exact h1.symm
    | 2 => exact h2.symm)
  exact congrArg (V c main_arg3 : S64x256x768.Idx → Elt F .f32) e

theorem iblk_3 (y : S1x384x128.Idx) (z : S64x768x128.Idx) (h0 : (z 0).val = ent tb ((cfgM tb hO).grid.coords t) 0 * 1 + (y 0).val) (h1 : (z 1).val = 0 * 384 + (y 1).val) (h2 : (z 2).val = 0 * 128 + (y 2).val) :
    iblk V tb hO c 3 t y = (V c main_arg4 : S64x768x128.Idx → Elt F .f32) z := by
  have e : (((cfgM tb hO).win 3).blk t).view.emb y = z := funext fun (a : Fin 3) => Fin.ext (by
    refine (((cfgM tb hO).win 3).rect_emb_val t y a).trans ?_
    change cc2_transform_3 k2_off1_inb numel1_S1 tb _ a * _ + _ = _
    rw [tr3]
    match a with
    | 0 => exact h0.symm
    | 1 => exact h1.symm
    | 2 => exact h2.symm)
  exact congrArg (V c main_arg4 : S64x768x128.Idx → Elt F .f32) e

theorem iblk_4 (y : S1x384x128.Idx) (z : S64x768x128.Idx) (h0 : (z 0).val = ent tb ((cfgM tb hO).grid.coords t) 0 * 1 + (y 0).val) (h1 : (z 1).val = 1 * 384 + (y 1).val) (h2 : (z 2).val = 0 * 128 + (y 2).val) :
    iblk V tb hO c 4 t y = (V c main_arg4 : S64x768x128.Idx → Elt F .f32) z := by
  have e : (((cfgM tb hO).win 4).blk t).view.emb y = z := funext fun (a : Fin 3) => Fin.ext (by
    refine (((cfgM tb hO).win 4).rect_emb_val t y a).trans ?_
    change cc2_transform_4 k2_off1_inb numel1_S1 tb _ a * _ + _ = _
    rw [tr4]
    match a with
    | 0 => exact h0.symm
    | 1 => exact h1.symm
    | 2 => exact h2.symm)
  exact congrArg (V c main_arg4 : S64x768x128.Idx → Elt F .f32) e

theorem iblk_5 (y : S1x128x768.Idx) (z : S64x256x768.Idx) (h0 : (z 0).val = ent tb ((cfgM tb hO).grid.coords t) 1 * 1 + (y 0).val) (h1 : (z 1).val = 0 * 128 + (y 1).val) (h2 : (z 2).val = 0 * 768 + (y 2).val) :
    iblk V tb hO c 5 t y = (V c main_arg3 : S64x256x768.Idx → Elt F .f32) z := by
  have e : (((cfgM tb hO).win 5).blk t).view.emb y = z := funext fun (a : Fin 3) => Fin.ext (by
    refine (((cfgM tb hO).win 5).rect_emb_val t y a).trans ?_
    change cc2_transform_5 k2_off1_inb numel1_S1 tb _ a * _ + _ = _
    rw [tr5]
    match a with
    | 0 => exact h0.symm
    | 1 => exact h1.symm
    | 2 => exact h2.symm)
  exact congrArg (V c main_arg3 : S64x256x768.Idx → Elt F .f32) e

theorem iblk_6 (y : S1x128x768.Idx) (z : S64x256x768.Idx) (h0 : (z 0).val = ent tb ((cfgM tb hO).grid.coords t) 1 * 1 + (y 0).val) (h1 : (z 1).val = 1 * 128 + (y 1).val) (h2 : (z 2).val = 0 * 768 + (y 2).val) :
    iblk V tb hO c 6 t y = (V c main_arg3 : S64x256x768.Idx → Elt F .f32) z := by
  have e : (((cfgM tb hO).win 6).blk t).view.emb y = z := funext fun (a : Fin 3) => Fin.ext (by
    refine (((cfgM tb hO).win 6).rect_emb_val t y a).trans ?_
    change cc2_transform_6 k2_off1_inb numel1_S1 tb _ a * _ + _ = _
    rw [tr6]
    match a with
    | 0 => exact h0.symm
    | 1 => exact h1.symm
    | 2 => exact h2.symm)
  exact congrArg (V c main_arg3 : S64x256x768.Idx → Elt F .f32) e

theorem iblk_7 (y : S1x384x128.Idx) (z : S64x768x128.Idx) (h0 : (z 0).val = ent tb ((cfgM tb hO).grid.coords t) 1 * 1 + (y 0).val) (h1 : (z 1).val = 0 * 384 + (y 1).val) (h2 : (z 2).val = 0 * 128 + (y 2).val) :
    iblk V tb hO c 7 t y = (V c main_arg4 : S64x768x128.Idx → Elt F .f32) z := by
  have e : (((cfgM tb hO).win 7).blk t).view.emb y = z := funext fun (a : Fin 3) => Fin.ext (by
    refine (((cfgM tb hO).win 7).rect_emb_val t y a).trans ?_
    change cc2_transform_7 k2_off1_inb numel1_S1 tb _ a * _ + _ = _
    rw [tr7]
    match a with
    | 0 => exact h0.symm
    | 1 => exact h1.symm
    | 2 => exact h2.symm)
  exact congrArg (V c main_arg4 : S64x768x128.Idx → Elt F .f32) e

theorem iblk_8 (y : S1x384x128.Idx) (z : S64x768x128.Idx) (h0 : (z 0).val = ent tb ((cfgM tb hO).grid.coords t) 1 * 1 + (y 0).val) (h1 : (z 1).val = 1 * 384 + (y 1).val) (h2 : (z 2).val = 0 * 128 + (y 2).val) :
    iblk V tb hO c 8 t y = (V c main_arg4 : S64x768x128.Idx → Elt F .f32) z := by
  have e : (((cfgM tb hO).win 8).blk t).view.emb y = z := funext fun (a : Fin 3) => Fin.ext (by
    refine (((cfgM tb hO).win 8).rect_emb_val t y a).trans ?_
    change cc2_transform_8 k2_off1_inb numel1_S1 tb _ a * _ + _ = _
    rw [tr8]
    match a with
    | 0 => exact h0.symm
    | 1 => exact h1.symm
    | 2 => exact h2.symm)
  exact congrArg (V c main_arg4 : S64x768x128.Idx → Elt F .f32) e

theorem iblk_9 (y : S1x128x768.Idx) (z : S64x256x768.Idx) (h0 : (z 0).val = ent tb ((cfgM tb hO).grid.coords t) 2 * 1 + (y 0).val) (h1 : (z 1).val = 0 * 128 + (y 1).val) (h2 : (z 2).val = 0 * 768 + (y 2).val) :
    iblk V tb hO c 9 t y = (V c main_arg3 : S64x256x768.Idx → Elt F .f32) z := by
  have e : (((cfgM tb hO).win 9).blk t).view.emb y = z := funext fun (a : Fin 3) => Fin.ext (by
    refine (((cfgM tb hO).win 9).rect_emb_val t y a).trans ?_
    change cc2_transform_9 k2_off1_inb numel1_S1 tb _ a * _ + _ = _
    rw [tr9]
    match a with
    | 0 => exact h0.symm
    | 1 => exact h1.symm
    | 2 => exact h2.symm)
  exact congrArg (V c main_arg3 : S64x256x768.Idx → Elt F .f32) e

theorem iblk_10 (y : S1x128x768.Idx) (z : S64x256x768.Idx) (h0 : (z 0).val = ent tb ((cfgM tb hO).grid.coords t) 2 * 1 + (y 0).val) (h1 : (z 1).val = 1 * 128 + (y 1).val) (h2 : (z 2).val = 0 * 768 + (y 2).val) :
    iblk V tb hO c 10 t y = (V c main_arg3 : S64x256x768.Idx → Elt F .f32) z := by
  have e : (((cfgM tb hO).win 10).blk t).view.emb y = z := funext fun (a : Fin 3) => Fin.ext (by
    refine (((cfgM tb hO).win 10).rect_emb_val t y a).trans ?_
    change cc2_transform_10 k2_off1_inb numel1_S1 tb _ a * _ + _ = _
    rw [tr10]
    match a with
    | 0 => exact h0.symm
    | 1 => exact h1.symm
    | 2 => exact h2.symm)
  exact congrArg (V c main_arg3 : S64x256x768.Idx → Elt F .f32) e

theorem iblk_11 (y : S1x384x128.Idx) (z : S64x768x128.Idx) (h0 : (z 0).val = ent tb ((cfgM tb hO).grid.coords t) 2 * 1 + (y 0).val) (h1 : (z 1).val = 0 * 384 + (y 1).val) (h2 : (z 2).val = 0 * 128 + (y 2).val) :
    iblk V tb hO c 11 t y = (V c main_arg4 : S64x768x128.Idx → Elt F .f32) z := by
  have e : (((cfgM tb hO).win 11).blk t).view.emb y = z := funext fun (a : Fin 3) => Fin.ext (by
    refine (((cfgM tb hO).win 11).rect_emb_val t y a).trans ?_
    change cc2_transform_11 k2_off1_inb numel1_S1 tb _ a * _ + _ = _
    rw [tr11]
    match a with
    | 0 => exact h0.symm
    | 1 => exact h1.symm
    | 2 => exact h2.symm)
  exact congrArg (V c main_arg4 : S64x768x128.Idx → Elt F .f32) e

theorem iblk_12 (y : S1x384x128.Idx) (z : S64x768x128.Idx) (h0 : (z 0).val = ent tb ((cfgM tb hO).grid.coords t) 2 * 1 + (y 0).val) (h1 : (z 1).val = 1 * 384 + (y 1).val) (h2 : (z 2).val = 0 * 128 + (y 2).val) :
    iblk V tb hO c 12 t y = (V c main_arg4 : S64x768x128.Idx → Elt F .f32) z := by
  have e : (((cfgM tb hO).win 12).blk t).view.emb y = z := funext fun (a : Fin 3) => Fin.ext (by
    refine (((cfgM tb hO).win 12).rect_emb_val t y a).trans ?_
    change cc2_transform_12 k2_off1_inb numel1_S1 tb _ a * _ + _ = _
    rw [tr12]
    match a with
    | 0 => exact h0.symm
    | 1 => exact h1.symm
    | 2 => exact h2.symm)
  exact congrArg (V c main_arg4 : S64x768x128.Idx → Elt F .f32) e

theorem iblk_13 (y : S1x128x768.Idx) (z : S64x256x768.Idx) (h0 : (z 0).val = ent tb ((cfgM tb hO).grid.coords t) 3 * 1 + (y 0).val) (h1 : (z 1).val = 0 * 128 + (y 1).val) (h2 : (z 2).val = 0 * 768 + (y 2).val) :
    iblk V tb hO c 13 t y = (V c main_arg3 : S64x256x768.Idx → Elt F .f32) z := by
  have e : (((cfgM tb hO).win 13).blk t).view.emb y = z := funext fun (a : Fin 3) => Fin.ext (by
    refine (((cfgM tb hO).win 13).rect_emb_val t y a).trans ?_
    change cc2_transform_13 k2_off1_inb numel1_S1 tb _ a * _ + _ = _
    rw [tr13]
    match a with
    | 0 => exact h0.symm
    | 1 => exact h1.symm
    | 2 => exact h2.symm)
  exact congrArg (V c main_arg3 : S64x256x768.Idx → Elt F .f32) e

theorem iblk_14 (y : S1x128x768.Idx) (z : S64x256x768.Idx) (h0 : (z 0).val = ent tb ((cfgM tb hO).grid.coords t) 3 * 1 + (y 0).val) (h1 : (z 1).val = 1 * 128 + (y 1).val) (h2 : (z 2).val = 0 * 768 + (y 2).val) :
    iblk V tb hO c 14 t y = (V c main_arg3 : S64x256x768.Idx → Elt F .f32) z := by
  have e : (((cfgM tb hO).win 14).blk t).view.emb y = z := funext fun (a : Fin 3) => Fin.ext (by
    refine (((cfgM tb hO).win 14).rect_emb_val t y a).trans ?_
    change cc2_transform_14 k2_off1_inb numel1_S1 tb _ a * _ + _ = _
    rw [tr14]
    match a with
    | 0 => exact h0.symm
    | 1 => exact h1.symm
    | 2 => exact h2.symm)
  exact congrArg (V c main_arg3 : S64x256x768.Idx → Elt F .f32) e

theorem iblk_15 (y : S1x384x128.Idx) (z : S64x768x128.Idx) (h0 : (z 0).val = ent tb ((cfgM tb hO).grid.coords t) 3 * 1 + (y 0).val) (h1 : (z 1).val = 0 * 384 + (y 1).val) (h2 : (z 2).val = 0 * 128 + (y 2).val) :
    iblk V tb hO c 15 t y = (V c main_arg4 : S64x768x128.Idx → Elt F .f32) z := by
  have e : (((cfgM tb hO).win 15).blk t).view.emb y = z := funext fun (a : Fin 3) => Fin.ext (by
    refine (((cfgM tb hO).win 15).rect_emb_val t y a).trans ?_
    change cc2_transform_15 k2_off1_inb numel1_S1 tb _ a * _ + _ = _
    rw [tr15]
    match a with
    | 0 => exact h0.symm
    | 1 => exact h1.symm
    | 2 => exact h2.symm)
  exact congrArg (V c main_arg4 : S64x768x128.Idx → Elt F .f32) e

theorem iblk_16 (y : S1x384x128.Idx) (z : S64x768x128.Idx) (h0 : (z 0).val = ent tb ((cfgM tb hO).grid.coords t) 3 * 1 + (y 0).val) (h1 : (z 1).val = 1 * 384 + (y 1).val) (h2 : (z 2).val = 0 * 128 + (y 2).val) :
    iblk V tb hO c 16 t y = (V c main_arg4 : S64x768x128.Idx → Elt F .f32) z := by
  have e : (((cfgM tb hO).win 16).blk t).view.emb y = z := funext fun (a : Fin 3) => Fin.ext (by
    refine (((cfgM tb hO).win 16).rect_emb_val t y a).trans ?_
    change cc2_transform_16 k2_off1_inb numel1_S1 tb _ a * _ + _ = _
    rw [tr16]
    match a with
    | 0 => exact h0.symm
    | 1 => exact h1.symm
    | 2 => exact h2.symm)
  exact congrArg (V c main_arg4 : S64x768x128.Idx → Elt F .f32) e

theorem iblk_17 (y : S1x128x768.Idx) (z : S64x256x768.Idx) (h0 : (z 0).val = ent tb ((cfgM tb hO).grid.coords t) 4 * 1 + (y 0).val) (h1 : (z 1).val = 0 * 128 + (y 1).val) (h2 : (z 2).val = 0 * 768 + (y 2).val) :
    iblk V tb hO c 17 t y = (V c main_arg3 : S64x256x768.Idx → Elt F .f32) z := by
  have e : (((cfgM tb hO).win 17).blk t).view.emb y = z := funext fun (a : Fin 3) => Fin.ext (by
    refine (((cfgM tb hO).win 17).rect_emb_val t y a).trans ?_
    change cc2_transform_17 k2_off1_inb numel1_S1 tb _ a * _ + _ = _
    rw [tr17]
    match a with
    | 0 => exact h0.symm
    | 1 => exact h1.symm
    | 2 => exact h2.symm)
  exact congrArg (V c main_arg3 : S64x256x768.Idx → Elt F .f32) e

theorem iblk_18 (y : S1x128x768.Idx) (z : S64x256x768.Idx) (h0 : (z 0).val = ent tb ((cfgM tb hO).grid.coords t) 4 * 1 + (y 0).val) (h1 : (z 1).val = 1 * 128 + (y 1).val) (h2 : (z 2).val = 0 * 768 + (y 2).val) :
    iblk V tb hO c 18 t y = (V c main_arg3 : S64x256x768.Idx → Elt F .f32) z := by
  have e : (((cfgM tb hO).win 18).blk t).view.emb y = z := funext fun (a : Fin 3) => Fin.ext (by
    refine (((cfgM tb hO).win 18).rect_emb_val t y a).trans ?_
    change cc2_transform_18 k2_off1_inb numel1_S1 tb _ a * _ + _ = _
    rw [tr18]
    match a with
    | 0 => exact h0.symm
    | 1 => exact h1.symm
    | 2 => exact h2.symm)
  exact congrArg (V c main_arg3 : S64x256x768.Idx → Elt F .f32) e

theorem iblk_19 (y : S1x384x128.Idx) (z : S64x768x128.Idx) (h0 : (z 0).val = ent tb ((cfgM tb hO).grid.coords t) 4 * 1 + (y 0).val) (h1 : (z 1).val = 0 * 384 + (y 1).val) (h2 : (z 2).val = 0 * 128 + (y 2).val) :
    iblk V tb hO c 19 t y = (V c main_arg4 : S64x768x128.Idx → Elt F .f32) z := by
  have e : (((cfgM tb hO).win 19).blk t).view.emb y = z := funext fun (a : Fin 3) => Fin.ext (by
    refine (((cfgM tb hO).win 19).rect_emb_val t y a).trans ?_
    change cc2_transform_19 k2_off1_inb numel1_S1 tb _ a * _ + _ = _
    rw [tr19]
    match a with
    | 0 => exact h0.symm
    | 1 => exact h1.symm
    | 2 => exact h2.symm)
  exact congrArg (V c main_arg4 : S64x768x128.Idx → Elt F .f32) e

theorem iblk_20 (y : S1x384x128.Idx) (z : S64x768x128.Idx) (h0 : (z 0).val = ent tb ((cfgM tb hO).grid.coords t) 4 * 1 + (y 0).val) (h1 : (z 1).val = 1 * 384 + (y 1).val) (h2 : (z 2).val = 0 * 128 + (y 2).val) :
    iblk V tb hO c 20 t y = (V c main_arg4 : S64x768x128.Idx → Elt F .f32) z := by
  have e : (((cfgM tb hO).win 20).blk t).view.emb y = z := funext fun (a : Fin 3) => Fin.ext (by
    refine (((cfgM tb hO).win 20).rect_emb_val t y a).trans ?_
    change cc2_transform_20 k2_off1_inb numel1_S1 tb _ a * _ + _ = _
    rw [tr20]
    match a with
    | 0 => exact h0.symm
    | 1 => exact h1.symm
    | 2 => exact h2.symm)
  exact congrArg (V c main_arg4 : S64x768x128.Idx → Elt F .f32) e

theorem iblk_21 (y : S1x128x768.Idx) (z : S64x256x768.Idx) (h0 : (z 0).val = ent tb ((cfgM tb hO).grid.coords t) 5 * 1 + (y 0).val) (h1 : (z 1).val = 0 * 128 + (y 1).val) (h2 : (z 2).val = 0 * 768 + (y 2).val) :
    iblk V tb hO c 21 t y = (V c main_arg3 : S64x256x768.Idx → Elt F .f32) z := by
  have e : (((cfgM tb hO).win 21).blk t).view.emb y = z := funext fun (a : Fin 3) => Fin.ext (by
    refine (((cfgM tb hO).win 21).rect_emb_val t y a).trans ?_
    change cc2_transform_21 k2_off1_inb numel1_S1 tb _ a * _ + _ = _
    rw [tr21]
    match a with
    | 0 => exact h0.symm
    | 1 => exact h1.symm
    | 2 => exact h2.symm)
  exact congrArg (V c main_arg3 : S64x256x768.Idx → Elt F .f32) e

theorem iblk_22 (y : S1x128x768.Idx) (z : S64x256x768.Idx) (h0 : (z 0).val = ent tb ((cfgM tb hO).grid.coords t) 5 * 1 + (y 0).val) (h1 : (z 1).val = 1 * 128 + (y 1).val) (h2 : (z 2).val = 0 * 768 + (y 2).val) :
    iblk V tb hO c 22 t y = (V c main_arg3 : S64x256x768.Idx → Elt F .f32) z := by
  have e : (((cfgM tb hO).win 22).blk t).view.emb y = z := funext fun (a : Fin 3) => Fin.ext (by
    refine (((cfgM tb hO).win 22).rect_emb_val t y a).trans ?_
    change cc2_transform_22 k2_off1_inb numel1_S1 tb _ a * _ + _ = _
    rw [tr22]
    match a with
    | 0 => exact h0.symm
    | 1 => exact h1.symm
    | 2 => exact h2.symm)
  exact congrArg (V c main_arg3 : S64x256x768.Idx → Elt F .f32) e

theorem iblk_23 (y : S1x384x128.Idx) (z : S64x768x128.Idx) (h0 : (z 0).val = ent tb ((cfgM tb hO).grid.coords t) 5 * 1 + (y 0).val) (h1 : (z 1).val = 0 * 384 + (y 1).val) (h2 : (z 2).val = 0 * 128 + (y 2).val) :
    iblk V tb hO c 23 t y = (V c main_arg4 : S64x768x128.Idx → Elt F .f32) z := by
  have e : (((cfgM tb hO).win 23).blk t).view.emb y = z := funext fun (a : Fin 3) => Fin.ext (by
    refine (((cfgM tb hO).win 23).rect_emb_val t y a).trans ?_
    change cc2_transform_23 k2_off1_inb numel1_S1 tb _ a * _ + _ = _
    rw [tr23]
    match a with
    | 0 => exact h0.symm
    | 1 => exact h1.symm
    | 2 => exact h2.symm)
  exact congrArg (V c main_arg4 : S64x768x128.Idx → Elt F .f32) e

theorem iblk_24 (y : S1x384x128.Idx) (z : S64x768x128.Idx) (h0 : (z 0).val = ent tb ((cfgM tb hO).grid.coords t) 5 * 1 + (y 0).val) (h1 : (z 1).val = 1 * 384 + (y 1).val) (h2 : (z 2).val = 0 * 128 + (y 2).val) :
    iblk V tb hO c 24 t y = (V c main_arg4 : S64x768x128.Idx → Elt F .f32) z := by
  have e : (((cfgM tb hO).win 24).blk t).view.emb y = z := funext fun (a : Fin 3) => Fin.ext (by
    refine (((cfgM tb hO).win 24).rect_emb_val t y a).trans ?_
    change cc2_transform_24 k2_off1_inb numel1_S1 tb _ a * _ + _ = _
    rw [tr24]
    match a with
    | 0 => exact h0.symm
    | 1 => exact h1.symm
    | 2 => exact h2.symm)
  exact congrArg (V c main_arg4 : S64x768x128.Idx → Elt F .f32) e

theorem iblk_25 (y : S1x128x768.Idx) (z : S64x256x768.Idx) (h0 : (z 0).val = ent tb ((cfgM tb hO).grid.coords t) 6 * 1 + (y 0).val) (h1 : (z 1).val = 0 * 128 + (y 1).val) (h2 : (z 2).val = 0 * 768 + (y 2).val) :
    iblk V tb hO c 25 t y = (V c main_arg3 : S64x256x768.Idx → Elt F .f32) z := by
  have e : (((cfgM tb hO).win 25).blk t).view.emb y = z := funext fun (a : Fin 3) => Fin.ext (by
    refine (((cfgM tb hO).win 25).rect_emb_val t y a).trans ?_
    change cc2_transform_25 k2_off1_inb numel1_S1 tb _ a * _ + _ = _
    rw [tr25]
    match a with
    | 0 => exact h0.symm
    | 1 => exact h1.symm
    | 2 => exact h2.symm)
  exact congrArg (V c main_arg3 : S64x256x768.Idx → Elt F .f32) e

theorem iblk_26 (y : S1x128x768.Idx) (z : S64x256x768.Idx) (h0 : (z 0).val = ent tb ((cfgM tb hO).grid.coords t) 6 * 1 + (y 0).val) (h1 : (z 1).val = 1 * 128 + (y 1).val) (h2 : (z 2).val = 0 * 768 + (y 2).val) :
    iblk V tb hO c 26 t y = (V c main_arg3 : S64x256x768.Idx → Elt F .f32) z := by
  have e : (((cfgM tb hO).win 26).blk t).view.emb y = z := funext fun (a : Fin 3) => Fin.ext (by
    refine (((cfgM tb hO).win 26).rect_emb_val t y a).trans ?_
    change cc2_transform_26 k2_off1_inb numel1_S1 tb _ a * _ + _ = _
    rw [tr26]
    match a with
    | 0 => exact h0.symm
    | 1 => exact h1.symm
    | 2 => exact h2.symm)
  exact congrArg (V c main_arg3 : S64x256x768.Idx → Elt F .f32) e

theorem iblk_27 (y : S1x384x128.Idx) (z : S64x768x128.Idx) (h0 : (z 0).val = ent tb ((cfgM tb hO).grid.coords t) 6 * 1 + (y 0).val) (h1 : (z 1).val = 0 * 384 + (y 1).val) (h2 : (z 2).val = 0 * 128 + (y 2).val) :
    iblk V tb hO c 27 t y = (V c main_arg4 : S64x768x128.Idx → Elt F .f32) z := by
  have e : (((cfgM tb hO).win 27).blk t).view.emb y = z := funext fun (a : Fin 3) => Fin.ext (by
    refine (((cfgM tb hO).win 27).rect_emb_val t y a).trans ?_
    change cc2_transform_27 k2_off1_inb numel1_S1 tb _ a * _ + _ = _
    rw [tr27]
    match a with
    | 0 => exact h0.symm
    | 1 => exact h1.symm
    | 2 => exact h2.symm)
  exact congrArg (V c main_arg4 : S64x768x128.Idx → Elt F .f32) e

theorem iblk_28 (y : S1x384x128.Idx) (z : S64x768x128.Idx) (h0 : (z 0).val = ent tb ((cfgM tb hO).grid.coords t) 6 * 1 + (y 0).val) (h1 : (z 1).val = 1 * 384 + (y 1).val) (h2 : (z 2).val = 0 * 128 + (y 2).val) :
    iblk V tb hO c 28 t y = (V c main_arg4 : S64x768x128.Idx → Elt F .f32) z := by
  have e : (((cfgM tb hO).win 28).blk t).view.emb y = z := funext fun (a : Fin 3) => Fin.ext (by
    refine (((cfgM tb hO).win 28).rect_emb_val t y a).trans ?_
    change cc2_transform_28 k2_off1_inb numel1_S1 tb _ a * _ + _ = _
    rw [tr28]
    match a with
    | 0 => exact h0.symm
    | 1 => exact h1.symm
    | 2 => exact h2.symm)
  exact congrArg (V c main_arg4 : S64x768x128.Idx → Elt F .f32) e

theorem iblk_29 (y : S1x128x768.Idx) (z : S64x256x768.Idx) (h0 : (z 0).val = ent tb ((cfgM tb hO).grid.coords t) 7 * 1 + (y 0).val) (h1 : (z 1).val = 0 * 128 + (y 1).val) (h2 : (z 2).val = 0 * 768 + (y 2).val) :
    iblk V tb hO c 29 t y = (V c main_arg3 : S64x256x768.Idx → Elt F .f32) z := by
  have e : (((cfgM tb hO).win 29).blk t).view.emb y = z := funext fun (a : Fin 3) => Fin.ext (by
    refine (((cfgM tb hO).win 29).rect_emb_val t y a).trans ?_
    change cc2_transform_29 k2_off1_inb numel1_S1 tb _ a * _ + _ = _
    rw [tr29]
    match a with
    | 0 => exact h0.symm
    | 1 => exact h1.symm
    | 2 => exact h2.symm)
  exact congrArg (V c main_arg3 : S64x256x768.Idx → Elt F .f32) e

theorem iblk_30 (y : S1x128x768.Idx) (z : S64x256x768.Idx) (h0 : (z 0).val = ent tb ((cfgM tb hO).grid.coords t) 7 * 1 + (y 0).val) (h1 : (z 1).val = 1 * 128 + (y 1).val) (h2 : (z 2).val = 0 * 768 + (y 2).val) :
    iblk V tb hO c 30 t y = (V c main_arg3 : S64x256x768.Idx → Elt F .f32) z := by
  have e : (((cfgM tb hO).win 30).blk t).view.emb y = z := funext fun (a : Fin 3) => Fin.ext (by
    refine (((cfgM tb hO).win 30).rect_emb_val t y a).trans ?_
    change cc2_transform_30 k2_off1_inb numel1_S1 tb _ a * _ + _ = _
    rw [tr30]
    match a with
    | 0 => exact h0.symm
    | 1 => exact h1.symm
    | 2 => exact h2.symm)
  exact congrArg (V c main_arg3 : S64x256x768.Idx → Elt F .f32) e

theorem iblk_31 (y : S1x384x128.Idx) (z : S64x768x128.Idx) (h0 : (z 0).val = ent tb ((cfgM tb hO).grid.coords t) 7 * 1 + (y 0).val) (h1 : (z 1).val = 0 * 384 + (y 1).val) (h2 : (z 2).val = 0 * 128 + (y 2).val) :
    iblk V tb hO c 31 t y = (V c main_arg4 : S64x768x128.Idx → Elt F .f32) z := by
  have e : (((cfgM tb hO).win 31).blk t).view.emb y = z := funext fun (a : Fin 3) => Fin.ext (by
    refine (((cfgM tb hO).win 31).rect_emb_val t y a).trans ?_
    change cc2_transform_31 k2_off1_inb numel1_S1 tb _ a * _ + _ = _
    rw [tr31]
    match a with
    | 0 => exact h0.symm
    | 1 => exact h1.symm
    | 2 => exact h2.symm)
  exact congrArg (V c main_arg4 : S64x768x128.Idx → Elt F .f32) e

theorem iblk_32 (y : S1x384x128.Idx) (z : S64x768x128.Idx) (h0 : (z 0).val = ent tb ((cfgM tb hO).grid.coords t) 7 * 1 + (y 0).val) (h1 : (z 1).val = 1 * 384 + (y 1).val) (h2 : (z 2).val = 0 * 128 + (y 2).val) :
    iblk V tb hO c 32 t y = (V c main_arg4 : S64x768x128.Idx → Elt F .f32) z := by
  have e : (((cfgM tb hO).win 32).blk t).view.emb y = z := funext fun (a : Fin 3) => Fin.ext (by
    refine (((cfgM tb hO).win 32).rect_emb_val t y a).trans ?_
    change cc2_transform_32 k2_off1_inb numel1_S1 tb _ a * _ + _ = _
    rw [tr32]
    match a with
    | 0 => exact h0.symm
    | 1 => exact h1.symm
    | 2 => exact h2.symm)
  exact congrArg (V c main_arg4 : S64x768x128.Idx → Elt F .f32) e

end Blocks

variable (V : (c : Dev nD) → Arrs Ideal c) (n b : ℕ) (tb : pre2.Contents (Elt Ideal)) (hO : Ok tb)
variable (hE : ∀ g : Fin 80, (tb 0 (ix1 g) : BitVec 32).toNat < 64) (c : Dev nD) (t : Fin (cfgM tb hO).N)

/-- The expert of block `g`. -/
def expert (g : Fin 80) : Fin 64 := ⟨(tb 0 (ix1 g) : BitVec 32).toNat, hE g⟩

/-- The expert call's result: row `y 0` through the layer of its block's expert. -/
def layers : S5120x768.Idx → EReal := fun y =>
  layer (fun i => (V c main_v4 : S5120x768.Idx → EReal) (Idealize.ShloMosaic.ix2 (y 0) i))
    (fun f i => (V c main_arg3 : S64x256x768.Idx → EReal) (ix3 (expert tb hE ⟨(y 0).val / 64, by have := (y 0).isLt; change (y 0).val < 5120 at this; omega⟩) (⟨f.val, by omega⟩ : Fin 256) i))
    (fun f i => (V c main_arg3 : S64x256x768.Idx → EReal) (ix3 (expert tb hE ⟨(y 0).val / 64, by have := (y 0).isLt; change (y 0).val < 5120 at this; omega⟩) (⟨128 + f.val, by omega⟩ : Fin 256) i))
    (fun f => (V c main_arg4 : S64x768x128.Idx → EReal) (ix3 (expert tb hE ⟨(y 0).val / 64, by have := (y 0).isLt; change (y 0).val < 5120 at this; omega⟩) (y 1) f))

theorem piece (k : Fin 8) (hf : ℕ) (h) (x0 : Vec Ideal S512x768 .f32) (wa wb : Vec Ideal S1x128x768 .f32) (wd : Vec Ideal S1x384x128 .f32) (i0 : ℕ) (hi0 : i0 < 10)
    (hx : ∀ (y : S512x768.Idx) (z : S5120x768.Idx), (z 0).val = i0 * 512 + (y 0).val → (z 1).val = 0 * 768 + (y 1).val → x0 y = (V c main_v4 : S5120x768.Idx → EReal) z)
    (ha : ∀ (y : S1x128x768.Idx) (z : S64x256x768.Idx), (z 0).val = (tb 0 (ix1 ⟨8 * i0 + k.val, by omega⟩) : BitVec 32).toNat * 1 + (y 0).val → (z 1).val = 0 * 128 + (y 1).val → (z 2).val = 0 * 768 + (y 2).val → wa y = (V c main_arg3 : S64x256x768.Idx → EReal) z)
    (hb : ∀ (y : S1x128x768.Idx) (z : S64x256x768.Idx), (z 0).val = (tb 0 (ix1 ⟨8 * i0 + k.val, by omega⟩) : BitVec 32).toNat * 1 + (y 0).val → (z 1).val = 1 * 128 + (y 1).val → (z 2).val = 0 * 768 + (y 2).val → wb y = (V c main_arg3 : S64x256x768.Idx → EReal) z)
    (hd : ∀ (y : S1x384x128.Idx) (z : S64x768x128.Idx), (z 0).val = (tb 0 (ix1 ⟨8 * i0 + k.val, by omega⟩) : BitVec 32).toNat * 1 + (y 0).val → (z 1).val = hf * 384 + (y 1).val → (z 2).val = 0 * 128 + (y 2).val → wd y = (V c main_arg4 : S64x768x128.Idx → EReal) z)
    (q : S64x384.Idx) (z : S5120x768.Idx) (hz0 : (z 0).val = i0 * 512 + (64 * k.val + (q 0).val)) (hz1 : (z 1).val = hf * 384 + (q 1).val) :
    subOut (ldx x0) ![64 * k.val, 0] h (lda wa) (lda wb) (ldb wd) q = layers V tb hE c z := by
  have hg : (⟨(z 0).val / 64, by have := (z 0).isLt; change (z 0).val < 5120 at this; omega⟩ : Fin 80) = ⟨8 * i0 + k.val, by omega⟩ := Fin.ext (by
    have h0 : (q 0).val < 64 := (q 0).isLt
    have h1 : (z 0).val = i0 * 512 + (64 * k.val + (q 0).val) := hz0
    change (z 0).val / 64 = 8 * i0 + k.val
    generalize (z 0).val = u at h1 ⊢
    generalize (q 0).val = w at h0 h1
    omega)
  unfold layers ldx lda ldb
  rw [hg]
  rw [View.ld_unit_lit _ _ (by decide), View.ld_unit_lit _ _ (by decide), View.ld_unit_lit _ _ (by decide), View.ld_unit_lit _ _ (by decide)]
  rw [show q = Idealize.ShloMosaic.ix2 (q 0) (q 1) from funext fun (a : Fin 2) => by match a with | 0 => rfl | 1 => rfl]
  refine (subOut_apply x0 k h wa wb wd (q 0) (q 1)).trans ?_
  congr 1
  · funext i; exact hx _ _ hz0 (by simp)
  · funext f i; exact ha _ _ (by simp [expert]) (by simp) (by simp)
  · funext f i; exact hb _ _ (by simp [expert]) (by simp) (by simp)
  · funext f; exact hd _ _ (by simp [expert]) hz1 (by simp)

theorem arr33 : (ffnDat V n b tb hO c).arrAt 33 (cfgM tb hO).N = layers V tb hE c := by
  refine Pipeline.Dat.arrAt_eq_of_covers _ 33 _ (Pipeline.Window.covers_of_indexMap_surj _ rfl (fun (a : Fin 2) => ?_) fun β => ?_) (fun t _ y => ?_)
  · match a with
    | 0 => exact (by decide : 0 < 512)
    | 1 => exact (by decide : 0 < 768)
  · have hβ : (β (0 : Fin 2)).val < 10 := lt_of_lt_of_eq (β (0 : Fin 2)).isLt (show (5120 + 512 - 1) / 512 = 10 from rfl)
    refine ⟨fun (a : Fin 1) => ⟨(β (0 : Fin 2)).val, ?_⟩, fun (a : Fin 2) => ?_⟩
    · match a with
      | 0 => exact hβ
    · match a with
      | 0 =>
        change (BitVec.ofNat 32 (β (0 : Fin 2)).val).toNat = _
        rw [BitVec.toNat_ofNat, Nat.mod_eq_of_lt (by omega)]
      | 1 =>
        have h1 : (β (1 : Fin 2)).val < 1 := lt_of_lt_of_eq (β (1 : Fin 2)).isLt (show (768 + 768 - 1) / 768 = 1 from rfl)
        change 0 = (β (1 : Fin 2)).val
        omega
  · change (ffnDat V n b tb hO c).after 33 t y = _
    rw [after0_33]
    have hp := pt_lt tb hO t
    have he : ∀ z : S512x768.Idx, ∃ w : S5120x768.Idx, (w 0).val = pt tb hO t * 512 + (z 0).val ∧ (w 1).val = 0 * 768 + (z 1).val ∧ (((cfgM tb hO).win 33).blk t).view.emb z = w := fun z =>
      ⟨(((cfgM tb hO).win 33).blk t).view.emb z, by
        refine (((cfgM tb hO).win 33).rect_emb_val t z (0 : Fin 2)).trans ?_
        change (BitVec.ofNat 32 (pt tb hO t)).toNat * 512 + _ = _
        rw [BitVec.toNat_ofNat, Nat.mod_eq_of_lt (by omega)], ((cfgM tb hO).win 33).rect_emb_val t z (1 : Fin 2), rfl⟩
    unfold out2
    refine View.canon_apply_of_pieces (Val := Elt Ideal) (e := .f32) (fun z : S512x768.Idx => layers V tb hE c ((((cfgM tb hO).win 33).blk t).view.emb z)) _ ?_ y (cover_gen _ _ _ _ _ _ _ _ _ _ _ _ _ _ _ _ y)
    unfold outPieces
    simp only [List.forall_mem_cons]
    refine ⟨?_, ?_, ?_, ?_, ?_, ?_, ?_, ?_, ?_, ?_, ?_, ?_, ?_, ?_, ?_, ?_, fun _ h => absurd h List.not_mem_nil⟩
    · intro q
      obtain ⟨w, h0, h1, e⟩ := he ((Rect.unit (s := S512x768) ![448, 384] S64x384.size inb_S512x768_S64x384_448_384).emb q)
      refine Eq.trans ?_ (congrArg (layers V tb hE c) e).symm
      exact piece V tb hE c 7 1 _ _ _ _ _ (pt tb hO t) hp (iblk_0 V tb hO c t) (iblk_29 V tb hO c t) (iblk_30 V tb hO c t) (iblk_32 V tb hO c t) q w
        (h0.trans (by rw [Rect.emb_apply]; simp)) (h1.trans (by rw [Rect.emb_apply]; simp))
    · intro q
      obtain ⟨w, h0, h1, e⟩ := he ((Rect.unit (s := S512x768) ![448, 0] S64x384.size inb_S512x768_S64x384_448_0).emb q)
      refine Eq.trans ?_ (congrArg (layers V tb hE c) e).symm
      exact piece V tb hE c 7 0 _ _ _ _ _ (pt tb hO t) hp (iblk_0 V tb hO c t) (iblk_29 V tb hO c t) (iblk_30 V tb hO c t) (iblk_31 V tb hO c t) q w
        (h0.trans (by rw [Rect.emb_apply]; simp)) (h1.trans (by rw [Rect.emb_apply]; simp))
    · intro q
      obtain ⟨w, h0, h1, e⟩ := he ((Rect.unit (s := S512x768) ![384, 384] S64x384.size inb_S512x768_S64x384_384_384).emb q)
      refine Eq.trans ?_ (congrArg (layers V tb hE c) e).symm
      exact piece V tb hE c 6 1 _ _ _ _ _ (pt tb hO t) hp (iblk_0 V tb hO c t) (iblk_25 V tb hO c t) (iblk_26 V tb hO c t) (iblk_28 V tb hO c t) q w
        (h0.trans (by rw [Rect.emb_apply]; simp)) (h1.trans (by rw [Rect.emb_apply]; simp))
    · intro q
      obtain ⟨w, h0, h1, e⟩ := he ((Rect.unit (s := S512x768) ![384, 0] S64x384.size inb_S512x768_S64x384_384_0).emb q)
      refine Eq.trans ?_ (congrArg (layers V tb hE c) e).symm
      exact piece V tb hE c 6 0 _ _ _ _ _ (pt tb hO t) hp (iblk_0 V tb hO c t) (iblk_25 V tb hO c t) (iblk_26 V tb hO c t) (iblk_27 V tb hO c t) q w
        (h0.trans (by rw [Rect.emb_apply]; simp)) (h1.trans (by rw [Rect.emb_apply]; simp))
    · intro q
      obtain ⟨w, h0, h1, e⟩ := he ((Rect.unit (s := S512x768) ![320, 384] S64x384.size inb_S512x768_S64x384_320_384).emb q)
      refine Eq.trans ?_ (congrArg (layers V tb hE c) e).symm
      exact piece V tb hE c 5 1 _ _ _ _ _ (pt tb hO t) hp (iblk_0 V tb hO c t) (iblk_21 V tb hO c t) (iblk_22 V tb hO c t) (iblk_24 V tb hO c t) q w
        (h0.trans (by rw [Rect.emb_apply]; simp)) (h1.trans (by rw [Rect.emb_apply]; simp))
    · intro q
      obtain ⟨w, h0, h1, e⟩ := he ((Rect.unit (s := S512x768) ![320, 0] S64x384.size inb_S512x768_S64x384_320_0).emb q)
      refine Eq.trans ?_ (congrArg (layers V tb hE c) e).symm
      exact piece V tb hE c 5 0 _ _ _ _ _ (pt tb hO t) hp (iblk_0 V tb hO c t) (iblk_21 V tb hO c t) (iblk_22 V tb hO c t) (iblk_23 V tb hO c t) q w
        (h0.trans (by rw [Rect.emb_apply]; simp)) (h1.trans (by rw [Rect.emb_apply]; simp))
    · intro q
      obtain ⟨w, h0, h1, e⟩ := he ((Rect.unit (s := S512x768) ![256, 384] S64x384.size inb_S512x768_S64x384_256_384).emb q)
      refine Eq.trans ?_ (congrArg (layers V tb hE c) e).symm
      exact piece V tb hE c 4 1 _ _ _ _ _ (pt tb hO t) hp (iblk_0 V tb hO c t) (iblk_17 V tb hO c t) (iblk_18 V tb hO c t) (iblk_20 V tb hO c t) q w
        (h0.trans (by rw [Rect.emb_apply]; simp)) (h1.trans (by rw [Rect.emb_apply]; simp))
    · intro q
      obtain ⟨w, h0, h1, e⟩ := he ((Rect.unit (s := S512x768) ![256, 0] S64x384.size inb_S512x768_S64x384_256_0).emb q)
      refine Eq.trans ?_ (congrArg (layers V tb hE c) e).symm
      exact piece V tb hE c 4 0 _ _ _ _ _ (pt tb hO t) hp (iblk_0 V tb hO c t) (iblk_17 V tb hO c t) (iblk_18 V tb hO c t) (iblk_19 V tb hO c t) q w
        (h0.trans (by rw [Rect.emb_apply]; simp)) (h1.trans (by rw [Rect.emb_apply]; simp))
    · intro q
      obtain ⟨w, h0, h1, e⟩ := he ((Rect.unit (s := S512x768) ![192, 384] S64x384.size inb_S512x768_S64x384_192_384).emb q)
      refine Eq.trans ?_ (congrArg (layers V tb hE c) e).symm
      exact piece V tb hE c 3 1 _ _ _ _ _ (pt tb hO t) hp (iblk_0 V tb hO c t) (iblk_13 V tb hO c t) (iblk_14 V tb hO c t) (iblk_16 V tb hO c t) q w
        (h0.trans (by rw [Rect.emb_apply]; simp)) (h1.trans (by rw [Rect.emb_apply]; simp))
    · intro q
      obtain ⟨w, h0, h1, e⟩ := he ((Rect.unit (s := S512x768) ![192, 0] S64x384.size inb_S512x768_S64x384_192_0).emb q)
      refine Eq.trans ?_ (congrArg (layers V tb hE c) e).symm
      exact piece V tb hE c 3 0 _ _ _ _ _ (pt tb hO t) hp (iblk_0 V tb hO c t) (iblk_13 V tb hO c t) (iblk_14 V tb hO c t) (iblk_15 V tb hO c t) q w
        (h0.trans (by rw [Rect.emb_apply]; simp)) (h1.trans (by rw [Rect.emb_apply]; simp))
    · intro q
      obtain ⟨w, h0, h1, e⟩ := he ((Rect.unit (s := S512x768) ![128, 384] S64x384.size inb_S512x768_S64x384_128_384).emb q)
      refine Eq.trans ?_ (congrArg (layers V tb hE c) e).symm
      exact piece V tb hE c 2 1 _ _ _ _ _ (pt tb hO t) hp (iblk_0 V tb hO c t) (iblk_9 V tb hO c t) (iblk_10 V tb hO c t) (iblk_12 V tb hO c t) q w
        (h0.trans (by rw [Rect.emb_apply]; simp)) (h1.trans (by rw [Rect.emb_apply]; simp))
    · intro q
      obtain ⟨w, h0, h1, e⟩ := he ((Rect.unit (s := S512x768) ![128, 0] S64x384.size inb_S512x768_S64x384_128_0).emb q)
      refine Eq.trans ?_ (congrArg (layers V tb hE c) e).symm
      exact piece V tb hE c 2 0 _ _ _ _ _ (pt tb hO t) hp (iblk_0 V tb hO c t) (iblk_9 V tb hO c t) (iblk_10 V tb hO c t) (iblk_11 V tb hO c t) q w
        (h0.trans (by rw [Rect.emb_apply]; simp)) (h1.trans (by rw [Rect.emb_apply]; simp))
    · intro q
      obtain ⟨w, h0, h1, e⟩ := he ((Rect.unit (s := S512x768) ![64, 384] S64x384.size inb_S512x768_S64x384_64_384).emb q)
      refine Eq.trans ?_ (congrArg (layers V tb hE c) e).symm
      exact piece V tb hE c 1 1 _ _ _ _ _ (pt tb hO t) hp (iblk_0 V tb hO c t) (iblk_5 V tb hO c t) (iblk_6 V tb hO c t) (iblk_8 V tb hO c t) q w
        (h0.trans (by rw [Rect.emb_apply]; simp)) (h1.trans (by rw [Rect.emb_apply]; simp))
    · intro q
      obtain ⟨w, h0, h1, e⟩ := he ((Rect.unit (s := S512x768) ![64, 0] S64x384.size inb_S512x768_S64x384_64_0).emb q)
      refine Eq.trans ?_ (congrArg (layers V tb hE c) e).symm
      exact piece V tb hE c 1 0 _ _ _ _ _ (pt tb hO t) hp (iblk_0 V tb hO c t) (iblk_5 V tb hO c t) (iblk_6 V tb hO c t) (iblk_7 V tb hO c t) q w
        (h0.trans (by rw [Rect.emb_apply]; simp)) (h1.trans (by rw [Rect.emb_apply]; simp))
    · intro q
      obtain ⟨w, h0, h1, e⟩ := he ((Rect.unit (s := S512x768) ![0, 384] S64x384.size inb_S512x768_S64x384_0_384).emb q)
      refine Eq.trans ?_ (congrArg (layers V tb hE c) e).symm
      exact piece V tb hE c 0 1 _ _ _ _ _ (pt tb hO t) hp (iblk_0 V tb hO c t) (iblk_1 V tb hO c t) (iblk_2 V tb hO c t) (iblk_4 V tb hO c t) q w
        (h0.trans (by rw [Rect.emb_apply]; simp)) (h1.trans (by rw [Rect.emb_apply]; simp))
    · intro q
      obtain ⟨w, h0, h1, e⟩ := he ((Rect.unit (s := S512x768) ![0, 0] S64x384.size inb_S512x768_S64x384_0_0).emb q)
      refine Eq.trans ?_ (congrArg (layers V tb hE c) e).symm
      exact piece V tb hE c 0 0 _ _ _ _ _ (pt tb hO t) hp (iblk_0 V tb hO c t) (iblk_1 V tb hO c t) (iblk_2 V tb hO c t) (iblk_3 V tb hO c t) q w
        (h0.trans (by rw [Rect.emb_apply]; simp)) (h1.trans (by rw [Rect.emb_apply]; simp))

end Cert.Proof.Whole.Ffn
-- ==== Proof.W.Values.lean ====
/-
  The plan's arrays over the arguments: every token's expert, its slot, the table of blocks, and what follows from these for
  the two SparseCore calls: the slots are distinct and in range, and every block's expert is an expert.
-/
module

public import proofs.«01_k».proof.Proof.W.States
public import proofs.«01_k».proof.Proof.W.PlanIdeal
public import proofs.«01_k».proof.Proof.W.PlanValue
public import proofs.«01_k».proof.Proof.W.FfnArr
public import Idealize.ShloMosaic.Lib.Pointwise

@[expose] public section

set_option maxRecDepth 16384

noncomputable section

namespace Cert.Proof.Whole.Values

open Cert.WholeIdeal Cert.WholeIdeal.Gen Cert.Proof.Whole
open Idealize.ShloMosaic Idealize.ShloMosaic.TcCoe Idealize.ShloMosaic.Tactic Idealize.SL.Sem
open Idealize.ShloMosaic.Pipeline (withArrays arrRef)

section Generic

variable {F : FTy → Type} [FloatOps F] (m : (ℓ : Loc nD τ sig) → Buf (Elt F) ℓ) (hO : Ffn.Ok (tb m)) (d : Dev nD)

/-- The arguments. -/
abbrev ax : S1024x768.Idx → Elt F .f32 := m (d, dr main_arg0)
abbrev aw : S64x768.Idx → Elt F .f32 := m (d, dr main_arg1)
abbrev ab : S64.Idx → Elt F .f32 := m (d, dr main_arg2)
abbrev ag : S64x256x768.Idx → Elt F .f32 := m (d, dr main_arg3)
abbrev ad : S64x768x128.Idx → Elt F .f32 := m (d, dr main_arg4)
abbrev au : S256x768.Idx → Elt F .f32 := m (d, dr main_arg5)
abbrev av : S768x128.Idx → Elt F .f32 := m (d, dr main_arg6)
/-- The bias as a row. -/
abbrev ab1 : S1x64.Idx → Elt F .f32 := shapeCast S1x64 (ab m d) shapeCasts_S64_S1x64

theorem w1_v0 : W1 m d (dr main_v0) = ab1 m d := by
  unfold W1
  exact (StableHlo.reshape_result main_arg2 main_v0 rfl shapeCasts_S64_S1x64 (by decide) (by decide) (W0 m d)).trans rfl

theorem w1_ne (b : Ref sig .tc) (h : b ≠ main_v0) : W1 m d (dr b) = m (d, dr b) := by
  unfold W1
  exact StableHlo.reshape_result_ne main_arg2 main_v0 rfl shapeCasts_S64_S1x64 _ _ _ h

theorem w2_ne (b : Ref sig .tc) (h : ∀ w, arrRef spec0 w ≠ b) : W2 m d (dr b) = W1 m d (dr b) := by
  unfold W2
  exact Pipeline.withArrays_of_ne spec0 d (W1 m d) _ b h

theorem w2_arr (w) : W2 m d (dr (arrRef spec0 w)) = (Plan.planDat (arrs (W1 m)) 0 0 d).arrAt w cfg0.N := by
  unfold W2
  exact Pipeline.withArrays_arr spec0 winFacts0.arr_inj d (W1 m d) _ w

theorem w2_in (w : Fin 10) (hw : (cfg0.win w).isOut = false) : W2 m d (dr (arrRef spec0 w)) = W1 m d (dr (arrRef spec0 w)) :=
  (w2_arr m d w).trans (((Plan.planDat (arrs (W1 m)) 0 0 d).arrAt_in w hw cfg0.N).trans (Plan.A_eq (arrs (W1 m)) 0 0 d w))

/-- The five results of the plan. -/
abbrev score0 := k0_pay6 (ax m d) (aw m d) (ab1 m d)
abbrev mask0 := k0_pay5 (ax m d) (aw m d) (ab1 m d)

theorem p_xs : Plan.xs (arrs (W1 m)) d = ax m d := w1_ne m d main_arg0 (by decide)
theorem p_wg : Plan.wg (arrs (W1 m)) d = aw m d := w1_ne m d main_arg1 (by decide)
theorem p_bs : Plan.bs (arrs (W1 m)) d = ab1 m d := w1_v0 m d
theorem p_wu : Plan.wu (arrs (W1 m)) d = au m d := w1_ne m d main_arg5 (by decide)
theorem p_wd : Plan.wd (arrs (W1 m)) d = av m d := w1_ne m d main_arg6 (by decide)

theorem w2_z : W2 m d (dr main_v1_0) = (k0_pay2 (ax m d) (aw m d) : S1x1.Idx → Elt F .f32) :=
  (w2_arr m d 5).trans ((Plan.out5 (arrs (W1 m)) 0 0 d).trans (by rw [p_xs, p_wg]))
theorem w2_gate : W2 m d (dr main_v1_1) = (k0_pay7 (score0 m d) : S1024x128.Idx → Elt F .f32) :=
  (w2_arr m d 6).trans ((Plan.out6 (arrs (W1 m)) 0 0 d).trans (by rw [p_xs, p_wg, p_bs]))
theorem w2_slot : W2 m d (dr main_v1_2) = (k0_pay10 (k0_pay4 (ax m d) (aw m d) (ab1 m d)) (mask0 m d) : S1024x1.Idx → Elt F .i32) :=
  (w2_arr m d 7).trans ((Plan.out7 (arrs (W1 m)) 0 0 d).trans (by rw [p_xs, p_wg, p_bs]))
theorem w2_table : W2 m d (dr main_v1_3) = (k0_pay11 (k0_pay8 (mask0 m d)) (k0_pay9 (mask0 m d)) : S80x1.Idx → Elt F .i32) :=
  (w2_arr m d 8).trans ((Plan.out8 (arrs (W1 m)) 0 0 d).trans (by rw [p_xs, p_wg, p_bs]))
theorem w2_shared : W2 m d (dr main_v1_4) = (k0_pay12 (ax m d) (au m d) (av m d) : S1024x768.Idx → Elt F .f32) :=
  (w2_arr m d 9).trans ((Plan.out9 (arrs (W1 m)) 0 0 d).trans (by rw [p_xs, p_wu, p_wd]))

/-! ### After the two reshapes, and after the scatter -/

theorem w4_ne (b : Ref sig .tc) (h2 : b ≠ main_v2) (h3 : b ≠ main_v3) : W4 m d (dr b) = W2 m d (dr b) := by
  unfold W4 W3
  exact (StableHlo.reshape_result_ne main_v1_3 main_v3 rfl shapeCasts_S80x1_S80 _ _ _ h3).trans
    (StableHlo.reshape_result_ne main_v1_2 main_v2 rfl shapeCasts_S1024x1_S1024 _ _ _ h2)

theorem w4_v2 : W4 m d (dr main_v2) = shapeCast S1024 (W2 m d (dr main_v1_2) : S1024x1.Idx → Elt F .i32) shapeCasts_S1024x1_S1024 := by
  unfold W4 W3
  exact (StableHlo.reshape_result_ne main_v1_3 main_v3 rfl shapeCasts_S80x1_S80 _ _ _ (by decide)).trans
    ((StableHlo.reshape_result main_v1_2 main_v2 rfl shapeCasts_S1024x1_S1024 (by decide) (by decide) (W2 m d)).trans rfl)

theorem w4_v3 : W4 m d (dr main_v3) = shapeCast S80 (W2 m d (dr main_v1_3) : S80x1.Idx → Elt F .i32) shapeCasts_S80x1_S80 := by
  unfold W4
  refine (StableHlo.reshape_result main_v1_3 main_v3 rfl shapeCasts_S80x1_S80 (by decide) (by decide) (W3 m d)).trans ?_
  unfold W3
  rw [StableHlo.reshape_result_ne main_v1_2 main_v2 rfl shapeCasts_S1024x1_S1024 _ _ _ (show main_v1_3 ≠ main_v2 by decide)]
  rfl

theorem w5_ne (b : Ref sig .tc) (h : b ≠ main_v4) : W5 m d (dr b) = W4 m d (dr b) := by
  unfold W5
  exact Function.update_of_ne (StableHlo.devRef_ne_of_ne h) _ _

theorem w5_v4 : W5 m d (dr main_v4) = (Scatter.scattered (fx m d) (fs m d) (f4 m d) : S5120x768.Idx → Elt F .f32) := by
  unfold W5
  exact Function.update_self _ _ _

/-! ### After the experts' call, the combine and the last reshape -/

theorem w6_ne (b : Ref sig .tc) (h : ∀ w, arrRef spec2 w ≠ b) : W6 m hO d (dr b) = W5 m d (dr b) := by
  unfold W6
  exact Pipeline.withArrays_of_ne spec2 d (W5 m d) _ b h

theorem w6_arr (w) : W6 m hO d (dr (arrRef spec2 w)) = (Ffn.ffnDat (arrs (W5 m)) 1 8 (tb m) hO d).arrAt w (Ffn.cfgM (tb m) hO).N := by
  unfold W6
  exact (Ffn.ffnDat (arrs (W5 m)) 1 8 (tb m) hO d).withArrays_arrAt sharedIn2 (W5 m d) (fun w => Ffn.A_eq _ 1 8 (tb m) hO d w) w

theorem w6_in (w : Fin 34) (hw : ((Ffn.cfgM (tb m) hO).win w).isOut = false) : W6 m hO d (dr (arrRef spec2 w)) = W5 m d (dr (arrRef spec2 w)) :=
  (w6_arr m hO d w).trans (((Ffn.ffnDat (arrs (W5 m)) 1 8 (tb m) hO d).arrAt_in w hw _).trans (Ffn.A_eq (arrs (W5 m)) 1 8 (tb m) hO d w))

theorem w8_ne (b : Ref sig .tc) (h6 : b ≠ main_v6) (h7 : b ≠ main_v7) : W8 m hO d (dr b) = W6 m hO d (dr b) := by
  unfold W8 W7
  exact (StableHlo.reshape_result_ne main_v1_0 main_v7 rfl shapeCasts_S1x1_S_ _ _ _ h7).trans
    (Function.update_of_ne (StableHlo.devRef_ne_of_ne h6) _ _)

theorem w8_v6 : W8 m hO d (dr main_v6) = (Combine.combined (fa m hO d) (fs' m hO d) (fh m hO d) (fg m hO d) : S1024x768.Idx → Elt F .f32) := by
  unfold W8 W7
  exact (StableHlo.reshape_result_ne main_v1_0 main_v7 rfl shapeCasts_S1x1_S_ _ _ _ (by decide)).trans (Function.update_self _ _ _)

theorem w6_v1 (b : Ref sig .tc) (h : b = main_v1_0 ∨ b = main_v1_1 ∨ b = main_v1_4) : W6 m hO d (dr b) = W2 m d (dr b) := by
  rcases h with rfl | rfl | rfl
  all_goals exact (w6_ne m hO d _ (by decide)).trans ((w5_ne m d _ (by decide)).trans (w4_ne m d _ (by decide) (by decide)))

theorem w6_v2 : W6 m hO d (dr main_v2) = W4 m d (dr main_v2) := (w6_ne m hO d _ (by decide)).trans (w5_ne m d _ (by decide))

theorem w8_v7 : W8 m hO d (dr main_v7) = shapeCast S_ (k0_pay2 (ax m d) (aw m d)) shapeCasts_S1x1_S_ := by
  unfold W8
  refine (StableHlo.reshape_result main_v1_0 main_v7 rfl shapeCasts_S1x1_S_ (by decide) (by decide) (W7 m hO d)).trans ?_
  unfold W7
  rw [Function.update_of_ne (StableHlo.devRef_ne_of_ne (show main_v1_0 ≠ main_v6 by decide)), w6_v1 m hO d main_v1_0 (.inl rfl), w2_z]
  rfl

/-- Every argument is at the end what it was at the start. -/
theorem w8_arg0 : W8 m hO d (dr main_arg0) = m (d, dr main_arg0) :=
  (w8_ne m hO d _ (by decide) (by decide)).trans ((w6_ne m hO d _ (by decide)).trans ((w5_ne m d _ (by decide)).trans
    ((w4_ne m d _ (by decide) (by decide)).trans ((w2_in m d 0 rfl).trans (w1_ne m d main_arg0 (by decide))))))
theorem w8_arg1 : W8 m hO d (dr main_arg1) = m (d, dr main_arg1) :=
  (w8_ne m hO d _ (by decide) (by decide)).trans ((w6_ne m hO d _ (by decide)).trans ((w5_ne m d _ (by decide)).trans
    ((w4_ne m d _ (by decide) (by decide)).trans ((w2_in m d 1 rfl).trans (w1_ne m d main_arg1 (by decide))))))
theorem w8_arg2 : W8 m hO d (dr main_arg2) = m (d, dr main_arg2) :=
  (w8_ne m hO d _ (by decide) (by decide)).trans ((w6_ne m hO d _ (by decide)).trans ((w5_ne m d _ (by decide)).trans
    ((w4_ne m d _ (by decide) (by decide)).trans ((w2_ne m d _ (by decide)).trans (w1_ne m d main_arg2 (by decide))))))
theorem w5_arg3 : W5 m d (dr main_arg3) = m (d, dr main_arg3) :=
  (w5_ne m d _ (by decide)).trans ((w4_ne m d _ (by decide) (by decide)).trans ((w2_ne m d _ (by decide)).trans (w1_ne m d main_arg3 (by decide))))
theorem w5_arg4 : W5 m d (dr main_arg4) = m (d, dr main_arg4) :=
  (w5_ne m d _ (by decide)).trans ((w4_ne m d _ (by decide) (by decide)).trans ((w2_ne m d _ (by decide)).trans (w1_ne m d main_arg4 (by decide))))
theorem w8_arg3 : W8 m hO d (dr main_arg3) = m (d, dr main_arg3) :=
  (w8_ne m hO d _ (by decide) (by decide)).trans ((w6_in m hO d 1 rfl).trans (w5_arg3 m d))
theorem w8_arg4 : W8 m hO d (dr main_arg4) = m (d, dr main_arg4) :=
  (w8_ne m hO d _ (by decide) (by decide)).trans ((w6_in m hO d 3 rfl).trans (w5_arg4 m d))
theorem w8_arg5 : W8 m hO d (dr main_arg5) = m (d, dr main_arg5) :=
  (w8_ne m hO d _ (by decide) (by decide)).trans ((w6_ne m hO d _ (by decide)).trans ((w5_ne m d _ (by decide)).trans
    ((w4_ne m d _ (by decide) (by decide)).trans ((w2_in m d 3 rfl).trans (w1_ne m d main_arg5 (by decide))))))
theorem w8_arg6 : W8 m hO d (dr main_arg6) = m (d, dr main_arg6) :=
  (w8_ne m hO d _ (by decide) (by decide)).trans ((w6_ne m hO d _ (by decide)).trans ((w5_ne m d _ (by decide)).trans
    ((w4_ne m d _ (by decide) (by decide)).trans ((w2_in m d 4 rfl).trans (w1_ne m d main_arg6 (by decide))))))

theorem fx_eq : fx m d = ax m d :=
  (w4_ne m d _ (by decide) (by decide)).trans ((w2_in m d 0 rfl).trans (w1_ne m d main_arg0 (by decide)))

end Generic

/-! ### At the reals -/

variable (m : (ℓ : Loc nD τ sig) → Buf (Elt Ideal) ℓ) (d : Dev nD)

/-- The expert each token chooses. -/
abbrev chosen : Fin 1024 → Fin 64 := Plan.sel (ax m d) (aw m d) (ab1 m d)

theorem slot_at (t : Fin 1024) : fs m d (ValueIdx.ix1 t) = BitVec.ofNat 32 (Count.slot (chosen m d) t) := by
  have h := Plan.pay10_apply (chosen m d) (mask0 m d) (Plan.pay5_apply (ax m d) (aw m d) (ab1 m d)) (ob := k0_pay4 (ax m d) (aw m d) (ab1 m d)) (hob := Plan.pay4_apply (ax m d) (aw m d) (ab1 m d)) t
  rw [← h]
  change (W4 m d (dr main_v2) : S1024.Idx → BitVec 32) _ = _
  rw [w4_v2, w2_slot]
  pointwise

theorem slot_nat (t : Fin 1024) : (fs m d (ValueIdx.ix1 t) : BitVec 32).toNat = Count.slot (chosen m d) t := by
  rw [slot_at, BitVec.toNat_ofNat]
  have := Count.slot_lt (chosen m d) t
  omega

theorem ix1_self (j : S1024.Idx) : ∃ t : Fin 1024, j = ValueIdx.ix1 t := ⟨j 0, funext fun (a : Fin 1) => by match a with | 0 => rfl⟩

theorem slots_lt (j : S1024.Idx) : (fs m d j : BitVec 32).toNat < 5120 := by
  obtain ⟨t, rfl⟩ := ix1_self j
  rw [slot_nat]
  exact Count.slot_lt _ _

theorem slots_distinct : Scatter.Distinct (fs m d) := fun i j h => by
  obtain ⟨i, rfl⟩ := ix1_self i
  obtain ⟨j, rfl⟩ := ix1_self j
  have h' := (slot_nat m d i).symm.trans (h.trans (slot_nat m d j))
  rw [Count.slot_inj _ h']

theorem table_at (g : Fin 80) : (tb m 0 (Idealize.ShloMosaic.ix1 g) : BitVec 32) = BitVec.ofNat 32 (Count.starts (chosen m 0) (Plan.jof (Count.used (chosen m 0)) g) - 1) := by
  have h := Plan.pay11_apply (chosen m 0) (k0_pay8 (mask0 m 0)) (k0_pay9 (mask0 m 0)) (Plan.pay8_apply (chosen m 0) (mask0 m 0) (Plan.pay5_apply (ax m 0) (aw m 0) (ab1 m 0)))
    (Plan.pay9_apply (chosen m 0) (mask0 m 0) (Plan.pay5_apply (ax m 0) (aw m 0) (ab1 m 0))) g
  rw [← h]
  change (W5 m 0 (dr main_v3) : S80.Idx → BitVec 32) _ = _
  rw [w5_ne m 0 main_v3 (by decide), w4_v3, w2_table]
  pointwise

theorem table_nat (g : Fin 80) : (tb m 0 (Idealize.ShloMosaic.ix1 g) : BitVec 32).toNat = Count.starts (chosen m 0) (Plan.jof (Count.used (chosen m 0)) g) - 1 := by
  rw [table_at, BitVec.toNat_ofNat]
  have := Count.starts_le (chosen m 0) (Plan.jof (Count.used (chosen m 0)) g)
  omega

theorem table_lt (g : Fin 80) : (tb m 0 (Idealize.ShloMosaic.ix1 g) : BitVec 32).toNat < 64 := by
  rw [table_nat]
  have := Count.starts_le (chosen m 0) (Plan.jof (Count.used (chosen m 0)) g)
  have := Count.starts_pos (chosen m 0) (Plan.jof (Count.used (chosen m 0)) g)
  omega

theorem table_ok : Ffn.Ok (tb m) := Ffn.ok_of (tb m) fun _ _ => table_lt m _

theorem slots_lt' (j : S1024.Idx) : (fs' m (table_ok m) d j : BitVec 32).toNat < 5120 := by
  change (W6 m (table_ok m) d (dr main_v2) j : BitVec 32).toNat < 5120
  rw [w6_v2]
  exact slots_lt m d j

/-- The block of a token's slot is for the token's expert. -/
theorem table_slot (t : Fin 1024) (g : Fin 80) (hg : g.val = Count.slot (chosen m 0) t / 64) : Ffn.expert (tb m) (table_lt m) g = chosen m 0 t := Fin.ext (by
  change (tb m 0 (Idealize.ShloMosaic.ix1 g) : BitVec 32).toNat = _
  obtain ⟨_, h2⟩ := Count.slot_blk (chosen m 0) t
  have h3 := Count.bst_used (chosen m 0) (chosen m 0 t)
  rw [table_nat, Plan.jof, if_pos (by omega), hg, Count.starts_slot]
  rfl)

theorem slotOf_eq (t : Fin 1024) : (Combine.slotOf (F := Ideal) (fs' m (table_ok m) 0) t).val = Count.slot (chosen m 0) t := by
  refine (Combine.slotOf_val (F := Ideal) _ (slots_lt' m 0) t).trans ?_
  change (W6 m (table_ok m) 0 (dr main_v2) (ValueIdx.ix1 t) : BitVec 32).toNat = _
  rw [w6_v2]
  exact slot_nat m 0 t

theorem fa_eq : fa m (table_ok m) 0 = Ffn.layers (arrs (W5 m)) (tb m) (table_lt m) 0 :=
  (w6_arr m (table_ok m) 0 33).trans (Ffn.arr33 (arrs (W5 m)) 1 8 (tb m) (table_ok m) (table_lt m) 0)

/-- The sorted row at a token's slot is the token's. -/
theorem row_eq (t : Fin 1024) (u : Fin 5120) (hu : u.val = Count.slot (chosen m 0) t) (i : Fin 768) :
    (W5 m 0 (dr main_v4) : S5120x768.Idx → EReal) (Idealize.ShloMosaic.ix2 u i) = ax m 0 (Idealize.ShloMosaic.ix2 t i) := by
  rw [w5_v4, fx_eq]
  refine (Scatter.scattered_of (F := Ideal) _ _ (slots_distinct m 0) _ _ t ?_).trans ?_
  · rw [slot_nat]; exact hu.symm
  · exact congrArg (ax m 0) (funext fun (a : Fin 2) => by match a with | 0 => rfl | 1 => rfl)

/-- What the kernel leaves of a token: its expert's layer times its gate, and the shared expert's layer. -/
theorem out_at (t : Fin 1024) (c : Fin 768) :
    (W8 m (table_ok m) 0 (dr main_v6) : S1024x768.Idx → EReal) (Idealize.ShloMosaic.ix2 t c)
      = Ffn.layer (fun i => ax m 0 (Idealize.ShloMosaic.ix2 t i)) (fun f i => ag m 0 (ix3 (chosen m 0 t) (⟨f.val, by omega⟩ : Fin 256) i))
          (fun f i => ag m 0 (ix3 (chosen m 0 t) (⟨128 + f.val, by omega⟩ : Fin 256) i)) (fun f => ad m 0 (ix3 (chosen m 0 t) c f))
        * k0_pay7 (score0 m 0) (Idealize.ShloMosaic.ix2 t (⟨c.val % 16, by omega⟩ : Fin 128))
        + k0_pay12 (ax m 0) (au m 0) (av m 0) (Idealize.ShloMosaic.ix2 t c) := by
  rw [w8_v6]
  have hfa : fa m (table_ok m) 0 (ValueIdx.ix2 (Combine.slotOf (F := Ideal) (fs' m (table_ok m) 0) t) c)
      = Ffn.layer (fun i => ax m 0 (Idealize.ShloMosaic.ix2 t i)) (fun f i => ag m 0 (ix3 (chosen m 0 t) (⟨f.val, by omega⟩ : Fin 256) i))
          (fun f i => ag m 0 (ix3 (chosen m 0 t) (⟨128 + f.val, by omega⟩ : Fin 256) i)) (fun f => ad m 0 (ix3 (chosen m 0 t) c f)) := by
    rw [fa_eq]
    unfold Ffn.layers
    have hs := slotOf_eq m t
    rw [table_slot m t _ (congrArg (· / 64) hs)]
    rw [show (fun i => (arrs (W5 m) 0 main_v4 : S5120x768.Idx → EReal) (Idealize.ShloMosaic.ix2 (Combine.slotOf (F := Ideal) (fs' m (table_ok m) 0) t) i))
      = fun i => ax m 0 (Idealize.ShloMosaic.ix2 t i) from funext fun i => row_eq m t _ hs i]
    have h3 : (arrs (W5 m) 0 main_arg3 : S64x256x768.Idx → EReal) = ag m 0 := w5_arg3 m 0
    have h4 : (arrs (W5 m) 0 main_arg4 : S64x768x128.Idx → EReal) = ad m 0 := w5_arg4 m 0
    rw [h3, h4]
  have hg : fg m (table_ok m) 0 = (k0_pay7 (score0 m 0) : S1024x128.Idx → EReal) := (w6_v1 m (table_ok m) 0 main_v1_1 (.inr (.inl rfl))).trans (w2_gate m 0)
  have hh : fh m (table_ok m) 0 = (k0_pay12 (ax m 0) (au m 0) (av m 0) : S1024x768.Idx → EReal) := (w6_v1 m (table_ok m) 0 main_v1_4 (.inr (.inr rfl))).trans (w2_shared m 0)
  change fa m (table_ok m) 0 (ValueIdx.ix2 (Combine.slotOf (F := Ideal) (fs' m (table_ok m) 0) t) c) * fg m (table_ok m) 0 (ValueIdx.ix2 t ⟨c.val % 16, by omega⟩) + fh m (table_ok m) 0 (Idealize.ShloMosaic.ix2 t c) = _
  rw [hfa, hg, hh]
  rfl

end Cert.Proof.Whole.Values
-- ==== Proof.W.LayerValue.lean ====
/-
  The reference's two results, element by element: its greatest biased score, its takes, its products.
-/
module

public import proofs.«01_k».proof.Proof.Gen.LayerIdeal
public import proofs.«01_k».proof.Proof.Gen.LayerIdeal.Run
public import proofs.«01_k».proof.Proof.W.PlanIdeal
public import proofs.«01_k».proof.Proof.W.FfnValue
public import Idealize.ShloMosaic.Lib.Pointwise

@[expose] public section

set_option maxRecDepth 16384

noncomputable section

namespace Cert.Proof.Layer

open Cert.LayerIdeal Cert.LayerIdeal.Gen
open Idealize.ShloMosaic Idealize.ShloMosaic.TcCoe Idealize.ShloMosaic.Tactic Idealize.SL.Sem

section Terms

variable {F : FTy → Type} [FloatOps F]

def logits (x : FVec F S1024x768 .f32) (w : FVec F S64x768 .f32) : FVec F S1024x64 .f32 :=
  Host.dotGeneral dot_S1024x768_S768x64_S1024x64_1_0_0_1_n_n none x (transpose S768x64 [1, 0] w transposes_S64x768_S768x64_1_0)
def probs (l : FVec F S1024x64 .f32) : FVec F S1024x64 .f32 :=
  Host.divf (broadcastInDim S1024x64 ![] bcast_S_S1024x64 (constant S_ .f32 0x3F800000#32)) (addf (broadcastInDim S1024x64 ![] bcast_S_S1024x64 (constant S_ .f32 0x3F800000#32)) (Host.exp (Host.negf l)))
def biased (p : FVec F S1024x64 .f32) (b : FVec F S64 .f32) : FVec F S1024x64 .f32 :=
  addf p (broadcastInDim S1024x64 ![0, 1] bcast_S1x64_S1024x64_0_1 (broadcastInDim S1x64 ![1] bcast_S64_S1x64_1 b))
def best (v : FVec F S1024x64 .f32) : IVec S1024x1 32 :=
  (Host.topK S1024x1 1 (FloatOps.cmpfTotal .gt) v sliceFits_S1024x64_S1024x1).2
def flat (i : IVec S1024x1 32) : IVec S1024 32 := shapeCast S1024 i shapeCasts_S1024x1_S1024
def wrapped (i : IVec S1024x1 32) : IVec S1024x1 32 :=
  broadcastInDim S1024x1 ![0] bcast_S1024_S1024x1_0 (select (cmpi .slt (flat i) (broadcastInDim S1024 ![] bcast_S_S1024 (constantI S_ 32 0#32))) (addi (flat i) (broadcastInDim S1024 ![] bcast_S_S1024 (constantI S_ 32 64#32))) (flat i))
def inside (j : IVec S1024x1 32) : IVec S1024 1 :=
  Host.reduce IntOp.andi (andi (cmpi .sge j (broadcastInDim S1024x1 ![] bcast_S_S1024x1 (constantI S_ 32 0#32)))
    (cmpi .sle j (broadcastInDim S1024x1 ![0, 1] bcast_S1x1_S1024x1_0_1 (broadcastInDim S1x1 ![1] bcast_S1_S1x1_1 (constantI S1 32 63#32))))) (constantI S_ 1 1#1) reducesTo_S1024x1_S1024_d1 h_S_
def takeG (g : FVec F S64x256x768 .f32) (i : IVec S1024x1 32) : FVec F S1024x256x768 .f32 :=
  select (broadcastInDim S1024x256x768 ![0] bcast_S1024_S1024x256x768_0 (inside (wrapped i))) (Host.gather gather_S64x256x768_S1024x1_S1024x256x768_12_0_n_n_0_1_1256768 g (wrapped i))
    (broadcastInDim S1024x256x768 ![] bcast_S_S1024x256x768 (constant S_ .f32 0x7FC00000#32))
def takeD (d : FVec F S64x768x128 .f32) (i : IVec S1024x1 32) : FVec F S1024x768x128 .f32 :=
  select (broadcastInDim S1024x768x128 ![0] bcast_S1024_S1024x768x128_0 (inside (wrapped i))) (Host.gather gather_S64x768x128_S1024x1_S1024x768x128_12_0_n_n_0_1_1768128 d (wrapped i))
    (broadcastInDim S1024x768x128 ![] bcast_S_S1024x768x128 (constant S_ .f32 0x7FC00000#32))
def act (h : FVec F S1024x256 .f32) : FVec F S1024x128 .f32 :=
  mulf (mulf (extractStridedSlice S1024x128 ![0, 0] h slices_S1024x256_S1024x128_0_0)
    (Host.divf (broadcastInDim S1024x128 ![] bcast_S_S1024x128 (constant S_ .f32 0x3F800000#32)) (addf (broadcastInDim S1024x128 ![] bcast_S_S1024x128 (constant S_ .f32 0x3F800000#32)) (Host.exp (Host.negf (extractStridedSlice S1024x128 ![0, 0] h slices_S1024x256_S1024x128_0_0))))))
    (extractStridedSlice S1024x128 ![0, 128] h slices_S1024x256_S1024x128_0_128)
def wrapped3 (i : IVec S1024x1 32) : IVec S1024x1x1 32 :=
  shapeCast S1024x1x1 (select (cmpi .slt i (broadcastInDim S1024x1 ![] bcast_S_S1024x1 (constantI S_ 32 0#32))) (addi i (broadcastInDim S1024x1 ![] bcast_S_S1024x1 (constantI S_ 32 64#32))) i) shapeCasts_S1024x1_S1024x1x1
def inside3 (j : IVec S1024x1x1 32) : IVec S1024x1 1 :=
  Host.reduce IntOp.andi (andi (cmpi .sge j (broadcastInDim S1024x1x1 ![] bcast_S_S1024x1x1 (constantI S_ 32 0#32)))
    (cmpi .sle j (broadcastInDim S1024x1x1 ![0, 1, 2] bcast_S1x1x1_S1024x1x1_0_1_2 (broadcastInDim S1x1x1 ![2] bcast_S1_S1x1x1_2 (constantI S1 32 63#32))))) (constantI S_ 1 1#1) reducesTo_S1024x1x1_S1024x1_d2 h_S_
def picked (p : FVec F S1024x64 .f32) (i : IVec S1024x1 32) : FVec F S1024x1 .f32 :=
  select (inside3 (wrapped3 i)) (Host.gather gather_S1024x64_S1024x1x1_S1024x1_n_1_0_0_1_2_11 p (wrapped3 i)) (broadcastInDim S1024x1 ![] bcast_S_S1024x1 (constant S_ .f32 0x7FC00000#32))
def gate (q : FVec F S1024x1 .f32) : FVec F S1024x1 .f32 :=
  Host.divf q (addf (broadcastInDim S1024x1 ![0] bcast_S1024_S1024x1_0 (Host.reduceAdd q (constant S_ .f32 0x00000000#32) reducesTo_S1024x1_S1024_d1 h_S_)) (broadcastInDim S1024x1 ![] bcast_S_S1024x1 (constant S_ .f32 0x3089705F#32)))
def routed (x : FVec F S1024x768 .f32) (g : FVec F S1024x256x768 .f32) (d : FVec F S1024x768x128 .f32) : FVec F S1024x768 .f32 :=
  Host.dotGeneral dot_S1024x128_S1024x768x128_S1024x768_1_2_n_1_0_0 none (act (Host.dotGeneral dot_S1024x768_S1024x256x768_S1024x256_1_2_n_1_0_0 none x g)) d
def shared (x : FVec F S1024x768 .f32) (u : FVec F S256x768 .f32) (v : FVec F S768x128 .f32) : FVec F S1024x768 .f32 :=
  Host.dotGeneral dot_S1024x128_S128x768_S1024x768_1_0_0_1_n_n none
    (act (Host.dotGeneral dot_S1024x768_S768x256_S1024x256_1_0_0_1_n_n none x (transpose S768x256 [1, 0] u transposes_S256x768_S768x256_1_0))) (transpose S128x768 [1, 0] v transposes_S768x128_S128x768_1_0)
def whole (x : FVec F S1024x768 .f32) (w : FVec F S64x768 .f32) (b : FVec F S64 .f32) (g : FVec F S64x256x768 .f32) (d : FVec F S64x768x128 .f32) (u : FVec F S256x768 .f32) (v : FVec F S768x128 .f32) :
    FVec F S1024x768 .f32 :=
  let p := probs (logits x w)
  let i := best (biased p b)
  addf (mulf (routed x (takeG g i) (takeD d i)) (broadcastInDim S1024x768 ![0, 1] bcast_S1024x1_S1024x768_0_1 (gate (picked p i)))) (shared x u v)
def lse (l : FVec F S1024x64 .f32) : FVec F S1024 .f32 := Host.log (Host.reduceAdd (Host.exp l) (constant S_ .f32 0x00000000#32) reducesTo_S1024x64_S1024_d1 h_S_)
def zloss (x : FVec F S1024x768 .f32) (w : FVec F S64x768 .f32) : FVec F S_ .f32 :=
  mulf (constant S_ .f32 0x3A83126F#32) (Host.divf (Host.reduceAdd (mulf (lse (logits x w)) (lse (logits x w))) (constant S_ .f32 0x00000000#32) reducesTo_S1024_S_d0 h_S_) (constant S_ .f32 0x44800000#32))

theorem res_eq (m : (ℓ : Loc nD τ sig) → Buf (Elt F) ℓ) (c : Dev nD) :
    Value.res_main_v43 m c = whole (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) := rfl

end Terms

/-! ### At the reals -/

theorem wrap_word : ∀ n : Fin 64, Scalar.select (IntOp.cmpi CmpIPredicate.slt (BitVec.ofNat 32 n.val) 0#32) (IntOp.addi (BitVec.ofNat 32 n.val) 64#32) (BitVec.ofNat 32 n.val) = BitVec.ofNat 32 n.val := by
  decide +kernel

theorem inside_word : ∀ n : Fin 64, IntOp.andi (IntOp.cmpi CmpIPredicate.sge (BitVec.ofNat 32 n.val) 0#32) (IntOp.cmpi CmpIPredicate.sle (BitVec.ofNat 32 n.val) 63#32) = 1#1 := by
  decide +kernel

theorem at_word : ∀ n : Fin 64, min (BitVec.ofNat 32 n.val : BitVec 32).toInt.toNat (64 - 1) = n.val := by decide +kernel

section
variable (s : Fin 1024 → Fin 64) (i : IVec S1024x1 32) (hi : ∀ t, i (ix2 t 0) = BitVec.ofNat 32 (s t).val)
include hi

theorem flat_at (t : Fin 1024) : flat i (ix1 t) = BitVec.ofNat 32 (s t).val := by
  rw [← hi]
  pointwise [flat]

theorem wrapped_at (t : Fin 1024) : wrapped i (ix2 t 0) = BitVec.ofNat 32 (s t).val := by
  pointwise [wrapped]
  rw [flat_at s i hi, wrap_word]

theorem inside_at (t : Fin 1024) : inside (wrapped i) (ix1 t) = 1#1 := by
  pointwise [inside]
  rw [show (Finset.univ : Finset (Fin 1)) = {0} from rfl, Finset.fold_singleton, wrapped_at s i hi, inside_word]
  rfl

theorem gatherG_at (g : FVec Ideal S64x256x768 .f32) (t : Fin 1024) (f : Fin 256) (k : Fin 768) :
    Host.gather gather_S64x256x768_S1024x1_S1024x256x768_12_0_n_n_0_1_1256768 g (wrapped i) (ix3 t f k) = g (ix3 (s t) f k) := by
  unfold Host.gather
  refine congrArg g (funext fun (a : Fin 3) => Fin.ext ?_)
  change (gather_S64x256x768_S1024x1_S1024x256x768_12_0_n_n_0_1_1256768).start (ix3 t f k) (wrapped i) a + (gather_S64x256x768_S1024x1_S1024x256x768_12_0_n_n_0_1_1256768).batchCoord (ix3 t f k) a + (gather_S64x256x768_S1024x1_S1024x256x768_12_0_n_n_0_1_1256768).offCoord (ix3 t f k) a = _
  rw [GatherDims.batchCoord_eq_zero _ _ _ List.not_mem_nil]
  match a with
  | 0 =>
    rw [GatherDims.offCoord_eq_zero _ _ _ (fun h => ((GatherDims.mem_sKept _ _).mp h).1 (List.mem_singleton.mpr rfl))]
    have hw : min (wrapped i (ix2 t 0)).toInt.toNat (64 - 1) = (s t).val := by rw [wrapped_at s i hi, at_word]
    refine Eq.trans ?_ hw
    simp only [Nat.add_zero]
    unfold GatherDims.start
    rw [dif_pos (show (0 : Fin 3) ∈ (gather_S64x256x768_S1024x1_S1024x256x768_12_0_n_n_0_1_1256768).startIndexMap from List.mem_singleton.mpr rfl)]
    have hsi : (gather_S64x256x768_S1024x1_S1024x256x768_12_0_n_n_0_1_1256768).siIdx (ix3 t f k) ⟨List.idxOf (0 : Fin 3) (gather_S64x256x768_S1024x1_S1024x256x768_12_0_n_n_0_1_1256768).startIndexMap,
        List.idxOf_lt_length_iff.2 (List.mem_singleton.mpr rfl)⟩ = ix2 t 0 := by
      funext b; refine Fin.ext ?_
      match b with
      | ⟨0, _⟩ => rfl
      | ⟨1, _⟩ => rfl
    rw [hsi]
    rfl
  | 1 =>
    unfold GatherDims.start GatherDims.offCoord
    rw [dif_neg (show (1 : Fin 3) ∉ (gather_S64x256x768_S1024x1_S1024x256x768_12_0_n_n_0_1_1256768).startIndexMap from fun h => absurd (List.mem_singleton.mp h) (by decide)),
      dif_pos ((GatherDims.mem_sKept _ _).mpr ⟨fun h => absurd (List.mem_singleton.mp h) (by decide), List.not_mem_nil⟩)]
    simp only [Nat.zero_add, Nat.add_zero]
    rfl
  | 2 =>
    unfold GatherDims.start GatherDims.offCoord
    rw [dif_neg (show (2 : Fin 3) ∉ (gather_S64x256x768_S1024x1_S1024x256x768_12_0_n_n_0_1_1256768).startIndexMap from fun h => absurd (List.mem_singleton.mp h) (by decide)),
      dif_pos ((GatherDims.mem_sKept _ _).mpr ⟨fun h => absurd (List.mem_singleton.mp h) (by decide), List.not_mem_nil⟩)]
    simp only [Nat.zero_add, Nat.add_zero]
    rfl

theorem gatherD_at (g : FVec Ideal S64x768x128 .f32) (t : Fin 1024) (f : Fin 768) (k : Fin 128) :
    Host.gather gather_S64x768x128_S1024x1_S1024x768x128_12_0_n_n_0_1_1768128 g (wrapped i) (ix3 t f k) = g (ix3 (s t) f k) := by
  unfold Host.gather
  refine congrArg g (funext fun (a : Fin 3) => Fin.ext ?_)
  change (gather_S64x768x128_S1024x1_S1024x768x128_12_0_n_n_0_1_1768128).start (ix3 t f k) (wrapped i) a + (gather_S64x768x128_S1024x1_S1024x768x128_12_0_n_n_0_1_1768128).batchCoord (ix3 t f k) a + (gather_S64x768x128_S1024x1_S1024x768x128_12_0_n_n_0_1_1768128).offCoord (ix3 t f k) a = _
  rw [GatherDims.batchCoord_eq_zero _ _ _ List.not_mem_nil]
  match a with
  | 0 =>
    rw [GatherDims.offCoord_eq_zero _ _ _ (fun h => ((GatherDims.mem_sKept _ _).mp h).1 (List.mem_singleton.mpr rfl))]
    have hw : min (wrapped i (ix2 t 0)).toInt.toNat (64 - 1) = (s t).val := by rw [wrapped_at s i hi, at_word]
    refine Eq.trans ?_ hw
    simp only [Nat.add_zero]
    unfold GatherDims.start
    rw [dif_pos (show (0 : Fin 3) ∈ (gather_S64x768x128_S1024x1_S1024x768x128_12_0_n_n_0_1_1768128).startIndexMap from List.mem_singleton.mpr rfl)]
    have hsi : (gather_S64x768x128_S1024x1_S1024x768x128_12_0_n_n_0_1_1768128).siIdx (ix3 t f k) ⟨List.idxOf (0 : Fin 3) (gather_S64x768x128_S1024x1_S1024x768x128_12_0_n_n_0_1_1768128).startIndexMap,
        List.idxOf_lt_length_iff.2 (List.mem_singleton.mpr rfl)⟩ = ix2 t 0 := by
      funext b; refine Fin.ext ?_
      match b with
      | ⟨0, _⟩ => rfl
      | ⟨1, _⟩ => rfl
    rw [hsi]
    rfl
  | 1 =>
    unfold GatherDims.start GatherDims.offCoord
    rw [dif_neg (show (1 : Fin 3) ∉ (gather_S64x768x128_S1024x1_S1024x768x128_12_0_n_n_0_1_1768128).startIndexMap from fun h => absurd (List.mem_singleton.mp h) (by decide)),
      dif_pos ((GatherDims.mem_sKept _ _).mpr ⟨fun h => absurd (List.mem_singleton.mp h) (by decide), List.not_mem_nil⟩)]
    simp only [Nat.zero_add, Nat.add_zero]
    rfl
  | 2 =>
    unfold GatherDims.start GatherDims.offCoord
    rw [dif_neg (show (2 : Fin 3) ∉ (gather_S64x768x128_S1024x1_S1024x768x128_12_0_n_n_0_1_1768128).startIndexMap from fun h => absurd (List.mem_singleton.mp h) (by decide)),
      dif_pos ((GatherDims.mem_sKept _ _).mpr ⟨fun h => absurd (List.mem_singleton.mp h) (by decide), List.not_mem_nil⟩)]
    simp only [Nat.zero_add, Nat.add_zero]
    rfl

theorem takeG_at (g : FVec Ideal S64x256x768 .f32) (t : Fin 1024) (f : Fin 256) (k : Fin 768) : takeG g i (ix3 t f k) = g (ix3 (s t) f k) := by
  pointwise [takeG]
  rw [inside_at s i hi, gatherG_at s i hi]
  rfl

theorem takeD_at (d : FVec Ideal S64x768x128 .f32) (t : Fin 1024) (k : Fin 768) (f : Fin 128) : takeD d i (ix3 t k f) = d (ix3 (s t) k f) := by
  pointwise [takeD]
  rw [inside_at s i hi, gatherD_at s i hi]
  rfl

theorem wrapped3_at (t : Fin 1024) : wrapped3 i (ix3 t 0 0) = BitVec.ofNat 32 (s t).val := by
  pointwise [wrapped3]
  rw [hi, wrap_word]

theorem inside3_at (t : Fin 1024) : inside3 (wrapped3 i) (ix2 t 0) = 1#1 := by
  pointwise [inside3]
  rw [show (Finset.univ : Finset (Fin 1)) = {0} from rfl, Finset.fold_singleton, wrapped3_at s i hi, inside_word]
  rfl

theorem gatherP_at (p : FVec Ideal S1024x64 .f32) (t : Fin 1024) :
    Host.gather gather_S1024x64_S1024x1x1_S1024x1_n_1_0_0_1_2_11 p (wrapped3 i) (ix2 t 0) = p (ix2 t (s t)) := by
  unfold Host.gather
  refine congrArg p (funext fun (a : Fin 2) => Fin.ext ?_)
  change (gather_S1024x64_S1024x1x1_S1024x1_n_1_0_0_1_2_11).start (ix2 t 0) (wrapped3 i) a + (gather_S1024x64_S1024x1x1_S1024x1_n_1_0_0_1_2_11).batchCoord (ix2 t 0) a + (gather_S1024x64_S1024x1x1_S1024x1_n_1_0_0_1_2_11).offCoord (ix2 t 0) a = _
  match a with
  | 0 =>
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ (gather_S1024x64_S1024x1x1_S1024x1_n_1_0_0_1_2_11).operandBatchingDims from List.mem_singleton.mpr rfl)]
    rfl
  | 1 =>
    rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    have hw : min (wrapped3 i (ix3 t 0 0)).toInt.toNat (64 - 1) = (s t).val := by rw [wrapped3_at s i hi, at_word]
    refine Eq.trans ?_ hw
    simp only [Nat.add_zero]
    unfold GatherDims.start
    rw [dif_pos (show (1 : Fin 2) ∈ (gather_S1024x64_S1024x1x1_S1024x1_n_1_0_0_1_2_11).startIndexMap from List.mem_singleton.mpr rfl)]
    have hsi : (gather_S1024x64_S1024x1x1_S1024x1_n_1_0_0_1_2_11).siIdx (ix2 t 0) ⟨List.idxOf (1 : Fin 2) (gather_S1024x64_S1024x1x1_S1024x1_n_1_0_0_1_2_11).startIndexMap,
        List.idxOf_lt_length_iff.2 (List.mem_singleton.mpr rfl)⟩ = ix3 t 0 0 := by
      funext b; refine Fin.ext ?_
      match b with
      | ⟨0, _⟩ => rfl
      | ⟨1, _⟩ => rfl
      | ⟨2, _⟩ => rfl
    rw [hsi]
    rfl

theorem picked_at (p : FVec Ideal S1024x64 .f32) (t : Fin 1024) : picked p i (ix2 t 0) = p (ix2 t (s t)) := by
  pointwise [picked]
  rw [inside3_at s i hi, gatherP_at s i hi]
  rfl
end

/-! ### The greatest score -/

theorem head_sort (sc : Fin 64 → EReal) : ∀ l : List (Fin 64), l.Pairwise (· < ·) → ∀ m r, stableSort (fun a b => decide (sc b < sc a)) l = m :: r →
    m ∈ l ∧ (∀ e ∈ l, sc e ≤ sc m) ∧ ∀ e ∈ l, e < m → sc e < sc m
  | [], _, m, r, h => nomatch h
  | a :: l, hp, m, r, h => by
    have ih := head_sort sc l (List.pairwise_cons.1 hp).2
    have ha := (List.pairwise_cons.1 hp).1
    unfold stableSort at h
    cases hl : stableSort (fun a b => decide (sc b < sc a)) l with
    | nil =>
      rw [hl] at h
      obtain rfl : a = m := (List.cons.inj h).1
      obtain rfl : l = [] := List.length_eq_zero_iff.1 (by rw [← length_stableSort, hl]; rfl)
      exact ⟨by simp, by simp, by simp⟩
    | cons b r' =>
      obtain ⟨h1, h2, h3⟩ := ih b r' hl
      rw [hl] at h
      unfold insertBefore at h
      by_cases hb : sc a < sc b
      · simp only [hb, decide_true, if_true] at h
        obtain rfl : b = m := (List.cons.inj h).1
        refine ⟨List.mem_cons_of_mem _ h1, fun e he => ?_, fun e he hlt => ?_⟩
        · rcases List.mem_cons.1 he with rfl | he
          · exact hb.le
          · exact h2 e he
        · rcases List.mem_cons.1 he with rfl | he
          · exact hb
          · exact h3 e he hlt
      · simp only [hb, decide_false, Bool.false_eq_true, if_false] at h
        obtain rfl : a = m := (List.cons.inj h).1
        refine ⟨List.mem_cons_self, fun e he => ?_, fun e he hlt => ?_⟩
        · rcases List.mem_cons.1 he with rfl | he
          · exact le_refl _
          · exact (h2 e he).trans (not_lt.1 hb)
        · rcases List.mem_cons.1 he with rfl | he
          · exact absurd hlt (lt_irrefl _)
          · exact absurd (hlt.trans (ha e he)) (lt_irrefl _)

theorem sorted_first (sc : Fin 64 → EReal) : sortedFrom (fun a b : Fin 64 => decide (sc b < sc a)) 0 = Whole.Plan.first sc := by
  have hl := length_sortPositions 64 (fun a b : Fin 64 => decide (sc b < sc a))
  cases h : sortPositions 64 (fun a b : Fin 64 => decide (sc b < sc a)) with
  | nil => rw [h] at hl; exact absurd hl (by decide)
  | cons m r =>
    obtain ⟨_, h2, h3⟩ := head_sort sc _ (List.pairwise_lt_finRange 64) m r h
    have e : sortedFrom (fun a b : Fin 64 => decide (sc b < sc a)) 0 = m := by
      unfold sortedFrom
      simp [h]
    rw [e]
    exact (Whole.Plan.first_unique ⟨fun e => h2 e (List.mem_finRange e), fun e he => h3 e (List.mem_finRange e) he⟩).symm

theorem along_at (t : Fin 1024) (k : Fin 64) : (Shape.Idx.along (s := S1024x64) (ix2 t 0) (1 : Fin 2) k) = ix2 t k := by
  funext (b : Fin 2)
  match b with
  | 0 => rfl
  | 1 => rfl

attribute [local irreducible] sortedFrom in
theorem topK_at (cmp : EReal → EReal → BitVec 1) (v : S1024x64.Idx → EReal) (t : Fin 1024) :
    (Host.topK S1024x1 1 cmp v sliceFits_S1024x64_S1024x1).2 (ix2 t 0) =
      BitVec.ofNat 32 (sortedFrom (n := 64) (fun k k' => cmp (v (ix2 t k)) (v (ix2 t k')) == 1#1) 0).val := by
  have hJ : ∀ J : S1024x64.Idx, J = ix2 t 0 → iotaInDim S1024x64 32 (1 : Fin 2) (Shape.Idx.along (s := S1024x64) J (1 : Fin 2) (sortedFrom (n := 64)
      (fun k k' : Fin 64 => cmp (v (Shape.Idx.along (s := S1024x64) J (1 : Fin 2) k)) (v (Shape.Idx.along (s := S1024x64) J (1 : Fin 2) k')) == 1#1) (J (1 : Fin 2)))) =
      BitVec.ofNat 32 (sortedFrom (n := 64) (fun k k' => cmp (v (ix2 t k)) (v (ix2 t k')) == 1#1) 0).val := by
    intro J hJ
    subst hJ
    simp only [along_at]
    change iotaInDim S1024x64 32 (1 : Fin 2) (ix2 t (sortedFrom (n := 64) (fun k k' => cmp (v (ix2 t k)) (v (ix2 t k')) == 1#1) 0)) = _
    generalize sortedFrom (n := 64) _ 0 = q
    rfl
  refine Eq.trans ?_ (hJ (fun a => ⟨0 + ((ix2 t (0 : Fin 1) : S1024x1.Idx) (Fin.cast rfl a)).val,
    lt_of_lt_of_le (Nat.add_lt_add_left ((ix2 t (0 : Fin 1) : S1024x1.Idx) (Fin.cast rfl a)).isLt _) ((sliceFits_S1024x64_S1024x1).2 a)⟩) ?_)
  · rfl
  · funext (b : Fin 2)
    refine Fin.ext ?_
    match b with
    | 0 => exact Nat.zero_add _
    | 1 => exact Nat.zero_add _

theorem best_at (v : FVec Ideal S1024x64 .f32) (t : Fin 1024) : best v (ix2 t 0) = BitVec.ofNat 32 (Whole.Plan.first fun e => v (ix2 t e)).val := by
  rw [← sorted_first]
  have hc : ∀ a b : EReal, (FloatOps.cmpfTotal (F := Ideal) (φ := .f32) CmpDirection.gt a b == 1#1) = decide (b < a) := by
    intro a b
    change (Ideal.cmp CmpDirection.gt.ordered a b == 1#1) = _
    unfold Ideal.cmp
    by_cases h : b < a <;> simp [h, CmpDirection.ordered]
  have hg : (fun a b : Fin 64 => decide (v (ix2 t b) < v (ix2 t a))) =
      fun k k' : Fin 64 => FloatOps.cmpfTotal (F := Ideal) (φ := .f32) CmpDirection.gt (v (ix2 t k)) (v (ix2 t k')) == 1#1 :=
    funext fun a => funext fun b => (hc _ _).symm
  rw [hg]
  exact topK_at (FloatOps.cmpfTotal (F := Ideal) (φ := .f32) CmpDirection.gt) v t

end Cert.Proof.Layer
-- ==== Proof.W.LayerEq.lean ====
/-
  The kernel's two results against the reference's: the shift by the greatest logit drops out of the
  squared log-sum-exp, and the gate, the expert and the shared layer agree element by element.
-/
module

public import proofs.«01_k».proof.Proof.W.Values
public import proofs.«01_k».proof.Proof.W.LayerValue

@[expose] public section

set_option maxRecDepth 16384

noncomputable section

namespace Cert.Proof.Layer

open Idealize.ShloMosaic Idealize.ShloMosaic.TcCoe Idealize.ShloMosaic.Tactic Idealize.SL.Sem

/-! ### The log-sum-exp -/

theorem exp_nonneg (x : EReal) : 0 ≤ Ideal.exp x := by
  induction x with
  | bot => exact le_refl _
  | top => exact le_top
  | coe r => exact EReal.coe_nonneg.2 (Real.exp_pos r).le

theorem sum_coe {n : Nat} (a : Fin n → ℝ) : (∑ e, (a e : EReal)) = ((∑ e, a e : ℝ) : EReal) := by
  induction n with
  | zero => simp
  | succ n ih => rw [Fin.sum_univ_succ, Fin.sum_univ_succ, ih, EReal.coe_add]

theorem log_zero : Ideal.log 0 = ⊥ := by
  rw [show (0 : EReal) = ((0 : ℝ) : EReal) from rfl, Ideal.log_coe, if_pos (le_refl _)]

theorem lse_sq (l : Fin 64 → EReal) (M : EReal) (hM : M = Finset.univ.sup l) :
    (M + Ideal.log (∑ e, Ideal.exp (l e - M))) * (M + Ideal.log (∑ e, Ideal.exp (l e - M)))
      = Ideal.log (∑ e, Ideal.exp (l e)) * Ideal.log (∑ e, Ideal.exp (l e)) := by
  have hle : ∀ e, l e ≤ M := fun e => hM ▸ Finset.le_sup (Finset.mem_univ e)
  obtain ⟨e0, _, he0⟩ := Finset.exists_mem_eq_sup Finset.univ ⟨(0 : Fin 64), Finset.mem_univ _⟩ l
  rw [← hM] at he0
  clear hM
  induction M with
  | bot =>
    have h : ∀ e, l e = ⊥ := fun e => le_bot_iff.1 (hle e)
    simp [h, log_zero]
  | top =>
    have h1 : (∑ e, Ideal.exp (l e)) = ⊤ := by
      refine top_le_iff.1 (le_trans ?_ (Finset.single_le_sum (fun e _ => exp_nonneg (l e)) (Finset.mem_univ e0)))
      rw [← he0]
      exact le_refl _
    rw [h1]
    have h2 : ∀ e, l e - ⊤ = ⊥ := fun e => EReal.sub_top _
    simp [h2, log_zero]
  | coe r =>
    have ha : ∀ e, ∃ a : ℝ, 0 ≤ a ∧ Ideal.exp (l e) = (a : EReal) ∧ Ideal.exp (l e - r) = ((a * Real.exp (-r) : ℝ) : EReal) := by
      intro e
      have h := hle e
      generalize l e = y at h
      induction y with
      | bot => exact ⟨0, le_refl _, by simp, by simp⟩
      | top => exact absurd (top_le_iff.1 h) (EReal.coe_ne_top r)
      | coe q =>
        refine ⟨Real.exp q, (Real.exp_pos q).le, rfl, ?_⟩
        rw [← EReal.coe_sub, ← Real.exp_add, ← sub_eq_add_neg]
        rfl
    choose a h0 h1 h2 using ha
    have hp : 0 < ∑ e, a e := by
      refine lt_of_lt_of_le ?_ (Finset.single_le_sum (fun e _ => h0 e) (Finset.mem_univ e0))
      have h := h1 e0
      rw [← he0] at h
      have h' : Real.exp r = a e0 := EReal.coe_injective h
      exact h' ▸ Real.exp_pos r
    have hs : (r : EReal) + Ideal.log (∑ e, Ideal.exp (l e - r)) = Ideal.log (∑ e, Ideal.exp (l e)) := by
      simp only [h1, h2, sum_coe]
      rw [← Finset.sum_mul, Ideal.log_coe, Ideal.log_coe, if_neg (not_le.2 hp), if_neg (not_le.2 (mul_pos hp (Real.exp_pos _))),
        ← EReal.coe_add, Real.log_mul hp.ne' (Real.exp_pos _).ne', Real.log_exp]
      congr 1
      ring
    rw [hs]

/-! ### The two results -/

section
variable (x : FVec Ideal LayerIdeal.S1024x768 .f32) (w : FVec Ideal LayerIdeal.S64x768 .f32)

theorem zloss_eq (o : LayerIdeal.S_.Idx) : (WholeIdeal.Gen.k0_pay2 (F := Ideal) x w) (ix2 0 0) = zloss x w o := by
  pointwise [WholeIdeal.Gen.k0_pay2, WholeIdeal.Gen.k0_pay1, zloss, lse, logits]
  rw [Whole.Plan.neg_inf]
  refine congrArg (fun z => _ * Ideal.div z _) (Finset.sum_congr rfl fun t _ => ?_)
  rw [Fin.sum_univ_one]
  exact lse_sq (fun e => ∑ k, x (ix2 t k) * w (ix2 e k)) _ rfl

theorem probs_at (t : Fin 1024) (e : Fin 64) : probs (logits x w) (ix2 t e) = (WholeIdeal.Gen.k0_pay3 (F := Ideal) x w) (ix2 t e) := by
  pointwise [probs, logits, WholeIdeal.Gen.k0_pay3, WholeIdeal.Gen.k0_pay1]
  rfl

theorem biased_at (b : FVec Ideal LayerIdeal.S64 .f32) (b1 : Vec Ideal WholeIdeal.S1x64 .f32) (hb : ∀ e : Fin 64, b1 (ix2 0 e) = b (ix1 e)) (t : Fin 1024) :
    (fun e => biased (probs (logits x w)) b (ix2 t e)) = Whole.Plan.score x w b1 t := by
  funext e
  unfold Whole.Plan.score
  rw [← probs_at, hb]
  pointwise [biased]

theorem routed_at (g : FVec Ideal LayerIdeal.S1024x256x768 .f32) (d : FVec Ideal LayerIdeal.S1024x768x128 .f32) (t : Fin 1024) (c : Fin 768) :
    routed x g d (ix2 t c) = Whole.Ffn.layer (fun i => x (ix2 t i)) (fun f i => g (ix3 t (⟨f.val, by omega⟩ : Fin 256) i))
      (fun f i => g (ix3 t (⟨128 + f.val, by omega⟩ : Fin 256) i)) (fun f => d (ix3 t c f)) := by
  pointwise [routed, act]
  unfold Whole.Ffn.layer
  rfl

theorem shared_at (u : FVec Ideal LayerIdeal.S256x768 .f32) (v : FVec Ideal LayerIdeal.S768x128 .f32) (t : Fin 1024) (c : Fin 768) :
    shared x u v (ix2 t c) = (WholeIdeal.Gen.k0_pay12 (F := Ideal) x u v) (ix2 t c) := by
  pointwise [shared, act, WholeIdeal.Gen.k0_pay12]
  rfl

theorem gate_at (b1 : Vec Ideal WholeIdeal.S1x64 .f32) (i : IVec LayerIdeal.S1024x1 32) (hi : ∀ t, i (ix2 t 0) = BitVec.ofNat 32 (Whole.Plan.sel x w b1 t).val) (t : Fin 1024) (j : Fin 128) :
    gate (picked (probs (logits x w)) i) (ix2 t 0) = (WholeIdeal.Gen.k0_pay7 (F := Ideal) (WholeIdeal.Gen.k0_pay6 x w b1)) (ix2 t j) := by
  have hs : (∑ e, (WholeIdeal.Gen.k0_pay6 (F := Ideal) x w b1) (ix2 t e)) = picked (probs (logits x w)) i (ix2 t 0) := by
    rw [picked_at _ _ hi, probs_at]
    rw [Finset.sum_congr rfl fun e _ => Whole.Plan.pay6_apply x w b1 t e]
    simp
  pointwise [gate, WholeIdeal.Gen.k0_pay7]
  rw [hs, Fin.sum_univ_one]

theorem whole_at (b : FVec Ideal LayerIdeal.S64 .f32) (b1 : Vec Ideal WholeIdeal.S1x64 .f32) (hb : ∀ e : Fin 64, b1 (ix2 0 e) = b (ix1 e))
    (g : FVec Ideal LayerIdeal.S64x256x768 .f32) (d : FVec Ideal LayerIdeal.S64x768x128 .f32) (u : FVec Ideal LayerIdeal.S256x768 .f32) (v : FVec Ideal LayerIdeal.S768x128 .f32)
    (t : Fin 1024) (c : Fin 768) (j : Fin 128) :
    whole x w b g d u v (ix2 t c) = Whole.Ffn.layer (fun i => x (ix2 t i)) (fun f i => g (ix3 (Whole.Plan.sel x w b1 t) (⟨f.val, by omega⟩ : Fin 256) i))
        (fun f i => g (ix3 (Whole.Plan.sel x w b1 t) (⟨128 + f.val, by omega⟩ : Fin 256) i)) (fun f => d (ix3 (Whole.Plan.sel x w b1 t) c f))
      * (WholeIdeal.Gen.k0_pay7 (F := Ideal) (WholeIdeal.Gen.k0_pay6 x w b1)) (ix2 t j) + (WholeIdeal.Gen.k0_pay12 (F := Ideal) x u v) (ix2 t c) := by
  have hi : ∀ t, best (biased (probs (logits x w)) b) (ix2 t 0) = BitVec.ofNat 32 (Whole.Plan.sel x w b1 t).val := by
    intro t
    rw [best_at, biased_at x w b b1 hb]
    rfl
  pointwise [whole]
  rw [routed_at, shared_at, gate_at x w b1 _ hi t j]
  simp only [takeG_at _ _ hi, takeD_at _ _ hi]

end

end Cert.Proof.Layer
-- ==== Proof.W.Final.lean ====
/- The whole kernel's claims: its run's end states read against the reference's two results. -/
module

public import proofs.«01_k».proof.Defs
public import proofs.«01_k».proof.Proof.W.Main
public import proofs.«01_k».proof.Proof.W.LayerEq
public import Idealize.ShloMosaic.Adequacy
public import Idealize.ShloMosaic.Lib.Quiescent
public import Idealize.ShloMosaic.Init

@[expose] public section

set_option maxRecDepth 16384

noncomputable section

namespace Cert.Proof.Whole.Final

open Cert.WholeIdeal Cert.WholeIdeal.Gen Cert.Proof.Whole.Values Cert.Proof.Whole
open Idealize.ShloMosaic Idealize.ShloMosaic.TcCoe Idealize.ShloMosaic.Tactic Idealize.SL.Sem

section
variable (m : (ℓ : Loc nD τ sig) → Buf (Elt Ideal) ℓ) (ρ : Dev nD → PrngReg)

theorem run : θ_run (Cert.WholeIdeal.defs (F := Ideal)) (Cert.WholeIdeal.threads (F := Ideal)) ⟨m, fun _ => 0, ρ⟩ (QC m (table_ok m)) :=
  run_main m ρ (table_ok m) (fun d j => slots_lt m d j) (fun d => slots_distinct m d) (fun d j => slots_lt' m d j)

theorem end_args (r : PUnit × MemSt nD τ sig (Elt Ideal)) (h : QC m (table_ok m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨(h.1 c _ (Pipeline.devRef_mem_ucRefs (by decide))).trans (w8_arg0 m _ c), (h.1 c _ (Pipeline.devRef_mem_ucRefs (by decide))).trans (w8_arg1 m _ c), (h.1 c _ (Pipeline.devRef_mem_ucRefs (by decide))).trans (w8_arg2 m _ c),
    (h.1 c _ (Pipeline.devRef_mem_ucRefs (by decide))).trans (w8_arg3 m _ c), (h.1 c _ (Pipeline.devRef_mem_ucRefs (by decide))).trans (w8_arg4 m _ c), (h.1 c _ (Pipeline.devRef_mem_ucRefs (by decide))).trans (w8_arg5 m _ c), (h.1 c _ (Pipeline.devRef_mem_ucRefs (by decide))).trans (w8_arg6 m _ c)⟩

end

theorem whole_frame : Cert.quiescent_WholeIdeal := fun m g _ =>
  (θ_run Cert.WholeIdeal.defs _ _).mono (fun r h => ⟨end_args m r h, h.2⟩) (run m g)

/-- The reference has no semaphores; its run leaves the arguments as they were. -/
theorem layer_frame : Cert.quiescent_LayerIdeal := fun m g _ =>
  (θ_run Cert.LayerIdeal.defs _ _).mono (fun r h => ⟨fun c => (h c).2.2, sem_eq_zero_of_no_sems (by decide) r.2⟩)
    (Cert.LayerIdeal.Value.run (F := Ideal) m g)

section
variable (m : (ℓ : Loc nD τ sig) → Buf (Elt Ideal) ℓ)

theorem first_eq : Layer.whole (F := Ideal) (ax m 0) (aw m 0) (ab m 0) (ag m 0) (ad m 0) (au m 0) (av m 0) = (W8 m (table_ok m) 0 (dr main_v6) : S1024x768.Idx → EReal) := by
  funext j
  obtain ⟨t, c, rfl⟩ : ∃ (t : Fin 1024) (c : Fin 768), j = Idealize.ShloMosaic.ix2 t c := ⟨j 0, j 1, by
    funext (b : Fin 2)
    match b with
    | 0 => rfl
    | 1 => rfl⟩
  rw [out_at m t c]
  exact Layer.whole_at (ax m 0) (aw m 0) (ab m 0) (ab1 m 0) (fun e => by pointwise [ab1]) (ag m 0) (ad m 0) (au m 0) (av m 0) t c _

theorem second_eq : Layer.zloss (F := Ideal) (ax m 0) (aw m 0) = (W8 m (table_ok m) 0 (dr main_v7) : S_.Idx → EReal) := by
  rw [w8_v7]
  funext o
  rw [← Layer.zloss_eq (ax m 0) (aw m 0) o]
  have e : ∀ j : S1x1.Idx, j = Idealize.ShloMosaic.ix2 0 0 := fun j => funext fun (b : Fin 2) => match b with
    | 0 => Subsingleton.elim (α := Fin 1) _ _
    | 1 => Subsingleton.elim (α := Fin 1) _ _
  unfold shapeCast
  exact congrArg (k0_pay2 (F := Ideal) (ax m 0) (aw m 0)) (e _).symm

end

theorem whole_values : Cert.algebraic_WholeIdeal_LayerIdeal := fun m g m' g' _ hm => by
  refine ⟨fun c => W8 m (table_ok m) c (dr main_v6), fun c => W8 m (table_ok m) c (dr main_v7), ?_, ?_⟩
  · exact (θ_run Cert.WholeIdeal.defs _ _).mono (fun r h c => ⟨h.1 c _ (Pipeline.devRef_mem_ucRefs (by decide)), h.1 c _ (Pipeline.devRef_mem_ucRefs (by decide)), end_args m r h c⟩) (run m g)
  · refine (θ_run Cert.LayerIdeal.defs _ _).mono (fun _ h c => ⟨(h c).1.trans ?_, (h c).2.1.trans ?_, (h c).2.2⟩) (Cert.LayerIdeal.Value.run (F := Ideal) m' g')
    · obtain rfl : c = 0 := Subsingleton.elim (α := Fin 1) _ _
      rw [Layer.res_eq, (hm 0).1, (hm 0).2.1, (hm 0).2.2.1, (hm 0).2.2.2.1, (hm 0).2.2.2.2.1, (hm 0).2.2.2.2.2.1, (hm 0).2.2.2.2.2.2]
      exact first_eq m
    · obtain rfl : c = 0 := Subsingleton.elim (α := Fin 1) _ _
      rw [(hm 0).1, (hm 0).2.1]
      exact second_eq m

end Cert.Proof.Whole.Final
-- ==== Proof.lean ====
/- The claims, from the launch's run (Launch.lean) and the reference's value (Reference.lean). -/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_slots_in_range
public import proofs.«01_k».proof.Proof.Gen.WholeIdeal
public import proofs.«01_k».proof.Proof.Gen.WholeIdeal.Skeleton
public import proofs.«01_k».proof.Proof.Gen.WholeIdeal.Launch
public import proofs.«01_k».proof.Proof.Gen.WholeIdeal.Points
public import proofs.«01_k».proof.Proof.Gen.LayerIdeal
public import proofs.«01_k».proof.Proof.Gen.LayerIdeal.Run
public import proofs.«01_k».proof.Proof.Launch
public import proofs.«01_k».proof.Proof.Reference
public import proofs.«01_k».proof.Proof.W.Final
public import Idealize.ShloMosaic.Adequacy
public import Idealize.ShloMosaic.Lib.Quiescent
public import Idealize.ShloMosaic.Init

@[expose] public section

noncomputable section

namespace Cert.Proof

open Idealize.ShloMosaic Idealize.SL.Sem

/-- The kernel as printed and its idealization are one text: the launch's run at machine floats is the kernel's. -/
theorem kernel_frame : Cert.quiescent_Kernel := fun m g hpre =>
  (θ_run Cert.Kernel.defs _ _).mono (fun _ h => ⟨fun c => ⟨(h.1 c).1, (h.1 c).2.1, (h.1 c).2.2.1, (h.1 c).2.2.2.1⟩, h.2⟩)
    (Combine.run_main (F := Bits) m g fun d j => Reference.range_of_pre _ _ _ _ (hpre d) j)

theorem ideal_ok (m : (ℓ : Loc Cert.KernelIdeal.nD Cert.KernelIdeal.τ Cert.KernelIdeal.sig) → Buf (Elt Ideal) ℓ) (hpre : Cert.Pre_KernelIdeal m) :
    Combine.PreOK (F := Ideal) m := fun d j => Reference.range_of_pre _ _ _ _ (hpre d) j

theorem ideal_frame : Cert.quiescent_KernelIdeal := fun m g hpre =>
  (θ_run Cert.KernelIdeal.defs _ _).mono (fun _ h => ⟨fun c => ⟨(h.1 c).1, (h.1 c).2.1, (h.1 c).2.2.1, (h.1 c).2.2.2.1⟩, h.2⟩)
    (Combine.run_main (F := Ideal) m g (ideal_ok m hpre))

/-- The reference has no semaphores; its run leaves the arguments as they were. -/
theorem reference_frame : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem values : Cert.algebraic_KernelIdeal_ReferenceIdeal := fun m g m' g' hpre hm => by
  refine ⟨fun c => Combine.resultOf (F := Ideal) m c, ?_, ?_⟩
  · exact (θ_run Cert.KernelIdeal.defs _ _).mono
      (fun _ h c => ⟨(h.1 c).2.2.2.2, (h.1 c).1, (h.1 c).2.1, (h.1 c).2.2.1, (h.1 c).2.2.2.1⟩) (Combine.run_main (F := Ideal) m g (ideal_ok m hpre))
  · refine (θ_run Cert.ReferenceIdeal.defs _ _).mono (fun _ h c => ⟨(h c).1.trans ?_, (h c).2⟩) (Cert.ReferenceIdeal.Value.run (F := Ideal) m' g')
    rw [(hm c).1, (hm c).2.1, (hm c).2.2.1, (hm c).2.2.2]
    exact Reference.value_eq (F := Ideal) _ _ _ _ (ideal_ok m hpre c)

theorem claim : Cert.Claim := ⟨Cert.Kernel.Gen.facts, Cert.KernelIdeal.Gen.facts, Cert.ReferenceIdeal.Gen.facts, Cert.WholeIdeal.Gen.facts, Cert.LayerIdeal.Gen.facts,
  Cert.Pre_slots_in_range.Gen.facts, kernel_frame, ideal_frame, reference_frame, Whole.Final.whole_frame, Whole.Final.layer_frame, trivial, values, Whole.Final.whole_values⟩

end Cert.Proof

end
